-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite15 [hPre_finite15 : Cert.Pre_finite15.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2))).1 = (fun _ => 1#1)
    ∧ (Cert.Pre_finite15.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2))).2 = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite15 [hPre_finite15 : Cert.Pre_finite15.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2))).1 = (fun _ => 1#1)
    ∧ (Cert.Pre_finite15.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2))).2 = (fun _ => 1#1)

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_finite17 [hPre_finite17 : Cert.Pre_finite17.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2))).1 = (fun _ => 1#1)
    ∧ (Cert.Pre_finite17.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2))).2 = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_finite17 [hPre_finite17 : Cert.Pre_finite17.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2))).1 = (fun _ => 1#1)
    ∧ (Cert.Pre_finite17.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2))).2 = (fun _ => 1#1)

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Kernel15Ideal_pre_finite15 [hKernel15Ideal : Cert.Kernel15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite15 m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Reference15Ideal_pre_finite15 [hReference15Ideal : Cert.Reference15Ideal.Facts] [hPre_finite15 : Cert.Pre_finite15.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite15 m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Kernel17Ideal_pre_finite17 [hKernel17Ideal : Cert.Kernel17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_finite17 m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Reference17Ideal_pre_finite17 [hReference17Ideal : Cert.Reference17Ideal.Facts] [hPre_finite17 : Cert.Pre_finite17.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_finite17 m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_on_claimed_pre_finite [hKernelIdeal : Cert.KernelIdeal.Facts] [hReferenceIdeal : Cert.ReferenceIdeal.Facts] [hPre_finite : Cert.Pre_finite.Facts] [hOn_claimed : Cert.On_claimed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)) (v1 : (c : Dev Cert.KernelIdeal.nD) → Buf (Elt Ideal) ((c.tc : Thread Cert.KernelIdeal.nD Cert.KernelIdeal.τ).loc Cert.KernelIdeal.main_v26)) (v2 : (c : Dev Cert.KernelIdeal.nD) → Buf (Elt Ideal) ((c.tc : Thread Cert.KernelIdeal.nD Cert.KernelIdeal.τ).loc Cert.KernelIdeal.main_v27)) (v3 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 1536]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.KernelIdeal.nD Cert.KernelIdeal.τ).loc Cert.KernelIdeal.main_v30) i = v0 c i)
          ∧ (∀ i : (⟨2, ![4096, 3072]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.KernelIdeal.nD Cert.KernelIdeal.τ).loc Cert.KernelIdeal.main_v26) i = v1 c i)
          ∧ (∀ i : (⟨2, ![4096, 3072]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.KernelIdeal.nD Cert.KernelIdeal.τ).loc Cert.KernelIdeal.main_v27) i = v2 c i)
          ∧ (∀ i : (⟨2, ![4096, 128]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2 i = 1#1 → r.2.mem ((c.tc : Thread Cert.KernelIdeal.nD Cert.KernelIdeal.τ).loc Cert.KernelIdeal.main_v29) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 1536]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.ReferenceIdeal.nD Cert.ReferenceIdeal.τ).loc Cert.ReferenceIdeal.main_v142) i = v0 c i)
          ∧ (∀ i : (⟨2, ![4096, 3072]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.ReferenceIdeal.nD Cert.ReferenceIdeal.τ).loc Cert.ReferenceIdeal.main_v144) i = v1 c i)
          ∧ (∀ i : (⟨2, ![4096, 3072]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.ReferenceIdeal.nD Cert.ReferenceIdeal.τ).loc Cert.ReferenceIdeal.main_v146) i = v2 c i)
          ∧ (∀ i : (⟨2, ![4096, 128]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2 i = 1#1 → r.2.mem ((c.tc : Thread Cert.ReferenceIdeal.nD Cert.ReferenceIdeal.τ).loc Cert.ReferenceIdeal.main_v147) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_v6) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_v6) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_v5) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_v7) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal_pre_finite15 [hKernel15Ideal : Cert.Kernel15Ideal.Facts] [hReference15Ideal : Cert.Reference15Ideal.Facts] [hPre_finite15 : Cert.Pre_finite15.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite15 m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v2_0)) (v1 : (c : Dev Cert.Kernel15Ideal.nD) → Buf (Elt Ideal) ((c.tc : Thread Cert.Kernel15Ideal.nD Cert.Kernel15Ideal.τ).loc Cert.Kernel15Ideal.main_v2_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2_0) = v0 c
          ∧ r.2.mem ((c.tc : Thread Cert.Kernel15Ideal.nD Cert.Kernel15Ideal.τ).loc Cert.Kernel15Ideal.main_v2_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v70) = v0 c
          ∧ r.2.mem ((c.tc : Thread Cert.Reference15Ideal.nD Cert.Reference15Ideal.τ).loc Cert.Reference15Ideal.main_v69) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v24) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal_pre_finite17 [hKernel17Ideal : Cert.Kernel17Ideal.Facts] [hReference17Ideal : Cert.Reference17Ideal.Facts] [hPre_finite17 : Cert.Pre_finite17.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_finite17 m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v2_0)) (v1 : (c : Dev Cert.Kernel17Ideal.nD) → Buf (Elt Ideal) ((c.tc : Thread Cert.Kernel17Ideal.nD Cert.Kernel17Ideal.τ).loc Cert.Kernel17Ideal.main_v2_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2_0) = v0 c
          ∧ r.2.mem ((c.tc : Thread Cert.Kernel17Ideal.nD Cert.Kernel17Ideal.τ).loc Cert.Kernel17Ideal.main_v2_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v70) = v0 c
          ∧ r.2.mem ((c.tc : Thread Cert.Reference17Ideal.nD Cert.Reference17Ideal.τ).loc Cert.Reference17Ideal.main_v69) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v24) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite : Cert.Pre_finite.Facts) (hPre_finite15 : Cert.Pre_finite15.Facts) (hPre_finite17 : Cert.Pre_finite17.Facts) (hOn_claimed : Cert.On_claimed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite15 (hKernel15Ideal := hKernel15Ideal) (hPre_finite15 := hPre_finite15)
    ∧ quiescent_Reference15Ideal (hReference15Ideal := hReference15Ideal)
    ∧ quiescent_Reference15Ideal_pre_finite15 (hReference15Ideal := hReference15Ideal) (hPre_finite15 := hPre_finite15)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Kernel17Ideal_pre_finite17 (hKernel17Ideal := hKernel17Ideal) (hPre_finite17 := hPre_finite17)
    ∧ quiescent_Reference17Ideal (hReference17Ideal := hReference17Ideal)
    ∧ quiescent_Reference17Ideal_pre_finite17 (hReference17Ideal := hReference17Ideal) (hPre_finite17 := hPre_finite17)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal_on_claimed_pre_finite (hKernelIdeal := hKernelIdeal) (hReferenceIdeal := hReferenceIdeal) (hPre_finite := hPre_finite) (hOn_claimed := hOn_claimed)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite15 (hKernel15Ideal := hKernel15Ideal) (hReference15Ideal := hReference15Ideal) (hPre_finite15 := hPre_finite15)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal_pre_finite17 (hKernel17Ideal := hKernel17Ideal) (hReference17Ideal := hReference17Ideal) (hPre_finite17 := hPre_finite17)
    ∧ preserves_Kernel18_Kernel18Ideal
    ∧ algebraic_Kernel18Ideal_Reference18Ideal (hKernel18Ideal := hKernel18Ideal) (hReference18Ideal := hReference18Ideal)
-- ==== On_claimed.lean ====
abbrev S4096x512 : Shape := ⟨2, ![4096, 512]⟩
abbrev S512x2304 : Shape := ⟨2, ![512, 2304]⟩
abbrev S4096x256 : Shape := ⟨2, ![4096, 256]⟩
abbrev S256x3072 : Shape := ⟨2, ![256, 3072]⟩
abbrev S4096x64 : Shape := ⟨2, ![4096, 64]⟩
abbrev S4096x32 : Shape := ⟨2, ![4096, 32]⟩
abbrev S4096x1536 : Shape := ⟨2, ![4096, 1536]⟩
abbrev S4096x3072 : Shape := ⟨2, ![4096, 3072]⟩
abbrev S_ : Shape := ⟨0, ![]⟩
abbrev S4096x128 : Shape := ⟨2, ![4096, 128]⟩

class Facts : Prop where
  bcast_S_S4096x1536 : S_.BroadcastsInDim S4096x1536 (![] : Fin 0 → Fin S4096x1536.rank)
  bcast_S_S4096x3072 : S_.BroadcastsInDim S4096x3072 (![] : Fin 0 → Fin S4096x3072.rank)
  bcast_S_S4096x128 : S_.BroadcastsInDim S4096x128 (![] : Fin 0 → Fin S4096x128.rank)

variable [Facts]

def fn {F : FTy → Type} [FloatOps F] (main_arg0 : FVec F S4096x512 .f32) (main_arg1 : FVec F S512x2304 .f32) (main_arg2 : FVec F S4096x256 .f32) (main_arg3 : FVec F S256x3072 .f32) (main_arg4 : FVec F S4096x64 .f32) (main_arg5 : FVec F S4096x32 .f32) (main_arg6 : FVec F S4096x32 .f32) (main_arg7 : FVec F S4096x1536 .f32) : IVec S4096x1536 1 × IVec S4096x3072 1 × IVec S4096x3072 1 × IVec S4096x128 1 :=
  let main_v0 : IVec S4096x3072 32 := iotaInDim S4096x3072 32 1
  let main_c : IVec S_ 1 := constantI S_ 1 1#1
  let main_v1 : IVec S4096x1536 1 := broadcastInDim S4096x1536 ![] bcast_S_S4096x1536 main_c
  let main_c_0 : IVec S_ 32 := constantI S_ 32 256#32
  let main_v2 : IVec S4096x3072 32 := broadcastInDim S4096x3072 ![] bcast_S_S4096x3072 main_c_0
  let main_v3 : IVec S4096x3072 32 := Host.remsi main_v0 main_v2
  let main_c_1 : IVec S_ 32 := constantI S_ 32 192#32
  let main_v4 : IVec S4096x3072 32 := broadcastInDim S4096x3072 ![] bcast_S_S4096x3072 main_c_1
  let main_v5 : IVec S4096x3072 1 := cmpi .slt main_v3 main_v4
  let main_c_2 : IVec S_ 1 := constantI S_ 1 1#1
  let main_v6 : IVec S4096x3072 1 := broadcastInDim S4096x3072 ![] bcast_S_S4096x3072 main_c_2
  let main_v7 : IVec S4096x128 32 := iotaInDim S4096x128 32 1
  let main_c_3 : IVec S_ 32 := constantI S_ 32 64#32
  let main_v8 : IVec S4096x128 32 := broadcastInDim S4096x128 ![] bcast_S_S4096x128 main_c_3
  let main_v9 : IVec S4096x128 1 := cmpi .slt main_v7 main_v8
  (main_v1, main_v5, main_v6, main_v9)
-- ==== Pre_finite.lean ====
abbrev S4096x512 : Shape := ⟨2, ![4096, 512]⟩
abbrev S512x2304 : Shape := ⟨2, ![512, 2304]⟩
abbrev S4096x256 : Shape := ⟨2, ![4096, 256]⟩
abbrev S256x3072 : Shape := ⟨2, ![256, 3072]⟩
abbrev S4096x64 : Shape := ⟨2, ![4096, 64]⟩
abbrev S4096x32 : Shape := ⟨2, ![4096, 32]⟩
abbrev S4096x1536 : Shape := ⟨2, ![4096, 1536]⟩
abbrev S_ : Shape := ⟨0, ![]⟩

class Facts : Prop where
  bcast_S_S4096x512 : S_.BroadcastsInDim S4096x512 (![] : Fin 0 → Fin S4096x512.rank)
  bcast_S_S512x2304 : S_.BroadcastsInDim S512x2304 (![] : Fin 0 → Fin S512x2304.rank)
  bcast_S_S4096x256 : S_.BroadcastsInDim S4096x256 (![] : Fin 0 → Fin S4096x256.rank)
  bcast_S_S256x3072 : S_.BroadcastsInDim S256x3072 (![] : Fin 0 → Fin S256x3072.rank)
  bcast_S_S4096x64 : S_.BroadcastsInDim S4096x64 (![] : Fin 0 → Fin S4096x64.rank)
  bcast_S_S4096x32 : S_.BroadcastsInDim S4096x32 (![] : Fin 0 → Fin S4096x32.rank)
  bcast_S_S4096x1536 : S_.BroadcastsInDim S4096x1536 (![] : Fin 0 → Fin S4096x1536.rank)

variable [Facts]

def fn_part1 {F : FTy → Type} [FloatOps F] (main_arg6 : FVec F S4096x32 .f32) (main_arg7 : FVec F S4096x1536 .f32) (main_v2 : IVec S4096x512 1) (main_v5 : IVec S512x2304 1) (main_v8 : IVec S4096x256 1) (main_v11 : IVec S256x3072 1) (main_v14 : IVec S4096x64 1) (main_v17 : IVec S4096x32 1) : IVec S4096x512 1 × IVec S512x2304 1 × IVec S4096x256 1 × IVec S256x3072 1 × IVec S4096x64 1 × IVec S4096x32 1 × IVec S4096x32 1 × IVec S4096x1536 1 :=
  let main_v18 : FVec F S4096x32 .f32 := Host.absf main_arg6
  let main_cst_5 : FVec F S_ .f32 := constant S_ .f32 0x7F800000#32
  let main_v19 : FVec F S4096x32 .f32 := broadcastInDim S4096x32 ![] bcast_S_S4096x32 main_cst_5
  let main_v20 : IVec S4096x32 1 := cmpf .olt main_v18 main_v19
  let main_v21 : FVec F S4096x1536 .f32 := Host.absf main_arg7
  let main_cst_6 : FVec F S_ .f32 := constant S_ .f32 0x7F800000#32
  let main_v22 : FVec F S4096x1536 .f32 := broadcastInDim S4096x1536 ![] bcast_S_S4096x1536 main_cst_6
  let main_v23 : IVec S4096x1536 1 := cmpf .olt main_v21 main_v22
  (main_v2, main_v5, main_v8, main_v11, main_v14, main_v17, main_v20, main_v23)

def fn {F : FTy → Type} [FloatOps F] (main_arg0 : FVec F S4096x512 .f32) (main_arg1 : FVec F S512x2304 .f32) (main_arg2 : FVec F S4096x256 .f32) (main_arg3 : FVec F S256x3072 .f32) (main_arg4 : FVec F S4096x64 .f32) (main_arg5 : FVec F S4096x32 .f32) (main_arg6 : FVec F S4096x32 .f32) (main_arg7 : FVec F S4096x1536 .f32) : IVec S4096x512 1 × IVec S512x2304 1 × IVec S4096x256 1 × IVec S256x3072 1 × IVec S4096x64 1 × IVec S4096x32 1 × IVec S4096x32 1 × IVec S4096x1536 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S512x2304 .f32 := Host.absf main_arg1
  let main_cst_0 : FVec F S_ .f32 := constant S_ .f32 0x7F800000#32
  let main_v4 : FVec F S512x2304 .f32 := broadcastInDim S512x2304 ![] bcast_S_S512x2304 main_cst_0
  let main_v5 : IVec S512x2304 1 := cmpf .olt main_v3 main_v4
  let main_v6 : FVec F S4096x256 .f32 := Host.absf main_arg2
  let main_cst_1 : FVec F S_ .f32 := constant S_ .f32 0x7F800000#32
  let main_v7 : FVec F S4096x256 .f32 := broadcastInDim S4096x256 ![] bcast_S_S4096x256 main_cst_1
  let main_v8 : IVec S4096x256 1 := cmpf .olt main_v6 main_v7
  let main_v9 : FVec F S256x3072 .f32 := Host.absf main_arg3
  let main_cst_2 : FVec F S_ .f32 := constant S_ .f32 0x7F800000#32
  let main_v10 : FVec F S256x3072 .f32 := broadcastInDim S256x3072 ![] bcast_S_S256x3072 main_cst_2
  let main_v11 : IVec S256x3072 1 := cmpf .olt main_v9 main_v10
  let main_v12 : FVec F S4096x64 .f32 := Host.absf main_arg4
  let main_cst_3 : FVec F S_ .f32 := constant S_ .f32 0x7F800000#32
  let main_v13 : FVec F S4096x64 .f32 := broadcastInDim S4096x64 ![] bcast_S_S4096x64 main_cst_3
  let main_v14 : IVec S4096x64 1 := cmpf .olt main_v12 main_v13
  let main_v15 : FVec F S4096x32 .f32 := Host.absf main_arg5
  let main_cst_4 : FVec F S_ .f32 := constant S_ .f32 0x7F800000#32
  let main_v16 : FVec F S4096x32 .f32 := broadcastInDim S4096x32 ![] bcast_S_S4096x32 main_cst_4
  let main_v17 : IVec S4096x32 1 := cmpf .olt main_v15 main_v16
  fn_part1 (F := F) main_arg6 main_arg7 main_v2 main_v5 main_v8 main_v11 main_v14 main_v17
-- ==== Pre_finite15.lean ====
abbrev S4096x3456 : Shape := ⟨2, ![4096, 3456]⟩
abbrev S2x256x1024 : Shape := ⟨3, ![2, 256, 1024]⟩
abbrev S4096x512 : Shape := ⟨2, ![4096, 512]⟩
abbrev S_ : Shape := ⟨0, ![]⟩
abbrev S2x256x512 : Shape := ⟨3, ![2, 256, 512]⟩

class Facts : Prop where
  slices_S4096x3456_S4096x512_0_2560 : S4096x3456.Slices ![0, 2560] S4096x512
  bcast_S_S4096x512 : S_.BroadcastsInDim S4096x512 (![] : Fin 0 → Fin S4096x512.rank)
  slices_S2x256x1024_S2x256x512_0_0_0 : S2x256x1024.Slices ![0, 0, 0] S2x256x512
  bitsLt_bf16_f32 : FTy.bits .bf16 < FTy.bits .f32
  bcast_S_S2x256x512 : S_.BroadcastsInDim S2x256x512 (![] : Fin 0 → Fin S2x256x512.rank)

variable [Facts]

def fn {F : FTy → Type} [FloatOps F] (main_arg0 : FVec F S4096x3456 .f32) (main_arg1 : FVec F S2x256x1024 .bf16) (main_arg2 : FVec F S4096x512 .f32) : IVec S4096x512 1 × IVec S2x256x512 1 :=
  let main_v0 : FVec F S4096x512 .f32 := (extractStridedSlice S4096x512 ![0, 2560] · slices_S4096x3456_S4096x512_0_2560) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_v4 : FVec F S2x256x512 .bf16 := (extractStridedSlice S2x256x512 ![0, 0, 0] · slices_S2x256x1024_S2x256x512_0_0_0) main_arg1
  let main_v5 : FVec F S2x256x512 .f32 := (extf .f32 · bitsLt_bf16_f32) main_v4
  let main_v6 : FVec F S2x256x512 .f32 := Host.absf main_v5
  let main_cst_0 : FVec F S_ .f32 := constant S_ .f32 0x7F800000#32
  let main_v7 : FVec F S2x256x512 .f32 := broadcastInDim S2x256x512 ![] bcast_S_S2x256x512 main_cst_0
  let main_v8 : IVec S2x256x512 1 := cmpf .olt main_v6 main_v7
  (main_v3, main_v8)
-- ==== Pre_finite17.lean ====
abbrev S4096x5632 : Shape := ⟨2, ![4096, 5632]⟩
abbrev S2x256x1024 : Shape := ⟨3, ![2, 256, 1024]⟩
abbrev S4096x512 : Shape := ⟨2, ![4096, 512]⟩
abbrev S_ : Shape := ⟨0, ![]⟩
abbrev S2x256x512 : Shape := ⟨3, ![2, 256, 512]⟩

class Facts : Prop where
  slices_S4096x5632_S4096x512_0_3072 : S4096x5632.Slices ![0, 3072] S4096x512
  bcast_S_S4096x512 : S_.BroadcastsInDim S4096x512 (![] : Fin 0 → Fin S4096x512.rank)
  slices_S2x256x1024_S2x256x512_0_0_0 : S2x256x1024.Slices ![0, 0, 0] S2x256x512
  bitsLt_bf16_f32 : FTy.bits .bf16 < FTy.bits .f32
  bcast_S_S2x256x512 : S_.BroadcastsInDim S2x256x512 (![] : Fin 0 → Fin S2x256x512.rank)

variable [Facts]

def fn {F : FTy → Type} [FloatOps F] (main_arg0 : FVec F S4096x5632 .f32) (main_arg1 : FVec F S2x256x1024 .bf16) (main_arg2 : FVec F S4096x512 .f32) : IVec S4096x512 1 × IVec S2x256x512 1 :=
  let main_v0 : FVec F S4096x512 .f32 := (extractStridedSlice S4096x512 ![0, 3072] · slices_S4096x5632_S4096x512_0_3072) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_v4 : FVec F S2x256x512 .bf16 := (extractStridedSlice S2x256x512 ![0, 0, 0] · slices_S2x256x1024_S2x256x512_0_0_0) main_arg1
  let main_v5 : FVec F S2x256x512 .f32 := (extf .f32 · bitsLt_bf16_f32) main_v4
  let main_v6 : FVec F S2x256x512 .f32 := Host.absf main_v5
  let main_cst_0 : FVec F S_ .f32 := constant S_ .f32 0x7F800000#32
  let main_v7 : FVec F S2x256x512 .f32 := broadcastInDim S2x256x512 ![] bcast_S_S2x256x512 main_cst_0
  let main_v8 : IVec S2x256x512 1 := cmpf .olt main_v6 main_v7
  (main_v3, main_v8)
-- ==== Kernel.lean ====
abbrev S4096x512 : Shape := ⟨2, ![4096, 512]⟩
abbrev S512x2304 : Shape := ⟨2, ![512, 2304]⟩
abbrev S4096x256 : Shape := ⟨2, ![4096, 256]⟩
abbrev S256x3072 : Shape := ⟨2, ![256, 3072]⟩
abbrev S4096x64 : Shape := ⟨2, ![4096, 64]⟩
abbrev S4096x32 : Shape := ⟨2, ![4096, 32]⟩
abbrev S4096x1536 : Shape := ⟨2, ![4096, 1536]⟩
abbrev S_ : Shape := ⟨0, ![]⟩
abbrev S4096x128 : Shape := ⟨2, ![4096, 128]⟩
abbrev S512x12x192 : Shape := ⟨3, ![512, 12, 192]⟩
abbrev S512x12x256 : Shape := ⟨3, ![512, 12, 256]⟩
abbrev S512x3072 : Shape := ⟨2, ![512, 3072]⟩
abbrev S4096x3328 : Shape := ⟨2, ![4096, 3328]⟩
abbrev S4096x3456 : Shape := ⟨2, ![4096, 3456]⟩
abbrev S4096x3072 : Shape := ⟨2, ![4096, 3072]⟩
abbrev S512x512 : Shape := ⟨2, ![512, 512]⟩
abbrev S512x128 : Shape := ⟨2, ![512, 128]⟩
abbrev S512x256 : Shape := ⟨2, ![512, 256]⟩
abbrev S256x512 : Shape := ⟨2, ![256, 512]⟩
abbrev S2x2048x3072 : Shape := ⟨3, ![2, 2048, 3072]⟩
abbrev S2x2048x1536 : Shape := ⟨3, ![2, 2048, 1536]⟩
abbrev S2x12x2048x1 : Shape := ⟨4, ![2, 12, 2048, 1]⟩
abbrev S1x2048x256 : Shape := ⟨3, ![1, 2048, 256]⟩
abbrev S1x2048x128 : Shape := ⟨3, ![1, 2048, 128]⟩
abbrev S1x1x2048x1 : Shape := ⟨4, ![1, 1, 2048, 1]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩
abbrev S1x256x128 : Shape := ⟨3, ![1, 256, 128]⟩
abbrev S256x128 : Shape := ⟨2, ![256, 128]⟩
abbrev S1x1x256x1 : Shape := ⟨4, ![1, 1, 256, 1]⟩
abbrev S1x512x256 : Shape := ⟨3, ![1, 512, 256]⟩
abbrev S1x512x128 : Shape := ⟨3, ![1, 512, 128]⟩
abbrev S1x768x256 : Shape := ⟨3, ![1, 768, 256]⟩
abbrev S768x256 : Shape := ⟨2, ![768, 256]⟩
abbrev S256x768 : Shape := ⟨2, ![256, 768]⟩
abbrev S1x768x128 : Shape := ⟨3, ![1, 768, 128]⟩
abbrev S768x128 : Shape := ⟨2, ![768, 128]⟩
abbrev S1x1024x256 : Shape := ⟨3, ![1, 1024, 256]⟩
abbrev S1024x256 : Shape := ⟨2, ![1024, 256]⟩
abbrev S256x1024 : Shape := ⟨2, ![256, 1024]⟩
abbrev S1x1024x128 : Shape := ⟨3, ![1, 1024, 128]⟩
abbrev S1024x128 : Shape := ⟨2, ![1024, 128]⟩
abbrev S1x1280x256 : Shape := ⟨3, ![1, 1280, 256]⟩
abbrev S1280x256 : Shape := ⟨2, ![1280, 256]⟩
abbrev S256x1280 : Shape := ⟨2, ![256, 1280]⟩
abbrev S1x1280x128 : Shape := ⟨3, ![1, 1280, 128]⟩
abbrev S1280x128 : Shape := ⟨2, ![1280, 128]⟩
abbrev S1x1536x256 : Shape := ⟨3, ![1, 1536, 256]⟩
abbrev S1536x256 : Shape := ⟨2, ![1536, 256]⟩
abbrev S256x1536 : Shape := ⟨2, ![256, 1536]⟩
abbrev S1x1536x128 : Shape := ⟨3, ![1, 1536, 128]⟩
abbrev S1536x128 : Shape := ⟨2, ![1536, 128]⟩
abbrev S1x1792x256 : Shape := ⟨3, ![1, 1792, 256]⟩
abbrev S1792x256 : Shape := ⟨2, ![1792, 256]⟩
abbrev S256x1792 : Shape := ⟨2, ![256, 1792]⟩
abbrev S1x1792x128 : Shape := ⟨3, ![1, 1792, 128]⟩
abbrev S1792x128 : Shape := ⟨2, ![1792, 128]⟩
abbrev S2x2048x128 : Shape := ⟨3, ![2, 2048, 128]⟩
abbrev S2048x1 : Shape := ⟨2, ![2048, 1]⟩
abbrev S2048x256 : Shape := ⟨2, ![2048, 256]⟩
abbrev S1x1x1792x1 : Shape := ⟨4, ![1, 1, 1792, 1]⟩
abbrev S1792x1 : Shape := ⟨2, ![1792, 1]⟩
abbrev S1x1x1536x1 : Shape := ⟨4, ![1, 1, 1536, 1]⟩
abbrev S1536x1 : Shape := ⟨2, ![1536, 1]⟩
abbrev S1x1x1280x1 : Shape := ⟨4, ![1, 1, 1280, 1]⟩
abbrev S1280x1 : Shape := ⟨2, ![1280, 1]⟩
abbrev S1x1x1024x1 : Shape := ⟨4, ![1, 1, 1024, 1]⟩
abbrev S1024x1 : Shape := ⟨2, ![1024, 1]⟩
abbrev S1x1x768x1 : Shape := ⟨4, ![1, 1, 768, 1]⟩
abbrev S768x1 : Shape := ⟨2, ![768, 1]⟩
abbrev S1x1x512x1 : Shape := ⟨4, ![1, 1, 512, 1]⟩
abbrev S512x1 : Shape := ⟨2, ![512, 1]⟩
abbrev S512x1536 : Shape := ⟨2, ![512, 1536]⟩

abbrev nBuf : Space → Nat
  | .hbm => 47
  | .vmem => 66
  | .smem => 0
  | _ => 0

abbrev bufTy : (tb : Table) → Fin (tcTables nBuf tb) → BufTy
  | .hbm, ⟨0, _⟩ => ⟨S4096x512, .f32⟩
  | .hbm, ⟨1, _⟩ => ⟨S512x2304, .f32⟩
  | .hbm, ⟨2, _⟩ => ⟨S4096x256, .f32⟩
  | .hbm, ⟨3, _⟩ => ⟨S256x3072, .f32⟩
  | .hbm, ⟨4, _⟩ => ⟨S4096x64, .f32⟩
  | .hbm, ⟨5, _⟩ => ⟨S4096x32, .f32⟩
  | .hbm, ⟨6, _⟩ => ⟨S4096x32, .f32⟩
  | .hbm, ⟨7, _⟩ => ⟨S4096x1536, .f32⟩
  | .hbm, ⟨8, _⟩ => ⟨S_, .f32⟩
  | .hbm, ⟨9, _⟩ => ⟨S4096x64, .f32⟩
  | .hbm, ⟨10, _⟩ => ⟨S4096x128, .f32⟩
  | .hbm, ⟨11, _⟩ => ⟨S4096x32, .f32⟩
  | .hbm, ⟨12, _⟩ => ⟨S4096x128, .f32⟩
  | .hbm, ⟨13, _⟩ => ⟨S512x2304, .bf16⟩
  | .hbm, ⟨14, _⟩ => ⟨S512x12x192, .bf16⟩
  | .hbm, ⟨15, _⟩ => ⟨S_, .i32⟩
  | .hbm, ⟨16, _⟩ => ⟨S_, .bf16⟩
  | .hbm, ⟨17, _⟩ => ⟨S512x12x256, .bf16⟩
  | .hbm, ⟨18, _⟩ => ⟨S512x3072, .bf16⟩
  | .hbm, ⟨19, _⟩ => ⟨S_, .f32⟩
  | .hbm, ⟨20, _⟩ => ⟨S4096x3328, .f32⟩
  | .hbm, ⟨21, _⟩ => ⟨S4096x3456, .f32⟩
  | .hbm, ⟨22, _⟩ => ⟨S4096x512, .bf16⟩
  | .hbm, ⟨23, _⟩ => ⟨S4096x3072, .bf16⟩
  | .hbm, ⟨24, _⟩ => ⟨S4096x256, .bf16⟩
  | .hbm, ⟨25, _⟩ => ⟨S256x3072, .bf16⟩
  | .hbm, ⟨26, _⟩ => ⟨S4096x3072, .bf16⟩
  | .hbm, ⟨27, _⟩ => ⟨S4096x1536, .bf16⟩
  | .hbm, ⟨28, _⟩ => ⟨S2x2048x3072, .bf16⟩
  | .hbm, ⟨29, _⟩ => ⟨S2x2048x3072, .bf16⟩
  | .hbm, ⟨30, _⟩ => ⟨S2x2048x1536, .bf16⟩
  | .hbm, ⟨31, _⟩ => ⟨S2x2048x1536, .f32⟩
  | .hbm, ⟨32, _⟩ => ⟨S2x12x2048x1, .f32⟩
  | .hbm, ⟨33, _⟩ => ⟨S2x2048x3072, .bf16⟩
  | .hbm, ⟨34, _⟩ => ⟨S2x2048x3072, .bf16⟩
  | .hbm, ⟨35, _⟩ => ⟨S2x2048x1536, .bf16⟩
  | .hbm, ⟨36, _⟩ => ⟨S2x2048x1536, .f32⟩
  | .hbm, ⟨37, _⟩ => ⟨S2x2048x128, .f32⟩
  | .hbm, ⟨38, _⟩ => ⟨S2x2048x128, .f32⟩
  | .hbm, ⟨39, _⟩ => ⟨S2x2048x3072, .bf16⟩
  | .hbm, ⟨40, _⟩ => ⟨S2x2048x3072, .bf16⟩
  | .hbm, ⟨41, _⟩ => ⟨S2x2048x1536, .f32⟩
  | .hbm, ⟨42, _⟩ => ⟨S4096x3072, .bf16⟩
  | .hbm, ⟨43, _⟩ => ⟨S4096x3072, .bf16⟩
  | .hbm, ⟨44, _⟩ => ⟨S4096x1536, .f32⟩
  | .hbm, ⟨45, _⟩ => ⟨S4096x128, .bf16⟩
  | .hbm, ⟨46, _⟩ => ⟨S4096x1536, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x512, .bf16⟩
  | .local _ .vmem, ⟨9, _⟩ => ⟨S512x512, .bf16⟩
  | .local _ .vmem, ⟨10, _⟩ => ⟨S512x256, .bf16⟩
  | .local _ .vmem, ⟨11, _⟩ => ⟨S512x256, .bf16⟩
  | .local _ .vmem, ⟨12, _⟩ => ⟨S256x512, .bf16⟩
  | .local _ .vmem, ⟨13, _⟩ => ⟨S256x512, .bf16⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x512, .bf16⟩
  | .local _ .vmem, ⟨21, _⟩ => ⟨S512x512, .bf16⟩
  | .local _ .vmem, ⟨22, _⟩ => ⟨S512x256, .bf16⟩
  | .local _ .vmem, ⟨23, _⟩ => ⟨S512x256, .bf16⟩
  | .local _ .vmem, ⟨24, _⟩ => ⟨S1x2048x256, .bf16⟩
  | .local _ .vmem, ⟨25, _⟩ => ⟨S1x2048x256, .bf16⟩
  | .local _ .vmem, ⟨26, _⟩ => ⟨S1x2048x256, .bf16⟩
  | .local _ .vmem, ⟨27, _⟩ => ⟨S1x2048x256, .bf16⟩
  | .local _ .vmem, ⟨28, _⟩ => ⟨S1x2048x128, .bf16⟩
  | .local _ .vmem, ⟨29, _⟩ => ⟨S1x2048x128, .bf16⟩
  | .local _ .vmem, ⟨30, _⟩ => ⟨S1x2048x128, .f32⟩
  | .local _ .vmem, ⟨31, _⟩ => ⟨S1x2048x128, .f32⟩
  | .local _ .vmem, ⟨32, _⟩ => ⟨S1x1x2048x1, .f32⟩
  | .local _ .vmem, ⟨33, _⟩ => ⟨S1x1x2048x1, .f32⟩
  | .local _ .vmem, ⟨34, _⟩ => ⟨S1x2048x256, .bf16⟩
  | .local _ .vmem, ⟨35, _⟩ => ⟨S1x2048x256, .bf16⟩
  | .local _ .vmem, ⟨36, _⟩ => ⟨S1x2048x256, .bf16⟩
  | .local _ .vmem, ⟨37, _⟩ => ⟨S1x2048x256, .bf16⟩
  | .local _ .vmem, ⟨38, _⟩ => ⟨S1x2048x128, .bf16⟩
  | .local _ .vmem, ⟨39, _⟩ => ⟨S1x2048x128, .bf16⟩
  | .local _ .vmem, ⟨40, _⟩ => ⟨S1x2048x128, .f32⟩
  | .local _ .vmem, ⟨41, _⟩ => ⟨S1x2048x128, .f32⟩
  | .local _ .vmem, ⟨42, _⟩ => ⟨S1x2048x128, .f32⟩
  | .local _ .vmem, ⟨43, _⟩ => ⟨S1x2048x128, .f32⟩
  | .local _ .vmem, ⟨44, _⟩ => ⟨S1x1x2048x1, .f32⟩
  | .local _ .vmem, ⟨45, _⟩ => ⟨S1x1x2048x1, .f32⟩
  | .local _ .vmem, ⟨46, _⟩ => ⟨S1x2048x128, .f32⟩
  | .local _ .vmem, ⟨47, _⟩ => ⟨S1x2048x128, .f32⟩
  | .local _ .vmem, ⟨48, _⟩ => ⟨S1x2048x128, .f32⟩
  | .local _ .vmem, ⟨49, _⟩ => ⟨S1x2048x128, .f32⟩
  | .local _ .vmem, ⟨50, _⟩ => ⟨S1x2048x256, .bf16⟩
  | .local _ .vmem, ⟨51, _⟩ => ⟨S1x2048x256, .bf16⟩
  | .local _ .vmem, ⟨52, _⟩ => ⟨S1x2048x256, .bf16⟩
  | .local _ .vmem, ⟨53, _⟩ => ⟨S1x2048x256, .bf16⟩
  | .local _ .vmem, ⟨54, _⟩ => ⟨S1x2048x128, .f32⟩
  | .local _ .vmem, ⟨55, _⟩ => ⟨S1x2048x128, .f32⟩
  | .local _ .vmem, ⟨56, _⟩ => ⟨S2048x1, .f32⟩
  | .local _ .vmem, ⟨57, _⟩ => ⟨S2048x256, .f32⟩
  | .local _ .vmem, ⟨58, _⟩ => ⟨S512x1536, .f32⟩
  | .local _ .vmem, ⟨59, _⟩ => ⟨S512x1536, .f32⟩
  | .local _ .vmem, ⟨60, _⟩ => ⟨S512x128, .f32⟩
  | .local _ .vmem, ⟨61, _⟩ => ⟨S512x128, .f32⟩
  | .local _ .vmem, ⟨62, _⟩ => ⟨S512x128, .f32⟩
  | .local _ .vmem, ⟨63, _⟩ => ⟨S512x128, .f32⟩
  | .local _ .vmem, ⟨64, _⟩ => ⟨S512x128, .bf16⟩
  | .local _ .vmem, ⟨65, _⟩ => ⟨S512x128, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_call0_v0 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14_0 : Ref sig .tc := ⟨.hbm, 26, rfl⟩
abbrev main_v14_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25_0 : Ref sig .tc := ⟨.hbm, 39, rfl⟩
abbrev main_v25_1 : Ref sig .tc := ⟨.hbm, 40, rfl⟩
abbrev main_v25_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg4_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg1_1 : Ref sig .tc := ⟨.vmem, 37, rfl⟩
abbrev cc3_stg2_0 : Ref sig .tc := ⟨.vmem, 38, rfl⟩
abbrev cc3_stg2_1 : Ref sig .tc := ⟨.vmem, 39, rfl⟩
abbrev cc3_stg3_0 : Ref sig .tc := ⟨.vmem, 40, rfl⟩
abbrev cc3_stg3_1 : Ref sig .tc := ⟨.vmem, 41, rfl⟩
abbrev cc3_stg4_0 : Ref sig .tc := ⟨.vmem, 42, rfl⟩
abbrev cc3_stg4_1 : Ref sig .tc := ⟨.vmem, 43, rfl⟩
abbrev cc3_stg5_0 : Ref sig .tc := ⟨.vmem, 44, rfl⟩
abbrev cc3_stg5_1 : Ref sig .tc := ⟨.vmem, 45, rfl⟩
abbrev cc3_stg6_0 : Ref sig .tc := ⟨.vmem, 46, rfl⟩
abbrev cc3_stg6_1 : Ref sig .tc := ⟨.vmem, 47, rfl⟩
abbrev cc3_stg7_0 : Ref sig .tc := ⟨.vmem, 48, rfl⟩
abbrev cc3_stg7_1 : Ref sig .tc := ⟨.vmem, 49, rfl⟩
abbrev cc3_stg8_0 : Ref sig .tc := ⟨.vmem, 50, rfl⟩
abbrev cc3_stg8_1 : Ref sig .tc := ⟨.vmem, 51, rfl⟩
abbrev cc3_stg9_0 : Ref sig .tc := ⟨.vmem, 52, rfl⟩
abbrev cc3_stg9_1 : Ref sig .tc := ⟨.vmem, 53, rfl⟩
abbrev cc3_stg10_0 : Ref sig .tc := ⟨.vmem, 54, rfl⟩
abbrev cc3_stg10_1 : Ref sig .tc := ⟨.vmem, 55, rfl⟩
abbrev cc3_scratch0 : Ref sig .tc := ⟨.vmem, 56, rfl⟩
abbrev cc3_scratch1 : Ref sig .tc := ⟨.vmem, 57, rfl⟩
abbrev cc4_stg0_0 : Ref sig .tc := ⟨.vmem, 58, rfl⟩
abbrev cc4_stg0_1 : Ref sig .tc := ⟨.vmem, 59, rfl⟩
abbrev cc4_stg1_0 : Ref sig .tc := ⟨.vmem, 60, rfl⟩
abbrev cc4_stg1_1 : Ref sig .tc := ⟨.vmem, 61, rfl⟩
abbrev cc4_stg2_0 : Ref sig .tc := ⟨.vmem, 62, rfl⟩
abbrev cc4_stg2_1 : Ref sig .tc := ⟨.vmem, 63, rfl⟩
abbrev cc4_stg3_0 : Ref sig .tc := ⟨.vmem, 64, rfl⟩
abbrev cc4_stg3_1 : Ref sig .tc := ⟨.vmem, 65, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem4_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc3_sem3_0 : DmaSem sig := 40
abbrev cc3_sem3_1 : DmaSem sig := 41
abbrev cc3_sem4_0 : DmaSem sig := 42
abbrev cc3_sem4_1 : DmaSem sig := 43
abbrev cc3_sem5_0 : DmaSem sig := 44
abbrev cc3_sem5_1 : DmaSem sig := 45
abbrev cc3_sem6_0 : DmaSem sig := 46
abbrev cc3_sem6_1 : DmaSem sig := 47
abbrev cc3_sem7_0 : DmaSem sig := 48
abbrev cc3_sem7_1 : DmaSem sig := 49
abbrev cc3_sem8_0 : DmaSem sig := 50
abbrev cc3_sem8_1 : DmaSem sig := 51
abbrev cc3_sem9_0 : DmaSem sig := 52
abbrev cc3_sem9_1 : DmaSem sig := 53
abbrev cc3_sem10_0 : DmaSem sig := 54
abbrev cc3_sem10_1 : DmaSem sig := 55
abbrev cc4_sem0_0 : DmaSem sig := 56
abbrev cc4_sem0_1 : DmaSem sig := 57
abbrev cc4_sem1_0 : DmaSem sig := 58
abbrev cc4_sem1_1 : DmaSem sig := 59
abbrev cc4_sem2_0 : DmaSem sig := 60
abbrev cc4_sem2_1 : DmaSem sig := 61
abbrev cc4_sem3_0 : DmaSem sig := 62
abbrev cc4_sem3_1 : DmaSem sig := 63

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![8, 6], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c26_i32 : BitVec 32 := 26#32
  let c0_i32 : BitVec 32 := 0#32
  ![arg0.toNat, c26_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨2, ![2, 12], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x2048x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x2048x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x2048x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x2048x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x1x2048x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨2, ![2, 12], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_5 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_8 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_9 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc3_transform_10 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage3_0 : Fin 2 → Memref sig .tc .vmem S1x2048x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2048x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x2048x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x2048x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x2048x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1x1x2048x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S1x2048x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, false]

abbrev stage3_7 : Fin 2 → Memref sig .tc .vmem S1x2048x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, false]

abbrev stage3_8 : Fin 2 → Memref sig .tc .vmem S1x2048x256 .bf16 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true]

abbrev stage3_9 : Fin 2 → Memref sig .tc .vmem S1x2048x256 .bf16 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true, true]

abbrev stage3_10 : Fin 2 → Memref sig .tc .vmem S1x2048x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true, true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1536 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S512x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S512x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S512x128 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]
-- ==== KernelIdeal.lean ====
variable {F : FTy → Type} [FloatOps F] [Named F]
def κ : String → Option EReal := fun
  | "mask" => some ⊥
  | _ => none
-- ==== ReferenceIdeal.lean ====
abbrev S4096x512 : Shape := ⟨2, ![4096, 512]⟩
abbrev S512x2304 : Shape := ⟨2, ![512, 2304]⟩
abbrev S4096x256 : Shape := ⟨2, ![4096, 256]⟩
abbrev S256x3072 : Shape := ⟨2, ![256, 3072]⟩
abbrev S4096x64 : Shape := ⟨2, ![4096, 64]⟩
abbrev S4096x32 : Shape := ⟨2, ![4096, 32]⟩
abbrev S4096x1536 : Shape := ⟨2, ![4096, 1536]⟩
abbrev S4096x2304 : Shape := ⟨2, ![4096, 2304]⟩
abbrev S2x2048x12x192 : Shape := ⟨4, ![2, 2048, 12, 192]⟩
abbrev S4096x3072 : Shape := ⟨2, ![4096, 3072]⟩
abbrev S2x2048x12x256 : Shape := ⟨4, ![2, 2048, 12, 256]⟩
abbrev S2x2048x64 : Shape := ⟨3, ![2, 2048, 64]⟩
abbrev S2x2048x32 : Shape := ⟨3, ![2, 2048, 32]⟩
abbrev S2x2048x12x64 : Shape := ⟨4, ![2, 2048, 12, 64]⟩
abbrev S2x2048x1x32 : Shape := ⟨4, ![2, 2048, 1, 32]⟩
abbrev S2x2048x12x32 : Shape := ⟨4, ![2, 2048, 12, 32]⟩
abbrev S2x2048x12x128 : Shape := ⟨4, ![2, 2048, 12, 128]⟩
abbrev S2x12x2048x2048 : Shape := ⟨4, ![2, 12, 2048, 2048]⟩
abbrev S2x2048x2048x12 : Shape := ⟨4, ![2, 2048, 2048, 12]⟩
abbrev S_ : Shape := ⟨0, ![]⟩
abbrev S2x12x2048 : Shape := ⟨3, ![2, 12, 2048]⟩
abbrev S2x12x2048x1 : Shape := ⟨4, ![2, 12, 2048, 1]⟩
abbrev S2x12x128x2048 : Shape := ⟨4, ![2, 12, 128, 2048]⟩
abbrev S2x2048x1536 : Shape := ⟨3, ![2, 2048, 1536]⟩
abbrev S2x12x2048x128 : Shape := ⟨4, ![2, 12, 2048, 128]⟩
abbrev S4096x128 : Shape := ⟨2, ![4096, 128]⟩

abbrev nBuf : Space → Nat
  | .hbm => 179
  | .vmem => 0
  | .smem => 0
  | _ => 0

abbrev hbmTy0_0 (i : Nat) : BufTy := match i % 128 with
  | 0 => ⟨S4096x512, .f32⟩
  | 1 => ⟨S512x2304, .f32⟩
  | 2 => ⟨S4096x256, .f32⟩
  | 3 => ⟨S256x3072, .f32⟩
  | 4 => ⟨S4096x64, .f32⟩
  | 5 => ⟨S4096x32, .f32⟩
  | 6 => ⟨S4096x32, .f32⟩
  | 7 => ⟨S4096x1536, .f32⟩
  | 8 => ⟨S4096x2304, .f32⟩
  | 9 => ⟨S2x2048x12x192, .f32⟩
  | 10 => ⟨S4096x3072, .f32⟩
  | 11 => ⟨S2x2048x12x256, .f32⟩
  | 12 => ⟨S2x2048x64, .f32⟩
  | 13 => ⟨S2x2048x32, .f32⟩
  | 14 => ⟨S2x2048x32, .f32⟩
  | 15 => ⟨S2x2048x12x64, .f32⟩
  | 16 => ⟨S2x2048x1x32, .f32⟩
  | 17 => ⟨S2x2048x1x32, .f32⟩
  | 18 => ⟨S2x2048x12x32, .f32⟩
  | 19 => ⟨S2x2048x12x32, .f32⟩
  | 20 => ⟨S2x2048x12x32, .f32⟩
  | 21 => ⟨S2x2048x12x32, .f32⟩
  | 22 => ⟨S2x2048x12x32, .f32⟩
  | 23 => ⟨S2x2048x12x32, .f32⟩
  | 24 => ⟨S2x2048x12x32, .f32⟩
  | 25 => ⟨S2x2048x12x32, .f32⟩
  | 26 => ⟨S2x2048x12x32, .f32⟩
  | 27 => ⟨S2x2048x12x32, .f32⟩
  | 28 => ⟨S2x2048x12x32, .f32⟩
  | 29 => ⟨S2x2048x12x32, .f32⟩
  | 30 => ⟨S2x2048x12x64, .f32⟩
  | 31 => ⟨S2x2048x32, .f32⟩
  | 32 => ⟨S2x2048x32, .f32⟩
  | 33 => ⟨S2x2048x32, .f32⟩
  | 34 => ⟨S2x2048x32, .f32⟩
  | 35 => ⟨S2x2048x32, .f32⟩
  | 36 => ⟨S2x2048x32, .f32⟩
  | 37 => ⟨S2x2048x32, .f32⟩
  | 38 => ⟨S2x2048x32, .f32⟩
  | 39 => ⟨S2x2048x64, .f32⟩
  | 40 => ⟨S2x2048x12x128, .f32⟩
  | 41 => ⟨S2x2048x12x128, .f32⟩
  | 42 => ⟨S2x12x2048x2048, .f32⟩
  | 43 => ⟨S2x2048x2048x12, .f32⟩
  | 44 => ⟨S2x12x2048x2048, .f32⟩
  | 45 => ⟨S2x12x2048x2048, .f32⟩
  | 46 => ⟨S_, .f32⟩
  | 47 => ⟨S2x12x2048x2048, .f32⟩
  | 48 => ⟨S2x12x2048x2048, .f32⟩
  | 49 => ⟨S2x12x2048x2048, .i32⟩
  | 50 => ⟨S2x12x2048x2048, .i32⟩
  | 51 => ⟨S2x12x2048x2048, .i1⟩
  | 52 => ⟨S_, .f32⟩
  | 53 => ⟨S2x12x2048x2048, .f32⟩
  | 54 => ⟨S2x12x2048x2048, .f32⟩
  | 55 => ⟨S_, .f32⟩
  | 56 => ⟨S2x12x2048x2048, .f32⟩
  | 57 => ⟨S_, .f32⟩
  | 58 => ⟨S2x12x2048, .f32⟩
  | 59 => ⟨S2x12x2048x1, .f32⟩
  | 60 => ⟨S2x12x2048x2048, .f32⟩
  | 61 => ⟨S2x12x2048x2048, .i1⟩
  | 62 => ⟨S2x12x2048x2048, .f32⟩
  | 63 => ⟨S_, .f32⟩
  | 64 => ⟨S2x12x2048, .f32⟩
  | 65 => ⟨S_, .f32⟩
  | 66 => ⟨S2x12x2048, .f32⟩
  | 67 => ⟨S2x12x2048, .f32⟩
  | 68 => ⟨S_, .f32⟩
  | 69 => ⟨S2x12x2048, .f32⟩
  | 70 => ⟨S2x12x2048, .i1⟩
  | 71 => ⟨S_, .f32⟩
  | 72 => ⟨S2x12x2048, .f32⟩
  | 73 => ⟨S2x12x2048, .i1⟩
  | 74 => ⟨S_, .f32⟩
  | 75 => ⟨S2x12x2048, .f32⟩
  | 76 => ⟨S_, .f32⟩
  | 77 => ⟨S2x12x2048, .f32⟩
  | 78 => ⟨S_, .f32⟩
  | 79 => ⟨S2x12x2048, .f32⟩
  | 80 => ⟨S2x12x2048, .f32⟩
  | 81 => ⟨S2x12x2048, .f32⟩
  | 82 => ⟨S2x12x2048x1, .f32⟩
  | 83 => ⟨S2x12x2048x2048, .f32⟩
  | 84 => ⟨S2x12x2048x2048, .f32⟩
  | 85 => ⟨S2x12x2048x2048, .f32⟩
  | 86 => ⟨S_, .f32⟩
  | 87 => ⟨S2x12x2048, .f32⟩
  | 88 => ⟨S2x12x2048x1, .f32⟩
  | 89 => ⟨S2x12x2048x2048, .f32⟩
  | 90 => ⟨S2x12x2048x2048, .f32⟩
  | 91 => ⟨S2x12x2048x1, .f32⟩
  | 92 => ⟨S_, .f32⟩
  | 93 => ⟨S2x12x2048x1, .f32⟩
  | 94 => ⟨S2x12x2048x1, .f32⟩
  | 95 => ⟨S2x2048x12x128, .f32⟩
  | 96 => ⟨S2x12x128x2048, .f32⟩
  | 97 => ⟨S2x2048x12x128, .f32⟩
  | 98 => ⟨S2x2048x1536, .f32⟩
  | 99 => ⟨S2x2048x1536, .f32⟩
  | 100 => ⟨S2x2048x12x128, .f32⟩
  | 101 => ⟨S2x12x128x2048, .f32⟩
  | 102 => ⟨S2x12x2048x2048, .f32⟩
  | 103 => ⟨S2x12x128x2048, .f32⟩
  | 104 => ⟨S2x2048x12x128, .f32⟩
  | 105 => ⟨S_, .f32⟩
  | 106 => ⟨S2x2048x12x256, .f32⟩
  | 107 => ⟨S2x12x2048x2048, .f32⟩
  | 108 => ⟨S2x12x2048x2048, .f32⟩
  | 109 => ⟨S2x12x2048x2048, .f32⟩
  | 110 => ⟨S_, .f32⟩
  | 111 => ⟨S2x12x2048, .f32⟩
  | 112 => ⟨S2x12x2048x1, .f32⟩
  | 113 => ⟨S2x12x2048x1, .f32⟩
  | 114 => ⟨S2x12x2048x2048, .f32⟩
  | 115 => ⟨S2x12x2048x2048, .f32⟩
  | 116 => ⟨S_, .f32⟩
  | 117 => ⟨S2x12x2048, .f32⟩
  | 118 => ⟨S2x12x2048x2048, .f32⟩
  | 119 => ⟨S2x12x2048x2048, .f32⟩
  | 120 => ⟨S2x12x2048x2048, .f32⟩
  | 121 => ⟨S_, .f32⟩
  | 122 => ⟨S2x12x2048x2048, .f32⟩
  | 123 => ⟨S2x12x2048x2048, .f32⟩
  | 124 => ⟨S_, .f32⟩
  | 125 => ⟨S2x12x2048x2048, .f32⟩
  | 126 => ⟨S2x12x2048x2048, .f32⟩
  | 127 => ⟨S2x2048x2048x12, .f32⟩
  | _ => ⟨S4096x512, .f32⟩

abbrev hbmTy0_1 (i : Nat) : BufTy := match i % 128 with
  | 0 => ⟨S2x2048x12x64, .f32⟩
  | 1 => ⟨S2x2048x64, .f32⟩
  | 2 => ⟨S2x12x2048x128, .f32⟩
  | 3 => ⟨S2x2048x12x128, .f32⟩
  | 4 => ⟨S2x12x2048x128, .f32⟩
  | 5 => ⟨S2x2048x12x128, .f32⟩
  | 6 => ⟨S_, .f32⟩
  | 7 => ⟨S2x2048x12x256, .f32⟩
  | 8 => ⟨S2x2048x12x256, .f32⟩
  | 9 => ⟨S_, .f32⟩
  | 10 => ⟨S2x2048x12x192, .f32⟩
  | 11 => ⟨S2x2048x32, .f32⟩
  | 12 => ⟨S2x2048x32, .f32⟩
  | 13 => ⟨S2x2048x32, .f32⟩
  | 14 => ⟨S2x2048x32, .f32⟩
  | 15 => ⟨S2x2048x32, .f32⟩
  | 16 => ⟨S2x2048x32, .f32⟩
  | 17 => ⟨S2x2048x32, .f32⟩
  | 18 => ⟨S2x2048x32, .f32⟩
  | 19 => ⟨S2x2048x32, .f32⟩
  | 20 => ⟨S2x2048x64, .f32⟩
  | 21 => ⟨S2x2048x12x32, .f32⟩
  | 22 => ⟨S2x2048x12x32, .f32⟩
  | 23 => ⟨S2x2048x12x32, .f32⟩
  | 24 => ⟨S2x2048x12x32, .f32⟩
  | 25 => ⟨S2x2048x12x32, .f32⟩
  | 26 => ⟨S2x2048x12x32, .f32⟩
  | 27 => ⟨S2x2048x12x32, .f32⟩
  | 28 => ⟨S2x2048x12x32, .f32⟩
  | 29 => ⟨S2x2048x12x32, .f32⟩
  | 30 => ⟨S2x2048x12x32, .f32⟩
  | 31 => ⟨S2x2048x12x32, .f32⟩
  | 32 => ⟨S2x2048x12x32, .f32⟩
  | 33 => ⟨S2x2048x12x32, .f32⟩
  | 34 => ⟨S2x2048x12x64, .f32⟩
  | 35 => ⟨S_, .f32⟩
  | 36 => ⟨S2x2048x12x192, .f32⟩
  | 37 => ⟨S2x2048x12x192, .f32⟩
  | 38 => ⟨S_, .f32⟩
  | 39 => ⟨S2x2048x12x64, .f32⟩
  | 40 => ⟨S2x2048x12x256, .f32⟩
  | 41 => ⟨S4096x64, .f32⟩
  | 42 => ⟨S_, .f32⟩
  | 43 => ⟨S4096x64, .f32⟩
  | 44 => ⟨S4096x128, .f32⟩
  | 45 => ⟨S4096x1536, .f32⟩
  | 46 => ⟨S4096x3072, .f32⟩
  | 47 => ⟨S4096x3072, .bf16⟩
  | 48 => ⟨S4096x3072, .f32⟩
  | 49 => ⟨S4096x3072, .bf16⟩
  | 50 => ⟨S4096x128, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_0 : Ref sig .tc := ⟨.hbm, 52, rfl⟩
abbrev main_v43 : Ref sig .tc := ⟨.hbm, 53, rfl⟩
abbrev main_v44 : Ref sig .tc := ⟨.hbm, 54, rfl⟩
abbrev main_cst_1 : Ref sig .tc := ⟨.hbm, 55, rfl⟩
abbrev main_v45 : Ref sig .tc := ⟨.hbm, 56, rfl⟩
abbrev main_cst_2 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_3 : Ref sig .tc := ⟨.hbm, 63, rfl⟩
abbrev main_v51 : Ref sig .tc := ⟨.hbm, 64, rfl⟩
abbrev main_cst_4 : Ref sig .tc := ⟨.hbm, 65, rfl⟩
abbrev main_v52 : Ref sig .tc := ⟨.hbm, 66, rfl⟩
abbrev main_v53 : Ref sig .tc := ⟨.hbm, 67, rfl⟩
abbrev main_cst_5 : Ref sig .tc := ⟨.hbm, 68, rfl⟩
abbrev main_v54 : Ref sig .tc := ⟨.hbm, 69, rfl⟩
abbrev main_v55 : Ref sig .tc := ⟨.hbm, 70, rfl⟩
abbrev main_cst_6 : Ref sig .tc := ⟨.hbm, 71, rfl⟩
abbrev main_v56 : Ref sig .tc := ⟨.hbm, 72, rfl⟩
abbrev main_v57 : Ref sig .tc := ⟨.hbm, 73, rfl⟩
abbrev main_cst_7 : Ref sig .tc := ⟨.hbm, 74, rfl⟩
abbrev main_v58 : Ref sig .tc := ⟨.hbm, 75, rfl⟩
abbrev main_cst_8 : Ref sig .tc := ⟨.hbm, 76, rfl⟩
abbrev main_v59 : Ref sig .tc := ⟨.hbm, 77, rfl⟩
abbrev main_cst_9 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_10 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_11 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_12 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_cst_13 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_cst_14 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_cst_15 : Ref sig .tc := ⟨.hbm, 121, rfl⟩
abbrev main_v97 : Ref sig .tc := ⟨.hbm, 122, rfl⟩
abbrev main_v98 : Ref sig .tc := ⟨.hbm, 123, rfl⟩
abbrev main_cst_16 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_cst_17 : Ref sig .tc := ⟨.hbm, 134, rfl⟩
abbrev main_v108 : Ref sig .tc := ⟨.hbm, 135, rfl⟩
abbrev main_v109 : Ref sig .tc := ⟨.hbm, 136, rfl⟩
abbrev main_cst_18 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_cst_19 : Ref sig .tc := ⟨.hbm, 163, rfl⟩
abbrev main_v135 : Ref sig .tc := ⟨.hbm, 164, rfl⟩
abbrev main_v136 : Ref sig .tc := ⟨.hbm, 165, rfl⟩
abbrev main_cst_20 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_cst_21 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩

abbrev nD : Nat := 1
abbrev τ : Topo := Topo.v7x

variable {F : FTy → Type} [FloatOps F]
-- ==== Kernel2.lean ====
abbrev S4096x512 : Shape := ⟨2, ![4096, 512]⟩
abbrev S4096x3072 : Shape := ⟨2, ![4096, 3072]⟩
abbrev S512x3072 : Shape := ⟨2, ![512, 3072]⟩
abbrev S2048x512 : Shape := ⟨2, ![2048, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S4096x3072, .bf16⟩
  | .hbm, ⟨2, _⟩ => ⟨S512x3072, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 6, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .sge arg1 c0_i32
  let c6_i32 : BitVec 32 := 6#32
  let v1 : BitVec 1 := Scalar.cmpi .slt arg1 c6_i32
  let v2 : BitVec 1 := Scalar.andi v0 v1
  let c0_i32_0 : BitVec 32 := 0#32
  let v3 : BitVec 32 := Scalar.select v2 arg2 c0_i32_0
  let c0_i32_1 : BitVec 32 := 0#32
  let v4 : BitVec 32 := Scalar.subi arg1 c0_i32_1
  let c0_i32_2 : BitVec 32 := 0#32
  let c5_i32 : BitVec 32 := 5#32
  let v5 : BitVec 32 := Scalar.maxsi c0_i32_2 v4
  let v6 : BitVec 32 := Scalar.minsi c5_i32 v5
  let c0_i32_3 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x512 : Shape := ⟨2, ![4096, 512]⟩
abbrev S4096x3072 : Shape := ⟨2, ![4096, 3072]⟩
abbrev S_ : Shape := ⟨0, ![]⟩
abbrev S512x3072 : Shape := ⟨2, ![512, 3072]⟩
abbrev S3072x512 : Shape := ⟨2, ![3072, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x3072, .bf16⟩
  | .hbm, ⟨2, _⟩ => ⟨S_, .f32⟩
  | .hbm, ⟨3, _⟩ => ⟨S512x3072, .f32⟩
  | .hbm, ⟨4, _⟩ => ⟨S4096x512, .f32⟩
  | .hbm, ⟨5, _⟩ => ⟨S4096x3072, .f32⟩
  | .hbm, ⟨6, _⟩ => ⟨S4096x3072, .f32⟩
  | .hbm, ⟨7, _⟩ => ⟨S3072x512, .f32⟩
  | .hbm, ⟨8, _⟩ => ⟨S512x3072, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S4096x3072 : Shape := ⟨2, ![4096, 3072]⟩
abbrev S512x3072 : Shape := ⟨2, ![512, 3072]⟩
abbrev S3072x512 : Shape := ⟨2, ![3072, 512]⟩
abbrev S4096x512 : Shape := ⟨2, ![4096, 512]⟩
abbrev S1024x1536 : Shape := ⟨2, ![1024, 1536]⟩
abbrev S1536x512 : Shape := ⟨2, ![1536, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S512x3072, .bf16⟩
  | .hbm, ⟨2, _⟩ => ⟨S3072x512, .bf16⟩
  | .hbm, ⟨3, _⟩ => ⟨S4096x512, .f32⟩
  | .local _ .vmem, ⟨0, _⟩ => ⟨S1024x1536, .bf16⟩
  | .local _ .vmem, ⟨1, _⟩ => ⟨S1024x1536, .bf16⟩
  | .local _ .vmem, ⟨2, _⟩ => ⟨S1536x512, .bf16⟩
  | .local _ .vmem, ⟨3, _⟩ => ⟨S1536x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v12 : BitVec 1 := Scalar.cmpi .eq arg2 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .sge arg1 c0_i32
  let c1_i32 : BitVec 32 := 1#32
  let v1 : BitVec 1 := Scalar.cmpi .slt arg1 c1_i32
  let v2 : BitVec 1 := Scalar.andi v0 v1
  let c0_i32_0 : BitVec 32 := 0#32
  let v3 : BitVec 32 := Scalar.select v2 arg2 c0_i32_0
  let c0_i32_1 : BitVec 32 := 0#32
  let v4 : BitVec 32 := Scalar.subi arg1 c0_i32_1
  let c0_i32_2 : BitVec 32 := 0#32
  let c0_i32_3 : BitVec 32 := 0#32
  let v5 : BitVec 32 := Scalar.maxsi c0_i32_2 v4
  let v6 : BitVec 32 := Scalar.minsi c0_i32_3 v5
  let c0_i32_4 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x3072 : Shape := ⟨2, ![4096, 3072]⟩
abbrev S512x3072 : Shape := ⟨2, ![512, 3072]⟩
abbrev S_ : Shape := ⟨0, ![]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S512x3072, .bf16⟩
  | .hbm, ⟨2, _⟩ => ⟨S_, .f32⟩
  | .hbm, ⟨3, _⟩ => ⟨S4096x512, .f32⟩
  | .hbm, ⟨4, _⟩ => ⟨S512x3072, .f32⟩
  | .hbm, ⟨5, _⟩ => ⟨S4096x3072, .f32⟩
  | .hbm, ⟨6, _⟩ => ⟨S4096x3072, .f32⟩
  | .hbm, ⟨7, _⟩ => ⟨S4096x512, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S4096x256 : Shape := ⟨2, ![4096, 256]⟩
abbrev S4096x3072 : Shape := ⟨2, ![4096, 3072]⟩
abbrev S256x3072 : Shape := ⟨2, ![256, 3072]⟩
abbrev S2048x256 : Shape := ⟨2, ![2048, 256]⟩
abbrev S2048x512 : Shape := ⟨2, ![2048, 512]⟩
abbrev S256x512 : Shape := ⟨2, ![256, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x256, .bf16⟩
  | .hbm, ⟨1, _⟩ => ⟨S4096x3072, .bf16⟩
  | .hbm, ⟨2, _⟩ => ⟨S256x3072, .f32⟩
  | .hbm, ⟨3, _⟩ => ⟨S256x3072, .bf16⟩
  | .local _ .vmem, ⟨0, _⟩ => ⟨S2048x256, .bf16⟩
  | .local _ .vmem, ⟨1, _⟩ => ⟨S2048x256, .bf16⟩
  | .local _ .vmem, ⟨2, _⟩ => ⟨S2048x512, .bf16⟩
  | .local _ .vmem, ⟨3, _⟩ => ⟨S2048x512, .bf16⟩
  | .local _ .vmem, ⟨4, _⟩ => ⟨S256x512, .f32⟩
  | .local _ .vmem, ⟨5, _⟩ => ⟨S256x512, .f32⟩
  | .local _ .vmem, ⟨6, _⟩ => ⟨S256x512, .bf16⟩
  | .local _ .vmem, ⟨7, _⟩ => ⟨S256x512, .bf16⟩
  | .local _ .vmem, ⟨8, _⟩ => ⟨S256x512, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 6, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .sge arg1 c0_i32
  let c6_i32 : BitVec 32 := 6#32
  let v1 : BitVec 1 := Scalar.cmpi .slt arg1 c6_i32
  let v2 : BitVec 1 := Scalar.andi v0 v1
  let c0_i32_0 : BitVec 32 := 0#32
  let v3 : BitVec 32 := Scalar.select v2 arg2 c0_i32_0
  let c0_i32_1 : BitVec 32 := 0#32
  let v4 : BitVec 32 := Scalar.subi arg1 c0_i32_1
  let c0_i32_2 : BitVec 32 := 0#32
  let c5_i32 : BitVec 32 := 5#32
  let v5 : BitVec 32 := Scalar.maxsi c0_i32_2 v4
  let v6 : BitVec 32 := Scalar.minsi c5_i32 v5
  let c0_i32_3 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S4096x256 : Shape := ⟨2, ![4096, 256]⟩
abbrev S4096x3072 : Shape := ⟨2, ![4096, 3072]⟩
abbrev S_ : Shape := ⟨0, ![]⟩
abbrev S256x3072 : Shape := ⟨2, ![256, 3072]⟩
abbrev S3072x256 : Shape := ⟨2, ![3072, 256]⟩

abbrev nBuf : Space → Nat
  | .hbm => 10
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x3072, .bf16⟩
  | .hbm, ⟨2, _⟩ => ⟨S_, .f32⟩
  | .hbm, ⟨3, _⟩ => ⟨S256x3072, .f32⟩
  | .hbm, ⟨4, _⟩ => ⟨S4096x256, .f32⟩
  | .hbm, ⟨5, _⟩ => ⟨S4096x3072, .f32⟩
  | .hbm, ⟨6, _⟩ => ⟨S4096x3072, .f32⟩
  | .hbm, ⟨7, _⟩ => ⟨S3072x256, .f32⟩
  | .hbm, ⟨8, _⟩ => ⟨S256x3072, .f32⟩
  | .hbm, ⟨9, _⟩ => ⟨S256x3072, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x3072 : Shape := ⟨2, ![4096, 3072]⟩
abbrev S256x3072 : Shape := ⟨2, ![256, 3072]⟩
abbrev S3072x256 : Shape := ⟨2, ![3072, 256]⟩
abbrev S4096x256 : Shape := ⟨2, ![4096, 256]⟩
abbrev S1024x1536 : Shape := ⟨2, ![1024, 1536]⟩
abbrev S1536x256 : Shape := ⟨2, ![1536, 256]⟩
abbrev S1024x256 : Shape := ⟨2, ![1024, 256]⟩

abbrev nBuf : Space → Nat
  | .hbm => 4
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S256x3072, .bf16⟩
  | .hbm, ⟨2, _⟩ => ⟨S3072x256, .bf16⟩
  | .hbm, ⟨3, _⟩ => ⟨S4096x256, .f32⟩
  | .local _ .vmem, ⟨0, _⟩ => ⟨S1024x1536, .bf16⟩
  | .local _ .vmem, ⟨1, _⟩ => ⟨S1024x1536, .bf16⟩
  | .local _ .vmem, ⟨2, _⟩ => ⟨S1536x256, .bf16⟩
  | .local _ .vmem, ⟨3, _⟩ => ⟨S1536x256, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v12 : BitVec 1 := Scalar.cmpi .eq arg2 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .sge arg1 c0_i32
  let c1_i32 : BitVec 32 := 1#32
  let v1 : BitVec 1 := Scalar.cmpi .slt arg1 c1_i32
  let v2 : BitVec 1 := Scalar.andi v0 v1
  let c0_i32_0 : BitVec 32 := 0#32
  let v3 : BitVec 32 := Scalar.select v2 arg2 c0_i32_0
  let c0_i32_1 : BitVec 32 := 0#32
  let v4 : BitVec 32 := Scalar.subi arg1 c0_i32_1
  let c0_i32_2 : BitVec 32 := 0#32
  let c0_i32_3 : BitVec 32 := 0#32
  let v5 : BitVec 32 := Scalar.maxsi c0_i32_2 v4
  let v6 : BitVec 32 := Scalar.minsi c0_i32_3 v5
  let c0_i32_4 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x3072 : Shape := ⟨2, ![4096, 3072]⟩
abbrev S256x3072 : Shape := ⟨2, ![256, 3072]⟩
abbrev S_ : Shape := ⟨0, ![]⟩
abbrev S4096x256 : Shape := ⟨2, ![4096, 256]⟩

abbrev nBuf : Space → Nat
  | .hbm => 8
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S256x3072, .bf16⟩
  | .hbm, ⟨2, _⟩ => ⟨S_, .f32⟩
  | .hbm, ⟨3, _⟩ => ⟨S4096x256, .f32⟩
  | .hbm, ⟨4, _⟩ => ⟨S256x3072, .f32⟩
  | .hbm, ⟨5, _⟩ => ⟨S4096x3072, .f32⟩
  | .hbm, ⟨6, _⟩ => ⟨S4096x3072, .f32⟩
  | .hbm, ⟨7, _⟩ => ⟨S4096x256, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4096x1024 : Shape := ⟨2, ![4096, 1024]⟩
abbrev S4096x3456 : Shape := ⟨2, ![4096, 3456]⟩
abbrev S1024x3456 : Shape := ⟨2, ![1024, 3456]⟩
abbrev S2048x1024 : Shape := ⟨2, ![2048, 1024]⟩
abbrev S2048x384 : Shape := ⟨2, ![2048, 384]⟩
abbrev S1024x384 : Shape := ⟨2, ![1024, 384]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x3456, .bf16⟩
  | .hbm, ⟨2, _⟩ => ⟨S1024x3456, .f32⟩
  | .local _ .vmem, ⟨0, _⟩ => ⟨S2048x1024, .bf16⟩
  | .local _ .vmem, ⟨1, _⟩ => ⟨S2048x1024, .bf16⟩
  | .local _ .vmem, ⟨2, _⟩ => ⟨S2048x384, .bf16⟩
  | .local _ .vmem, ⟨3, _⟩ => ⟨S2048x384, .bf16⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 9, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .sge arg1 c0_i32
  let c9_i32 : BitVec 32 := 9#32
  let v1 : BitVec 1 := Scalar.cmpi .slt arg1 c9_i32
  let v2 : BitVec 1 := Scalar.andi v0 v1
  let c0_i32_0 : BitVec 32 := 0#32
  let v3 : BitVec 32 := Scalar.select v2 arg2 c0_i32_0
  let c0_i32_1 : BitVec 32 := 0#32
  let v4 : BitVec 32 := Scalar.subi arg1 c0_i32_1
  let c0_i32_2 : BitVec 32 := 0#32
  let c8_i32 : BitVec 32 := 8#32
  let v5 : BitVec 32 := Scalar.maxsi c0_i32_2 v4
  let v6 : BitVec 32 := Scalar.minsi c8_i32 v5
  let c0_i32_3 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S4096x3456 : Shape := ⟨2, ![4096, 3456]⟩
abbrev S_ : Shape := ⟨0, ![]⟩
abbrev S1024x3456 : Shape := ⟨2, ![1024, 3456]⟩
abbrev S3456x1024 : Shape := ⟨2, ![3456, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3456, .bf16⟩
  | .hbm, ⟨2, _⟩ => ⟨S_, .f32⟩
  | .hbm, ⟨3, _⟩ => ⟨S1024x3456, .f32⟩
  | .hbm, ⟨4, _⟩ => ⟨S4096x1024, .f32⟩
  | .hbm, ⟨5, _⟩ => ⟨S4096x3456, .f32⟩
  | .hbm, ⟨6, _⟩ => ⟨S4096x3456, .f32⟩
  | .hbm, ⟨7, _⟩ => ⟨S3456x1024, .f32⟩
  | .hbm, ⟨8, _⟩ => ⟨S1024x3456, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S4096x3456 : Shape := ⟨2, ![4096, 3456]⟩
abbrev S1024x3456 : Shape := ⟨2, ![1024, 3456]⟩
abbrev S3456x1024 : Shape := ⟨2, ![3456, 1024]⟩
abbrev S4096x1024 : Shape := ⟨2, ![4096, 1024]⟩
abbrev S1024x1152 : Shape := ⟨2, ![1024, 1152]⟩
abbrev S1152x512 : Shape := ⟨2, ![1152, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x3456, .bf16⟩
  | .hbm, ⟨1, _⟩ => ⟨S1024x3456, .bf16⟩
  | .hbm, ⟨2, _⟩ => ⟨S3456x1024, .bf16⟩
  | .hbm, ⟨3, _⟩ => ⟨S4096x1024, .f32⟩
  | .local _ .vmem, ⟨0, _⟩ => ⟨S1024x1152, .bf16⟩
  | .local _ .vmem, ⟨1, _⟩ => ⟨S1024x1152, .bf16⟩
  | .local _ .vmem, ⟨2, _⟩ => ⟨S1152x512, .bf16⟩
  | .local _ .vmem, ⟨3, _⟩ => ⟨S1152x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x3456, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32_6 : BitVec 32 := 2#32
  let v12 : BitVec 1 := Scalar.cmpi .eq arg2 c2_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .sge arg1 c0_i32
  let c2_i32 : BitVec 32 := 2#32
  let v1 : BitVec 1 := Scalar.cmpi .slt arg1 c2_i32
  let v2 : BitVec 1 := Scalar.andi v0 v1
  let c0_i32_0 : BitVec 32 := 0#32
  let v3 : BitVec 32 := Scalar.select v2 arg2 c0_i32_0
  let c0_i32_1 : BitVec 32 := 0#32
  let v4 : BitVec 32 := Scalar.subi arg1 c0_i32_1
  let c0_i32_2 : BitVec 32 := 0#32
  let c1_i32 : BitVec 32 := 1#32
  let v5 : BitVec 32 := Scalar.maxsi c0_i32_2 v4
  let v6 : BitVec 32 := Scalar.minsi c1_i32 v5
  let c0_i32_3 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1152x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x3456 : Shape := ⟨2, ![4096, 3456]⟩
abbrev S1024x3456 : Shape := ⟨2, ![1024, 3456]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x3456, .bf16⟩
  | .hbm, ⟨1, _⟩ => ⟨S1024x3456, .bf16⟩
  | .hbm, ⟨2, _⟩ => ⟨S_, .f32⟩
  | .hbm, ⟨3, _⟩ => ⟨S4096x1024, .f32⟩
  | .hbm, ⟨4, _⟩ => ⟨S1024x3456, .f32⟩
  | .hbm, ⟨5, _⟩ => ⟨S4096x3456, .f32⟩
  | .hbm, ⟨6, _⟩ => ⟨S4096x3456, .f32⟩
  | .hbm, ⟨7, _⟩ => ⟨S4096x1024, .f32⟩
  | _, _ => ⟨S4096x3456, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S4096x2048 : Shape := ⟨2, ![4096, 2048]⟩
abbrev S4096x1024 : Shape := ⟨2, ![4096, 1024]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .f32⟩
  | .hbm, ⟨3, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .sge arg1 c0_i32
  let c2_i32 : BitVec 32 := 2#32
  let v1 : BitVec 1 := Scalar.cmpi .slt arg1 c2_i32
  let v2 : BitVec 1 := Scalar.andi v0 v1
  let c0_i32_0 : BitVec 32 := 0#32
  let v3 : BitVec 32 := Scalar.select v2 arg2 c0_i32_0
  let c0_i32_1 : BitVec 32 := 0#32
  let v4 : BitVec 32 := Scalar.subi arg1 c0_i32_1
  let c0_i32_2 : BitVec 32 := 0#32
  let c1_i32 : BitVec 32 := 1#32
  let v5 : BitVec 32 := Scalar.maxsi c0_i32_2 v4
  let v6 : BitVec 32 := Scalar.minsi c1_i32 v5
  let c0_i32_3 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference8Ideal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S4096x1024 : Shape := ⟨2, ![4096, 1024]⟩
abbrev S2048x1024 : Shape := ⟨2, ![2048, 1024]⟩
abbrev S1024x2048 : Shape := ⟨2, ![1024, 2048]⟩
abbrev S4096x2048 : Shape := ⟨2, ![4096, 2048]⟩
abbrev S1024x1024 : Shape := ⟨2, ![1024, 1024]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S1024x2048, .bf16⟩
  | .hbm, ⟨3, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .sge arg1 c0_i32
  let c4_i32 : BitVec 32 := 4#32
  let v1 : BitVec 1 := Scalar.cmpi .slt arg1 c4_i32
  let v2 : BitVec 1 := Scalar.andi v0 v1
  let c0_i32_0 : BitVec 32 := 0#32
  let v3 : BitVec 32 := Scalar.select v2 arg2 c0_i32_0
  let c0_i32_1 : BitVec 32 := 0#32
  let v4 : BitVec 32 := Scalar.subi arg1 c0_i32_1
  let c0_i32_2 : BitVec 32 := 0#32
  let c3_i32 : BitVec 32 := 3#32
  let v5 : BitVec 32 := Scalar.maxsi c0_i32_2 v4
  let v6 : BitVec 32 := Scalar.minsi c3_i32 v5
  let c0_i32_3 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x1024 : Shape := ⟨2, ![4096, 1024]⟩
abbrev S2048x1024 : Shape := ⟨2, ![2048, 1024]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2048x1024, .bf16⟩
  | .hbm, ⟨2, _⟩ => ⟨S_, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | .hbm, ⟨7, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .sge arg1 c0_i32
  let c2_i32 : BitVec 32 := 2#32
  let v1 : BitVec 1 := Scalar.cmpi .slt arg1 c2_i32
  let v2 : BitVec 1 := Scalar.andi v0 v1
  let c0_i32_0 : BitVec 32 := 0#32
  let v3 : BitVec 32 := Scalar.select v2 arg2 c0_i32_0
  let c0_i32_1 : BitVec 32 := 0#32
  let v4 : BitVec 32 := Scalar.subi arg1 c0_i32_1
  let c0_i32_2 : BitVec 32 := 0#32
  let c1_i32 : BitVec 32 := 1#32
  let v5 : BitVec 32 := Scalar.maxsi c0_i32_2 v4
  let v6 : BitVec 32 := Scalar.minsi c1_i32 v5
  let c0_i32_3 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S4096x2048 : Shape := ⟨2, ![4096, 2048]⟩
abbrev S2048x1024 : Shape := ⟨2, ![2048, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .bf16⟩
  | .hbm, ⟨2, _⟩ => ⟨S4096x1024, .f32⟩
  | .hbm, ⟨3, _⟩ => ⟨S4096x2048, .f32⟩
  | .hbm, ⟨4, _⟩ => ⟨S2048x1024, .f32⟩
  | .hbm, ⟨5, _⟩ => ⟨S4096x1024, .f32⟩
  | .hbm, ⟨6, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S512x1024 : Shape := ⟨2, ![512, 1024]⟩
abbrev S1024x1024 : Shape := ⟨2, ![1024, 1024]⟩
abbrev S512x512 : Shape := ⟨2, ![512, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S512x1024, .bf16⟩
  | .hbm, ⟨1, _⟩ => ⟨S512x1024, .f32⟩
  | .hbm, ⟨2, _⟩ => ⟨S1024x1024, .f32⟩
  | .hbm, ⟨3, _⟩ => ⟨S1024x1024, .bf16⟩
  | .local _ .vmem, ⟨0, _⟩ => ⟨S512x1024, .bf16⟩
  | .local _ .vmem, ⟨1, _⟩ => ⟨S512x512, .f32⟩
  | .local _ .vmem, ⟨2, _⟩ => ⟨S512x512, .f32⟩
  | .local _ .vmem, ⟨3, _⟩ => ⟨S1024x512, .f32⟩
  | .local _ .vmem, ⟨4, _⟩ => ⟨S1024x512, .f32⟩
  | .local _ .vmem, ⟨5, _⟩ => ⟨S1024x512, .bf16⟩
  | .local _ .vmem, ⟨6, _⟩ => ⟨S1024x512, .bf16⟩
  | .local _ .vmem, ⟨7, _⟩ => ⟨S1024x512, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .sge arg1 c0_i32
  let c2_i32 : BitVec 32 := 2#32
  let v1 : BitVec 1 := Scalar.cmpi .slt arg1 c2_i32
  let v2 : BitVec 1 := Scalar.andi v0 v1
  let c0_i32_0 : BitVec 32 := 0#32
  let v3 : BitVec 32 := Scalar.select v2 arg2 c0_i32_0
  let c0_i32_1 : BitVec 32 := 0#32
  let v4 : BitVec 32 := Scalar.subi arg1 c0_i32_1
  let c0_i32_2 : BitVec 32 := 0#32
  let c1_i32 : BitVec 32 := 1#32
  let v5 : BitVec 32 := Scalar.maxsi c0_i32_2 v4
  let v6 : BitVec 32 := Scalar.minsi c1_i32 v5
  let c0_i32_3 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S512x1024 : Shape := ⟨2, ![512, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S512x1024, .f32⟩
  | .hbm, ⟨2, _⟩ => ⟨S_, .f32⟩
  | .hbm, ⟨3, _⟩ => ⟨S1024x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S512x1024 : Shape := ⟨2, ![512, 1024]⟩
abbrev S1024x1024 : Shape := ⟨2, ![1024, 1024]⟩
abbrev S1024x512 : Shape := ⟨2, ![1024, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S512x1024, .f32⟩
  | .hbm, ⟨1, _⟩ => ⟨S1024x1024, .bf16⟩
  | .hbm, ⟨2, _⟩ => ⟨S1024x1024, .bf16⟩
  | .hbm, ⟨3, _⟩ => ⟨S512x1024, .f32⟩
  | .local _ .vmem, ⟨0, _⟩ => ⟨S512x1024, .f32⟩
  | .local _ .vmem, ⟨1, _⟩ => ⟨S1024x512, .bf16⟩
  | .local _ .vmem, ⟨2, _⟩ => ⟨S1024x512, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .sge arg1 c0_i32
  let c2_i32 : BitVec 32 := 2#32
  let v1 : BitVec 1 := Scalar.cmpi .slt arg1 c2_i32
  let v2 : BitVec 1 := Scalar.andi v0 v1
  let c0_i32_0 : BitVec 32 := 0#32
  let v3 : BitVec 32 := Scalar.select v2 arg2 c0_i32_0
  let c0_i32_1 : BitVec 32 := 0#32
  let v4 : BitVec 32 := Scalar.subi arg1 c0_i32_1
  let c0_i32_2 : BitVec 32 := 0#32
  let c1_i32 : BitVec 32 := 1#32
  let v5 : BitVec 32 := Scalar.maxsi c0_i32_2 v4
  let v6 : BitVec 32 := Scalar.minsi c1_i32 v5
  let c0_i32_3 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S512x1024 : Shape := ⟨2, ![512, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x1024, .bf16⟩
  | .hbm, ⟨2, _⟩ => ⟨S_, .f32⟩
  | .hbm, ⟨3, _⟩ => ⟨S512x1024, .f32⟩
  | .hbm, ⟨4, _⟩ => ⟨S1024x1024, .f32⟩
  | .hbm, ⟨5, _⟩ => ⟨S512x1024, .f32⟩
  | .hbm, ⟨6, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S512x1024 : Shape := ⟨2, ![512, 1024]⟩
abbrev S1024x1024 : Shape := ⟨2, ![1024, 1024]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S512x1024, .bf16⟩
  | .hbm, ⟨1, _⟩ => ⟨S1024x1024, .bf16⟩
  | .hbm, ⟨2, _⟩ => ⟨S512x1024, .bf16⟩
  | .local _ .vmem, ⟨0, _⟩ => ⟨S512x1024, .bf16⟩
  | .local _ .vmem, ⟨1, _⟩ => ⟨S1024x512, .bf16⟩
  | .local _ .vmem, ⟨2, _⟩ => ⟨S1024x512, .bf16⟩
  | .local _ .vmem, ⟨3, _⟩ => ⟨S512x512, .bf16⟩
  | .local _ .vmem, ⟨4, _⟩ => ⟨S512x512, .bf16⟩
  | .local _ .vmem, ⟨5, _⟩ => ⟨S512x512, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .sge arg1 c0_i32
  let c2_i32 : BitVec 32 := 2#32
  let v1 : BitVec 1 := Scalar.cmpi .slt arg1 c2_i32
  let v2 : BitVec 1 := Scalar.andi v0 v1
  let c0_i32_0 : BitVec 32 := 0#32
  let v3 : BitVec 32 := Scalar.select v2 arg2 c0_i32_0
  let c0_i32_1 : BitVec 32 := 0#32
  let v4 : BitVec 32 := Scalar.subi arg1 c0_i32_1
  let c0_i32_2 : BitVec 32 := 0#32
  let c1_i32 : BitVec 32 := 1#32
  let v5 : BitVec 32 := Scalar.maxsi c0_i32_2 v4
  let v6 : BitVec 32 := Scalar.minsi c1_i32 v5
  let c0_i32_3 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S512x1024 : Shape := ⟨2, ![512, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1024x1024, .bf16⟩
  | .hbm, ⟨2, _⟩ => ⟨S512x1024, .f32⟩
  | .hbm, ⟨3, _⟩ => ⟨S1024x1024, .f32⟩
  | .hbm, ⟨4, _⟩ => ⟨S512x1024, .f32⟩
  | .hbm, ⟨5, _⟩ => ⟨S512x1024, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S4096x1024 : Shape := ⟨2, ![4096, 1024]⟩
abbrev S4096x1536 : Shape := ⟨2, ![4096, 1536]⟩
abbrev S4096x512 : Shape := ⟨2, ![4096, 512]⟩
abbrev S4096x2048 : Shape := ⟨2, ![4096, 2048]⟩
abbrev S1024x5632 : Shape := ⟨2, ![1024, 5632]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 7
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S4096x1536, .bf16⟩
  | .hbm, ⟨3, _⟩ => ⟨S4096x512, .bf16⟩
  | .hbm, ⟨4, _⟩ => ⟨S4096x2048, .bf16⟩
  | .hbm, ⟨5, _⟩ => ⟨S1024x5632, .f32⟩
  | .hbm, ⟨6, _⟩ => ⟨S1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![1, 11, 2], ![false, false, false]⟩

def k0_cond1 (i : grid0.Coords) : BitVec 1 :=
  let arg1 : BitVec 32 := BitVec.ofNat 32 (i 1).val
  let c0_i32 : BitVec 32 := 0#32
  let v0 : BitVec 1 := Scalar.cmpi .sge arg1 c0_i32
  let c3_i32 : BitVec 32 := 3#32
  let v1 : BitVec 1 := Scalar.cmpi .slt arg1 c3_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond4 (i : grid0.Coords) : BitVec 1 :=
  let arg2 : BitVec 32 := BitVec.ofNat 32 (i 2).val
  let c1_i32_14 : BitVec 32 := 1#32
  let v31 : BitVec 1 := Scalar.cmpi .eq arg2 c1_i32_14
  let v32 : BitVec 32 := Scalar.extui v31
  let c0_i32_15 : BitVec 32 := 0#32
  let v33 : BitVec 1 := Scalar.cmpi .ne v32 c0_i32_15
  v33

def k0_cond5 (i : grid0.Coords) : BitVec 1 :=
  let arg1 : BitVec 32 := BitVec.ofNat 32 (i 1).val
  let c3_i32_1 : BitVec 32 := 3#32
  let v5 : BitVec 1 := Scalar.cmpi .sge arg1 c3_i32_1
  let c6_i32 : BitVec 32 := 6#32
  let v6 : BitVec 1 := Scalar.cmpi .slt arg1 c6_i32
  let v7 : BitVec 1 := Scalar.andi v5 v6
  let v8 : BitVec 32 := Scalar.extui v7
  let c0_i32_2 : BitVec 32 := 0#32
  let v9 : BitVec 1 := Scalar.cmpi .ne v8 c0_i32_2
  v9

def k0_cond8 (i : grid0.Coords) : BitVec 1 :=
  let arg2 : BitVec 32 := BitVec.ofNat 32 (i 2).val
  let c1_i32_14 : BitVec 32 := 1#32
  let v31 : BitVec 1 := Scalar.cmpi .eq arg2 c1_i32_14
  let v32 : BitVec 32 := Scalar.extui v31
  let c0_i32_15 : BitVec 32 := 0#32
  let v33 : BitVec 1 := Scalar.cmpi .ne v32 c0_i32_15
  v33

def k0_cond9 (i : grid0.Coords) : BitVec 1 :=
  let arg1 : BitVec 32 := BitVec.ofNat 32 (i 1).val
  let c6_i32_3 : BitVec 32 := 6#32
  let v10 : BitVec 1 := Scalar.cmpi .sge arg1 c6_i32_3
  let c7_i32 : BitVec 32 := 7#32
  let v11 : BitVec 1 := Scalar.cmpi .slt arg1 c7_i32
  let v12 : BitVec 1 := Scalar.andi v10 v11
  let v13 : BitVec 32 := Scalar.extui v12
  let c0_i32_4 : BitVec 32 := 0#32
  let v14 : BitVec 1 := Scalar.cmpi .ne v13 c0_i32_4
  v14

def k0_cond12 (i : grid0.Coords) : BitVec 1 :=
  let arg2 : BitVec 32 := BitVec.ofNat 32 (i 2).val
  let c1_i32_14 : BitVec 32 := 1#32
  let v31 : BitVec 1 := Scalar.cmpi .eq arg2 c1_i32_14
  let v32 : BitVec 32 := Scalar.extui v31
  let c0_i32_15 : BitVec 32 := 0#32
  let v33 : BitVec 1 := Scalar.cmpi .ne v32 c0_i32_15
  v33

def k0_cond13 (i : grid0.Coords) : BitVec 1 :=
  let arg1 : BitVec 32 := BitVec.ofNat 32 (i 1).val
  let c7_i32_5 : BitVec 32 := 7#32
  let v15 : BitVec 1 := Scalar.cmpi .sge arg1 c7_i32_5
  let c11_i32 : BitVec 32 := 11#32
  let v16 : BitVec 1 := Scalar.cmpi .slt arg1 c11_i32
  let v17 : BitVec 1 := Scalar.andi v15 v16
  let v18 : BitVec 32 := Scalar.extui v17
  let c0_i32_6 : BitVec 32 := 0#32
  let v19 : BitVec 1 := Scalar.cmpi .ne v18 c0_i32_6
  v19

def k0_cond16 (i : grid0.Coords) : BitVec 1 :=
  let arg2 : BitVec 32 := BitVec.ofNat 32 (i 2).val
  let c1_i32_14 : BitVec 32 := 1#32
  let v31 : BitVec 1 := Scalar.cmpi .eq arg2 c1_i32_14
  let v32 : BitVec 32 := Scalar.extui v31
  let c0_i32_15 : BitVec 32 := 0#32
  let v33 : BitVec 1 := Scalar.cmpi .ne v32 c0_i32_15
  v33

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .sge arg1 c0_i32
  let c3_i32 : BitVec 32 := 3#32
  let v1 : BitVec 1 := Scalar.cmpi .slt arg1 c3_i32
  let v2 : BitVec 1 := Scalar.andi v0 v1
  let c0_i32_0 : BitVec 32 := 0#32
  let v3 : BitVec 32 := Scalar.select v2 arg2 c0_i32_0
  let c0_i32_1 : BitVec 32 := 0#32
  let v4 : BitVec 32 := Scalar.subi arg1 c0_i32_1
  let c0_i32_2 : BitVec 32 := 0#32
  let c2_i32 : BitVec 32 := 2#32
  let v5 : BitVec 32 := Scalar.maxsi c0_i32_2 v4
  let v6 : BitVec 32 := Scalar.minsi c2_i32 v5
  let c0_i32_3 : BitVec 32 := 0#32
  ![v3.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 1 := Scalar.cmpi .sge arg1 c3_i32
  let c6_i32 : BitVec 32 := 6#32
  let v1 : BitVec 1 := Scalar.cmpi .slt arg1 c6_i32
  let v2 : BitVec 1 := Scalar.andi v0 v1
  let c0_i32 : BitVec 32 := 0#32
  let v3 : BitVec 32 := Scalar.select v2 arg2 c0_i32
  let c3_i32_0 : BitVec 32 := 3#32
  let v4 : BitVec 32 := Scalar.subi arg1 c3_i32_0
  let c0_i32_1 : BitVec 32 := 0#32
  let c2_i32 : BitVec 32 := 2#32
  let v5 : BitVec 32 := Scalar.maxsi c0_i32_1 v4
  let v6 : BitVec 32 := Scalar.minsi c2_i32 v5
  let c0_i32_2 : BitVec 32 := 0#32
  ![v3.toNat, v6.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 1 := Scalar.cmpi .sge arg1 c6_i32
  let c7_i32 : BitVec 32 := 7#32
  let v1 : BitVec 1 := Scalar.cmpi .slt arg1 c7_i32
  let v2 : BitVec 1 := Scalar.andi v0 v1
  let c0_i32 : BitVec 32 := 0#32
  let v3 : BitVec 32 := Scalar.select v2 arg2 c0_i32
  let c6_i32_0 : BitVec 32 := 6#32
  let v4 : BitVec 32 := Scalar.subi arg1 c6_i32_0
  let c0_i32_1 : BitVec 32 := 0#32
  let c0_i32_2 : BitVec 32 := 0#32
  let v5 : BitVec 32 := Scalar.maxsi c0_i32_1 v4
  let v6 : BitVec 32 := Scalar.minsi c0_i32_2 v5
  let c0_i32_3 : BitVec 32 := 0#32
  ![v3.toNat, v6.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 1 := Scalar.cmpi .sge arg1 c7_i32
  let c11_i32 : BitVec 32 := 11#32
  let v1 : BitVec 1 := Scalar.cmpi .slt arg1 c11_i32
  let v2 : BitVec 1 := Scalar.andi v0 v1
  let c0_i32 : BitVec 32 := 0#32
  let v3 : BitVec 32 := Scalar.select v2 arg2 c0_i32
  let c7_i32_0 : BitVec 32 := 7#32
  let v4 : BitVec 32 := Scalar.subi arg1 c7_i32_0
  let c0_i32_1 : BitVec 32 := 0#32
  let c3_i32 : BitVec 32 := 3#32
  let v5 : BitVec 32 := Scalar.maxsi c0_i32_1 v4
  let v6 : BitVec 32 := Scalar.minsi c3_i32 v5
  let c0_i32_2 : BitVec 32 := 0#32
  ![v3.toNat, v6.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference14Ideal.lean ====
abbrev S4096x1024 : Shape := ⟨2, ![4096, 1024]⟩
abbrev S4096x1536 : Shape := ⟨2, ![4096, 1536]⟩
abbrev S4096x512 : Shape := ⟨2, ![4096, 512]⟩
abbrev S4096x2048 : Shape := ⟨2, ![4096, 2048]⟩
abbrev S_ : Shape := ⟨0, ![]⟩
abbrev S1024x5632 : Shape := ⟨2, ![1024, 5632]⟩
abbrev S4096x5632 : Shape := ⟨2, ![4096, 5632]⟩
abbrev S5632x1024 : Shape := ⟨2, ![5632, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S4096x1536, .bf16⟩
  | .hbm, ⟨3, _⟩ => ⟨S4096x512, .bf16⟩
  | .hbm, ⟨4, _⟩ => ⟨S4096x2048, .bf16⟩
  | .hbm, ⟨5, _⟩ => ⟨S_, .f32⟩
  | .hbm, ⟨6, _⟩ => ⟨S1024x5632, .f32⟩
  | .hbm, ⟨7, _⟩ => ⟨S4096x5632, .bf16⟩
  | .hbm, ⟨8, _⟩ => ⟨S4096x5632, .f32⟩
  | .hbm, ⟨9, _⟩ => ⟨S4096x1024, .f32⟩
  | .hbm, ⟨10, _⟩ => ⟨S4096x5632, .f32⟩
  | .hbm, ⟨11, _⟩ => ⟨S5632x1024, .f32⟩
  | .hbm, ⟨12, _⟩ => ⟨S1024x5632, .f32⟩
  | .hbm, ⟨13, _⟩ => ⟨S1024x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel15.lean ====
abbrev S4096x3456 : Shape := ⟨2, ![4096, 3456]⟩
abbrev S2x256x1024 : Shape := ⟨3, ![2, 256, 1024]⟩
abbrev S4096x512 : Shape := ⟨2, ![4096, 512]⟩
abbrev S2x2048x3456 : Shape := ⟨3, ![2, 2048, 3456]⟩
abbrev S2x2048x512 : Shape := ⟨3, ![2, 2048, 512]⟩
abbrev S1x512x512 : Shape := ⟨3, ![1, 512, 512]⟩
abbrev S1x256x1024 : Shape := ⟨3, ![1, 256, 1024]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x3456, .f32⟩
  | .hbm, ⟨1, _⟩ => ⟨S2x256x1024, .bf16⟩
  | .hbm, ⟨2, _⟩ => ⟨S4096x512, .f32⟩
  | .hbm, ⟨3, _⟩ => ⟨S2x2048x3456, .f32⟩
  | .hbm, ⟨4, _⟩ => ⟨S2x2048x512, .f32⟩
  | .hbm, ⟨5, _⟩ => ⟨S2x2048x512, .bf16⟩
  | .hbm, ⟨6, _⟩ => ⟨S2x256x1024, .f32⟩
  | .local _ .vmem, ⟨0, _⟩ => ⟨S1x512x512, .f32⟩
  | .local _ .vmem, ⟨1, _⟩ => ⟨S1x512x512, .f32⟩
  | .local _ .vmem, ⟨2, _⟩ => ⟨S1x256x1024, .bf16⟩
  | .local _ .vmem, ⟨3, _⟩ => ⟨S1x256x1024, .bf16⟩
  | .local _ .vmem, ⟨4, _⟩ => ⟨S1x512x512, .f32⟩
  | .local _ .vmem, ⟨5, _⟩ => ⟨S1x512x512, .f32⟩
  | .local _ .vmem, ⟨6, _⟩ => ⟨S1x512x512, .bf16⟩
  | .local _ .vmem, ⟨7, _⟩ => ⟨S1x512x512, .bf16⟩
  | .local _ .vmem, ⟨8, _⟩ => ⟨S1x256x1024, .f32⟩
  | .local _ .vmem, ⟨9, _⟩ => ⟨S1x256x1024, .f32⟩
  | _, _ => ⟨S4096x3456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference15Ideal.lean ====
abbrev S4096x3456 : Shape := ⟨2, ![4096, 3456]⟩
abbrev S2x256x1024 : Shape := ⟨3, ![2, 256, 1024]⟩
abbrev S4096x512 : Shape := ⟨2, ![4096, 512]⟩
abbrev S2x2048x512 : Shape := ⟨3, ![2, 2048, 512]⟩
abbrev S2x256x512 : Shape := ⟨3, ![2, 256, 512]⟩
abbrev S2x256x4x128 : Shape := ⟨4, ![2, 256, 4, 128]⟩
abbrev S2x2048x4x128 : Shape := ⟨4, ![2, 2048, 4, 128]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x128x2048 : Shape := ⟨4, ![2, 4, 128, 2048]⟩
abbrev S2x4x128x256 : Shape := ⟨4, ![2, 4, 128, 256]⟩
abbrev S2x4x256x128 : Shape := ⟨4, ![2, 4, 256, 128]⟩
abbrev S2x4x2048x128 : Shape := ⟨4, ![2, 4, 2048, 128]⟩

abbrev nBuf : Space → Nat
  | .hbm => 88
  | .vmem => 0
  | .smem => 0
  | _ => 0

abbrev bufTy : (tb : Table) → Fin (tcTables nBuf tb) → BufTy
  | .hbm, ⟨0, _⟩ => ⟨S4096x3456, .f32⟩
  | .hbm, ⟨1, _⟩ => ⟨S2x256x1024, .bf16⟩
  | .hbm, ⟨2, _⟩ => ⟨S4096x512, .f32⟩
  | .hbm, ⟨3, _⟩ => ⟨S4096x512, .f32⟩
  | .hbm, ⟨4, _⟩ => ⟨S2x2048x512, .f32⟩
  | .hbm, ⟨5, _⟩ => ⟨S2x256x1024, .f32⟩
  | .hbm, ⟨6, _⟩ => ⟨S2x256x512, .f32⟩
  | .hbm, ⟨7, _⟩ => ⟨S2x256x512, .f32⟩
  | .hbm, ⟨8, _⟩ => ⟨S2x256x4x128, .f32⟩
  | .hbm, ⟨9, _⟩ => ⟨S2x256x4x128, .f32⟩
  | .hbm, ⟨10, _⟩ => ⟨S2x2048x4x128, .f32⟩
  | .hbm, ⟨11, _⟩ => ⟨S2x4x2048x256, .f32⟩
  | .hbm, ⟨12, _⟩ => ⟨S_, .f32⟩
  | .hbm, ⟨13, _⟩ => ⟨S2x4x2048x256, .f32⟩
  | .hbm, ⟨14, _⟩ => ⟨S2x4x2048x256, .f32⟩
  | .hbm, ⟨15, _⟩ => ⟨S_, .f32⟩
  | .hbm, ⟨16, _⟩ => ⟨S2x4x2048, .f32⟩
  | .hbm, ⟨17, _⟩ => ⟨S2x4x2048x1, .f32⟩
  | .hbm, ⟨18, _⟩ => ⟨S2x4x2048x256, .f32⟩
  | .hbm, ⟨19, _⟩ => ⟨S2x4x2048x256, .i1⟩
  | .hbm, ⟨20, _⟩ => ⟨S2x4x2048x256, .f32⟩
  | .hbm, ⟨21, _⟩ => ⟨S_, .f32⟩
  | .hbm, ⟨22, _⟩ => ⟨S2x4x2048, .f32⟩
  | .hbm, ⟨23, _⟩ => ⟨S_, .f32⟩
  | .hbm, ⟨24, _⟩ => ⟨S2x4x2048, .f32⟩
  | .hbm, ⟨25, _⟩ => ⟨S2x4x2048, .f32⟩
  | .hbm, ⟨26, _⟩ => ⟨S_, .f32⟩
  | .hbm, ⟨27, _⟩ => ⟨S2x4x2048, .f32⟩
  | .hbm, ⟨28, _⟩ => ⟨S2x4x2048, .i1⟩
  | .hbm, ⟨29, _⟩ => ⟨S_, .f32⟩
  | .hbm, ⟨30, _⟩ => ⟨S2x4x2048, .f32⟩
  | .hbm, ⟨31, _⟩ => ⟨S2x4x2048, .i1⟩
  | .hbm, ⟨32, _⟩ => ⟨S_, .f32⟩
  | .hbm, ⟨33, _⟩ => ⟨S2x4x2048, .f32⟩
  | .hbm, ⟨34, _⟩ => ⟨S_, .f32⟩
  | .hbm, ⟨35, _⟩ => ⟨S2x4x2048, .f32⟩
  | .hbm, ⟨36, _⟩ => ⟨S_, .f32⟩
  | .hbm, ⟨37, _⟩ => ⟨S2x4x2048, .f32⟩
  | .hbm, ⟨38, _⟩ => ⟨S2x4x2048, .f32⟩
  | .hbm, ⟨39, _⟩ => ⟨S2x4x2048, .f32⟩
  | .hbm, ⟨40, _⟩ => ⟨S2x4x2048x1, .f32⟩
  | .hbm, ⟨41, _⟩ => ⟨S2x4x2048x256, .f32⟩
  | .hbm, ⟨42, _⟩ => ⟨S2x4x2048x256, .f32⟩
  | .hbm, ⟨43, _⟩ => ⟨S2x4x2048x256, .f32⟩
  | .hbm, ⟨44, _⟩ => ⟨S_, .f32⟩
  | .hbm, ⟨45, _⟩ => ⟨S2x4x2048, .f32⟩
  | .hbm, ⟨46, _⟩ => ⟨S2x4x2048x1, .f32⟩
  | .hbm, ⟨47, _⟩ => ⟨S2x4x2048x256, .f32⟩
  | .hbm, ⟨48, _⟩ => ⟨S2x4x2048x256, .f32⟩
  | .hbm, ⟨49, _⟩ => ⟨S2x4x2048x1, .f32⟩
  | .hbm, ⟨50, _⟩ => ⟨S_, .f32⟩
  | .hbm, ⟨51, _⟩ => ⟨S2x4x2048x1, .f32⟩
  | .hbm, ⟨52, _⟩ => ⟨S2x4x2048x1, .f32⟩
  | .hbm, ⟨53, _⟩ => ⟨S2x4x128x2048, .f32⟩
  | .hbm, ⟨54, _⟩ => ⟨S2x2048x4x128, .f32⟩
  | .hbm, ⟨55, _⟩ => ⟨S2x2048x512, .f32⟩
  | .hbm, ⟨56, _⟩ => ⟨S2x2048x512, .f32⟩
  | .hbm, ⟨57, _⟩ => ⟨S2x2048x4x128, .f32⟩
  | .hbm, ⟨58, _⟩ => ⟨S2x4x128x2048, .f32⟩
  | .hbm, ⟨59, _⟩ => ⟨S2x4x2048x256, .f32⟩
  | .hbm, ⟨60, _⟩ => ⟨S2x4x128x256, .f32⟩
  | .hbm, ⟨61, _⟩ => ⟨S2x256x4x128, .f32⟩
  | .hbm, ⟨62, _⟩ => ⟨S2x4x2048x256, .f32⟩
  | .hbm, ⟨63, _⟩ => ⟨S2x4x2048x256, .f32⟩
  | .hbm, ⟨64, _⟩ => ⟨S2x4x2048x256, .f32⟩
  | .hbm, ⟨65, _⟩ => ⟨S_, .f32⟩
  | .hbm, ⟨66, _⟩ => ⟨S2x4x2048, .f32⟩
  | .hbm, ⟨67, _⟩ => ⟨S2x4x2048x1, .f32⟩
  | .hbm, ⟨68, _⟩ => ⟨S2x4x2048x1, .f32⟩
  | .hbm, ⟨69, _⟩ => ⟨S2x4x2048x256, .f32⟩
  | .hbm, ⟨70, _⟩ => ⟨S2x4x2048x256, .f32⟩
  | .hbm, ⟨71, _⟩ => ⟨S_, .f32⟩
  | .hbm, ⟨72, _⟩ => ⟨S2x4x2048, .f32⟩
  | .hbm, ⟨73, _⟩ => ⟨S2x4x2048x256, .f32⟩
  | .hbm, ⟨74, _⟩ => ⟨S2x4x2048x256, .f32⟩
  | .hbm, ⟨75, _⟩ => ⟨S2x4x2048x256, .f32⟩
  | .hbm, ⟨76, _⟩ => ⟨S_, .f32⟩
  | .hbm, ⟨77, _⟩ => ⟨S2x4x2048x256, .f32⟩
  | .hbm, ⟨78, _⟩ => ⟨S2x4x2048x256, .f32⟩
  | .hbm, ⟨79, _⟩ => ⟨S2x4x256x128, .f32⟩
  | .hbm, ⟨80, _⟩ => ⟨S2x256x4x128, .f32⟩
  | .hbm, ⟨81, _⟩ => ⟨S2x4x2048x128, .f32⟩
  | .hbm, ⟨82, _⟩ => ⟨S2x2048x4x128, .f32⟩
  | .hbm, ⟨83, _⟩ => ⟨S2x2048x512, .f32⟩
  | .hbm, ⟨84, _⟩ => ⟨S2x256x512, .f32⟩
  | .hbm, ⟨85, _⟩ => ⟨S2x256x512, .f32⟩
  | .hbm, ⟨86, _⟩ => ⟨S2x256x1024, .f32⟩
  | .hbm, ⟨87, _⟩ => ⟨S2x2048x512, .bf16⟩
  | _, _ => ⟨S4096x3456, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩

abbrev nD : Nat := 1
abbrev τ : Topo := Topo.v7x

variable {F : FTy → Type} [FloatOps F]
-- ==== Kernel16.lean ====
abbrev S4096x3456 : Shape := ⟨2, ![4096, 3456]⟩
abbrev S2x256x1024 : Shape := ⟨3, ![2, 256, 1024]⟩
abbrev S2x2048x3456 : Shape := ⟨3, ![2, 2048, 3456]⟩
abbrev S2x2048x512 : Shape := ⟨3, ![2, 2048, 512]⟩
abbrev S1x512x512 : Shape := ⟨3, ![1, 512, 512]⟩
abbrev S1x256x1024 : Shape := ⟨3, ![1, 256, 1024]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x3456, .f32⟩
  | .hbm, ⟨1, _⟩ => ⟨S2x256x1024, .bf16⟩
  | .hbm, ⟨2, _⟩ => ⟨S2x2048x3456, .f32⟩
  | .hbm, ⟨3, _⟩ => ⟨S2x2048x512, .f32⟩
  | .local _ .vmem, ⟨0, _⟩ => ⟨S1x512x512, .f32⟩
  | .local _ .vmem, ⟨1, _⟩ => ⟨S1x512x512, .f32⟩
  | .local _ .vmem, ⟨2, _⟩ => ⟨S1x256x1024, .bf16⟩
  | .local _ .vmem, ⟨3, _⟩ => ⟨S1x256x1024, .bf16⟩
  | .local _ .vmem, ⟨4, _⟩ => ⟨S1x512x512, .f32⟩
  | .local _ .vmem, ⟨5, _⟩ => ⟨S1x512x512, .f32⟩
  | _, _ => ⟨S4096x3456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  ![arg0.toNat, arg1.toNat, c5_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S4096x3456 : Shape := ⟨2, ![4096, 3456]⟩
abbrev S2x256x1024 : Shape := ⟨3, ![2, 256, 1024]⟩
abbrev S4096x512 : Shape := ⟨2, ![4096, 512]⟩
abbrev S2x2048x512 : Shape := ⟨3, ![2, 2048, 512]⟩
abbrev S2x256x512 : Shape := ⟨3, ![2, 256, 512]⟩
abbrev S2x256x4x128 : Shape := ⟨4, ![2, 256, 4, 128]⟩
abbrev S2x2048x4x128 : Shape := ⟨4, ![2, 2048, 4, 128]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x128x2048 : Shape := ⟨4, ![2, 4, 128, 2048]⟩

abbrev nBuf : Space → Nat
  | .hbm => 31
  | .vmem => 0
  | .smem => 0
  | _ => 0

abbrev bufTy : (tb : Table) → Fin (tcTables nBuf tb) → BufTy
  | .hbm, ⟨0, _⟩ => ⟨S4096x3456, .f32⟩
  | .hbm, ⟨1, _⟩ => ⟨S2x256x1024, .bf16⟩
  | .hbm, ⟨2, _⟩ => ⟨S4096x512, .f32⟩
  | .hbm, ⟨3, _⟩ => ⟨S2x2048x512, .f32⟩
  | .hbm, ⟨4, _⟩ => ⟨S2x256x1024, .f32⟩
  | .hbm, ⟨5, _⟩ => ⟨S2x256x512, .f32⟩
  | .hbm, ⟨6, _⟩ => ⟨S2x256x512, .f32⟩
  | .hbm, ⟨7, _⟩ => ⟨S2x256x4x128, .f32⟩
  | .hbm, ⟨8, _⟩ => ⟨S2x256x4x128, .f32⟩
  | .hbm, ⟨9, _⟩ => ⟨S2x2048x4x128, .f32⟩
  | .hbm, ⟨10, _⟩ => ⟨S2x4x2048x256, .f32⟩
  | .hbm, ⟨11, _⟩ => ⟨S_, .f32⟩
  | .hbm, ⟨12, _⟩ => ⟨S2x4x2048x256, .f32⟩
  | .hbm, ⟨13, _⟩ => ⟨S2x4x2048x256, .f32⟩
  | .hbm, ⟨14, _⟩ => ⟨S_, .f32⟩
  | .hbm, ⟨15, _⟩ => ⟨S2x4x2048, .f32⟩
  | .hbm, ⟨16, _⟩ => ⟨S_, .f32⟩
  | .hbm, ⟨17, _⟩ => ⟨S2x4x2048, .f32⟩
  | .hbm, ⟨18, _⟩ => ⟨S2x4x2048, .f32⟩
  | .hbm, ⟨19, _⟩ => ⟨S2x4x2048x1, .f32⟩
  | .hbm, ⟨20, _⟩ => ⟨S2x4x2048x256, .f32⟩
  | .hbm, ⟨21, _⟩ => ⟨S2x4x2048x256, .f32⟩
  | .hbm, ⟨22, _⟩ => ⟨S2x4x2048x256, .f32⟩
  | .hbm, ⟨23, _⟩ => ⟨S_, .f32⟩
  | .hbm, ⟨24, _⟩ => ⟨S2x4x2048, .f32⟩
  | .hbm, ⟨25, _⟩ => ⟨S2x4x2048x1, .f32⟩
  | .hbm, ⟨26, _⟩ => ⟨S2x4x2048x256, .f32⟩
  | .hbm, ⟨27, _⟩ => ⟨S2x4x2048x256, .f32⟩
  | .hbm, ⟨28, _⟩ => ⟨S2x4x128x2048, .f32⟩
  | .hbm, ⟨29, _⟩ => ⟨S2x2048x4x128, .f32⟩
  | .hbm, ⟨30, _⟩ => ⟨S2x2048x512, .f32⟩
  | _, _ => ⟨S4096x3456, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Kernel17.lean ====
abbrev S4096x5632 : Shape := ⟨2, ![4096, 5632]⟩
abbrev S2x256x1024 : Shape := ⟨3, ![2, 256, 1024]⟩
abbrev S4096x512 : Shape := ⟨2, ![4096, 512]⟩
abbrev S2x2048x5632 : Shape := ⟨3, ![2, 2048, 5632]⟩
abbrev S2x2048x512 : Shape := ⟨3, ![2, 2048, 512]⟩
abbrev S1x512x512 : Shape := ⟨3, ![1, 512, 512]⟩
abbrev S1x256x1024 : Shape := ⟨3, ![1, 256, 1024]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x5632, .f32⟩
  | .hbm, ⟨1, _⟩ => ⟨S2x256x1024, .bf16⟩
  | .hbm, ⟨2, _⟩ => ⟨S4096x512, .f32⟩
  | .hbm, ⟨3, _⟩ => ⟨S2x2048x5632, .f32⟩
  | .hbm, ⟨4, _⟩ => ⟨S2x2048x512, .f32⟩
  | .hbm, ⟨5, _⟩ => ⟨S2x2048x512, .bf16⟩
  | .hbm, ⟨6, _⟩ => ⟨S2x256x1024, .f32⟩
  | .local _ .vmem, ⟨0, _⟩ => ⟨S1x512x512, .f32⟩
  | .local _ .vmem, ⟨1, _⟩ => ⟨S1x512x512, .f32⟩
  | .local _ .vmem, ⟨2, _⟩ => ⟨S1x256x1024, .bf16⟩
  | .local _ .vmem, ⟨3, _⟩ => ⟨S1x256x1024, .bf16⟩
  | .local _ .vmem, ⟨4, _⟩ => ⟨S1x512x512, .f32⟩
  | .local _ .vmem, ⟨5, _⟩ => ⟨S1x512x512, .f32⟩
  | .local _ .vmem, ⟨6, _⟩ => ⟨S1x512x512, .bf16⟩
  | .local _ .vmem, ⟨7, _⟩ => ⟨S1x512x512, .bf16⟩
  | .local _ .vmem, ⟨8, _⟩ => ⟨S1x256x1024, .f32⟩
  | .local _ .vmem, ⟨9, _⟩ => ⟨S1x256x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference17Ideal.lean ====
abbrev S4096x5632 : Shape := ⟨2, ![4096, 5632]⟩
abbrev S2x256x1024 : Shape := ⟨3, ![2, 256, 1024]⟩
abbrev S4096x512 : Shape := ⟨2, ![4096, 512]⟩
abbrev S2x2048x512 : Shape := ⟨3, ![2, 2048, 512]⟩
abbrev S2x256x512 : Shape := ⟨3, ![2, 256, 512]⟩
abbrev S2x256x4x128 : Shape := ⟨4, ![2, 256, 4, 128]⟩
abbrev S2x2048x4x128 : Shape := ⟨4, ![2, 2048, 4, 128]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x128x2048 : Shape := ⟨4, ![2, 4, 128, 2048]⟩
abbrev S2x4x128x256 : Shape := ⟨4, ![2, 4, 128, 256]⟩
abbrev S2x4x256x128 : Shape := ⟨4, ![2, 4, 256, 128]⟩
abbrev S2x4x2048x128 : Shape := ⟨4, ![2, 4, 2048, 128]⟩

abbrev nBuf : Space → Nat
  | .hbm => 88
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S2x256x1024, .bf16⟩
  | .hbm, ⟨2, _⟩ => ⟨S4096x512, .f32⟩
  | .hbm, ⟨3, _⟩ => ⟨S4096x512, .f32⟩
  | .hbm, ⟨4, _⟩ => ⟨S2x2048x512, .f32⟩
  | .hbm, ⟨5, _⟩ => ⟨S2x256x1024, .f32⟩
  | .hbm, ⟨6, _⟩ => ⟨S2x256x512, .f32⟩
  | .hbm, ⟨7, _⟩ => ⟨S2x256x512, .f32⟩
  | .hbm, ⟨8, _⟩ => ⟨S2x256x4x128, .f32⟩
  | .hbm, ⟨9, _⟩ => ⟨S2x256x4x128, .f32⟩
  | .hbm, ⟨10, _⟩ => ⟨S2x2048x4x128, .f32⟩
  | .hbm, ⟨11, _⟩ => ⟨S2x4x2048x256, .f32⟩
  | .hbm, ⟨12, _⟩ => ⟨S_, .f32⟩
  | .hbm, ⟨13, _⟩ => ⟨S2x4x2048x256, .f32⟩
  | .hbm, ⟨14, _⟩ => ⟨S2x4x2048x256, .f32⟩
  | .hbm, ⟨15, _⟩ => ⟨S_, .f32⟩
  | .hbm, ⟨16, _⟩ => ⟨S2x4x2048, .f32⟩
  | .hbm, ⟨17, _⟩ => ⟨S2x4x2048x1, .f32⟩
  | .hbm, ⟨18, _⟩ => ⟨S2x4x2048x256, .f32⟩
  | .hbm, ⟨19, _⟩ => ⟨S2x4x2048x256, .i1⟩
  | .hbm, ⟨20, _⟩ => ⟨S2x4x2048x256, .f32⟩
  | .hbm, ⟨21, _⟩ => ⟨S_, .f32⟩
  | .hbm, ⟨22, _⟩ => ⟨S2x4x2048, .f32⟩
  | .hbm, ⟨23, _⟩ => ⟨S_, .f32⟩
  | .hbm, ⟨24, _⟩ => ⟨S2x4x2048, .f32⟩
  | .hbm, ⟨25, _⟩ => ⟨S2x4x2048, .f32⟩
  | .hbm, ⟨26, _⟩ => ⟨S_, .f32⟩
  | .hbm, ⟨27, _⟩ => ⟨S2x4x2048, .f32⟩
  | .hbm, ⟨28, _⟩ => ⟨S2x4x2048, .i1⟩
  | .hbm, ⟨29, _⟩ => ⟨S_, .f32⟩
  | .hbm, ⟨30, _⟩ => ⟨S2x4x2048, .f32⟩
  | .hbm, ⟨31, _⟩ => ⟨S2x4x2048, .i1⟩
  | .hbm, ⟨32, _⟩ => ⟨S_, .f32⟩
  | .hbm, ⟨33, _⟩ => ⟨S2x4x2048, .f32⟩
  | .hbm, ⟨34, _⟩ => ⟨S_, .f32⟩
  | .hbm, ⟨35, _⟩ => ⟨S2x4x2048, .f32⟩
  | .hbm, ⟨36, _⟩ => ⟨S_, .f32⟩
  | .hbm, ⟨37, _⟩ => ⟨S2x4x2048, .f32⟩
  | .hbm, ⟨38, _⟩ => ⟨S2x4x2048, .f32⟩
  | .hbm, ⟨39, _⟩ => ⟨S2x4x2048, .f32⟩
  | .hbm, ⟨40, _⟩ => ⟨S2x4x2048x1, .f32⟩
  | .hbm, ⟨41, _⟩ => ⟨S2x4x2048x256, .f32⟩
  | .hbm, ⟨42, _⟩ => ⟨S2x4x2048x256, .f32⟩
  | .hbm, ⟨43, _⟩ => ⟨S2x4x2048x256, .f32⟩
  | .hbm, ⟨44, _⟩ => ⟨S_, .f32⟩
  | .hbm, ⟨45, _⟩ => ⟨S2x4x2048, .f32⟩
  | .hbm, ⟨46, _⟩ => ⟨S2x4x2048x1, .f32⟩
  | .hbm, ⟨47, _⟩ => ⟨S2x4x2048x256, .f32⟩
  | .hbm, ⟨48, _⟩ => ⟨S2x4x2048x256, .f32⟩
  | .hbm, ⟨49, _⟩ => ⟨S2x4x2048x1, .f32⟩
  | .hbm, ⟨50, _⟩ => ⟨S_, .f32⟩
  | .hbm, ⟨51, _⟩ => ⟨S2x4x2048x1, .f32⟩
  | .hbm, ⟨52, _⟩ => ⟨S2x4x2048x1, .f32⟩
  | .hbm, ⟨53, _⟩ => ⟨S2x4x128x2048, .f32⟩
  | .hbm, ⟨54, _⟩ => ⟨S2x2048x4x128, .f32⟩
  | .hbm, ⟨55, _⟩ => ⟨S2x2048x512, .f32⟩
  | .hbm, ⟨56, _⟩ => ⟨S2x2048x512, .f32⟩
  | .hbm, ⟨57, _⟩ => ⟨S2x2048x4x128, .f32⟩
  | .hbm, ⟨58, _⟩ => ⟨S2x4x128x2048, .f32⟩
  | .hbm, ⟨59, _⟩ => ⟨S2x4x2048x256, .f32⟩
  | .hbm, ⟨60, _⟩ => ⟨S2x4x128x256, .f32⟩
  | .hbm, ⟨61, _⟩ => ⟨S2x256x4x128, .f32⟩
  | .hbm, ⟨62, _⟩ => ⟨S2x4x2048x256, .f32⟩
  | .hbm, ⟨63, _⟩ => ⟨S2x4x2048x256, .f32⟩
  | .hbm, ⟨64, _⟩ => ⟨S2x4x2048x256, .f32⟩
  | .hbm, ⟨65, _⟩ => ⟨S_, .f32⟩
  | .hbm, ⟨66, _⟩ => ⟨S2x4x2048, .f32⟩
  | .hbm, ⟨67, _⟩ => ⟨S2x4x2048x1, .f32⟩
  | .hbm, ⟨68, _⟩ => ⟨S2x4x2048x1, .f32⟩
  | .hbm, ⟨69, _⟩ => ⟨S2x4x2048x256, .f32⟩
  | .hbm, ⟨70, _⟩ => ⟨S2x4x2048x256, .f32⟩
  | .hbm, ⟨71, _⟩ => ⟨S_, .f32⟩
  | .hbm, ⟨72, _⟩ => ⟨S2x4x2048, .f32⟩
  | .hbm, ⟨73, _⟩ => ⟨S2x4x2048x256, .f32⟩
  | .hbm, ⟨74, _⟩ => ⟨S2x4x2048x256, .f32⟩
  | .hbm, ⟨75, _⟩ => ⟨S2x4x2048x256, .f32⟩
  | .hbm, ⟨76, _⟩ => ⟨S_, .f32⟩
  | .hbm, ⟨77, _⟩ => ⟨S2x4x2048x256, .f32⟩
  | .hbm, ⟨78, _⟩ => ⟨S2x4x2048x256, .f32⟩
  | .hbm, ⟨79, _⟩ => ⟨S2x4x256x128, .f32⟩
  | .hbm, ⟨80, _⟩ => ⟨S2x256x4x128, .f32⟩
  | .hbm, ⟨81, _⟩ => ⟨S2x4x2048x128, .f32⟩
  | .hbm, ⟨82, _⟩ => ⟨S2x2048x4x128, .f32⟩
  | .hbm, ⟨83, _⟩ => ⟨S2x2048x512, .f32⟩
  | .hbm, ⟨84, _⟩ => ⟨S2x256x512, .f32⟩
  | .hbm, ⟨85, _⟩ => ⟨S2x256x512, .f32⟩
  | .hbm, ⟨86, _⟩ => ⟨S2x256x1024, .f32⟩
  | .hbm, ⟨87, _⟩ => ⟨S2x2048x512, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩

abbrev nD : Nat := 1
abbrev τ : Topo := Topo.v7x

variable {F : FTy → Type} [FloatOps F]
-- ==== Kernel18.lean ====
abbrev S4096x5632 : Shape := ⟨2, ![4096, 5632]⟩
abbrev S2x256x1024 : Shape := ⟨3, ![2, 256, 1024]⟩
abbrev S2x2048x5632 : Shape := ⟨3, ![2, 2048, 5632]⟩
abbrev S2x2048x512 : Shape := ⟨3, ![2, 2048, 512]⟩
abbrev S1x512x512 : Shape := ⟨3, ![1, 512, 512]⟩
abbrev S1x256x1024 : Shape := ⟨3, ![1, 256, 1024]⟩
abbrev S1x512x128 : Shape := ⟨3, ![1, 512, 128]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x5632, .f32⟩
  | .hbm, ⟨1, _⟩ => ⟨S2x256x1024, .bf16⟩
  | .hbm, ⟨2, _⟩ => ⟨S2x2048x5632, .f32⟩
  | .hbm, ⟨3, _⟩ => ⟨S2x2048x512, .f32⟩
  | .local _ .vmem, ⟨0, _⟩ => ⟨S1x512x512, .f32⟩
  | .local _ .vmem, ⟨1, _⟩ => ⟨S1x512x512, .f32⟩
  | .local _ .vmem, ⟨2, _⟩ => ⟨S1x256x1024, .bf16⟩
  | .local _ .vmem, ⟨3, _⟩ => ⟨S1x256x1024, .bf16⟩
  | .local _ .vmem, ⟨4, _⟩ => ⟨S1x512x512, .f32⟩
  | .local _ .vmem, ⟨5, _⟩ => ⟨S1x512x512, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference18Ideal.lean ====
abbrev S4096x5632 : Shape := ⟨2, ![4096, 5632]⟩
abbrev S2x256x1024 : Shape := ⟨3, ![2, 256, 1024]⟩
abbrev S4096x512 : Shape := ⟨2, ![4096, 512]⟩
abbrev S2x2048x512 : Shape := ⟨3, ![2, 2048, 512]⟩
abbrev S2x256x512 : Shape := ⟨3, ![2, 256, 512]⟩
abbrev S2x256x4x128 : Shape := ⟨4, ![2, 256, 4, 128]⟩
abbrev S2x2048x4x128 : Shape := ⟨4, ![2, 2048, 4, 128]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x128x2048 : Shape := ⟨4, ![2, 4, 128, 2048]⟩

abbrev nBuf : Space → Nat
  | .hbm => 31
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S2x256x1024, .bf16⟩
  | .hbm, ⟨2, _⟩ => ⟨S4096x512, .f32⟩
  | .hbm, ⟨3, _⟩ => ⟨S2x2048x512, .f32⟩
  | .hbm, ⟨4, _⟩ => ⟨S2x256x1024, .f32⟩
  | .hbm, ⟨5, _⟩ => ⟨S2x256x512, .f32⟩
  | .hbm, ⟨6, _⟩ => ⟨S2x256x512, .f32⟩
  | .hbm, ⟨7, _⟩ => ⟨S2x256x4x128, .f32⟩
  | .hbm, ⟨8, _⟩ => ⟨S2x256x4x128, .f32⟩
  | .hbm, ⟨9, _⟩ => ⟨S2x2048x4x128, .f32⟩
  | .hbm, ⟨10, _⟩ => ⟨S2x4x2048x256, .f32⟩
  | .hbm, ⟨11, _⟩ => ⟨S_, .f32⟩
  | .hbm, ⟨12, _⟩ => ⟨S2x4x2048x256, .f32⟩
  | .hbm, ⟨13, _⟩ => ⟨S2x4x2048x256, .f32⟩
  | .hbm, ⟨14, _⟩ => ⟨S_, .f32⟩
  | .hbm, ⟨15, _⟩ => ⟨S2x4x2048, .f32⟩
  | .hbm, ⟨16, _⟩ => ⟨S_, .f32⟩
  | .hbm, ⟨17, _⟩ => ⟨S2x4x2048, .f32⟩
  | .hbm, ⟨18, _⟩ => ⟨S2x4x2048, .f32⟩
  | .hbm, ⟨19, _⟩ => ⟨S2x4x2048x1, .f32⟩
  | .hbm, ⟨20, _⟩ => ⟨S2x4x2048x256, .f32⟩
  | .hbm, ⟨21, _⟩ => ⟨S2x4x2048x256, .f32⟩
  | .hbm, ⟨22, _⟩ => ⟨S2x4x2048x256, .f32⟩
  | .hbm, ⟨23, _⟩ => ⟨S_, .f32⟩
  | .hbm, ⟨24, _⟩ => ⟨S2x4x2048, .f32⟩
  | .hbm, ⟨25, _⟩ => ⟨S2x4x2048x1, .f32⟩
  | .hbm, ⟨26, _⟩ => ⟨S2x4x2048x256, .f32⟩
  | .hbm, ⟨27, _⟩ => ⟨S2x4x2048x256, .f32⟩
  | .hbm, ⟨28, _⟩ => ⟨S2x4x128x2048, .f32⟩
  | .hbm, ⟨29, _⟩ => ⟨S2x2048x4x128, .f32⟩
  | .hbm, ⟨30, _⟩ => ⟨S2x2048x512, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Proof.Product.lean ====
/- A product's contracted axis taken in parts: the sums over the parts add up to the whole sum. -/
module

public import Idealize.ShloMosaic.Lib.Pointwise
public import Idealize.ShloMosaic.Lib.Pipeline.ValueKit
public import Idealize.ShloMosaic.Lib.Pipeline.FrameBody

@[expose] public section

noncomputable section

namespace Cert.Product

open Idealize.ShloMosaic

/-- The zero offset of a whole block. -/
theorem zero2 : (![0, 0] : Fin 2 → Nat) = fun _ => 0 := funext fun a => by fin_cases a <;> rfl

/-- Two equal parts of a sum. -/
theorem sum_two (a n : ℕ) (h : n = a + a) (f : ℕ → EReal) :
    (∑ k : Fin a, f (0 * a + k.val)) + ∑ k : Fin a, f (1 * a + k.val) = ∑ k : Fin n, f k.val := by
  subst h
  simp only [Nat.zero_mul, Nat.zero_add, Nat.one_mul]
  rw [Fin.sum_univ_add]
  rfl

/-- Three equal parts of a sum. -/
theorem sum_three (a n : ℕ) (h : n = a + a + a) (f : ℕ → EReal) :
    (∑ k : Fin a, f (0 * a + k.val)) + (∑ k : Fin a, f (1 * a + k.val)) + ∑ k : Fin a, f (2 * a + k.val) = ∑ k : Fin n, f k.val := by
  rw [sum_two a (a + a) rfl]
  subst h
  simp only [Nat.two_mul]
  exact (Fin.sum_univ_add (fun k : Fin (a + a + a) => f k.val)).symm

/-- An array's entry, by the numbers of its row and column. -/
def entry {a b : ℕ} (x : Shape.Idx ⟨2, ![a, b]⟩ → EReal) (r l : ℕ) : EReal :=
  if h : r < a ∧ l < b then x (ix2 ⟨r, h.1⟩ ⟨l, h.2⟩) else 0

theorem entry_at {a b : ℕ} (x : Shape.Idx ⟨2, ![a, b]⟩ → EReal) (i : Shape.Idx ⟨2, ![a, b]⟩) :
    x i = entry x (i 0).val (i 1).val := by
  have h0 : (i 0).val < a := (i 0).isLt
  have h1 : (i 1).val < b := (i 1).isLt
  rw [entry, dif_pos ⟨h0, h1⟩]
  congr 1
  funext j
  match j with
  | ⟨0, _⟩ => rfl
  | ⟨1, _⟩ => rfl

/-- The entries of an array turned over. -/
theorem entry_turn {a b : ℕ} (y : Shape.Idx ⟨2, ![a, b]⟩ → EReal) (z : Shape.Idx ⟨2, ![b, a]⟩ → EReal)
    (h : ∀ (i : Fin a) (j : Fin b), z (ix2 j i) = y (ix2 i j)) (r l : ℕ) : entry z r l = entry y l r := by
  unfold entry
  by_cases c : r < b ∧ l < a
  · rw [dif_pos c, dif_pos c.symm, h]
  · rw [dif_neg c, dif_neg fun d => c d.symm]

/-- An index is its row and its column. -/
theorem split {a b : ℕ} (y : Shape.Idx ⟨2, ![a, b]⟩) : ∃ (r : Fin a) (l : Fin b), y = ix2 r l :=
  ⟨y 0, y 1, by
    funext j
    match j with
    | ⟨0, _⟩ => rfl
    | ⟨1, _⟩ => rfl⟩

/-- The product of the first array turned over with the second. -/
def across {a b k : ℕ} (x : Shape.Idx ⟨2, ![k, a]⟩ → EReal) (y : Shape.Idx ⟨2, ![k, b]⟩ → EReal) : Shape.Idx ⟨2, ![a, b]⟩ → EReal :=
  fun i => ∑ j : Fin k, entry x j.val (i 0).val * entry y j.val (i 1).val

/-- The product of the first array with the second turned over. -/
def along {a b k : ℕ} (x : Shape.Idx ⟨2, ![a, k]⟩ → EReal) (y : Shape.Idx ⟨2, ![b, k]⟩ → EReal) : Shape.Idx ⟨2, ![a, b]⟩ → EReal :=
  fun i => ∑ j : Fin k, entry x (i 0).val j.val * entry y (i 1).val j.val

/-- The product of the two arrays. -/
def times {a b k : ℕ} (x : Shape.Idx ⟨2, ![a, k]⟩ → EReal) (y : Shape.Idx ⟨2, ![k, b]⟩ → EReal) : Shape.Idx ⟨2, ![a, b]⟩ → EReal :=
  fun i => ∑ j : Fin k, entry x (i 0).val j.val * entry y j.val (i 1).val

/-- The sum of two arrays. -/
def plus {a b : ℕ} (x y : Shape.Idx ⟨2, ![a, b]⟩ → EReal) : Shape.Idx ⟨2, ![a, b]⟩ → EReal :=
  fun i => entry x (i 0).val (i 1).val + y i

end Cert.Product

end
-- ==== Proof.WeightQuery.lean ====
/- The query up-projection's weight gradient: each block of the call's result is the product of the blocks it takes. -/
module

public import proofs.«01_k».proof.Proof.Product
public import proofs.«01_k».proof.Defs
public import proofs.«01_k».proof.Proof.Gen.Kernel2
public import proofs.«01_k».proof.Proof.Gen.Kernel2Ideal.Value
public import proofs.«01_k».proof.Proof.Gen.Reference2Ideal.Read

@[expose] public section

set_option maxRecDepth 16384

noncomputable section

namespace Cert.Kernel2Ideal.Read

open Cert.Kernel2Ideal Cert.Kernel2Ideal.Gen Cert.Kernel2Ideal.Value Cert.Product
open Idealize.ShloMosaic Idealize.ShloMosaic.TcCoe Idealize.ShloMosaic.Tactic Idealize.SL.Sem

section
variable {F : FTy → Type} [FloatOps F]

/-- The first step leaves the first part's product in the scratch. -/
theorem first (c : Dev nD) (i : grid0.Coords) (a3 : Memref sig .tc .vmem S2048x512 .bf16) (h3 : a3.IsWhole)
    (a4 : Memref sig .tc .vmem S2048x512 .bf16) (h4 : a4.IsWhole)
    (a5 : Memref sig .tc .vmem S512x512 .f32) (h5 : a5.IsWhole)
    (a6 : Memref sig .tc .vmem S512x512 .f32) (h6 : a6.IsWhole)
    (hc0 : cond0_0 i) (hc1 : ¬cond0_1 i) (hc2 : ¬cond0_2 i)
    (x0 : Vec F S2048x512 .bf16) (x1 : Vec F S2048x512 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zero2]
  unfold k0_pay2
  simp only [View.readAt_eq_ld, h3.read_unread, h4.read_unread,
    View.ld_unit_zero (S := S2048x512) zero2, View.ld_unit_zero (S := S512x512) zero2, shapeCast_self]

/-- The last step stores the scratch with the last part's product added. -/
theorem last (c : Dev nD) (i : grid0.Coords) (a3 : Memref sig .tc .vmem S2048x512 .bf16) (h3 : a3.IsWhole)
    (a4 : Memref sig .tc .vmem S2048x512 .bf16) (h4 : a4.IsWhole)
    (a5 : Memref sig .tc .vmem S512x512 .f32) (h5 : a5.IsWhole)
    (a6 : Memref sig .tc .vmem S512x512 .f32) (h6 : a6.IsWhole)
    (hc0 : ¬cond0_0 i) (hc1 : ¬cond0_1 i) (hc2 : cond0_2 i)
    (x0 : Vec F S2048x512 .bf16) (x1 : Vec F S2048x512 .bf16) (xs : Vec F S512x512 .f32) :
    out0_B_2 c i a3 h3 a4 h4 a5 h5 a6 h6 hc0 hc1 hc2 x0 x1 xs = addf xs (k0_pay1 x0 x1) := by
  unfold out0_B_2
  rw [View.read_writes_eq_canon _ _ _ (cover0_B_2 c i a3 h3 a4 h4 a5 h5 a6 h6 hc0 hc1 hc2 x0 x1 xs)]
  unfold kernelRun0_B
  dsimp only
  rw [View.canon_unit_zero zero2]
  unfold k0_pay4
  simp only [View.readAt_eq_ld, h3.read_unread, h4.read_unread, h6.read_unread,
    View.ld_unit_zero (S := S2048x512) zero2, View.ld_unit_zero (S := S512x512) zero2, shapeCast_self]

end

section
variable (m : (ℓ : Loc nD τ sig) → Buf (Elt Ideal) ℓ)

/-- A part's product, entry by entry. -/
theorem part_at (x0 : Vec Ideal S2048x512 .bf16) (x1 : Vec Ideal S2048x512 .bf16) (r : Fin 512) (l : Fin 512) :
    k0_pay1 x0 x1 (ix2 r l) = ∑ k : Fin 2048, x0 (ix2 k r) * x1 (ix2 k l) := by
  unfold k0_pay1
  pointwise

theorem at0 : ∀ t : Fin cfg0.N, win0_0.index t = ![t.val % 2, t.val / 12] := (by decide +kernel : ∀ t : Fin grid0.N, _)
theorem at1 : ∀ t : Fin cfg0.N, win0_1.index t = ![t.val % 2, t.val / 2 % 6] := (by decide +kernel : ∀ t : Fin grid0.N, _)
theorem at2 : ∀ t : Fin cfg0.N, win0_2.index t = ![t.val / 12, t.val / 2 % 6] := (by decide +kernel : ∀ t : Fin grid0.N, _)

theorem left_at (c : Dev nD) (t : Fin cfg0.N) (k : Fin 2048) (r : Fin 512) : iblk m c 0 t (ix2 k r)
    = entry (V m c main_arg0) (t.val % 2 * 2048 + k.val) (t.val / 12 * 512 + r.val) := by
  blk_simp [iblk]; rw [entry_at (V m c main_arg0)]; blk_simp [at0]

theorem right_at (c : Dev nD) (t : Fin cfg0.N) (k : Fin 2048) (l : Fin 512) : iblk m c 1 t (ix2 k l)
    = entry (V m c main_arg1) (t.val % 2 * 2048 + k.val) (t.val / 2 % 6 * 512 + l.val) := by
  blk_simp [iblk]; rw [entry_at (V m c main_arg1)]; blk_simp [at1]

/-- A stored block's entry is the whole sum. -/
theorem block_at (c : Dev nD) (t : Fin cfg0.N) (hm : t.val % 2 = 1) (r : Fin 512) (l : Fin 512) : (outsAt0 m c t.val t.isLt).1 (ix2 r l)
    = ∑ k : Fin 4096, entry (V m c main_arg0) k.val (t.val / 12 * 512 + r.val) * entry (V m c main_arg1) k.val (t.val / 2 % 6 * 512 + l.val) := by
  have hN : t.val < 12 := lt_of_lt_of_eq t.isLt N_0
  have hs1 : t.val - 1 < cfg0.N := lt_of_le_of_lt (Nat.sub_le _ _) t.isLt
  have e1 : (t.val - 1) % 2 = 0 := by omega
  have i1 : (t.val - 1) / 12 = t.val / 12 := by omega
  have j1 : (t.val - 1) / 2 % 6 = t.val / 2 % 6 := by omega
  rw [outsAt0_B m c t (by omega) hm, last, outsAt0_A m c ⟨t.val - 1, hs1⟩ e1 (fun h => by rw [e1] at h; omega), first]
  show k0_pay1 _ _ (ix2 r l) + k0_pay1 _ _ (ix2 r l) = _
  rw [part_at, part_at]
  simp only [left_at, right_at, e1, i1, j1, hm]
  exact sum_two 2048 4096 rfl (fun k => entry (V m c main_arg0) k (t.val / 12 * 512 + r.val)
    * entry (V m c main_arg1) k (t.val / 2 % 6 * 512 + l.val))

/-- The whole product. -/
theorem final (c : Dev nD) : (dats m 0 c).arrAt 2 cfg0.N = across (V m c main_arg0) (V m c main_arg1) := by
  refine (dats m 0 c).arrAt_eq_of_covers 2 _ (by decide +kernel) fun t hf y => ?_
  have hm : t.val % 2 = 1 := (flush0_2 t).mp hf
  obtain ⟨r, l, rfl⟩ : ∃ (r : Fin 512) (l : Fin 512), y = ix2 r l := split y
  blk_simp [at2, across]
  rw [after0_2]
  exact block_at m c t hm r l

end

/-- The reference's query up-projection's weight gradient is the same product. -/
theorem reference_at (x : S4096x512.Idx → EReal) (y : S4096x3072.Idx → EReal) :
    Cert.Reference2Ideal.Read.val_main_v5 (F := Ideal) x y = across x y := by
  funext i
  rw [Cert.Reference2Ideal.Read.val_main_v5_apply, Cert.Reference2Ideal.Read.val_main_v4_apply]
  refine Finset.sum_congr rfl fun k _ => ?_
  rw [mul_comm]
  exact congrArg₂ (· * ·) (entry_at x _) (entry_at y _)

/-- The two programs have the same kernel bodies. -/
theorem bodies : Cert.Kernel2.defs (F := Bits) = defs (F := Bits) := by
  refine congrArg (Pipeline.defs Cert.Kernel2.pcfgs) (congrArg Defs.onTc (funext fun l => funext fun a => ?_))
  match l, a with
  | 0, (t, s) => rfl

theorem frame_bits : Cert.quiescent_Kernel2 := fun m ρ _ => bodies ▸ Gen.frame (F := Bits) m ρ

theorem frame_ideal : Cert.quiescent_Kernel2Ideal := fun m ρ _ => Gen.frame m ρ

theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The call's value is the reference's. -/
theorem value : Cert.algebraic_Kernel2Ideal_Reference2Ideal := by
  intro m ρ m' ρ' _ h
  refine ⟨_, run_blocks m ρ, (θ_run _ _ _).mono (fun r hr c => ⟨?_, (hr c).2⟩) (Cert.Reference2Ideal.Value.run (F := Ideal) m' ρ')⟩
  rw [(hr c).1, Cert.Reference2Ideal.Read.val_main_v5_eq, (h c).1, (h c).2, reference_at]
  exact (final m c).symm

end Cert.Kernel2Ideal.Read

end
-- ==== Proof.InputQuery.lean ====
/- The query up-projection's input gradient: each block of the call's result is the product of the blocks it takes. -/
module

public import proofs.«01_k».proof.Proof.Product
public import proofs.«01_k».proof.Defs
public import proofs.«01_k».proof.Proof.Gen.Kernel3
public import proofs.«01_k».proof.Proof.Gen.Kernel3Ideal.Value
public import proofs.«01_k».proof.Proof.Gen.Reference3Ideal.Read

@[expose] public section

set_option maxRecDepth 16384

noncomputable section

namespace Cert.Kernel3Ideal.Read

open Cert.Kernel3Ideal Cert.Kernel3Ideal.Gen Cert.Kernel3Ideal.Value Cert.Product
open Idealize.ShloMosaic Idealize.ShloMosaic.TcCoe Idealize.ShloMosaic.Tactic Idealize.SL.Sem

section
variable {F : FTy → Type} [FloatOps F]

/-- The first step leaves the first part's product in the scratch. -/
theorem first (c : Dev nD) (i : grid0.Coords) (a3 : Memref sig .tc .vmem S1024x1536 .bf16) (h3 : a3.IsWhole)
    (a4 : Memref sig .tc .vmem S1536x512 .bf16) (h4 : a4.IsWhole)
    (a5 : Memref sig .tc .vmem S1024x512 .f32) (h5 : a5.IsWhole)
    (a6 : Memref sig .tc .vmem S1024x512 .f32) (h6 : a6.IsWhole)
    (hc0 : cond0_0 i) (hc1 : ¬cond0_1 i) (hc2 : ¬cond0_2 i)
    (x0 : Vec F S1024x1536 .bf16) (x1 : Vec F S1536x512 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zero2]
  unfold k0_pay2
  simp only [View.readAt_eq_ld, h3.read_unread, h4.read_unread,
    View.ld_unit_zero (S := S1024x1536) zero2, View.ld_unit_zero (S := S1536x512) zero2, View.ld_unit_zero (S := S1024x512) zero2, shapeCast_self]

/-- The last step stores the scratch with the last part's product added. -/
theorem last (c : Dev nD) (i : grid0.Coords) (a3 : Memref sig .tc .vmem S1024x1536 .bf16) (h3 : a3.IsWhole)
    (a4 : Memref sig .tc .vmem S1536x512 .bf16) (h4 : a4.IsWhole)
    (a5 : Memref sig .tc .vmem S1024x512 .f32) (h5 : a5.IsWhole)
    (a6 : Memref sig .tc .vmem S1024x512 .f32) (h6 : a6.IsWhole)
    (hc0 : ¬cond0_0 i) (hc1 : ¬cond0_1 i) (hc2 : cond0_2 i)
    (x0 : Vec F S1024x1536 .bf16) (x1 : Vec F S1536x512 .bf16) (xs : Vec F S1024x512 .f32) :
    out0_B_2 c i a3 h3 a4 h4 a5 h5 a6 h6 hc0 hc1 hc2 x0 x1 xs = addf xs (k0_pay1 x0 x1) := by
  unfold out0_B_2
  rw [View.read_writes_eq_canon _ _ _ (cover0_B_2 c i a3 h3 a4 h4 a5 h5 a6 h6 hc0 hc1 hc2 x0 x1 xs)]
  unfold kernelRun0_B
  dsimp only
  rw [View.canon_unit_zero zero2]
  unfold k0_pay4
  simp only [View.readAt_eq_ld, h3.read_unread, h4.read_unread, h6.read_unread,
    View.ld_unit_zero (S := S1024x1536) zero2, View.ld_unit_zero (S := S1536x512) zero2, View.ld_unit_zero (S := S1024x512) zero2, shapeCast_self]

end

section
variable (m : (ℓ : Loc nD τ sig) → Buf (Elt Ideal) ℓ)

/-- A part's product, entry by entry. -/
theorem part_at (x0 : Vec Ideal S1024x1536 .bf16) (x1 : Vec Ideal S1536x512 .bf16) (r : Fin 1024) (l : Fin 512) :
    k0_pay1 x0 x1 (ix2 r l) = ∑ k : Fin 1536, x0 (ix2 r k) * x1 (ix2 k l) := by
  unfold k0_pay1
  rw [shapeCast_self]
  pointwise

theorem at0 : ∀ t : Fin cfg0.N, win0_0.index t = ![t.val / 2, t.val % 2] := (by decide +kernel : ∀ t : Fin grid0.N, _)
theorem at1 : ∀ t : Fin cfg0.N, win0_1.index t = ![t.val % 2, t.val / 2 % 1] := (by decide +kernel : ∀ t : Fin grid0.N, _)
theorem at2 : ∀ t : Fin cfg0.N, win0_2.index t = ![t.val / 2, t.val / 2 % 1] := (by decide +kernel : ∀ t : Fin grid0.N, _)

/-- The weights the call takes are the argument's, turned over. -/
theorem turned (c : Dev nD) (r l : ℕ) : entry (V m c main_v0) r l = entry (V m c main_arg1) l r := by
  have h : V m c main_v0 = transpose S3072x512 [1, 0] (V m c main_arg1) transposes_S512x3072_S3072x512_1_0 := by
    rw [V_main_arg1]
    unfold V hostOps0
    after_results
  refine entry_turn _ _ (fun i j => ?_) r l
  rw [h]
  exact transpose_apply [1, 0] _ transposes_S512x3072_S3072x512_1_0 (ix2 j i) (ix2 i j) (fun b => match b with
    | ⟨0, _⟩ => rfl
    | ⟨1, _⟩ => rfl)

theorem left_at (c : Dev nD) (t : Fin cfg0.N) (r : Fin 1024) (k : Fin 1536) : iblk m c 0 t (ix2 r k)
    = entry (V m c main_arg0) (t.val / 2 * 1024 + r.val) (t.val % 2 * 1536 + k.val) := by
  blk_simp [iblk]; rw [entry_at (V m c main_arg0)]; blk_simp [at0]

theorem right_at (c : Dev nD) (t : Fin cfg0.N) (k : Fin 1536) (l : Fin 512) : iblk m c 1 t (ix2 k l)
    = entry (V m c main_arg1) (t.val / 2 % 1 * 512 + l.val) (t.val % 2 * 1536 + k.val) := by
  rw [← turned]
  blk_simp [iblk]; rw [entry_at (V m c main_v0)]; blk_simp [at1]

/-- A stored block's entry is the whole sum. -/
theorem block_at (c : Dev nD) (t : Fin cfg0.N) (hm : t.val % 2 = 1) (r : Fin 1024) (l : Fin 512) : (outsAt0 m c t.val t.isLt).1 (ix2 r l)
    = ∑ k : Fin 3072, entry (V m c main_arg0) (t.val / 2 * 1024 + r.val) k.val * entry (V m c main_arg1) (t.val / 2 % 1 * 512 + l.val) k.val := by
  have hN : t.val < 8 := lt_of_lt_of_eq t.isLt N_0
  have hs1 : t.val - 1 < cfg0.N := lt_of_le_of_lt (Nat.sub_le _ _) t.isLt
  have e1 : (t.val - 1) % 2 = 0 := by omega
  have i1 : (t.val - 1) / 2 = t.val / 2 := by omega
  have j1 : (t.val - 1) / 2 % 1 = t.val / 2 % 1 := by omega
  rw [outsAt0_B m c t (by omega) hm, last, outsAt0_A m c ⟨t.val - 1, hs1⟩ e1 (fun h => by rw [e1] at h; omega), first]
  show k0_pay1 _ _ (ix2 r l) + k0_pay1 _ _ (ix2 r l) = _
  rw [part_at, part_at]
  simp only [left_at, right_at, e1, i1, j1, hm]
  exact sum_two 1536 3072 rfl (fun k => entry (V m c main_arg0) (t.val / 2 * 1024 + r.val) k
    * entry (V m c main_arg1) (t.val / 2 % 1 * 512 + l.val) k)

/-- The whole product. -/
theorem final (c : Dev nD) : (dats m 0 c).arrAt 2 cfg0.N = along (V m c main_arg0) (V m c main_arg1) := by
  refine (dats m 0 c).arrAt_eq_of_covers 2 _ (by decide +kernel) fun t hf y => ?_
  have hm : t.val % 2 = 1 := (flush0_2 t).mp hf
  obtain ⟨r, l, rfl⟩ : ∃ (r : Fin 1024) (l : Fin 512), y = ix2 r l := split y
  blk_simp [at2, along]
  rw [after0_2]
  exact block_at m c t hm r l

end

/-- The reference's query up-projection's input gradient is the same product. -/
theorem reference_at (x : S4096x3072.Idx → EReal) (y : S512x3072.Idx → EReal) :
    Cert.Reference3Ideal.Read.val_main_v4 (F := Ideal) x y = along x y := by
  funext i
  rw [Cert.Reference3Ideal.Read.val_main_v4_apply]
  refine Finset.sum_congr rfl fun k _ => ?_
  exact congrArg₂ (· * ·) (entry_at x _) (entry_at y _)

/-- The two programs have the same kernel bodies. -/
theorem bodies : Cert.Kernel3.defs (F := Bits) = defs (F := Bits) := by
  refine congrArg (Pipeline.defs Cert.Kernel3.pcfgs) (congrArg Defs.onTc (funext fun l => funext fun a => ?_))
  match l, a with
  | 0, (t, s) => rfl

theorem frame_bits : Cert.quiescent_Kernel3 := fun m ρ _ => bodies ▸ Gen.frame (F := Bits) m ρ

theorem frame_ideal : Cert.quiescent_Kernel3Ideal := fun m ρ _ => Gen.frame m ρ

theorem frame_reference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The call's value is the reference's. -/
theorem value : Cert.algebraic_Kernel3Ideal_Reference3Ideal := by
  intro m ρ m' ρ' _ h
  refine ⟨_, run_blocks m ρ, (θ_run _ _ _).mono (fun r hr c => ⟨?_, (hr c).2⟩) (Cert.Reference3Ideal.Value.run (F := Ideal) m' ρ')⟩
  rw [(hr c).1, Cert.Reference3Ideal.Read.val_main_v4_eq, (h c).1, (h c).2, reference_at]
  rw [final, V_main_arg0, V_main_arg1]

end Cert.Kernel3Ideal.Read

end
-- ==== Proof.WeightKv.lean ====
/- The key and value up-projection's weight gradient: each block of the call's result is the product of the blocks it takes. -/
module

public import proofs.«01_k».proof.Proof.Product
public import proofs.«01_k».proof.Defs
public import proofs.«01_k».proof.Proof.Gen.Kernel4
public import proofs.«01_k».proof.Proof.Gen.Kernel4Ideal.Value
public import proofs.«01_k».proof.Proof.Gen.Reference4Ideal.Read

@[expose] public section

set_option maxRecDepth 16384

noncomputable section

namespace Cert.Kernel4Ideal.Read

open Cert.Kernel4Ideal Cert.Kernel4Ideal.Gen Cert.Kernel4Ideal.Value Cert.Product
open Idealize.ShloMosaic Idealize.ShloMosaic.TcCoe Idealize.ShloMosaic.Tactic Idealize.SL.Sem

section
variable {F : FTy → Type} [FloatOps F]

/-- The first step leaves the first part's product in the scratch. -/
theorem first (c : Dev nD) (i : grid0.Coords) (a3 : Memref sig .tc .vmem S2048x256 .bf16) (h3 : a3.IsWhole)
    (a4 : Memref sig .tc .vmem S2048x512 .bf16) (h4 : a4.IsWhole)
    (a5 : Memref sig .tc .vmem S256x512 .f32) (h5 : a5.IsWhole)
    (a6 : Memref sig .tc .vmem S256x512 .bf16) (h6 : a6.IsWhole)
    (a7 : Memref sig .tc .vmem S256x512 .f32) (h7 : a7.IsWhole)
    (hc0 : cond0_0 i) (hc1 : ¬cond0_1 i) (hc2 : ¬cond0_2 i)
    (x0 : Vec F S2048x256 .bf16) (x1 : Vec F S2048x512 .bf16) :
    sout0_A_0 c i a3 h3 a4 h4 a5 h5 a6 h6 a7 h7 hc0 hc1 hc2 x0 x1 = k0_pay1 x0 x1 := by
  unfold sout0_A_0
  rw [View.read_writes_eq_canon _ _ _ (scover0_A_0 c i a3 h3 a4 h4 a5 h5 a6 h6 a7 h7 hc0 hc1 hc2 x0 x1)]
  unfold kernelRun0_A
  dsimp only
  rw [View.canon_unit_zero zero2]
  unfold k0_pay2
  simp only [View.readAt_eq_ld, h3.read_unread, h4.read_unread,
    View.ld_unit_zero (S := S2048x256) zero2, View.ld_unit_zero (S := S2048x512) zero2, View.ld_unit_zero (S := S256x512) zero2, shapeCast_self]

/-- The last step stores the scratch with the last part's product added. -/
theorem last (c : Dev nD) (i : grid0.Coords) (a3 : Memref sig .tc .vmem S2048x256 .bf16) (h3 : a3.IsWhole)
    (a4 : Memref sig .tc .vmem S2048x512 .bf16) (h4 : a4.IsWhole)
    (a5 : Memref sig .tc .vmem S256x512 .f32) (h5 : a5.IsWhole)
    (a6 : Memref sig .tc .vmem S256x512 .bf16) (h6 : a6.IsWhole)
    (a7 : Memref sig .tc .vmem S256x512 .f32) (h7 : a7.IsWhole)
    (hc0 : ¬cond0_0 i) (hc1 : ¬cond0_1 i) (hc2 : cond0_2 i)
    (x0 : Vec F S2048x256 .bf16) (x1 : Vec F S2048x512 .bf16) (xs : Vec F S256x512 .f32) :
    out0_B_2 c i a3 h3 a4 h4 a5 h5 a6 h6 a7 h7 hc0 hc1 hc2 x0 x1 xs = addf xs (k0_pay1 x0 x1) := by
  unfold out0_B_2
  rw [View.read_writes_eq_canon _ _ _ (cover0_B_2 c i a3 h3 a4 h4 a5 h5 a6 h6 a7 h7 hc0 hc1 hc2 x0 x1 xs)]
  unfold kernelRun0_B
  dsimp only
  rw [View.canon_unit_zero zero2]
  unfold k0_pay4
  simp only [View.readAt_eq_ld, h3.read_unread, h4.read_unread, h7.read_unread,
    View.ld_unit_zero (S := S2048x256) zero2, View.ld_unit_zero (S := S2048x512) zero2, View.ld_unit_zero (S := S256x512) zero2, shapeCast_self]

/-- The second result stores the same block, rounded. -/
theorem last_half (c : Dev nD) (i : grid0.Coords) (a3 : Memref sig .tc .vmem S2048x256 .bf16) (h3 : a3.IsWhole)
    (a4 : Memref sig .tc .vmem S2048x512 .bf16) (h4 : a4.IsWhole)
    (a5 : Memref sig .tc .vmem S256x512 .f32) (h5 : a5.IsWhole)
    (a6 : Memref sig .tc .vmem S256x512 .bf16) (h6 : a6.IsWhole)
    (a7 : Memref sig .tc .vmem S256x512 .f32) (h7 : a7.IsWhole)
    (hc0 : ¬cond0_0 i) (hc1 : ¬cond0_1 i) (hc2 : cond0_2 i)
    (x0 : Vec F S2048x256 .bf16) (x1 : Vec F S2048x512 .bf16) (xs : Vec F S256x512 .f32) :
    out0_B_3 c i a3 h3 a4 h4 a5 h5 a6 h6 a7 h7 hc0 hc1 hc2 x0 x1 xs = truncf .bf16 (addf xs (k0_pay1 x0 x1)) bitsLt_bf16_f32 := by
  unfold out0_B_3
  rw [View.read_writes_eq_canon _ _ _ (cover0_B_3 c i a3 h3 a4 h4 a5 h5 a6 h6 a7 h7 hc0 hc1 hc2 x0 x1 xs)]
  unfold kernelRun0_B
  dsimp only
  rw [View.canon_unit_zero zero2]
  unfold k0_pay5 k0_pay4
  simp only [View.readAt_eq_ld, h3.read_unread, h4.read_unread, h7.read_unread,
    View.ld_unit_zero (S := S2048x256) zero2, View.ld_unit_zero (S := S2048x512) zero2, View.ld_unit_zero (S := S256x512) zero2, shapeCast_self]

end

section
variable (m : (ℓ : Loc nD τ sig) → Buf (Elt Ideal) ℓ)

/-- A part's product, entry by entry. -/
theorem part_at (x0 : Vec Ideal S2048x256 .bf16) (x1 : Vec Ideal S2048x512 .bf16) (r : Fin 256) (l : Fin 512) :
    k0_pay1 x0 x1 (ix2 r l) = ∑ k : Fin 2048, x0 (ix2 k r) * x1 (ix2 k l) := by
  unfold k0_pay1
  pointwise

theorem at0 : ∀ t : Fin cfg0.N, win0_0.index t = ![t.val % 2, t.val / 12] := (by decide +kernel : ∀ t : Fin grid0.N, _)
theorem at1 : ∀ t : Fin cfg0.N, win0_1.index t = ![t.val % 2, t.val / 2 % 6] := (by decide +kernel : ∀ t : Fin grid0.N, _)
theorem at2 : ∀ t : Fin cfg0.N, win0_2.index t = ![t.val / 12, t.val / 2 % 6] := (by decide +kernel : ∀ t : Fin grid0.N, _)
theorem at3 : ∀ t : Fin cfg0.N, win0_3.index t = ![t.val / 12, t.val / 2 % 6] := (by decide +kernel : ∀ t : Fin grid0.N, _)

theorem left_at (c : Dev nD) (t : Fin cfg0.N) (k : Fin 2048) (r : Fin 256) : iblk m c 0 t (ix2 k r)
    = entry (V m c main_arg0) (t.val % 2 * 2048 + k.val) (t.val / 12 * 256 + r.val) := by
  blk_simp [iblk]; rw [entry_at (V m c main_arg0)]; blk_simp [at0]

theorem right_at (c : Dev nD) (t : Fin cfg0.N) (k : Fin 2048) (l : Fin 512) : iblk m c 1 t (ix2 k l)
    = entry (V m c main_arg1) (t.val % 2 * 2048 + k.val) (t.val / 2 % 6 * 512 + l.val) := by
  blk_simp [iblk]; rw [entry_at (V m c main_arg1)]; blk_simp [at1]

/-- A stored block's entry is the whole sum. -/
theorem block_at (c : Dev nD) (t : Fin cfg0.N) (hm : t.val % 2 = 1) (r : Fin 256) (l : Fin 512) : (outsAt0 m c t.val t.isLt).1 (ix2 r l)
    = ∑ k : Fin 4096, entry (V m c main_arg0) k.val (t.val / 12 * 256 + r.val) * entry (V m c main_arg1) k.val (t.val / 2 % 6 * 512 + l.val) := by
  have hN : t.val < 12 := lt_of_lt_of_eq t.isLt N_0
  have hs1 : t.val - 1 < cfg0.N := lt_of_le_of_lt (Nat.sub_le _ _) t.isLt
  have e1 : (t.val - 1) % 2 = 0 := by omega
  have i1 : (t.val - 1) / 12 = t.val / 12 := by omega
  have j1 : (t.val - 1) / 2 % 6 = t.val / 2 % 6 := by omega
  rw [outsAt0_B m c t (by omega) hm, last, outsAt0_A m c ⟨t.val - 1, hs1⟩ e1 (fun h => by rw [e1] at h; omega), first]
  show k0_pay1 _ _ (ix2 r l) + k0_pay1 _ _ (ix2 r l) = _
  rw [part_at, part_at]
  simp only [left_at, right_at, e1, i1, j1, hm]
  exact sum_two 2048 4096 rfl (fun k => entry (V m c main_arg0) k (t.val / 12 * 256 + r.val)
    * entry (V m c main_arg1) k (t.val / 2 % 6 * 512 + l.val))

/-- The rounded block's entry is the same sum. -/
theorem half_at (c : Dev nD) (t : Fin cfg0.N) (hm : t.val % 2 = 1) (r : Fin 256) (l : Fin 512) :
    (outsAt0 m c t.val t.isLt).2.1 (ix2 r l) = (outsAt0 m c t.val t.isLt).1 (ix2 r l) := by
  rw [outsAt0_B m c t (by omega) hm]
  dsimp only
  rw [last, last_half]
  rfl

/-- The whole product. -/
theorem final (c : Dev nD) : (dats m 0 c).arrAt 2 cfg0.N = across (V m c main_arg0) (V m c main_arg1) := by
  refine (dats m 0 c).arrAt_eq_of_covers 2 _ (by decide +kernel) fun t hf y => ?_
  have hm : t.val % 2 = 1 := (flush0_2 t).mp hf
  obtain ⟨r, l, rfl⟩ : ∃ (r : Fin 256) (l : Fin 512), y = ix2 r l := split y
  blk_simp [at2, across]
  rw [after0_2]
  exact block_at m c t hm r l

/-- The rounded result is the same product. -/
theorem final_half (c : Dev nD) : (dats m 0 c).arrAt 3 cfg0.N = across (V m c main_arg0) (V m c main_arg1) := by
  refine (dats m 0 c).arrAt_eq_of_covers 3 _ (by decide +kernel) fun t hf y => ?_
  have hm : t.val % 2 = 1 := (flush0_3 t).mp hf
  obtain ⟨r, l, rfl⟩ : ∃ (r : Fin 256) (l : Fin 512), y = ix2 r l := split y
  blk_simp [at3, across]
  rw [after0_3]
  rw [half_at m c t hm]; exact block_at m c t hm r l

end

/-- The reference's key and value up-projection's weight gradient is the same product. -/
theorem reference_at (x : S4096x256.Idx → EReal) (y : S4096x3072.Idx → EReal) :
    Cert.Reference4Ideal.Read.val_main_v5 (F := Ideal) x y = across x y := by
  funext i
  rw [Cert.Reference4Ideal.Read.val_main_v5_apply, Cert.Reference4Ideal.Read.val_main_v4_apply]
  refine Finset.sum_congr rfl fun k _ => ?_
  rw [mul_comm]
  exact congrArg₂ (· * ·) (entry_at x _) (entry_at y _)

/-- The two programs have the same kernel bodies. -/
theorem bodies : Cert.Kernel4.defs (F := Bits) = defs (F := Bits) := by
  refine congrArg (Pipeline.defs Cert.Kernel4.pcfgs) (congrArg Defs.onTc (funext fun l => funext fun a => ?_))
  match l, a with
  | 0, (t, s) => rfl

theorem frame_bits : Cert.quiescent_Kernel4 := fun m ρ _ => bodies ▸ Gen.frame (F := Bits) m ρ

theorem frame_ideal : Cert.quiescent_Kernel4Ideal := fun m ρ _ => Gen.frame m ρ

theorem frame_reference : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- The call's value is the reference's. -/
theorem value : Cert.algebraic_Kernel4Ideal_Reference4Ideal := by
  intro m ρ m' ρ' _ h
  refine ⟨_, _, run_blocks m ρ, (θ_run _ _ _).mono (fun r hr c => ⟨?_, ?_, (hr c).2.2⟩) (Cert.Reference4Ideal.Value.run (F := Ideal) m' ρ')⟩
  · rw [(hr c).1, Cert.Reference4Ideal.Read.val_main_v5_eq, (h c).1, (h c).2, reference_at]
    exact (final m c).symm
  · rw [(hr c).2.1, Cert.Reference4Ideal.Read.val_main_v6_eq, (h c).1, (h c).2]
    exact (reference_at _ _).trans (final_half m c).symm

end Cert.Kernel4Ideal.Read

end
-- ==== Proof.InputKv.lean ====
/- The key and value up-projection's input gradient: each block of the call's result is the product of the blocks it takes. -/
module

public import proofs.«01_k».proof.Proof.Product
public import proofs.«01_k».proof.Defs
public import proofs.«01_k».proof.Proof.Gen.Kernel5
public import proofs.«01_k».proof.Proof.Gen.Kernel5Ideal.Value
public import proofs.«01_k».proof.Proof.Gen.Reference5Ideal.Read

@[expose] public section

set_option maxRecDepth 16384

noncomputable section

namespace Cert.Kernel5Ideal.Read

open Cert.Kernel5Ideal Cert.Kernel5Ideal.Gen Cert.Kernel5Ideal.Value Cert.Product
open Idealize.ShloMosaic Idealize.ShloMosaic.TcCoe Idealize.ShloMosaic.Tactic Idealize.SL.Sem

section
variable {F : FTy → Type} [FloatOps F]

/-- The first step leaves the first part's product in the scratch. -/
theorem first (c : Dev nD) (i : grid0.Coords) (a3 : Memref sig .tc .vmem S1024x1536 .bf16) (h3 : a3.IsWhole)
    (a4 : Memref sig .tc .vmem S1536x256 .bf16) (h4 : a4.IsWhole)
    (a5 : Memref sig .tc .vmem S1024x256 .f32) (h5 : a5.IsWhole)
    (a6 : Memref sig .tc .vmem S1024x256 .f32) (h6 : a6.IsWhole)
    (hc0 : cond0_0 i) (hc1 : ¬cond0_1 i) (hc2 : ¬cond0_2 i)
    (x0 : Vec F S1024x1536 .bf16) (x1 : Vec F S1536x256 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zero2]
  unfold k0_pay2
  simp only [View.readAt_eq_ld, h3.read_unread, h4.read_unread,
    View.ld_unit_zero (S := S1024x1536) zero2, View.ld_unit_zero (S := S1536x256) zero2, View.ld_unit_zero (S := S1024x256) zero2, shapeCast_self]

/-- The last step stores the scratch with the last part's product added. -/
theorem last (c : Dev nD) (i : grid0.Coords) (a3 : Memref sig .tc .vmem S1024x1536 .bf16) (h3 : a3.IsWhole)
    (a4 : Memref sig .tc .vmem S1536x256 .bf16) (h4 : a4.IsWhole)
    (a5 : Memref sig .tc .vmem S1024x256 .f32) (h5 : a5.IsWhole)
    (a6 : Memref sig .tc .vmem S1024x256 .f32) (h6 : a6.IsWhole)
    (hc0 : ¬cond0_0 i) (hc1 : ¬cond0_1 i) (hc2 : cond0_2 i)
    (x0 : Vec F S1024x1536 .bf16) (x1 : Vec F S1536x256 .bf16) (xs : Vec F S1024x256 .f32) :
    out0_B_2 c i a3 h3 a4 h4 a5 h5 a6 h6 hc0 hc1 hc2 x0 x1 xs = addf xs (k0_pay1 x0 x1) := by
  unfold out0_B_2
  rw [View.read_writes_eq_canon _ _ _ (cover0_B_2 c i a3 h3 a4 h4 a5 h5 a6 h6 hc0 hc1 hc2 x0 x1 xs)]
  unfold kernelRun0_B
  dsimp only
  rw [View.canon_unit_zero zero2]
  unfold k0_pay4
  simp only [View.readAt_eq_ld, h3.read_unread, h4.read_unread, h6.read_unread,
    View.ld_unit_zero (S := S1024x1536) zero2, View.ld_unit_zero (S := S1536x256) zero2, View.ld_unit_zero (S := S1024x256) zero2, shapeCast_self]

end

section
variable (m : (ℓ : Loc nD τ sig) → Buf (Elt Ideal) ℓ)

/-- A part's product, entry by entry. -/
theorem part_at (x0 : Vec Ideal S1024x1536 .bf16) (x1 : Vec Ideal S1536x256 .bf16) (r : Fin 1024) (l : Fin 256) :
    k0_pay1 x0 x1 (ix2 r l) = ∑ k : Fin 1536, x0 (ix2 r k) * x1 (ix2 k l) := by
  unfold k0_pay1
  rw [shapeCast_self]
  pointwise

theorem at0 : ∀ t : Fin cfg0.N, win0_0.index t = ![t.val / 2, t.val % 2] := (by decide +kernel : ∀ t : Fin grid0.N, _)
theorem at1 : ∀ t : Fin cfg0.N, win0_1.index t = ![t.val % 2, t.val / 2 % 1] := (by decide +kernel : ∀ t : Fin grid0.N, _)
theorem at2 : ∀ t : Fin cfg0.N, win0_2.index t = ![t.val / 2, t.val / 2 % 1] := (by decide +kernel : ∀ t : Fin grid0.N, _)

/-- The weights the call takes are the argument's, turned over. -/
theorem turned (c : Dev nD) (r l : ℕ) : entry (V m c main_v0) r l = entry (V m c main_arg1) l r := by
  have h : V m c main_v0 = transpose S3072x256 [1, 0] (V m c main_arg1) transposes_S256x3072_S3072x256_1_0 := by
    rw [V_main_arg1]
    unfold V hostOps0
    after_results
  refine entry_turn _ _ (fun i j => ?_) r l
  rw [h]
  exact transpose_apply [1, 0] _ transposes_S256x3072_S3072x256_1_0 (ix2 j i) (ix2 i j) (fun b => match b with
    | ⟨0, _⟩ => rfl
    | ⟨1, _⟩ => rfl)

theorem left_at (c : Dev nD) (t : Fin cfg0.N) (r : Fin 1024) (k : Fin 1536) : iblk m c 0 t (ix2 r k)
    = entry (V m c main_arg0) (t.val / 2 * 1024 + r.val) (t.val % 2 * 1536 + k.val) := by
  blk_simp [iblk]; rw [entry_at (V m c main_arg0)]; blk_simp [at0]

theorem right_at (c : Dev nD) (t : Fin cfg0.N) (k : Fin 1536) (l : Fin 256) : iblk m c 1 t (ix2 k l)
    = entry (V m c main_arg1) (t.val / 2 % 1 * 256 + l.val) (t.val % 2 * 1536 + k.val) := by
  rw [← turned]
  blk_simp [iblk]; rw [entry_at (V m c main_v0)]; blk_simp [at1]

/-- A stored block's entry is the whole sum. -/
theorem block_at (c : Dev nD) (t : Fin cfg0.N) (hm : t.val % 2 = 1) (r : Fin 1024) (l : Fin 256) : (outsAt0 m c t.val t.isLt).1 (ix2 r l)
    = ∑ k : Fin 3072, entry (V m c main_arg0) (t.val / 2 * 1024 + r.val) k.val * entry (V m c main_arg1) (t.val / 2 % 1 * 256 + l.val) k.val := by
  have hN : t.val < 8 := lt_of_lt_of_eq t.isLt N_0
  have hs1 : t.val - 1 < cfg0.N := lt_of_le_of_lt (Nat.sub_le _ _) t.isLt
  have e1 : (t.val - 1) % 2 = 0 := by omega
  have i1 : (t.val - 1) / 2 = t.val / 2 := by omega
  have j1 : (t.val - 1) / 2 % 1 = t.val / 2 % 1 := by omega
  rw [outsAt0_B m c t (by omega) hm, last, outsAt0_A m c ⟨t.val - 1, hs1⟩ e1 (fun h => by rw [e1] at h; omega), first]
  show k0_pay1 _ _ (ix2 r l) + k0_pay1 _ _ (ix2 r l) = _
  rw [part_at, part_at]
  simp only [left_at, right_at, e1, i1, j1, hm]
  exact sum_two 1536 3072 rfl (fun k => entry (V m c main_arg0) (t.val / 2 * 1024 + r.val) k
    * entry (V m c main_arg1) (t.val / 2 % 1 * 256 + l.val) k)

/-- The whole product. -/
theorem final (c : Dev nD) : (dats m 0 c).arrAt 2 cfg0.N = along (V m c main_arg0) (V m c main_arg1) := by
  refine (dats m 0 c).arrAt_eq_of_covers 2 _ (by decide +kernel) fun t hf y => ?_
  have hm : t.val % 2 = 1 := (flush0_2 t).mp hf
  obtain ⟨r, l, rfl⟩ : ∃ (r : Fin 1024) (l : Fin 256), y = ix2 r l := split y
  blk_simp [at2, along]
  rw [after0_2]
  exact block_at m c t hm r l

end

/-- The reference's key and value up-projection's input gradient is the same product. -/
theorem reference_at (x : S4096x3072.Idx → EReal) (y : S256x3072.Idx → EReal) :
    Cert.Reference5Ideal.Read.val_main_v4 (F := Ideal) x y = along x y := by
  funext i
  rw [Cert.Reference5Ideal.Read.val_main_v4_apply]
  refine Finset.sum_congr rfl fun k _ => ?_
  exact congrArg₂ (· * ·) (entry_at x _) (entry_at y _)

/-- The two programs have the same kernel bodies. -/
theorem bodies : Cert.Kernel5.defs (F := Bits) = defs (F := Bits) := by
  refine congrArg (Pipeline.defs Cert.Kernel5.pcfgs) (congrArg Defs.onTc (funext fun l => funext fun a => ?_))
  match l, a with
  | 0, (t, s) => rfl

theorem frame_bits : Cert.quiescent_Kernel5 := fun m ρ _ => bodies ▸ Gen.frame (F := Bits) m ρ

theorem frame_ideal : Cert.quiescent_Kernel5Ideal := fun m ρ _ => Gen.frame m ρ

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The call's value is the reference's. -/
theorem value : Cert.algebraic_Kernel5Ideal_Reference5Ideal := by
  intro m ρ m' ρ' _ h
  refine ⟨_, run_blocks m ρ, (θ_run _ _ _).mono (fun r hr c => ⟨?_, (hr c).2⟩) (Cert.Reference5Ideal.Value.run (F := Ideal) m' ρ')⟩
  rw [(hr c).1, Cert.Reference5Ideal.Read.val_main_v4_eq, (h c).1, (h c).2, reference_at]
  rw [final, V_main_arg0, V_main_arg1]

end Cert.Kernel5Ideal.Read

end
-- ==== Proof.WeightIn.lean ====
/- The latent down-projection's weight gradient: each block of the call's result is the product of the blocks it takes. -/
module

public import proofs.«01_k».proof.Proof.Product
public import proofs.«01_k».proof.Defs
public import proofs.«01_k».proof.Proof.Gen.Kernel6
public import proofs.«01_k».proof.Proof.Gen.Kernel6Ideal.Value
public import proofs.«01_k».proof.Proof.Gen.Reference6Ideal.Read

@[expose] public section

set_option maxRecDepth 16384

noncomputable section

namespace Cert.Kernel6Ideal.Read

open Cert.Kernel6Ideal Cert.Kernel6Ideal.Gen Cert.Kernel6Ideal.Value Cert.Product
open Idealize.ShloMosaic Idealize.ShloMosaic.TcCoe Idealize.ShloMosaic.Tactic Idealize.SL.Sem

section
variable {F : FTy → Type} [FloatOps F]

/-- The first step leaves the first part's product in the scratch. -/
theorem first (c : Dev nD) (i : grid0.Coords) (a3 : Memref sig .tc .vmem S2048x1024 .bf16) (h3 : a3.IsWhole)
    (a4 : Memref sig .tc .vmem S2048x384 .bf16) (h4 : a4.IsWhole)
    (a5 : Memref sig .tc .vmem S1024x384 .f32) (h5 : a5.IsWhole)
    (a6 : Memref sig .tc .vmem S1024x384 .f32) (h6 : a6.IsWhole)
    (hc0 : cond0_0 i) (hc1 : ¬cond0_1 i) (hc2 : ¬cond0_2 i)
    (x0 : Vec F S2048x1024 .bf16) (x1 : Vec F S2048x384 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zero2]
  unfold k0_pay2
  simp only [View.readAt_eq_ld, h3.read_unread, h4.read_unread,
    View.ld_unit_zero (S := S2048x1024) zero2, View.ld_unit_zero (S := S2048x384) zero2, View.ld_unit_zero (S := S1024x384) zero2, shapeCast_self]

/-- The last step stores the scratch with the last part's product added. -/
theorem last (c : Dev nD) (i : grid0.Coords) (a3 : Memref sig .tc .vmem S2048x1024 .bf16) (h3 : a3.IsWhole)
    (a4 : Memref sig .tc .vmem S2048x384 .bf16) (h4 : a4.IsWhole)
    (a5 : Memref sig .tc .vmem S1024x384 .f32) (h5 : a5.IsWhole)
    (a6 : Memref sig .tc .vmem S1024x384 .f32) (h6 : a6.IsWhole)
    (hc0 : ¬cond0_0 i) (hc1 : ¬cond0_1 i) (hc2 : cond0_2 i)
    (x0 : Vec F S2048x1024 .bf16) (x1 : Vec F S2048x384 .bf16) (xs : Vec F S1024x384 .f32) :
    out0_B_2 c i a3 h3 a4 h4 a5 h5 a6 h6 hc0 hc1 hc2 x0 x1 xs = addf xs (k0_pay1 x0 x1) := by
  unfold out0_B_2
  rw [View.read_writes_eq_canon _ _ _ (cover0_B_2 c i a3 h3 a4 h4 a5 h5 a6 h6 hc0 hc1 hc2 x0 x1 xs)]
  unfold kernelRun0_B
  dsimp only
  rw [View.canon_unit_zero zero2]
  unfold k0_pay4
  simp only [View.readAt_eq_ld, h3.read_unread, h4.read_unread, h6.read_unread,
    View.ld_unit_zero (S := S2048x1024) zero2, View.ld_unit_zero (S := S2048x384) zero2, View.ld_unit_zero (S := S1024x384) zero2, shapeCast_self]

end

section
variable (m : (ℓ : Loc nD τ sig) → Buf (Elt Ideal) ℓ)

/-- A part's product, entry by entry. -/
theorem part_at (x0 : Vec Ideal S2048x1024 .bf16) (x1 : Vec Ideal S2048x384 .bf16) (r : Fin 1024) (l : Fin 384) :
    k0_pay1 x0 x1 (ix2 r l) = ∑ k : Fin 2048, x0 (ix2 k r) * x1 (ix2 k l) := by
  unfold k0_pay1
  pointwise

theorem at0 : ∀ t : Fin cfg0.N, win0_0.index t = ![t.val % 2, t.val / 18] := (by decide +kernel : ∀ t : Fin grid0.N, _)
theorem at1 : ∀ t : Fin cfg0.N, win0_1.index t = ![t.val % 2, t.val / 2 % 9] := (by decide +kernel : ∀ t : Fin grid0.N, _)
theorem at2 : ∀ t : Fin cfg0.N, win0_2.index t = ![t.val / 18, t.val / 2 % 9] := (by decide +kernel : ∀ t : Fin grid0.N, _)

theorem left_at (c : Dev nD) (t : Fin cfg0.N) (k : Fin 2048) (r : Fin 1024) : iblk m c 0 t (ix2 k r)
    = entry (V m c main_arg0) (t.val % 2 * 2048 + k.val) (t.val / 18 * 1024 + r.val) := by
  blk_simp [iblk]; rw [entry_at (V m c main_arg0)]; blk_simp [at0]

theorem right_at (c : Dev nD) (t : Fin cfg0.N) (k : Fin 2048) (l : Fin 384) : iblk m c 1 t (ix2 k l)
    = entry (V m c main_arg1) (t.val % 2 * 2048 + k.val) (t.val / 2 % 9 * 384 + l.val) := by
  blk_simp [iblk]; rw [entry_at (V m c main_arg1)]; blk_simp [at1]

/-- A stored block's entry is the whole sum. -/
theorem block_at (c : Dev nD) (t : Fin cfg0.N) (hm : t.val % 2 = 1) (r : Fin 1024) (l : Fin 384) : (outsAt0 m c t.val t.isLt).1 (ix2 r l)
    = ∑ k : Fin 4096, entry (V m c main_arg0) k.val (t.val / 18 * 1024 + r.val) * entry (V m c main_arg1) k.val (t.val / 2 % 9 * 384 + l.val) := by
  have hN : t.val < 18 := lt_of_lt_of_eq t.isLt N_0
  have hs1 : t.val - 1 < cfg0.N := lt_of_le_of_lt (Nat.sub_le _ _) t.isLt
  have e1 : (t.val - 1) % 2 = 0 := by omega
  have i1 : (t.val - 1) / 18 = t.val / 18 := by omega
  have j1 : (t.val - 1) / 2 % 9 = t.val / 2 % 9 := by omega
  rw [outsAt0_B m c t (by omega) hm, last, outsAt0_A m c ⟨t.val - 1, hs1⟩ e1 (fun h => by rw [e1] at h; omega), first]
  show k0_pay1 _ _ (ix2 r l) + k0_pay1 _ _ (ix2 r l) = _
  rw [part_at, part_at]
  simp only [left_at, right_at, e1, i1, j1, hm]
  exact sum_two 2048 4096 rfl (fun k => entry (V m c main_arg0) k (t.val / 18 * 1024 + r.val)
    * entry (V m c main_arg1) k (t.val / 2 % 9 * 384 + l.val))

/-- The whole product. -/
theorem final (c : Dev nD) : (dats m 0 c).arrAt 2 cfg0.N = across (V m c main_arg0) (V m c main_arg1) := by
  refine (dats m 0 c).arrAt_eq_of_covers 2 _ (by decide +kernel) fun t hf y => ?_
  have hm : t.val % 2 = 1 := (flush0_2 t).mp hf
  obtain ⟨r, l, rfl⟩ : ∃ (r : Fin 1024) (l : Fin 384), y = ix2 r l := split y
  blk_simp [at2, across]
  rw [after0_2]
  exact block_at m c t hm r l

end

/-- The reference's latent down-projection's weight gradient is the same product. -/
theorem reference_at (x : S4096x1024.Idx → EReal) (y : S4096x3456.Idx → EReal) :
    Cert.Reference6Ideal.Read.val_main_v5 (F := Ideal) x y = across x y := by
  funext i
  rw [Cert.Reference6Ideal.Read.val_main_v5_apply, Cert.Reference6Ideal.Read.val_main_v4_apply]
  refine Finset.sum_congr rfl fun k _ => ?_
  rw [mul_comm]
  exact congrArg₂ (· * ·) (entry_at x _) (entry_at y _)

/-- The two programs have the same kernel bodies. -/
theorem bodies : Cert.Kernel6.defs (F := Bits) = defs (F := Bits) := by
  refine congrArg (Pipeline.defs Cert.Kernel6.pcfgs) (congrArg Defs.onTc (funext fun l => funext fun a => ?_))
  match l, a with
  | 0, (t, s) => rfl

theorem frame_bits : Cert.quiescent_Kernel6 := fun m ρ _ => bodies ▸ Gen.frame (F := Bits) m ρ

theorem frame_ideal : Cert.quiescent_Kernel6Ideal := fun m ρ _ => Gen.frame m ρ

theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The call's value is the reference's. -/
theorem value : Cert.algebraic_Kernel6Ideal_Reference6Ideal := by
  intro m ρ m' ρ' _ h
  refine ⟨_, run_blocks m ρ, (θ_run _ _ _).mono (fun r hr c => ⟨?_, (hr c).2⟩) (Cert.Reference6Ideal.Value.run (F := Ideal) m' ρ')⟩
  rw [(hr c).1, Cert.Reference6Ideal.Read.val_main_v5_eq, (h c).1, (h c).2, reference_at]
  exact (final m c).symm

end Cert.Kernel6Ideal.Read

end
-- ==== Proof.InputIn.lean ====
/- The latent down-projection's input gradient: each block of the call's result is the product of the blocks it takes. -/
module

public import proofs.«01_k».proof.Proof.Product
public import proofs.«01_k».proof.Defs
public import proofs.«01_k».proof.Proof.Gen.Kernel7
public import proofs.«01_k».proof.Proof.Gen.Kernel7Ideal.Value
public import proofs.«01_k».proof.Proof.Gen.Reference7Ideal.Read

@[expose] public section

set_option maxRecDepth 16384

noncomputable section

namespace Cert.Kernel7Ideal.Read

open Cert.Kernel7Ideal Cert.Kernel7Ideal.Gen Cert.Kernel7Ideal.Value Cert.Product
open Idealize.ShloMosaic Idealize.ShloMosaic.TcCoe Idealize.ShloMosaic.Tactic Idealize.SL.Sem

section
variable {F : FTy → Type} [FloatOps F]

/-- The first step leaves the first part's product in the scratch. -/
theorem first (c : Dev nD) (i : grid0.Coords) (a3 : Memref sig .tc .vmem S1024x1152 .bf16) (h3 : a3.IsWhole)
    (a4 : Memref sig .tc .vmem S1152x512 .bf16) (h4 : a4.IsWhole)
    (a5 : Memref sig .tc .vmem S1024x512 .f32) (h5 : a5.IsWhole)
    (a6 : Memref sig .tc .vmem S1024x512 .f32) (h6 : a6.IsWhole)
    (hc0 : cond0_0 i) (hc1 : ¬cond0_1 i) (hc2 : ¬cond0_2 i)
    (x0 : Vec F S1024x1152 .bf16) (x1 : Vec F S1152x512 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zero2]
  unfold k0_pay2
  simp only [View.readAt_eq_ld, h3.read_unread, h4.read_unread,
    View.ld_unit_zero (S := S1024x1152) zero2, View.ld_unit_zero (S := S1152x512) zero2, View.ld_unit_zero (S := S1024x512) zero2, shapeCast_self]

/-- The middle step adds its part's product to the scratch. -/
theorem middle (c : Dev nD) (i : grid0.Coords) (a3 : Memref sig .tc .vmem S1024x1152 .bf16) (h3 : a3.IsWhole)
    (a4 : Memref sig .tc .vmem S1152x512 .bf16) (h4 : a4.IsWhole)
    (a5 : Memref sig .tc .vmem S1024x512 .f32) (h5 : a5.IsWhole)
    (a6 : Memref sig .tc .vmem S1024x512 .f32) (h6 : a6.IsWhole)
    (hc0 : ¬cond0_0 i) (hc1 : cond0_1 i) (hc2 : ¬cond0_2 i)
    (x0 : Vec F S1024x1152 .bf16) (x1 : Vec F S1152x512 .bf16) (xs : Vec F S1024x512 .f32) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero zero2]
  unfold k0_pay3
  simp only [View.readAt_eq_ld, h3.read_unread, h4.read_unread, h6.read_unread,
    View.ld_unit_zero (S := S1024x1152) zero2, View.ld_unit_zero (S := S1152x512) zero2, View.ld_unit_zero (S := S1024x512) zero2, shapeCast_self]

/-- The last step stores the scratch with the last part's product added. -/
theorem last (c : Dev nD) (i : grid0.Coords) (a3 : Memref sig .tc .vmem S1024x1152 .bf16) (h3 : a3.IsWhole)
    (a4 : Memref sig .tc .vmem S1152x512 .bf16) (h4 : a4.IsWhole)
    (a5 : Memref sig .tc .vmem S1024x512 .f32) (h5 : a5.IsWhole)
    (a6 : Memref sig .tc .vmem S1024x512 .f32) (h6 : a6.IsWhole)
    (hc0 : ¬cond0_0 i) (hc1 : ¬cond0_1 i) (hc2 : cond0_2 i)
    (x0 : Vec F S1024x1152 .bf16) (x1 : Vec F S1152x512 .bf16) (xs : Vec F S1024x512 .f32) :
    out0_C_2 c i a3 h3 a4 h4 a5 h5 a6 h6 hc0 hc1 hc2 x0 x1 xs = addf xs (k0_pay1 x0 x1) := by
  unfold out0_C_2
  rw [View.read_writes_eq_canon _ _ _ (cover0_C_2 c i a3 h3 a4 h4 a5 h5 a6 h6 hc0 hc1 hc2 x0 x1 xs)]
  unfold kernelRun0_C
  dsimp only
  rw [View.canon_unit_zero zero2]
  unfold k0_pay4
  simp only [View.readAt_eq_ld, h3.read_unread, h4.read_unread, h6.read_unread,
    View.ld_unit_zero (S := S1024x1152) zero2, View.ld_unit_zero (S := S1152x512) zero2, View.ld_unit_zero (S := S1024x512) zero2, shapeCast_self]

end

section
variable (m : (ℓ : Loc nD τ sig) → Buf (Elt Ideal) ℓ)

/-- A part's product, entry by entry. -/
theorem part_at (x0 : Vec Ideal S1024x1152 .bf16) (x1 : Vec Ideal S1152x512 .bf16) (r : Fin 1024) (l : Fin 512) :
    k0_pay1 x0 x1 (ix2 r l) = ∑ k : Fin 1152, x0 (ix2 r k) * x1 (ix2 k l) := by
  unfold k0_pay1
  rw [shapeCast_self]
  pointwise

theorem at0 : ∀ t : Fin cfg0.N, win0_0.index t = ![t.val / 6, t.val % 3] := (by decide +kernel : ∀ t : Fin grid0.N, _)
theorem at1 : ∀ t : Fin cfg0.N, win0_1.index t = ![t.val % 3, t.val / 3 % 2] := (by decide +kernel : ∀ t : Fin grid0.N, _)
theorem at2 : ∀ t : Fin cfg0.N, win0_2.index t = ![t.val / 6, t.val / 3 % 2] := (by decide +kernel : ∀ t : Fin grid0.N, _)

/-- The weights the call takes are the argument's, turned over. -/
theorem turned (c : Dev nD) (r l : ℕ) : entry (V m c main_v0) r l = entry (V m c main_arg1) l r := by
  have h : V m c main_v0 = transpose S3456x1024 [1, 0] (V m c main_arg1) transposes_S1024x3456_S3456x1024_1_0 := by
    rw [V_main_arg1]
    unfold V hostOps0
    after_results
  refine entry_turn _ _ (fun i j => ?_) r l
  rw [h]
  exact transpose_apply [1, 0] _ transposes_S1024x3456_S3456x1024_1_0 (ix2 j i) (ix2 i j) (fun b => match b with
    | ⟨0, _⟩ => rfl
    | ⟨1, _⟩ => rfl)

theorem left_at (c : Dev nD) (t : Fin cfg0.N) (r : Fin 1024) (k : Fin 1152) : iblk m c 0 t (ix2 r k)
    = entry (V m c main_arg0) (t.val / 6 * 1024 + r.val) (t.val % 3 * 1152 + k.val) := by
  blk_simp [iblk]; rw [entry_at (V m c main_arg0)]; blk_simp [at0]

theorem right_at (c : Dev nD) (t : Fin cfg0.N) (k : Fin 1152) (l : Fin 512) : iblk m c 1 t (ix2 k l)
    = entry (V m c main_arg1) (t.val / 3 % 2 * 512 + l.val) (t.val % 3 * 1152 + k.val) := by
  rw [← turned]
  blk_simp [iblk]; rw [entry_at (V m c main_v0)]; blk_simp [at1]

/-- A stored block's entry is the whole sum. -/
theorem block_at (c : Dev nD) (t : Fin cfg0.N) (hm : t.val % 3 = 2) (r : Fin 1024) (l : Fin 512) : (outsAt0 m c t.val t.isLt).1 (ix2 r l)
    = ∑ k : Fin 3456, entry (V m c main_arg0) (t.val / 6 * 1024 + r.val) k.val * entry (V m c main_arg1) (t.val / 3 % 2 * 512 + l.val) k.val := by
  have hN : t.val < 24 := lt_of_lt_of_eq t.isLt N_0
  have hs1 : t.val - 1 < cfg0.N := lt_of_le_of_lt (Nat.sub_le _ _) t.isLt
  have e1 : (t.val - 1) % 3 = 1 := by omega
  have i1 : (t.val - 1) / 6 = t.val / 6 := by omega
  have j1 : (t.val - 1) / 3 % 2 = t.val / 3 % 2 := by omega
  have hs2 : t.val - 1 - 1 < cfg0.N := lt_of_le_of_lt ((Nat.sub_le _ _).trans (Nat.sub_le _ _)) t.isLt
  have e2 : (t.val - 1 - 1) % 3 = 0 := by omega
  have i2 : (t.val - 1 - 1) / 6 = t.val / 6 := by omega
  have j2 : (t.val - 1 - 1) / 3 % 2 = t.val / 3 % 2 := by omega
  rw [outsAt0_C m c t (by omega) (by omega) hm, last, outsAt0_B m c ⟨t.val - 1, hs1⟩ (fun h => by rw [e1] at h; omega) (by omega)
      (fun h => by rw [e1] at h; omega), middle, outsAt0_A m c ⟨t.val - 1 - 1, hs2⟩ e2 (fun h => by rw [e2] at h; omega) (fun h => by rw [e2] at h; omega), first]
  show k0_pay1 _ _ (ix2 r l) + k0_pay1 _ _ (ix2 r l) + k0_pay1 _ _ (ix2 r l) = _
  rw [part_at, part_at, part_at]
  simp only [left_at, right_at, e1, i1, j1, e2, i2, j2, hm]
  exact sum_three 1152 3456 rfl (fun k => entry (V m c main_arg0) (t.val / 6 * 1024 + r.val) k
    * entry (V m c main_arg1) (t.val / 3 % 2 * 512 + l.val) k)

/-- The whole product. -/
theorem final (c : Dev nD) : (dats m 0 c).arrAt 2 cfg0.N = along (V m c main_arg0) (V m c main_arg1) := by
  refine (dats m 0 c).arrAt_eq_of_covers 2 _ (by decide +kernel) fun t hf y => ?_
  have hm : t.val % 3 = 2 := (flush0_2 t).mp hf
  obtain ⟨r, l, rfl⟩ : ∃ (r : Fin 1024) (l : Fin 512), y = ix2 r l := split y
  blk_simp [at2, along]
  rw [after0_2]
  exact block_at m c t hm r l

end

/-- The reference's latent down-projection's input gradient is the same product. -/
theorem reference_at (x : S4096x3456.Idx → EReal) (y : S1024x3456.Idx → EReal) :
    Cert.Reference7Ideal.Read.val_main_v4 (F := Ideal) x y = along x y := by
  funext i
  rw [Cert.Reference7Ideal.Read.val_main_v4_apply]
  refine Finset.sum_congr rfl fun k _ => ?_
  exact congrArg₂ (· * ·) (entry_at x _) (entry_at y _)

/-- The two programs have the same kernel bodies. -/
theorem bodies : Cert.Kernel7.defs (F := Bits) = defs (F := Bits) := by
  refine congrArg (Pipeline.defs Cert.Kernel7.pcfgs) (congrArg Defs.onTc (funext fun l => funext fun a => ?_))
  match l, a with
  | 0, (t, s) => rfl

theorem frame_bits : Cert.quiescent_Kernel7 := fun m ρ _ => bodies ▸ Gen.frame (F := Bits) m ρ

theorem frame_ideal : Cert.quiescent_Kernel7Ideal := fun m ρ _ => Gen.frame m ρ

theorem frame_reference : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The call's value is the reference's. -/
theorem value : Cert.algebraic_Kernel7Ideal_Reference7Ideal := by
  intro m ρ m' ρ' _ h
  refine ⟨_, run_blocks m ρ, (θ_run _ _ _).mono (fun r hr c => ⟨?_, (hr c).2⟩) (Cert.Reference7Ideal.Value.run (F := Ideal) m' ρ')⟩
  rw [(hr c).1, Cert.Reference7Ideal.Read.val_main_v4_eq, (h c).1, (h c).2, reference_at]
  rw [final, V_main_arg0, V_main_arg1]

end Cert.Kernel7Ideal.Read

end
-- ==== Proof.WeightOut.lean ====
/- The output projection's weight gradient: each block of the call's result is the product of the blocks it takes. -/
module

public import proofs.«01_k».proof.Proof.Product
public import proofs.«01_k».proof.Defs
public import proofs.«01_k».proof.Proof.Gen.Kernel8
public import proofs.«01_k».proof.Proof.Gen.Kernel8Ideal.Value
public import proofs.«01_k».proof.Proof.Gen.Reference8Ideal.Read

@[expose] public section

set_option maxRecDepth 16384

noncomputable section

namespace Cert.Kernel8Ideal.Read

open Cert.Kernel8Ideal Cert.Kernel8Ideal.Gen Cert.Kernel8Ideal.Value Cert.Product
open Idealize.ShloMosaic Idealize.ShloMosaic.TcCoe Idealize.ShloMosaic.Tactic Idealize.SL.Sem

section
variable {F : FTy → Type} [FloatOps F]

/-- The first step leaves the first part's product in the scratch. -/
theorem first (c : Dev nD) (i : grid0.Coords) (a3 : Memref sig .tc .vmem S2048x1024 .bf16) (h3 : a3.IsWhole)
    (a4 : Memref sig .tc .vmem S2048x512 .bf16) (h4 : a4.IsWhole)
    (a5 : Memref sig .tc .vmem S1024x512 .f32) (h5 : a5.IsWhole)
    (a6 : Memref sig .tc .vmem S1024x512 .bf16) (h6 : a6.IsWhole)
    (a7 : Memref sig .tc .vmem S1024x512 .f32) (h7 : a7.IsWhole)
    (hc0 : cond0_0 i) (hc1 : ¬cond0_1 i) (hc2 : ¬cond0_2 i)
    (x0 : Vec F S2048x1024 .bf16) (x1 : Vec F S2048x512 .bf16) :
    sout0_A_0 c i a3 h3 a4 h4 a5 h5 a6 h6 a7 h7 hc0 hc1 hc2 x0 x1 = k0_pay1 x0 x1 := by
  unfold sout0_A_0
  rw [View.read_writes_eq_canon _ _ _ (scover0_A_0 c i a3 h3 a4 h4 a5 h5 a6 h6 a7 h7 hc0 hc1 hc2 x0 x1)]
  unfold kernelRun0_A
  dsimp only
  rw [View.canon_unit_zero zero2]
  unfold k0_pay2
  simp only [View.readAt_eq_ld, h3.read_unread, h4.read_unread,
    View.ld_unit_zero (S := S2048x1024) zero2, View.ld_unit_zero (S := S2048x512) zero2, View.ld_unit_zero (S := S1024x512) zero2, shapeCast_self]

/-- The last step stores the scratch with the last part's product added. -/
theorem last (c : Dev nD) (i : grid0.Coords) (a3 : Memref sig .tc .vmem S2048x1024 .bf16) (h3 : a3.IsWhole)
    (a4 : Memref sig .tc .vmem S2048x512 .bf16) (h4 : a4.IsWhole)
    (a5 : Memref sig .tc .vmem S1024x512 .f32) (h5 : a5.IsWhole)
    (a6 : Memref sig .tc .vmem S1024x512 .bf16) (h6 : a6.IsWhole)
    (a7 : Memref sig .tc .vmem S1024x512 .f32) (h7 : a7.IsWhole)
    (hc0 : ¬cond0_0 i) (hc1 : ¬cond0_1 i) (hc2 : cond0_2 i)
    (x0 : Vec F S2048x1024 .bf16) (x1 : Vec F S2048x512 .bf16) (xs : Vec F S1024x512 .f32) :
    out0_B_2 c i a3 h3 a4 h4 a5 h5 a6 h6 a7 h7 hc0 hc1 hc2 x0 x1 xs = addf xs (k0_pay1 x0 x1) := by
  unfold out0_B_2
  rw [View.read_writes_eq_canon _ _ _ (cover0_B_2 c i a3 h3 a4 h4 a5 h5 a6 h6 a7 h7 hc0 hc1 hc2 x0 x1 xs)]
  unfold kernelRun0_B
  dsimp only
  rw [View.canon_unit_zero zero2]
  unfold k0_pay4
  simp only [View.readAt_eq_ld, h3.read_unread, h4.read_unread, h7.read_unread,
    View.ld_unit_zero (S := S2048x1024) zero2, View.ld_unit_zero (S := S2048x512) zero2, View.ld_unit_zero (S := S1024x512) zero2, shapeCast_self]

/-- The second result stores the same block, rounded. -/
theorem last_half (c : Dev nD) (i : grid0.Coords) (a3 : Memref sig .tc .vmem S2048x1024 .bf16) (h3 : a3.IsWhole)
    (a4 : Memref sig .tc .vmem S2048x512 .bf16) (h4 : a4.IsWhole)
    (a5 : Memref sig .tc .vmem S1024x512 .f32) (h5 : a5.IsWhole)
    (a6 : Memref sig .tc .vmem S1024x512 .bf16) (h6 : a6.IsWhole)
    (a7 : Memref sig .tc .vmem S1024x512 .f32) (h7 : a7.IsWhole)
    (hc0 : ¬cond0_0 i) (hc1 : ¬cond0_1 i) (hc2 : cond0_2 i)
    (x0 : Vec F S2048x1024 .bf16) (x1 : Vec F S2048x512 .bf16) (xs : Vec F S1024x512 .f32) :
    out0_B_3 c i a3 h3 a4 h4 a5 h5 a6 h6 a7 h7 hc0 hc1 hc2 x0 x1 xs = truncf .bf16 (addf xs (k0_pay1 x0 x1)) bitsLt_bf16_f32 := by
  unfold out0_B_3
  rw [View.read_writes_eq_canon _ _ _ (cover0_B_3 c i a3 h3 a4 h4 a5 h5 a6 h6 a7 h7 hc0 hc1 hc2 x0 x1 xs)]
  unfold kernelRun0_B
  dsimp only
  rw [View.canon_unit_zero zero2]
  unfold k0_pay5 k0_pay4
  simp only [View.readAt_eq_ld, h3.read_unread, h4.read_unread, h7.read_unread,
    View.ld_unit_zero (S := S2048x1024) zero2, View.ld_unit_zero (S := S2048x512) zero2, View.ld_unit_zero (S := S1024x512) zero2, shapeCast_self]

end

section
variable (m : (ℓ : Loc nD τ sig) → Buf (Elt Ideal) ℓ)

/-- A part's product, entry by entry. -/
theorem part_at (x0 : Vec Ideal S2048x1024 .bf16) (x1 : Vec Ideal S2048x512 .bf16) (r : Fin 1024) (l : Fin 512) :
    k0_pay1 x0 x1 (ix2 r l) = ∑ k : Fin 2048, x0 (ix2 k r) * x1 (ix2 k l) := by
  unfold k0_pay1
  pointwise

theorem at0 : ∀ t : Fin cfg0.N, win0_0.index t = ![t.val % 2, t.val / 4] := (by decide +kernel : ∀ t : Fin grid0.N, _)
theorem at1 : ∀ t : Fin cfg0.N, win0_1.index t = ![t.val % 2, t.val / 2 % 2] := (by decide +kernel : ∀ t : Fin grid0.N, _)
theorem at2 : ∀ t : Fin cfg0.N, win0_2.index t = ![t.val / 4, t.val / 2 % 2] := (by decide +kernel : ∀ t : Fin grid0.N, _)
theorem at3 : ∀ t : Fin cfg0.N, win0_3.index t = ![t.val / 4, t.val / 2 % 2] := (by decide +kernel : ∀ t : Fin grid0.N, _)

theorem left_at (c : Dev nD) (t : Fin cfg0.N) (k : Fin 2048) (r : Fin 1024) : iblk m c 0 t (ix2 k r)
    = entry (V m c main_arg0) (t.val % 2 * 2048 + k.val) (t.val / 4 * 1024 + r.val) := by
  blk_simp [iblk]; rw [entry_at (V m c main_arg0)]; blk_simp [at0]

theorem right_at (c : Dev nD) (t : Fin cfg0.N) (k : Fin 2048) (l : Fin 512) : iblk m c 1 t (ix2 k l)
    = entry (V m c main_arg1) (t.val % 2 * 2048 + k.val) (t.val / 2 % 2 * 512 + l.val) := by
  blk_simp [iblk]; rw [entry_at (V m c main_arg1)]; blk_simp [at1]

/-- A stored block's entry is the whole sum. -/
theorem block_at (c : Dev nD) (t : Fin cfg0.N) (hm : t.val % 2 = 1) (r : Fin 1024) (l : Fin 512) : (outsAt0 m c t.val t.isLt).1 (ix2 r l)
    = ∑ k : Fin 4096, entry (V m c main_arg0) k.val (t.val / 4 * 1024 + r.val) * entry (V m c main_arg1) k.val (t.val / 2 % 2 * 512 + l.val) := by
  have hN : t.val < 8 := lt_of_lt_of_eq t.isLt N_0
  have hs1 : t.val - 1 < cfg0.N := lt_of_le_of_lt (Nat.sub_le _ _) t.isLt
  have e1 : (t.val - 1) % 2 = 0 := by omega
  have i1 : (t.val - 1) / 4 = t.val / 4 := by omega
  have j1 : (t.val - 1) / 2 % 2 = t.val / 2 % 2 := by omega
  rw [outsAt0_B m c t (by omega) hm, last, outsAt0_A m c ⟨t.val - 1, hs1⟩ e1 (fun h => by rw [e1] at h; omega), first]
  show k0_pay1 _ _ (ix2 r l) + k0_pay1 _ _ (ix2 r l) = _
  rw [part_at, part_at]
  simp only [left_at, right_at, e1, i1, j1, hm]
  exact sum_two 2048 4096 rfl (fun k => entry (V m c main_arg0) k (t.val / 4 * 1024 + r.val)
    * entry (V m c main_arg1) k (t.val / 2 % 2 * 512 + l.val))

/-- The rounded block's entry is the same sum. -/
theorem half_at (c : Dev nD) (t : Fin cfg0.N) (hm : t.val % 2 = 1) (r : Fin 1024) (l : Fin 512) :
    (outsAt0 m c t.val t.isLt).2.1 (ix2 r l) = (outsAt0 m c t.val t.isLt).1 (ix2 r l) := by
  rw [outsAt0_B m c t (by omega) hm]
  dsimp only
  rw [last, last_half]
  rfl

/-- The whole product. -/
theorem final (c : Dev nD) : (dats m 0 c).arrAt 2 cfg0.N = across (V m c main_arg0) (V m c main_arg1) := by
  refine (dats m 0 c).arrAt_eq_of_covers 2 _ (by decide +kernel) fun t hf y => ?_
  have hm : t.val % 2 = 1 := (flush0_2 t).mp hf
  obtain ⟨r, l, rfl⟩ : ∃ (r : Fin 1024) (l : Fin 512), y = ix2 r l := split y
  blk_simp [at2, across]
  rw [after0_2]
  exact block_at m c t hm r l

/-- The rounded result is the same product. -/
theorem final_half (c : Dev nD) : (dats m 0 c).arrAt 3 cfg0.N = across (V m c main_arg0) (V m c main_arg1) := by
  refine (dats m 0 c).arrAt_eq_of_covers 3 _ (by decide +kernel) fun t hf y => ?_
  have hm : t.val % 2 = 1 := (flush0_3 t).mp hf
  obtain ⟨r, l, rfl⟩ : ∃ (r : Fin 1024) (l : Fin 512), y = ix2 r l := split y
  blk_simp [at3, across]
  rw [after0_3]
  rw [half_at m c t hm]; exact block_at m c t hm r l

end

/-- The reference's output projection's weight gradient is the same product. -/
theorem reference_at (x : S4096x2048.Idx → EReal) (y : S4096x1024.Idx → EReal) :
    Cert.Reference8Ideal.Read.val_main_v5 (F := Ideal) x y = across x y := by
  funext i
  rw [Cert.Reference8Ideal.Read.val_main_v5_apply, Cert.Reference8Ideal.Read.val_main_v4_apply]
  refine Finset.sum_congr rfl fun k _ => ?_
  rw [mul_comm]
  exact congrArg₂ (· * ·) (entry_at x _) (entry_at y _)

/-- The two programs have the same kernel bodies. -/
theorem bodies : Cert.Kernel8.defs (F := Bits) = defs (F := Bits) := by
  refine congrArg (Pipeline.defs Cert.Kernel8.pcfgs) (congrArg Defs.onTc (funext fun l => funext fun a => ?_))
  match l, a with
  | 0, (t, s) => rfl

theorem frame_bits : Cert.quiescent_Kernel8 := fun m ρ _ => bodies ▸ Gen.frame (F := Bits) m ρ

theorem frame_ideal : Cert.quiescent_Kernel8Ideal := fun m ρ _ => Gen.frame m ρ

theorem frame_reference : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)

/-- The call's value is the reference's. -/
theorem value : Cert.algebraic_Kernel8Ideal_Reference8Ideal := by
  intro m ρ m' ρ' _ h
  refine ⟨_, _, run_blocks m ρ, (θ_run _ _ _).mono (fun r hr c => ⟨?_, ?_, (hr c).2.2⟩) (Cert.Reference8Ideal.Value.run (F := Ideal) m' ρ')⟩
  · rw [(hr c).1, Cert.Reference8Ideal.Read.val_main_v5_eq, (h c).1, (h c).2, reference_at]
    exact (final m c).symm
  · rw [(hr c).2.1, Cert.Reference8Ideal.Read.val_main_v6_eq, (h c).1, (h c).2]
    exact (reference_at _ _).trans (final_half m c).symm

end Cert.Kernel8Ideal.Read

end
-- ==== Proof.InputOut.lean ====
/- The output projection's input gradient: each block of the call's result is the product of the blocks it takes. -/
module

public import proofs.«01_k».proof.Proof.Product
public import proofs.«01_k».proof.Defs
public import proofs.«01_k».proof.Proof.Gen.Kernel9
public import proofs.«01_k».proof.Proof.Gen.Kernel9Ideal.Value
public import proofs.«01_k».proof.Proof.Gen.Reference9Ideal.Read

@[expose] public section

set_option maxRecDepth 16384

noncomputable section

namespace Cert.Kernel9Ideal.Read

open Cert.Kernel9Ideal Cert.Kernel9Ideal.Gen Cert.Kernel9Ideal.Value Cert.Product
open Idealize.ShloMosaic Idealize.ShloMosaic.TcCoe Idealize.ShloMosaic.Tactic Idealize.SL.Sem

section
variable {F : FTy → Type} [FloatOps F]

/-- The block stored is the product of the blocks read. -/
theorem stored (c : Dev nD) (i : grid0.Coords) (a3 : Memref sig .tc .vmem S1024x1024 .bf16) (h3 : a3.IsWhole)
    (a4 : Memref sig .tc .vmem S1024x512 .bf16) (h4 : a4.IsWhole)
    (a5 : Memref sig .tc .vmem S1024x512 .f32) (h5 : a5.IsWhole)
    (a6 : Memref sig .tc .vmem S1024x512 .f32) (h6 : a6.IsWhole)
    (x0 : Vec F S1024x1024 .bf16) (x1 : Vec F S1024x512 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero zero2]
  simp only [View.readAt_eq_ld, h3.read_unread, h4.read_unread,
    View.ld_unit_zero (S := S1024x1024) zero2, View.ld_unit_zero (S := S1024x512) zero2, shapeCast_self]

end

section
variable (m : (ℓ : Loc nD τ sig) → Buf (Elt Ideal) ℓ)

/-- A part's product, entry by entry. -/
theorem part_at (x0 : Vec Ideal S1024x1024 .bf16) (x1 : Vec Ideal S1024x512 .bf16) (r : Fin 1024) (l : Fin 512) :
    k0_pay1 x0 x1 (ix2 r l) = ∑ k : Fin 1024, x0 (ix2 r k) * x1 (ix2 k l) := by
  unfold k0_pay1
  rw [shapeCast_self]
  pointwise

theorem at0 : ∀ t : Fin cfg0.N, win0_0.index t = ![t.val / 4, 0] := (by decide +kernel : ∀ t : Fin grid0.N, _)
theorem at1 : ∀ t : Fin cfg0.N, win0_1.index t = ![0, t.val % 4] := (by decide +kernel : ∀ t : Fin grid0.N, _)
theorem at2 : ∀ t : Fin cfg0.N, win0_2.index t = ![t.val / 4, t.val % 4] := (by decide +kernel : ∀ t : Fin grid0.N, _)

/-- The weights the call takes are the argument's, turned over. -/
theorem turned (c : Dev nD) (r l : ℕ) : entry (V m c main_v0) r l = entry (V m c main_arg1) l r := by
  have h : V m c main_v0 = transpose S1024x2048 [1, 0] (V m c main_arg1) transposes_S2048x1024_S1024x2048_1_0 := by
    rw [V_main_arg1]
    unfold V hostOps0
    after_results
  refine entry_turn _ _ (fun i j => ?_) r l
  rw [h]
  exact transpose_apply [1, 0] _ transposes_S2048x1024_S1024x2048_1_0 (ix2 j i) (ix2 i j) (fun b => match b with
    | ⟨0, _⟩ => rfl
    | ⟨1, _⟩ => rfl)

theorem left_at (c : Dev nD) (t : Fin cfg0.N) (r : Fin 1024) (k : Fin 1024) : iblk m c 0 t (ix2 r k)
    = entry (V m c main_arg0) (t.val / 4 * 1024 + r.val) k.val := by
  blk_simp [iblk]; rw [entry_at (V m c main_arg0)]; blk_simp [at0]

theorem right_at (c : Dev nD) (t : Fin cfg0.N) (k : Fin 1024) (l : Fin 512) : iblk m c 1 t (ix2 k l)
    = entry (V m c main_arg1) (t.val % 4 * 512 + l.val) k.val := by
  rw [← turned]
  blk_simp [iblk]; rw [entry_at (V m c main_v0)]; blk_simp [at1]

/-- A stored block's entry is the whole sum. -/
theorem block_at (c : Dev nD) (t : Fin cfg0.N) (r : Fin 1024) (l : Fin 512) : outsAt0 m c t (ix2 r l)
    = ∑ k : Fin 1024, entry (V m c main_arg0) (t.val / 4 * 1024 + r.val) k.val * entry (V m c main_arg1) (t.val % 4 * 512 + l.val) k.val := by
  rw [outsAt0]
  rw [stored, part_at]
  simp only [left_at, right_at]

/-- The whole product. -/
theorem final (c : Dev nD) : (dats m 0 c).arrAt 2 cfg0.N = along (V m c main_arg0) (V m c main_arg1) := by
  refine (dats m 0 c).arrAt_eq_of_covers 2 _ (by decide +kernel) fun t hf y => ?_
  obtain ⟨r, l, rfl⟩ : ∃ (r : Fin 1024) (l : Fin 512), y = ix2 r l := split y
  blk_simp [at2, along]
  rw [after0_2]
  exact block_at m c t r l

end

/-- The reference's output projection's input gradient is the same product. -/
theorem reference_at (x : S4096x1024.Idx → EReal) (y : S2048x1024.Idx → EReal) :
    Cert.Reference9Ideal.Read.val_main_v4 (F := Ideal) x y = along x y := by
  funext i
  rw [Cert.Reference9Ideal.Read.val_main_v4_apply]
  refine Finset.sum_congr rfl fun k _ => ?_
  exact congrArg₂ (· * ·) (entry_at x _) (entry_at y _)

/-- The two programs have the same kernel bodies. -/
theorem bodies : Cert.Kernel9.defs (F := Bits) = defs (F := Bits) := by
  refine congrArg (Pipeline.defs Cert.Kernel9.pcfgs) (congrArg Defs.onTc (funext fun l => funext fun a => ?_))
  match l, a with
  | 0, (t, s) => rfl

theorem frame_bits : Cert.quiescent_Kernel9 := fun m ρ _ => bodies ▸ Gen.frame (F := Bits) m ρ

theorem frame_ideal : Cert.quiescent_Kernel9Ideal := fun m ρ _ => Gen.frame m ρ

theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The call's value is the reference's. -/
theorem value : Cert.algebraic_Kernel9Ideal_Reference9Ideal := by
  intro m ρ m' ρ' _ h
  refine ⟨_, run_blocks m ρ, (θ_run _ _ _).mono (fun r hr c => ⟨?_, (hr c).2⟩) (Cert.Reference9Ideal.Value.run (F := Ideal) m' ρ')⟩
  rw [(hr c).1, Cert.Reference9Ideal.Read.val_main_v4_eq, (h c).1, (h c).2, reference_at]
  rw [final, V_main_arg0, V_main_arg1]

end Cert.Kernel9Ideal.Read

end
-- ==== Proof.OutProjection.lean ====
/- The output projection over its residual: each block of the call's result is the product of the blocks it takes. -/
module

public import proofs.«01_k».proof.Proof.Product
public import proofs.«01_k».proof.Defs
public import proofs.«01_k».proof.Proof.Gen.Kernel10
public import proofs.«01_k».proof.Proof.Gen.Kernel10Ideal.Value
public import proofs.«01_k».proof.Proof.Gen.Reference10Ideal.Read

@[expose] public section

set_option maxRecDepth 16384

noncomputable section

namespace Cert.Kernel10Ideal.Read

open Cert.Kernel10Ideal Cert.Kernel10Ideal.Gen Cert.Kernel10Ideal.Value Cert.Product
open Idealize.ShloMosaic Idealize.ShloMosaic.TcCoe Idealize.ShloMosaic.Tactic Idealize.SL.Sem

section
variable {F : FTy → Type} [FloatOps F]

/-- The block stored is the product of the blocks read. -/
theorem stored (c : Dev nD) (i : grid0.Coords) (a3 : Memref sig .tc .vmem S1024x2048 .bf16) (h3 : a3.IsWhole)
    (a4 : Memref sig .tc .vmem S2048x512 .bf16) (h4 : a4.IsWhole)
    (a5 : Memref sig .tc .vmem S1024x512 .f32) (h5 : a5.IsWhole)
    (a6 : Memref sig .tc .vmem S1024x512 .f32) (h6 : a6.IsWhole)
    (a7 : Memref sig .tc .vmem S1024x512 .f32) (h7 : a7.IsWhole)
    (x0 : Vec F S1024x2048 .bf16) (x1 : Vec F S2048x512 .bf16) (x2 : Vec F S1024x512 .f32) :
    out0_A_3 c i a3 h3 a4 h4 a5 h5 a6 h6 a7 h7 x0 x1 x2 = k0_pay1 x0 x1 x2 := by
  unfold out0_A_3
  rw [View.read_writes_eq_canon _ _ _ (cover0_A_3 c i a3 h3 a4 h4 a5 h5 a6 h6 a7 h7 x0 x1 x2)]
  unfold kernelRun0_A
  dsimp only
  rw [View.canon_unit_zero zero2]
  simp only [View.readAt_eq_ld, h3.read_unread, h4.read_unread, h5.read_unread,
    View.ld_unit_zero (S := S1024x2048) zero2, View.ld_unit_zero (S := S2048x512) zero2, View.ld_unit_zero (S := S1024x512) zero2, shapeCast_self]

end

section
variable (m : (ℓ : Loc nD τ sig) → Buf (Elt Ideal) ℓ)

/-- A part's product, entry by entry. -/
theorem part_at (x0 : Vec Ideal S1024x2048 .bf16) (x1 : Vec Ideal S2048x512 .bf16) (x2 : Vec Ideal S1024x512 .f32) (r : Fin 1024) (l : Fin 512) :
    k0_pay1 x0 x1 x2 (ix2 r l) = x2 (ix2 r l) + ∑ k : Fin 2048, x0 (ix2 r k) * x1 (ix2 k l) := by
  unfold k0_pay1
  pointwise

theorem at0 : ∀ t : Fin cfg0.N, win0_0.index t = ![t.val / 2, 0] := (by decide +kernel : ∀ t : Fin grid0.N, _)
theorem at1 : ∀ t : Fin cfg0.N, win0_1.index t = ![0, t.val % 2] := (by decide +kernel : ∀ t : Fin grid0.N, _)
theorem at2 : ∀ t : Fin cfg0.N, win0_2.index t = ![t.val / 2, t.val % 2] := (by decide +kernel : ∀ t : Fin grid0.N, _)
theorem at3 : ∀ t : Fin cfg0.N, win0_3.index t = ![t.val / 2, t.val % 2] := (by decide +kernel : ∀ t : Fin grid0.N, _)

theorem left_at (c : Dev nD) (t : Fin cfg0.N) (r : Fin 1024) (k : Fin 2048) : iblk m c 0 t (ix2 r k)
    = entry (V m c main_arg0) (t.val / 2 * 1024 + r.val) k.val := by
  blk_simp [iblk]; rw [entry_at (V m c main_arg0)]; blk_simp [at0]

theorem right_at (c : Dev nD) (t : Fin cfg0.N) (k : Fin 2048) (l : Fin 512) : iblk m c 1 t (ix2 k l)
    = entry (V m c main_arg1) k.val (t.val % 2 * 512 + l.val) := by
  blk_simp [iblk]; rw [entry_at (V m c main_arg1)]; blk_simp [at1]

theorem added_at (c : Dev nD) (t : Fin cfg0.N) (r : Fin 1024) (l : Fin 512) : iblk m c 2 t (ix2 r l)
    = entry (V m c main_arg2) (t.val / 2 * 1024 + r.val) (t.val % 2 * 512 + l.val) := by
  blk_simp [iblk]; rw [entry_at (V m c main_arg2)]; blk_simp [at2]

/-- A stored block's entry is the whole sum. -/
theorem block_at (c : Dev nD) (t : Fin cfg0.N) (r : Fin 1024) (l : Fin 512) : outsAt0 m c t (ix2 r l)
    = entry (V m c main_arg2) (t.val / 2 * 1024 + r.val) (t.val % 2 * 512 + l.val) + ∑ k : Fin 2048, entry (V m c main_arg0) (t.val / 2 * 1024 + r.val) k.val * entry (V m c main_arg1) k.val (t.val % 2 * 512 + l.val) := by
  rw [outsAt0]
  rw [stored, part_at]
  simp only [left_at, right_at, added_at]

/-- The whole product. -/
theorem final (c : Dev nD) : (dats m 0 c).arrAt 3 cfg0.N = plus (V m c main_arg2) (times (V m c main_arg0) (V m c main_arg1)) := by
  refine (dats m 0 c).arrAt_eq_of_covers 3 _ (by decide +kernel) fun t hf y => ?_
  obtain ⟨r, l, rfl⟩ : ∃ (r : Fin 1024) (l : Fin 512), y = ix2 r l := split y
  blk_simp [at3, times, plus]
  rw [after0_3]
  exact block_at m c t r l

end

/-- The reference's output projection over its residual is the same product. -/
theorem reference_at (x : S4096x2048.Idx → EReal) (y : S2048x1024.Idx → EReal) (z : S4096x1024.Idx → EReal) :
    Cert.Reference10Ideal.Read.val_main_v3 (F := Ideal) x y z = plus z (times x y) := by
  funext i
  rw [Cert.Reference10Ideal.Read.val_main_v3_apply, Cert.Reference10Ideal.Read.val_main_v2_apply]
  refine congrArg₂ (· + ·) (entry_at z _) (Finset.sum_congr rfl fun k _ => ?_)
  exact congrArg₂ (· * ·) (entry_at x _) (entry_at y _)

/-- The two programs have the same kernel bodies. -/
theorem bodies : Cert.Kernel10.defs (F := Bits) = defs (F := Bits) := by
  refine congrArg (Pipeline.defs Cert.Kernel10.pcfgs) (congrArg Defs.onTc (funext fun l => funext fun a => ?_))
  match l, a with
  | 0, (t, s) => rfl

theorem frame_bits : Cert.quiescent_Kernel10 := fun m ρ _ => bodies ▸ Gen.frame (F := Bits) m ρ

theorem frame_ideal : Cert.quiescent_Kernel10Ideal := fun m ρ _ => Gen.frame m ρ

theorem frame_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- The call's value is the reference's. -/
theorem value : Cert.algebraic_Kernel10Ideal_Reference10Ideal := by
  intro m ρ m' ρ' _ h
  refine ⟨_, run_blocks m ρ, (θ_run _ _ _).mono (fun r hr c => ⟨?_, (hr c).2⟩) (Cert.Reference10Ideal.Value.run (F := Ideal) m' ρ')⟩
  rw [(hr c).1, Cert.Reference10Ideal.Read.val_main_v3_eq, (h c).1, (h c).2.1, (h c).2.2, reference_at]
  exact (final m c).symm

end Cert.Kernel10Ideal.Read

end
-- ==== Proof.WeightMem.lean ====
/- The memory projection's weight gradient: each block of the call's result is the product of the blocks it takes. -/
module

public import proofs.«01_k».proof.Proof.Product
public import proofs.«01_k».proof.Defs
public import proofs.«01_k».proof.Proof.Gen.Kernel11
public import proofs.«01_k».proof.Proof.Gen.Kernel11Ideal.Value
public import proofs.«01_k».proof.Proof.Gen.Reference11Ideal.Read

@[expose] public section

set_option maxRecDepth 16384

noncomputable section

namespace Cert.Kernel11Ideal.Read

open Cert.Kernel11Ideal Cert.Kernel11Ideal.Gen Cert.Kernel11Ideal.Value Cert.Product
open Idealize.ShloMosaic Idealize.ShloMosaic.TcCoe Idealize.ShloMosaic.Tactic Idealize.SL.Sem

section
variable {F : FTy → Type} [FloatOps F]

/-- The block stored is the product of the blocks read. -/
theorem stored (c : Dev nD) (i : grid0.Coords) (a3 : Memref sig .tc .vmem S512x1024 .bf16) (h3 : a3.IsWhole)
    (a4 : Memref sig .tc .vmem S512x512 .f32) (h4 : a4.IsWhole)
    (a5 : Memref sig .tc .vmem S1024x512 .f32) (h5 : a5.IsWhole)
    (a6 : Memref sig .tc .vmem S1024x512 .bf16) (h6 : a6.IsWhole)
    (a7 : Memref sig .tc .vmem S1024x512 .f32) (h7 : a7.IsWhole)
    (x0 : Vec F S512x1024 .bf16) (x1 : Vec F S512x512 .f32) :
    out0_A_2 c i a3 h3 a4 h4 a5 h5 a6 h6 a7 h7 x0 x1 = k0_pay1 x0 x1 := by
  unfold out0_A_2
  rw [View.read_writes_eq_canon _ _ _ (cover0_A_2 c i a3 h3 a4 h4 a5 h5 a6 h6 a7 h7 x0 x1)]
  unfold kernelRun0_A
  dsimp only
  rw [View.canon_unit_zero zero2]
  simp only [View.readAt_eq_ld, h3.read_unread, h4.read_unread,
    View.ld_unit_zero (S := S512x1024) zero2, View.ld_unit_zero (S := S512x512) zero2, View.ld_unit_zero (S := S1024x512) zero2, shapeCast_self]

/-- The second result stores the same block, rounded. -/
theorem stored_half (c : Dev nD) (i : grid0.Coords) (a3 : Memref sig .tc .vmem S512x1024 .bf16) (h3 : a3.IsWhole)
    (a4 : Memref sig .tc .vmem S512x512 .f32) (h4 : a4.IsWhole)
    (a5 : Memref sig .tc .vmem S1024x512 .f32) (h5 : a5.IsWhole)
    (a6 : Memref sig .tc .vmem S1024x512 .bf16) (h6 : a6.IsWhole)
    (a7 : Memref sig .tc .vmem S1024x512 .f32) (h7 : a7.IsWhole)
    (x0 : Vec F S512x1024 .bf16) (x1 : Vec F S512x512 .f32) :
    out0_A_3 c i a3 h3 a4 h4 a5 h5 a6 h6 a7 h7 x0 x1 = truncf .bf16 (k0_pay1 x0 x1) bitsLt_bf16_f32 := by
  unfold out0_A_3
  rw [View.read_writes_eq_canon _ _ _ (cover0_A_3 c i a3 h3 a4 h4 a5 h5 a6 h6 a7 h7 x0 x1)]
  unfold kernelRun0_A
  dsimp only
  rw [View.canon_unit_zero zero2]
  unfold k0_pay2
  simp only [View.readAt_eq_ld, h3.read_unread, h4.read_unread,
    View.ld_unit_zero (S := S512x1024) zero2, View.ld_unit_zero (S := S512x512) zero2, View.ld_unit_zero (S := S1024x512) zero2, shapeCast_self]

end

section
variable (m : (ℓ : Loc nD τ sig) → Buf (Elt Ideal) ℓ)

/-- A part's product, entry by entry. -/
theorem part_at (x0 : Vec Ideal S512x1024 .bf16) (x1 : Vec Ideal S512x512 .f32) (r : Fin 1024) (l : Fin 512) :
    k0_pay1 x0 x1 (ix2 r l) = ∑ k : Fin 512, x0 (ix2 k r) * x1 (ix2 k l) := by
  unfold k0_pay1
  pointwise

theorem at0 : ∀ t : Fin cfg0.N, win0_0.index t = ![0, t.val / 2] := (by decide +kernel : ∀ t : Fin grid0.N, _)
theorem at1 : ∀ t : Fin cfg0.N, win0_1.index t = ![0, t.val % 2] := (by decide +kernel : ∀ t : Fin grid0.N, _)
theorem at2 : ∀ t : Fin cfg0.N, win0_2.index t = ![t.val / 2, t.val % 2] := (by decide +kernel : ∀ t : Fin grid0.N, _)
theorem at3 : ∀ t : Fin cfg0.N, win0_3.index t = ![t.val / 2, t.val % 2] := (by decide +kernel : ∀ t : Fin grid0.N, _)

theorem left_at (c : Dev nD) (t : Fin cfg0.N) (k : Fin 512) (r : Fin 1024) : iblk m c 0 t (ix2 k r)
    = entry (V m c main_arg0) k.val (t.val / 2 * 1024 + r.val) := by
  blk_simp [iblk]; rw [entry_at (V m c main_arg0)]; blk_simp [at0]

theorem right_at (c : Dev nD) (t : Fin cfg0.N) (k : Fin 512) (l : Fin 512) : iblk m c 1 t (ix2 k l)
    = entry (V m c main_arg1) k.val (t.val % 2 * 512 + l.val) := by
  blk_simp [iblk]; rw [entry_at (V m c main_arg1)]; blk_simp [at1]

/-- A stored block's entry is the whole sum. -/
theorem block_at (c : Dev nD) (t : Fin cfg0.N) (r : Fin 1024) (l : Fin 512) : (outsAt0 m c t).1 (ix2 r l)
    = ∑ k : Fin 512, entry (V m c main_arg0) k.val (t.val / 2 * 1024 + r.val) * entry (V m c main_arg1) k.val (t.val % 2 * 512 + l.val) := by
  rw [outsAt0]
  dsimp only
  rw [stored, part_at]
  simp only [left_at, right_at]

/-- The rounded block's entry is the same sum. -/
theorem half_at (c : Dev nD) (t : Fin cfg0.N) (r : Fin 1024) (l : Fin 512) : (outsAt0 m c t).2 (ix2 r l) = (outsAt0 m c t).1 (ix2 r l) := by
  rw [outsAt0]
  dsimp only
  rw [stored, stored_half]
  rfl

/-- The whole product. -/
theorem final (c : Dev nD) : (dats m 0 c).arrAt 2 cfg0.N = across (V m c main_arg0) (V m c main_arg1) := by
  refine (dats m 0 c).arrAt_eq_of_covers 2 _ (by decide +kernel) fun t hf y => ?_
  obtain ⟨r, l, rfl⟩ : ∃ (r : Fin 1024) (l : Fin 512), y = ix2 r l := split y
  blk_simp [at2, across]
  rw [after0_2]
  exact block_at m c t r l

/-- The rounded result is the same product. -/
theorem final_half (c : Dev nD) : (dats m 0 c).arrAt 3 cfg0.N = across (V m c main_arg0) (V m c main_arg1) := by
  refine (dats m 0 c).arrAt_eq_of_covers 3 _ (by decide +kernel) fun t hf y => ?_
  obtain ⟨r, l, rfl⟩ : ∃ (r : Fin 1024) (l : Fin 512), y = ix2 r l := split y
  blk_simp [at3, across]
  rw [after0_3]
  rw [half_at m c t]; exact block_at m c t r l

end

/-- The reference's memory projection's weight gradient is the same product. -/
theorem reference_at (x : S512x1024.Idx → EReal) (y : S512x1024.Idx → EReal) :
    Cert.Reference11Ideal.Read.val_main_v4 (F := Ideal) x y = across x y := by
  funext i
  rw [Cert.Reference11Ideal.Read.val_main_v4_apply, Cert.Reference11Ideal.Read.val_main_v3_apply]
  refine Finset.sum_congr rfl fun k _ => ?_
  rw [mul_comm]
  exact congrArg₂ (· * ·) (entry_at x _) (entry_at y _)

/-- The two programs have the same kernel bodies. -/
theorem bodies : Cert.Kernel11.defs (F := Bits) = defs (F := Bits) := by
  refine congrArg (Pipeline.defs Cert.Kernel11.pcfgs) (congrArg Defs.onTc (funext fun l => funext fun a => ?_))
  match l, a with
  | 0, (t, s) => rfl

theorem frame_bits : Cert.quiescent_Kernel11 := fun m ρ _ => bodies ▸ Gen.frame (F := Bits) m ρ

theorem frame_ideal : Cert.quiescent_Kernel11Ideal := fun m ρ _ => Gen.frame m ρ

theorem frame_reference : Cert.quiescent_Reference11Ideal := fun m ρ _ =>
  (θ_run Cert.Reference11Ideal.defs _ _).mono (fun r h => ⟨fun c => (h c).2.2, sem_eq_zero_of_no_sems (by decide) r.2⟩)
    (Cert.Reference11Ideal.Value.run (F := Ideal) m ρ)

/-- The call's value is the reference's. -/
theorem value : Cert.algebraic_Kernel11Ideal_Reference11Ideal := by
  intro m ρ m' ρ' _ h
  refine ⟨_, _, run_blocks m ρ, (θ_run _ _ _).mono (fun r hr c => ⟨?_, ?_, (hr c).2.2⟩) (Cert.Reference11Ideal.Value.run (F := Ideal) m' ρ')⟩
  · rw [(hr c).1, Cert.Reference11Ideal.Read.val_main_v4_eq, (h c).1, (h c).2, reference_at]
    exact (final m c).symm
  · rw [(hr c).2.1, Cert.Reference11Ideal.Read.val_main_v5_eq, (h c).1, (h c).2]
    exact (reference_at _ _).trans (final_half m c).symm

end Cert.Kernel11Ideal.Read

end
-- ==== Proof.InputMem.lean ====
/- The memory projection's input gradient: each block of the call's result is the product of the blocks it takes. -/
module

public import proofs.«01_k».proof.Proof.Product
public import proofs.«01_k».proof.Defs
public import proofs.«01_k».proof.Proof.Gen.Kernel12
public import proofs.«01_k».proof.Proof.Gen.Kernel12Ideal.Value
public import proofs.«01_k».proof.Proof.Gen.Reference12Ideal.Read

@[expose] public section

set_option maxRecDepth 16384

noncomputable section

namespace Cert.Kernel12Ideal.Read

open Cert.Kernel12Ideal Cert.Kernel12Ideal.Gen Cert.Kernel12Ideal.Value Cert.Product
open Idealize.ShloMosaic Idealize.ShloMosaic.TcCoe Idealize.ShloMosaic.Tactic Idealize.SL.Sem

section
variable {F : FTy → Type} [FloatOps F]

/-- The block stored is the product of the blocks read. -/
theorem stored (c : Dev nD) (i : grid0.Coords) (a3 : Memref sig .tc .vmem S512x1024 .f32) (h3 : a3.IsWhole)
    (a4 : Memref sig .tc .vmem S1024x512 .bf16) (h4 : a4.IsWhole)
    (a5 : Memref sig .tc .vmem S512x512 .f32) (h5 : a5.IsWhole)
    (a6 : Memref sig .tc .vmem S512x512 .f32) (h6 : a6.IsWhole)
    (x0 : Vec F S512x1024 .f32) (x1 : Vec F S1024x512 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero zero2]
  simp only [View.readAt_eq_ld, h3.read_unread, h4.read_unread,
    View.ld_unit_zero (S := S512x1024) zero2, View.ld_unit_zero (S := S1024x512) zero2, View.ld_unit_zero (S := S512x512) zero2, shapeCast_self]

end

section
variable (m : (ℓ : Loc nD τ sig) → Buf (Elt Ideal) ℓ)

/-- A part's product, entry by entry. -/
theorem part_at (x0 : Vec Ideal S512x1024 .f32) (x1 : Vec Ideal S1024x512 .bf16) (r : Fin 512) (l : Fin 512) :
    k0_pay1 x0 x1 (ix2 r l) = ∑ k : Fin 1024, x0 (ix2 r k) * x1 (ix2 k l) := by
  unfold k0_pay1
  rw [shapeCast_self]
  pointwise

theorem at0 : ∀ t : Fin cfg0.N, win0_0.index t = ![t.val / 2, 0] := (by decide +kernel : ∀ t : Fin grid0.N, _)
theorem at1 : ∀ t : Fin cfg0.N, win0_1.index t = ![0, t.val % 2] := (by decide +kernel : ∀ t : Fin grid0.N, _)
theorem at2 : ∀ t : Fin cfg0.N, win0_2.index t = ![t.val / 2, t.val % 2] := (by decide +kernel : ∀ t : Fin grid0.N, _)

/-- The weights the call takes are the argument's, turned over. -/
theorem turned (c : Dev nD) (r l : ℕ) : entry (V m c main_v0) r l = entry (V m c main_arg1) l r := by
  have h : V m c main_v0 = transpose S1024x1024 [1, 0] (V m c main_arg1) transposes_S1024x1024_S1024x1024_1_0 := by
    rw [V_main_arg1]
    unfold V hostOps0
    after_results
  refine entry_turn _ _ (fun i j => ?_) r l
  rw [h]
  exact transpose_apply [1, 0] _ transposes_S1024x1024_S1024x1024_1_0 (ix2 j i) (ix2 i j) (fun b => match b with
    | ⟨0, _⟩ => rfl
    | ⟨1, _⟩ => rfl)

theorem left_at (c : Dev nD) (t : Fin cfg0.N) (r : Fin 512) (k : Fin 1024) : iblk m c 0 t (ix2 r k)
    = entry (V m c main_arg0) (t.val / 2 * 512 + r.val) k.val := by
  blk_simp [iblk]; rw [entry_at (V m c main_arg0)]; blk_simp [at0]

theorem right_at (c : Dev nD) (t : Fin cfg0.N) (k : Fin 1024) (l : Fin 512) : iblk m c 1 t (ix2 k l)
    = entry (V m c main_arg1) (t.val % 2 * 512 + l.val) k.val := by
  rw [← turned]
  blk_simp [iblk]; rw [entry_at (V m c main_v0)]; blk_simp [at1]

/-- A stored block's entry is the whole sum. -/
theorem block_at (c : Dev nD) (t : Fin cfg0.N) (r : Fin 512) (l : Fin 512) : outsAt0 m c t (ix2 r l)
    = ∑ k : Fin 1024, entry (V m c main_arg0) (t.val / 2 * 512 + r.val) k.val * entry (V m c main_arg1) (t.val % 2 * 512 + l.val) k.val := by
  rw [outsAt0]
  rw [stored, part_at]
  simp only [left_at, right_at]

/-- The whole product. -/
theorem final (c : Dev nD) : (dats m 0 c).arrAt 2 cfg0.N = along (V m c main_arg0) (V m c main_arg1) := by
  refine (dats m 0 c).arrAt_eq_of_covers 2 _ (by decide +kernel) fun t hf y => ?_
  obtain ⟨r, l, rfl⟩ : ∃ (r : Fin 512) (l : Fin 512), y = ix2 r l := split y
  blk_simp [at2, along]
  rw [after0_2]
  exact block_at m c t r l

end

/-- The reference's memory projection's input gradient is the same product. -/
theorem reference_at (x : S512x1024.Idx → EReal) (y : S1024x1024.Idx → EReal) :
    Cert.Reference12Ideal.Read.val_main_v3 (F := Ideal) x y = along x y := by
  funext i
  rw [Cert.Reference12Ideal.Read.val_main_v3_apply]
  refine Finset.sum_congr rfl fun k _ => ?_
  exact congrArg₂ (· * ·) (entry_at x _) (entry_at y _)

/-- The two programs have the same kernel bodies. -/
theorem bodies : Cert.Kernel12.defs (F := Bits) = defs (F := Bits) := by
  refine congrArg (Pipeline.defs Cert.Kernel12.pcfgs) (congrArg Defs.onTc (funext fun l => funext fun a => ?_))
  match l, a with
  | 0, (t, s) => rfl

theorem frame_bits : Cert.quiescent_Kernel12 := fun m ρ _ => bodies ▸ Gen.frame (F := Bits) m ρ

theorem frame_ideal : Cert.quiescent_Kernel12Ideal := fun m ρ _ => Gen.frame m ρ

theorem frame_reference : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- The call's value is the reference's. -/
theorem value : Cert.algebraic_Kernel12Ideal_Reference12Ideal := by
  intro m ρ m' ρ' _ h
  refine ⟨_, run_blocks m ρ, (θ_run _ _ _).mono (fun r hr c => ⟨?_, (hr c).2⟩) (Cert.Reference12Ideal.Value.run (F := Ideal) m' ρ')⟩
  rw [(hr c).1, Cert.Reference12Ideal.Read.val_main_v3_eq, (h c).1, (h c).2, reference_at]
  rw [final, V_main_arg0, V_main_arg1]

end Cert.Kernel12Ideal.Read

end
-- ==== Proof.MemProjection.lean ====
/- The memory projection: each block of the call's result is the product of the blocks it takes. -/
module

public import proofs.«01_k».proof.Proof.Product
public import proofs.«01_k».proof.Defs
public import proofs.«01_k».proof.Proof.Gen.Kernel13
public import proofs.«01_k».proof.Proof.Gen.Kernel13Ideal.Value
public import proofs.«01_k».proof.Proof.Gen.Reference13Ideal.Read

@[expose] public section

set_option maxRecDepth 16384

noncomputable section

namespace Cert.Kernel13Ideal.Read

open Cert.Kernel13Ideal Cert.Kernel13Ideal.Gen Cert.Kernel13Ideal.Value Cert.Product
open Idealize.ShloMosaic Idealize.ShloMosaic.TcCoe Idealize.ShloMosaic.Tactic Idealize.SL.Sem

section
variable {F : FTy → Type} [FloatOps F]

/-- The block stored is the product of the blocks read. -/
theorem stored (c : Dev nD) (i : grid0.Coords) (a3 : Memref sig .tc .vmem S512x1024 .bf16) (h3 : a3.IsWhole)
    (a4 : Memref sig .tc .vmem S1024x512 .bf16) (h4 : a4.IsWhole)
    (a5 : Memref sig .tc .vmem S512x512 .bf16) (h5 : a5.IsWhole)
    (a6 : Memref sig .tc .vmem S512x512 .f32) (h6 : a6.IsWhole)
    (x0 : Vec F S512x1024 .bf16) (x1 : Vec F S1024x512 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  rw [View.canon_unit_zero zero2]
  simp only [View.readAt_eq_ld, h3.read_unread, h4.read_unread,
    View.ld_unit_zero (S := S512x1024) zero2, View.ld_unit_zero (S := S1024x512) zero2, View.ld_unit_zero (S := S512x512) zero2, shapeCast_self]

end

section
variable (m : (ℓ : Loc nD τ sig) → Buf (Elt Ideal) ℓ)

/-- A part's product, entry by entry. -/
theorem part_at (x0 : Vec Ideal S512x1024 .bf16) (x1 : Vec Ideal S1024x512 .bf16) (r : Fin 512) (l : Fin 512) :
    k0_pay1 x0 x1 (ix2 r l) = ∑ k : Fin 1024, x0 (ix2 r k) * x1 (ix2 k l) := by
  unfold k0_pay1
  pointwise

theorem at0 : ∀ t : Fin cfg0.N, win0_0.index t = ![t.val / 2, 0] := (by decide +kernel : ∀ t : Fin grid0.N, _)
theorem at1 : ∀ t : Fin cfg0.N, win0_1.index t = ![0, t.val % 2] := (by decide +kernel : ∀ t : Fin grid0.N, _)
theorem at2 : ∀ t : Fin cfg0.N, win0_2.index t = ![t.val / 2, t.val % 2] := (by decide +kernel : ∀ t : Fin grid0.N, _)

theorem left_at (c : Dev nD) (t : Fin cfg0.N) (r : Fin 512) (k : Fin 1024) : iblk m c 0 t (ix2 r k)
    = entry (V m c main_arg0) (t.val / 2 * 512 + r.val) k.val := by
  blk_simp [iblk]; rw [entry_at (V m c main_arg0)]; blk_simp [at0]

theorem right_at (c : Dev nD) (t : Fin cfg0.N) (k : Fin 1024) (l : Fin 512) : iblk m c 1 t (ix2 k l)
    = entry (V m c main_arg1) k.val (t.val % 2 * 512 + l.val) := by
  blk_simp [iblk]; rw [entry_at (V m c main_arg1)]; blk_simp [at1]

/-- A stored block's entry is the whole sum. -/
theorem block_at (c : Dev nD) (t : Fin cfg0.N) (r : Fin 512) (l : Fin 512) : outsAt0 m c t (ix2 r l)
    = ∑ k : Fin 1024, entry (V m c main_arg0) (t.val / 2 * 512 + r.val) k.val * entry (V m c main_arg1) k.val (t.val % 2 * 512 + l.val) := by
  rw [outsAt0]
  rw [stored, part_at]
  simp only [left_at, right_at]

/-- The whole product. -/
theorem final (c : Dev nD) : (dats m 0 c).arrAt 2 cfg0.N = times (V m c main_arg0) (V m c main_arg1) := by
  refine (dats m 0 c).arrAt_eq_of_covers 2 _ (by decide +kernel) fun t hf y => ?_
  obtain ⟨r, l, rfl⟩ : ∃ (r : Fin 512) (l : Fin 512), y = ix2 r l := split y
  blk_simp [at2, times]
  rw [after0_2]
  exact block_at m c t r l

end

/-- The reference's memory projection is the same product. -/
theorem reference_at (x : S512x1024.Idx → EReal) (y : S1024x1024.Idx → EReal) :
    Cert.Reference13Ideal.Read.val_main_v3 (F := Ideal) x y = times x y := by
  funext i
  rw [Cert.Reference13Ideal.Read.val_main_v3_apply, Cert.Reference13Ideal.Read.val_main_v2_apply]
  refine Finset.sum_congr rfl fun k _ => ?_
  exact congrArg₂ (· * ·) (entry_at x _) (entry_at y _)

/-- The two programs have the same kernel bodies. -/
theorem bodies : Cert.Kernel13.defs (F := Bits) = defs (F := Bits) := by
  refine congrArg (Pipeline.defs Cert.Kernel13.pcfgs) (congrArg Defs.onTc (funext fun l => funext fun a => ?_))
  match l, a with
  | 0, (t, s) => rfl

theorem frame_bits : Cert.quiescent_Kernel13 := fun m ρ _ => bodies ▸ Gen.frame (F := Bits) m ρ

theorem frame_ideal : Cert.quiescent_Kernel13Ideal := fun m ρ _ => Gen.frame m ρ

theorem frame_reference : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- The call's value is the reference's. -/
theorem value : Cert.algebraic_Kernel13Ideal_Reference13Ideal := by
  intro m ρ m' ρ' _ h
  refine ⟨_, run_blocks m ρ, (θ_run _ _ _).mono (fun r hr c => ⟨?_, (hr c).2⟩) (Cert.Reference13Ideal.Value.run (F := Ideal) m' ρ')⟩
  rw [(hr c).1, Cert.Reference13Ideal.Read.val_main_v3_eq, (h c).1, (h c).2, reference_at]
  exact (final m c).symm

end Cert.Kernel13Ideal.Read

end
-- ==== Proof.WeightConv.lean ====
/- The convolution's input weights' gradient: each block of the call's result is the product of the blocks it takes,
   the right one out of the four arrays side by side that the block's column lies in. -/
module

public import proofs.«01_k».proof.Proof.Product
public import proofs.«01_k».proof.Defs
public import proofs.«01_k».proof.Proof.Gen.Kernel14
public import proofs.«01_k».proof.Proof.Gen.Kernel14Ideal.Value
public import proofs.«01_k».proof.Proof.Gen.Reference14Ideal.Read

@[expose] public section

set_option maxRecDepth 16384

noncomputable section

namespace Cert.Kernel14Ideal.Read

open Cert.Kernel14Ideal Cert.Kernel14Ideal.Gen Cert.Kernel14Ideal.Value Cert.Product
open Idealize.ShloMosaic Idealize.ShloMosaic.TcCoe Idealize.ShloMosaic.Tactic Idealize.SL.Sem

section
variable {F : FTy → Type} [FloatOps F]
variable (c : Dev nD) (i : grid0.Coords) (a3 : Memref sig .tc .vmem S2048x1024 .bf16) (h3 : a3.IsWhole)
  (a4 : Memref sig .tc .vmem S2048x512 .bf16) (h4 : a4.IsWhole) (a5 : Memref sig .tc .vmem S2048x512 .bf16) (h5 : a5.IsWhole)
  (a6 : Memref sig .tc .vmem S2048x512 .bf16) (h6 : a6.IsWhole) (a7 : Memref sig .tc .vmem S2048x512 .bf16) (h7 : a7.IsWhole)
  (a8 : Memref sig .tc .vmem S1024x512 .f32) (h8 : a8.IsWhole) (a9 : Memref sig .tc .vmem S1024x512 .bf16) (h9 : a9.IsWhole)
  (a10 : Memref sig .tc .vmem S1024x512 .f32) (h10 : a10.IsWhole)
  (x0 : Vec F S2048x1024 .bf16) (x1 x2 x3 x4 : Vec F S2048x512 .bf16) (xs : Vec F S1024x512 .f32)

/-- A column of the first array: the first step leaves the first part's product in the scratch. -/
theorem first_A (hc0 : cond0_0 i) (hc1 : cond0_1 i) (hc2 : ¬cond0_2 i) (hc3 : ¬cond0_3 i) (hc4 : ¬cond0_4 i) (hc5 : ¬cond0_5 i) (hc6 : ¬cond0_6 i) :
    sout0_A_0 c i a3 h3 a4 h4 a5 h5 a6 h6 a7 h7 a8 h8 a9 h9 a10 h10 hc0 hc1 hc2 hc3 hc4 hc5 hc6 x0 x1 x2 x3 x4 = k0_pay1 x0 x1 := by
  unfold sout0_A_0
  rw [View.read_writes_eq_canon _ _ _ (scover0_A_0 c i a3 h3 a4 h4 a5 h5 a6 h6 a7 h7 a8 h8 a9 h9 a10 h10 hc0 hc1 hc2 hc3 hc4 hc5 hc6 x0 x1 x2 x3 x4)]
  unfold kernelRun0_A
  dsimp only
  rw [View.canon_unit_zero zero2]
  unfold k0_pay2
  simp only [View.readAt_eq_ld, h3.read_unread, h4.read_unread,
    View.ld_unit_zero (S := S2048x1024) zero2, View.ld_unit_zero (S := S2048x512) zero2, View.ld_unit_zero (S := S1024x512) zero2, shapeCast_self]

/-- The last step stores the scratch with the last part's product added, -/
theorem last_B (hc0 : cond0_0 i) (hc1 : ¬cond0_1 i) (hc2 : ¬cond0_2 i) (hc3 : cond0_3 i) (hc4 : ¬cond0_4 i) (hc5 : ¬cond0_5 i) (hc6 : ¬cond0_6 i) :
    out0_B_5 c i a3 h3 a4 h4 a5 h5 a6 h6 a7 h7 a8 h8 a9 h9 a10 h10 hc0 hc1 hc2 hc3 hc4 hc5 hc6 x0 x1 x2 x3 x4 xs = addf xs (k0_pay1 x0 x1) := by
  unfold out0_B_5
  rw [View.read_writes_eq_canon _ _ _ (cover0_B_5 c i a3 h3 a4 h4 a5 h5 a6 h6 a7 h7 a8 h8 a9 h9 a10 h10 hc0 hc1 hc2 hc3 hc4 hc5 hc6 x0 x1 x2 x3 x4 xs)]
  unfold kernelRun0_B
  dsimp only
  rw [View.canon_unit_zero zero2]
  unfold k0_pay4
  simp only [View.readAt_eq_ld, h3.read_unread, h4.read_unread, h10.read_unread,
    View.ld_unit_zero (S := S2048x1024) zero2, View.ld_unit_zero (S := S2048x512) zero2, View.ld_unit_zero (S := S1024x512) zero2, shapeCast_self]

/-- and the same block rounded. -/
theorem half_B (hc0 : cond0_0 i) (hc1 : ¬cond0_1 i) (hc2 : ¬cond0_2 i) (hc3 : cond0_3 i) (hc4 : ¬cond0_4 i) (hc5 : ¬cond0_5 i) (hc6 : ¬cond0_6 i) :
    out0_B_6 c i a3 h3 a4 h4 a5 h5 a6 h6 a7 h7 a8 h8 a9 h9 a10 h10 hc0 hc1 hc2 hc3 hc4 hc5 hc6 x0 x1 x2 x3 x4 xs = truncf .bf16 (addf xs (k0_pay1 x0 x1)) bitsLt_bf16_f32 := by
  unfold out0_B_6
  rw [View.read_writes_eq_canon _ _ _ (cover0_B_6 c i a3 h3 a4 h4 a5 h5 a6 h6 a7 h7 a8 h8 a9 h9 a10 h10 hc0 hc1 hc2 hc3 hc4 hc5 hc6 x0 x1 x2 x3 x4 xs)]
  unfold kernelRun0_B
  dsimp only
  rw [View.canon_unit_zero zero2]
  unfold k0_pay5 k0_pay4
  simp only [View.readAt_eq_ld, h3.read_unread, h4.read_unread, h10.read_unread,
    View.ld_unit_zero (S := S2048x1024) zero2, View.ld_unit_zero (S := S2048x512) zero2, View.ld_unit_zero (S := S1024x512) zero2, shapeCast_self]

/-- A column of the second array: the first step leaves the first part's product in the scratch. -/
theorem first_C (hc0 : ¬cond0_0 i) (hc4 : cond0_4 i) (hc5 : ¬cond0_5 i) (hc6 : ¬cond0_6 i) (hc7 : cond0_7 i) (hc8 : ¬cond0_8 i) (hc9 : ¬cond0_9 i) :
    sout0_C_0 c i a3 h3 a4 h4 a5 h5 a6 h6 a7 h7 a8 h8 a9 h9 a10 h10 hc0 hc4 hc5 hc6 hc7 hc8 hc9 x0 x1 x2 x3 x4 = k0_pay1 x0 x2 := by
  unfold sout0_C_0
  rw [View.read_writes_eq_canon _ _ _ (scover0_C_0 c i a3 h3 a4 h4 a5 h5 a6 h6 a7 h7 a8 h8 a9 h9 a10 h10 hc0 hc4 hc5 hc6 hc7 hc8 hc9 x0 x1 x2 x3 x4)]
  unfold kernelRun0_C
  dsimp only
  rw [View.canon_unit_zero zero2]
  unfold k0_pay7
  simp only [View.readAt_eq_ld, h3.read_unread, h5.read_unread,
    View.ld_unit_zero (S := S2048x1024) zero2, View.ld_unit_zero (S := S2048x512) zero2, View.ld_unit_zero (S := S1024x512) zero2, shapeCast_self]
  rfl

/-- The last step stores the scratch with the last part's product added, -/
theorem last_D (hc0 : ¬cond0_0 i) (hc4 : cond0_4 i) (hc5 : ¬cond0_5 i) (hc6 : ¬cond0_6 i) (hc7 : ¬cond0_7 i) (hc8 : ¬cond0_8 i) (hc9 : cond0_9 i) :
    out0_D_5 c i a3 h3 a4 h4 a5 h5 a6 h6 a7 h7 a8 h8 a9 h9 a10 h10 hc0 hc4 hc5 hc6 hc7 hc8 hc9 x0 x1 x2 x3 x4 xs = addf xs (k0_pay1 x0 x2) := by
  unfold out0_D_5
  rw [View.read_writes_eq_canon _ _ _ (cover0_D_5 c i a3 h3 a4 h4 a5 h5 a6 h6 a7 h7 a8 h8 a9 h9 a10 h10 hc0 hc4 hc5 hc6 hc7 hc8 hc9 x0 x1 x2 x3 x4 xs)]
  unfold kernelRun0_D
  dsimp only
  rw [View.canon_unit_zero zero2]
  unfold k0_pay9
  simp only [View.readAt_eq_ld, h3.read_unread, h5.read_unread, h10.read_unread,
    View.ld_unit_zero (S := S2048x1024) zero2, View.ld_unit_zero (S := S2048x512) zero2, View.ld_unit_zero (S := S1024x512) zero2, shapeCast_self]
  rfl

/-- and the same block rounded. -/
theorem half_D (hc0 : ¬cond0_0 i) (hc4 : cond0_4 i) (hc5 : ¬cond0_5 i) (hc6 : ¬cond0_6 i) (hc7 : ¬cond0_7 i) (hc8 : ¬cond0_8 i) (hc9 : cond0_9 i) :
    out0_D_6 c i a3 h3 a4 h4 a5 h5 a6 h6 a7 h7 a8 h8 a9 h9 a10 h10 hc0 hc4 hc5 hc6 hc7 hc8 hc9 x0 x1 x2 x3 x4 xs = truncf .bf16 (addf xs (k0_pay1 x0 x2)) bitsLt_bf16_f32 := by
  unfold out0_D_6
  rw [View.read_writes_eq_canon _ _ _ (cover0_D_6 c i a3 h3 a4 h4 a5 h5 a6 h6 a7 h7 a8 h8 a9 h9 a10 h10 hc0 hc4 hc5 hc6 hc7 hc8 hc9 x0 x1 x2 x3 x4 xs)]
  unfold kernelRun0_D
  dsimp only
  rw [View.canon_unit_zero zero2]
  unfold k0_pay10 k0_pay9
  simp only [View.readAt_eq_ld, h3.read_unread, h5.read_unread, h10.read_unread,
    View.ld_unit_zero (S := S2048x1024) zero2, View.ld_unit_zero (S := S2048x512) zero2, View.ld_unit_zero (S := S1024x512) zero2, shapeCast_self]
  rfl

/-- A column of the third array: the first step leaves the first part's product in the scratch. -/
theorem first_E (hc0 : ¬cond0_0 i) (hc4 : ¬cond0_4 i) (hc5 : cond0_5 i) (hc6 : ¬cond0_6 i) (hc10 : cond0_10 i) (hc11 : ¬cond0_11 i) (hc12 : ¬cond0_12 i) :
    sout0_E_0 c i a3 h3 a4 h4 a5 h5 a6 h6 a7 h7 a8 h8 a9 h9 a10 h10 hc0 hc4 hc5 hc6 hc10 hc11 hc12 x0 x1 x2 x3 x4 = k0_pay1 x0 x3 := by
  unfold sout0_E_0
  rw [View.read_writes_eq_canon _ _ _ (scover0_E_0 c i a3 h3 a4 h4 a5 h5 a6 h6 a7 h7 a8 h8 a9 h9 a10 h10 hc0 hc4 hc5 hc6 hc10 hc11 hc12 x0 x1 x2 x3 x4)]
  unfold kernelRun0_E
  dsimp only
  rw [View.canon_unit_zero zero2]
  unfold k0_pay12
  simp only [View.readAt_eq_ld, h3.read_unread, h6.read_unread,
    View.ld_unit_zero (S := S2048x1024) zero2, View.ld_unit_zero (S := S2048x512) zero2, View.ld_unit_zero (S := S1024x512) zero2, shapeCast_self]
  rfl

/-- The last step stores the scratch with the last part's product added, -/
theorem last_F (hc0 : ¬cond0_0 i) (hc4 : ¬cond0_4 i) (hc5 : cond0_5 i) (hc6 : ¬cond0_6 i) (hc10 : ¬cond0_10 i) (hc11 : ¬cond0_11 i) (hc12 : cond0_12 i) :
    out0_F_5 c i a3 h3 a4 h4 a5 h5 a6 h6 a7 h7 a8 h8 a9 h9 a10 h10 hc0 hc4 hc5 hc6 hc10 hc11 hc12 x0 x1 x2 x3 x4 xs = addf xs (k0_pay1 x0 x3) := by
  unfold out0_F_5
  rw [View.read_writes_eq_canon _ _ _ (cover0_F_5 c i a3 h3 a4 h4 a5 h5 a6 h6 a7 h7 a8 h8 a9 h9 a10 h10 hc0 hc4 hc5 hc6 hc10 hc11 hc12 x0 x1 x2 x3 x4 xs)]
  unfold kernelRun0_F
  dsimp only
  rw [View.canon_unit_zero zero2]
  unfold k0_pay14
  simp only [View.readAt_eq_ld, h3.read_unread, h6.read_unread, h10.read_unread,
    View.ld_unit_zero (S := S2048x1024) zero2, View.ld_unit_zero (S := S2048x512) zero2, View.ld_unit_zero (S := S1024x512) zero2, shapeCast_self]
  rfl

/-- and the same block rounded. -/
theorem half_F (hc0 : ¬cond0_0 i) (hc4 : ¬cond0_4 i) (hc5 : cond0_5 i) (hc6 : ¬cond0_6 i) (hc10 : ¬cond0_10 i) (hc11 : ¬cond0_11 i) (hc12 : cond0_12 i) :
    out0_F_6 c i a3 h3 a4 h4 a5 h5 a6 h6 a7 h7 a8 h8 a9 h9 a10 h10 hc0 hc4 hc5 hc6 hc10 hc11 hc12 x0 x1 x2 x3 x4 xs = truncf .bf16 (addf xs (k0_pay1 x0 x3)) bitsLt_bf16_f32 := by
  unfold out0_F_6
  rw [View.read_writes_eq_canon _ _ _ (cover0_F_6 c i a3 h3 a4 h4 a5 h5 a6 h6 a7 h7 a8 h8 a9 h9 a10 h10 hc0 hc4 hc5 hc6 hc10 hc11 hc12 x0 x1 x2 x3 x4 xs)]
  unfold kernelRun0_F
  dsimp only
  rw [View.canon_unit_zero zero2]
  unfold k0_pay15 k0_pay14
  simp only [View.readAt_eq_ld, h3.read_unread, h6.read_unread, h10.read_unread,
    View.ld_unit_zero (S := S2048x1024) zero2, View.ld_unit_zero (S := S2048x512) zero2, View.ld_unit_zero (S := S1024x512) zero2, shapeCast_self]
  rfl

/-- A column of the fourth array: the first step leaves the first part's product in the scratch. -/
theorem first_G (hc0 : ¬cond0_0 i) (hc4 : ¬cond0_4 i) (hc5 : ¬cond0_5 i) (hc6 : cond0_6 i) (hc13 : cond0_13 i) (hc14 : ¬cond0_14 i) (hc15 : ¬cond0_15 i) :
    sout0_G_0 c i a3 h3 a4 h4 a5 h5 a6 h6 a7 h7 a8 h8 a9 h9 a10 h10 hc0 hc4 hc5 hc6 hc13 hc14 hc15 x0 x1 x2 x3 x4 = k0_pay1 x0 x4 := by
  unfold sout0_G_0
  rw [View.read_writes_eq_canon _ _ _ (scover0_G_0 c i a3 h3 a4 h4 a5 h5 a6 h6 a7 h7 a8 h8 a9 h9 a10 h10 hc0 hc4 hc5 hc6 hc13 hc14 hc15 x0 x1 x2 x3 x4)]
  unfold kernelRun0_G
  dsimp only
  rw [View.canon_unit_zero zero2]
  unfold k0_pay17
  simp only [View.readAt_eq_ld, h3.read_unread, h7.read_unread,
    View.ld_unit_zero (S := S2048x1024) zero2, View.ld_unit_zero (S := S2048x512) zero2, View.ld_unit_zero (S := S1024x512) zero2, shapeCast_self]
  rfl

/-- The last step stores the scratch with the last part's product added, -/
theorem last_H (hc0 : ¬cond0_0 i) (hc4 : ¬cond0_4 i) (hc5 : ¬cond0_5 i) (hc6 : cond0_6 i) (hc13 : ¬cond0_13 i) (hc14 : ¬cond0_14 i) (hc15 : cond0_15 i) :
    out0_H_5 c i a3 h3 a4 h4 a5 h5 a6 h6 a7 h7 a8 h8 a9 h9 a10 h10 hc0 hc4 hc5 hc6 hc13 hc14 hc15 x0 x1 x2 x3 x4 xs = addf xs (k0_pay1 x0 x4) := by
  unfold out0_H_5
  rw [View.read_writes_eq_canon _ _ _ (cover0_H_5 c i a3 h3 a4 h4 a5 h5 a6 h6 a7 h7 a8 h8 a9 h9 a10 h10 hc0 hc4 hc5 hc6 hc13 hc14 hc15 x0 x1 x2 x3 x4 xs)]
  unfold kernelRun0_H
  dsimp only
  rw [View.canon_unit_zero zero2]
  unfold k0_pay19
  simp only [View.readAt_eq_ld, h3.read_unread, h7.read_unread, h10.read_unread,
    View.ld_unit_zero (S := S2048x1024) zero2, View.ld_unit_zero (S := S2048x512) zero2, View.ld_unit_zero (S := S1024x512) zero2, shapeCast_self]
  rfl

/-- and the same block rounded. -/
theorem half_H (hc0 : ¬cond0_0 i) (hc4 : ¬cond0_4 i) (hc5 : ¬cond0_5 i) (hc6 : cond0_6 i) (hc13 : ¬cond0_13 i) (hc14 : ¬cond0_14 i) (hc15 : cond0_15 i) :
    out0_H_6 c i a3 h3 a4 h4 a5 h5 a6 h6 a7 h7 a8 h8 a9 h9 a10 h10 hc0 hc4 hc5 hc6 hc13 hc14 hc15 x0 x1 x2 x3 x4 xs = truncf .bf16 (addf xs (k0_pay1 x0 x4)) bitsLt_bf16_f32 := by
  unfold out0_H_6
  rw [View.read_writes_eq_canon _ _ _ (cover0_H_6 c i a3 h3 a4 h4 a5 h5 a6 h6 a7 h7 a8 h8 a9 h9 a10 h10 hc0 hc4 hc5 hc6 hc13 hc14 hc15 x0 x1 x2 x3 x4 xs)]
  unfold kernelRun0_H
  dsimp only
  rw [View.canon_unit_zero zero2]
  unfold k0_pay20 k0_pay19
  simp only [View.readAt_eq_ld, h3.read_unread, h7.read_unread, h10.read_unread,
    View.ld_unit_zero (S := S2048x1024) zero2, View.ld_unit_zero (S := S2048x512) zero2, View.ld_unit_zero (S := S1024x512) zero2, shapeCast_self]
  rfl

end

/-- An entry of the four arrays side by side. -/
def beside (a b : S4096x1536.Idx → EReal) (q : S4096x512.Idx → EReal) (z : S4096x2048.Idx → EReal) (k l : ℕ) : EReal :=
  if l < 1536 then entry a k l else if l < 3072 then entry b k (l - 1536) else if l < 3584 then entry q k (l - 3072) else entry z k (l - 3584)

/-- The product of the first array turned over with the four side by side. -/
def joined (x : S4096x1024.Idx → EReal) (a b : S4096x1536.Idx → EReal) (q : S4096x512.Idx → EReal) (z : S4096x2048.Idx → EReal) :
    S1024x5632.Idx → EReal :=
  fun i => ∑ k : Fin 4096, entry x k.val (i 0).val * beside a b q z k.val (i 1).val

section
variable (m : (ℓ : Loc nD τ sig) → Buf (Elt Ideal) ℓ)

/-- A part's product, entry by entry. -/
theorem part_at (x0 : Vec Ideal S2048x1024 .bf16) (x1 : Vec Ideal S2048x512 .bf16) (r : Fin 1024) (l : Fin 512) :
    k0_pay1 x0 x1 (ix2 r l) = ∑ k : Fin 2048, x0 (ix2 k r) * x1 (ix2 k l) := by
  unfold k0_pay1
  pointwise

theorem at0 : ∀ t : Fin cfg0.N, win0_0.index t = ![t.val % 2, 0] := (by decide +kernel : ∀ t : Fin grid0.N, _)
theorem at1 : ∀ t : Fin cfg0.N, t.val < 6 → win0_1.index t = ![t.val % 2, t.val / 2] := (by decide +kernel : ∀ t : Fin grid0.N, _)
theorem at2 : ∀ t : Fin cfg0.N, ¬t.val < 6 → t.val < 12 → win0_2.index t = ![t.val % 2, t.val / 2 - 3] := (by decide +kernel : ∀ t : Fin grid0.N, _)
theorem at3 : ∀ t : Fin cfg0.N, ¬t.val < 12 → t.val < 14 → win0_3.index t = ![t.val % 2, 0] := (by decide +kernel : ∀ t : Fin grid0.N, _)
theorem at4 : ∀ t : Fin cfg0.N, ¬t.val < 14 → win0_4.index t = ![t.val % 2, t.val / 2 - 7] := (by decide +kernel : ∀ t : Fin grid0.N, _)
theorem at5 : ∀ t : Fin cfg0.N, win0_5.index t = ![0, t.val / 2] := (by decide +kernel : ∀ t : Fin grid0.N, _)
theorem at6 : ∀ t : Fin cfg0.N, win0_6.index t = ![0, t.val / 2] := (by decide +kernel : ∀ t : Fin grid0.N, _)

/-- The block of the right array that a step takes. -/
def taken (c : Dev nD) (t : Fin cfg0.N) : Vec Ideal S2048x512 .bf16 :=
  if t.val < 6 then iblk m c 1 t else if t.val < 12 then iblk m c 2 t else if t.val < 14 then iblk m c 3 t else iblk m c 4 t

theorem left_at (c : Dev nD) (t : Fin cfg0.N) (k : Fin 2048) (r : Fin 1024) : iblk m c 0 t (ix2 k r)
    = entry (V m c main_arg0) (t.val % 2 * 2048 + k.val) r.val := by
  blk_simp [iblk]; rw [entry_at (V m c main_arg0)]; blk_simp [at0]

theorem right1 (c : Dev nD) (t : Fin cfg0.N) (h : t.val < 6) (k : Fin 2048) (l : Fin 512) : iblk m c 1 t (ix2 k l)
    = entry (V m c main_arg1) (t.val % 2 * 2048 + k.val) (t.val / 2 * 512 + l.val) := by
  blk_simp [iblk]; rw [entry_at (V m c main_arg1)]; blk_simp [at1 t h]

theorem right2 (c : Dev nD) (t : Fin cfg0.N) (h : ¬t.val < 6) (h' : t.val < 12) (k : Fin 2048) (l : Fin 512) : iblk m c 2 t (ix2 k l)
    = entry (V m c main_arg2) (t.val % 2 * 2048 + k.val) ((t.val / 2 - 3) * 512 + l.val) := by
  blk_simp [iblk]; rw [entry_at (V m c main_arg2)]; blk_simp [at2 t h h']

theorem right3 (c : Dev nD) (t : Fin cfg0.N) (h : ¬t.val < 12) (h' : t.val < 14) (k : Fin 2048) (l : Fin 512) : iblk m c 3 t (ix2 k l)
    = entry (V m c main_arg3) (t.val % 2 * 2048 + k.val) l.val := by
  blk_simp [iblk]; rw [entry_at (V m c main_arg3)]; blk_simp [at3 t h h']

theorem right4 (c : Dev nD) (t : Fin cfg0.N) (h : ¬t.val < 14) (k : Fin 2048) (l : Fin 512) : iblk m c 4 t (ix2 k l)
    = entry (V m c main_arg4) (t.val % 2 * 2048 + k.val) ((t.val / 2 - 7) * 512 + l.val) := by
  blk_simp [iblk]; rw [entry_at (V m c main_arg4)]; blk_simp [at4 t h]

/-- The taken block lies in the four arrays side by side at the step's columns. -/
theorem right_at (c : Dev nD) (t : Fin cfg0.N) (k : Fin 2048) (l : Fin 512) : taken m c t (ix2 k l)
    = beside (V m c main_arg1) (V m c main_arg2) (V m c main_arg3) (V m c main_arg4) (t.val % 2 * 2048 + k.val) (t.val / 2 * 512 + l.val) := by
  have hl := l.isLt
  unfold taken beside
  by_cases h1 : t.val < 6
  · rw [if_pos h1, if_pos (by omega), right1 m c t h1]
  by_cases h2 : t.val < 12
  · rw [if_neg h1, if_pos h2, if_neg (by omega), if_pos (by omega), right2 m c t h1 h2]
    congr 1; omega
  by_cases h3 : t.val < 14
  · rw [if_neg h1, if_neg h2, if_pos h3, if_neg (by omega), if_neg (by omega), if_pos (by omega), right3 m c t h2 h3]
    congr 1; omega
  · rw [if_neg h1, if_neg h2, if_neg h3, if_neg (by omega), if_neg (by omega), if_neg (by omega), right4 m c t h3]
    congr 1; omega

/-- The scratch after a pair's first step. -/
theorem before (c : Dev nD) (t : Fin cfg0.N) (hm : t.val % 2 = 0) :
    (outsAt0 m c t.val t.isLt).2.2 = k0_pay1 (iblk m c 0 t) (taken m c t) := by
  have hN : t.val < 22 := lt_of_lt_of_eq t.isLt N_0
  unfold taken
  by_cases h1 : t.val < 6
  · rw [if_pos h1, outsAt0_A m c t h1 hm (by omega) (by omega) (by omega) (by omega), first_A]
  by_cases h2 : t.val < 12
  · rw [if_neg h1, if_pos h2, outsAt0_C m c t h1 (by omega) (by omega) (by omega) hm (by omega), first_C]
  by_cases h3 : t.val < 14
  · rw [if_neg h1, if_neg h2, if_pos h3, outsAt0_E m c t h1 (by omega) (by omega) (by omega) hm (by omega), first_E]
  · rw [if_neg h1, if_neg h2, if_neg h3, outsAt0_G m c t h1 (by omega) (by omega) (by omega) hm (by omega), first_G]

/-- What a pair's second step stores. -/
theorem stored (c : Dev nD) (t : Fin cfg0.N) (hm : t.val % 2 = 1) :
    (outsAt0 m c t.val t.isLt).1 = addf (outsAt0 m c (t.val - 1) (Nat.lt_of_le_of_lt (Nat.sub_le _ _) t.isLt)).2.2 (k0_pay1 (iblk m c 0 t) (taken m c t))
    ∧ (outsAt0 m c t.val t.isLt).2.1 = truncf .bf16 (addf (outsAt0 m c (t.val - 1) (Nat.lt_of_le_of_lt (Nat.sub_le _ _) t.isLt)).2.2
        (k0_pay1 (iblk m c 0 t) (taken m c t))) bitsLt_bf16_f32 := by
  have hN : t.val < 22 := lt_of_lt_of_eq t.isLt N_0
  unfold taken
  by_cases h1 : t.val < 6
  · rw [if_pos h1, outsAt0_B m c t h1 (by omega) hm (by omega) (by omega) (by omega), last_B, half_B]
    exact ⟨rfl, rfl⟩
  by_cases h2 : t.val < 12
  · rw [if_neg h1, if_pos h2, outsAt0_D m c t h1 (by omega) (by omega) (by omega) (by omega) hm, last_D, half_D]
    exact ⟨rfl, rfl⟩
  by_cases h3 : t.val < 14
  · rw [if_neg h1, if_neg h2, if_pos h3, outsAt0_F m c t h1 (by omega) (by omega) (by omega) (by omega) hm, last_F, half_F]
    exact ⟨rfl, rfl⟩
  · rw [if_neg h1, if_neg h2, if_neg h3, outsAt0_H m c t h1 (by omega) (by omega) (by omega) (by omega) hm, last_H, half_H]
    exact ⟨rfl, rfl⟩

/-- A stored block's entry is the whole sum. -/
theorem block_at (c : Dev nD) (t : Fin cfg0.N) (hm : t.val % 2 = 1) (r : Fin 1024) (l : Fin 512) : (outsAt0 m c t.val t.isLt).1 (ix2 r l)
    = ∑ k : Fin 4096, entry (V m c main_arg0) k.val r.val
      * beside (V m c main_arg1) (V m c main_arg2) (V m c main_arg3) (V m c main_arg4) k.val (t.val / 2 * 512 + l.val) := by
  have hs1 : t.val - 1 < cfg0.N := lt_of_le_of_lt (Nat.sub_le _ _) t.isLt
  have e1 : (t.val - 1) % 2 = 0 := by omega
  have j1 : (t.val - 1) / 2 = t.val / 2 := by omega
  rw [(stored m c t hm).1, before m c ⟨t.val - 1, hs1⟩ e1]
  show k0_pay1 _ _ (ix2 r l) + k0_pay1 _ _ (ix2 r l) = _
  rw [part_at, part_at]
  simp only [left_at, right_at, e1, j1, hm]
  exact sum_two 2048 4096 rfl (fun k => entry (V m c main_arg0) k r.val
    * beside (V m c main_arg1) (V m c main_arg2) (V m c main_arg3) (V m c main_arg4) k (t.val / 2 * 512 + l.val))

/-- The rounded block's entry is the same sum. -/
theorem half_at (c : Dev nD) (t : Fin cfg0.N) (hm : t.val % 2 = 1) (r : Fin 1024) (l : Fin 512) :
    (outsAt0 m c t.val t.isLt).2.1 (ix2 r l) = (outsAt0 m c t.val t.isLt).1 (ix2 r l) := by
  rw [(stored m c t hm).1, (stored m c t hm).2]
  rfl

/-- The whole product. -/
theorem final (c : Dev nD) : (dats m 0 c).arrAt 5 cfg0.N
    = joined (V m c main_arg0) (V m c main_arg1) (V m c main_arg2) (V m c main_arg3) (V m c main_arg4) := by
  refine (dats m 0 c).arrAt_eq_of_covers 5 _ (by decide +kernel) fun t hf y => ?_
  have hm : t.val % 2 = 1 := (flush0_5 t).mp hf
  obtain ⟨r, l, rfl⟩ : ∃ (r : Fin 1024) (l : Fin 512), y = ix2 r l := split y
  blk_simp [at5, joined]
  rw [after0_5]
  exact block_at m c t hm r l

/-- The rounded result is the same product. -/
theorem final_half (c : Dev nD) : (dats m 0 c).arrAt 6 cfg0.N
    = joined (V m c main_arg0) (V m c main_arg1) (V m c main_arg2) (V m c main_arg3) (V m c main_arg4) := by
  refine (dats m 0 c).arrAt_eq_of_covers 6 _ (by decide +kernel) fun t hf y => ?_
  have hm : t.val % 2 = 1 := (flush0_6 t).mp hf
  obtain ⟨r, l, rfl⟩ : ∃ (r : Fin 1024) (l : Fin 512), y = ix2 r l := split y
  blk_simp [at6, joined]
  rw [after0_6]
  rw [half_at m c t hm]; exact block_at m c t hm r l

end

/-- The reference puts the four arrays side by side. -/
theorem joined_at (a b : S4096x1536.Idx → EReal) (q : S4096x512.Idx → EReal) (z : S4096x2048.Idx → EReal) (i : Cert.Reference14Ideal.S4096x5632.Idx) :
    Cert.Reference14Ideal.Read.val_main_v1 (F := Ideal) a b q z i = beside a b q z (i 0).val (i 1).val := by
  have hi : (i 1).val < 5632 := (i 1).isLt
  unfold beside Cert.Reference14Ideal.Read.val_main_v1
  by_cases h1 : (i 1).val < 1536
  · rw [if_pos h1]
    refine (concatenate_apply_piece (t := Cert.Reference14Ideal.S4096x5632) 1 _ _ i 0 (by simp) _ a rfl rfl 0 rfl (ix2 (i 0) ⟨(i 1).val, h1⟩) (fun p hp => ?_) (Nat.zero_add _)).trans (entry_at a _)
    match p with
    | ⟨0, _⟩ => rfl
    | ⟨1, _⟩ => exact absurd rfl hp
  by_cases h2 : (i 1).val < 3072
  · rw [if_neg h1, if_pos h2]
    refine (concatenate_apply_piece (t := Cert.Reference14Ideal.S4096x5632) 1 _ _ i 1 (by simp) _ b rfl rfl 1536 rfl (ix2 (i 0) ⟨(i 1).val - 1536, by omega⟩) (fun p hp => ?_) ?_).trans (entry_at b _)
    · match p with
      | ⟨0, _⟩ => rfl
      | ⟨1, _⟩ => exact absurd rfl hp
    · show 1536 + ((i 1).val - 1536) = (i 1).val
      omega
  by_cases h3 : (i 1).val < 3584
  · rw [if_neg h1, if_neg h2, if_pos h3]
    refine (concatenate_apply_piece (t := Cert.Reference14Ideal.S4096x5632) 1 _ _ i 2 (by simp) _ q rfl rfl 3072 rfl (ix2 (i 0) ⟨(i 1).val - 3072, by omega⟩) (fun p hp => ?_) ?_).trans (entry_at q _)
    · match p with
      | ⟨0, _⟩ => rfl
      | ⟨1, _⟩ => exact absurd rfl hp
    · show 3072 + ((i 1).val - 3072) = (i 1).val
      omega
  · rw [if_neg h1, if_neg h2, if_neg h3]
    refine (concatenate_apply_piece (t := Cert.Reference14Ideal.S4096x5632) 1 _ _ i 3 (by simp) _ z rfl rfl 3584 rfl (ix2 (i 0) ⟨(i 1).val - 3584, by omega⟩) (fun p hp => ?_) ?_).trans (entry_at z _)
    · match p with
      | ⟨0, _⟩ => rfl
      | ⟨1, _⟩ => exact absurd rfl hp
    · show 3584 + ((i 1).val - 3584) = (i 1).val
      omega

/-- The reference's weight gradient is the same product. -/
theorem reference_at (x : S4096x1024.Idx → EReal) (a b : S4096x1536.Idx → EReal) (q : S4096x512.Idx → EReal) (z : S4096x2048.Idx → EReal) :
    Cert.Reference14Ideal.Read.val_main_v6 (F := Ideal) x a b q z = joined x a b q z := by
  funext i
  rw [Cert.Reference14Ideal.Read.val_main_v6_apply, Cert.Reference14Ideal.Read.val_main_v5_apply]
  refine Finset.sum_congr rfl fun k _ => ?_
  rw [mul_comm]
  exact congrArg₂ (· * ·) (entry_at x _) (joined_at a b q z _)

/-- The two programs have the same kernel bodies. -/
theorem bodies : Cert.Kernel14.defs (F := Bits) = defs (F := Bits) := by
  refine congrArg (Pipeline.defs Cert.Kernel14.pcfgs) (congrArg Defs.onTc (funext fun l => funext fun a => ?_))
  match l, a with
  | 0, (t, s) => rfl

theorem frame_bits : Cert.quiescent_Kernel14 := fun m ρ _ => bodies ▸ Gen.frame (F := Bits) m ρ

theorem frame_ideal : Cert.quiescent_Kernel14Ideal := fun m ρ _ => Gen.frame m ρ

theorem frame_reference : Cert.quiescent_Reference14Ideal := fun m ρ _ =>
  (θ_run Cert.Reference14Ideal.defs _ _).mono (fun r h => ⟨fun c => (h c).2.2, sem_eq_zero_of_no_sems (by decide) r.2⟩)
    (Cert.Reference14Ideal.Value.run (F := Ideal) m ρ)

/-- The call's value is the reference's. -/
theorem value : Cert.algebraic_Kernel14Ideal_Reference14Ideal := by
  intro m ρ m' ρ' _ h
  refine ⟨_, _, run_blocks m ρ, (θ_run _ _ _).mono (fun r hr c => ⟨?_, ?_, (hr c).2.2⟩) (Cert.Reference14Ideal.Value.run (F := Ideal) m' ρ')⟩
  · rw [(hr c).1, Cert.Reference14Ideal.Read.val_main_v6_eq, (h c).1, (h c).2.1, (h c).2.2.1, (h c).2.2.2.1, (h c).2.2.2.2, reference_at]
    exact (final m c).symm
  · rw [(hr c).2.1, Cert.Reference14Ideal.Read.val_main_v7_eq, (h c).1, (h c).2.1, (h c).2.2.1, (h c).2.2.2.1, (h c).2.2.2.2]
    exact (reference_at _ _ _ _ _).trans (final_half m c).symm

end Cert.Kernel14Ideal.Read

end
-- ==== Proof.Reals.lean ====
/- Extended-real expressions of real entries: sums, exponentials and row maxima of them are real again. -/
module

public import Idealize.ShloMosaic.PureOps.Ideal.Laws
public import Idealize.ShloMosaic.Lib.WordCmp

@[expose] public section

noncomputable section

namespace Cert.Reals

open Finset Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- A sum over an initial segment, as one over the naturals below it. -/
theorem coe_sum_fin (n : ℕ) (f : ℕ → ℝ) : ∑ i : Fin n, ((f i.val : ℝ) : EReal) = ((∑ i ∈ range n, f i : ℝ) : EReal) := by
  rw [coe_sum, Finset.sum_range]

theorem exp_coe (x : ℝ) : Ideal.exp (x : EReal) = ((Real.exp x : ℝ) : EReal) := rfl

/-- A masked score's exponential: zero behind the mask. -/
theorem exp_mask (p : Prop) [Decidable p] (x m : ℝ) :
    Ideal.exp ((if p then (x : EReal) else ⊥) - (m : EReal)) = (((if p then Real.exp (x - m) else 0 : ℝ)) : EReal) := by
  split_ifs
  · rw [← EReal.coe_sub, exp_coe]
  · rw [EReal.bot_sub]; rfl

theorem div_coe (x y : ℝ) (h : y ≠ 0) : Ideal.div (x : EReal) (y : EReal) = ((x / y : ℝ) : EReal) := by
  rw [Ideal.div_coe h, ← EReal.coe_mul, mul_one_div]

theorem log_coe (x : ℝ) (h : 0 < x) : Ideal.log (x : EReal) = ((Real.log x : ℝ) : EReal) := by
  show (if x ≤ 0 then (⊥ : EReal) else _) = _
  rw [if_neg (not_le.2 h)]

/-- The maximum of masked real entries, one of them seen, is real. -/
theorem fold_max_mask {ι : Type} (s : Finset ι) (p : ι → Prop) [DecidablePred p] (f : ι → ℝ) (i : ι) (hi : i ∈ s)
    (h : p i) : ∃ m : ℝ, s.fold max ⊥ (fun j => if p j then (f j : EReal) else ⊥) = (m : EReal) := by
  classical
  have hlt : s.fold max ⊥ (fun j => if p j then (f j : EReal) else ⊥) < ⊤ := by
    rw [Finset.fold_max_lt]
    exact ⟨bot_lt_top, fun j _ => by split_ifs; exacts [EReal.coe_lt_top _, bot_lt_top]⟩
  have hgt : ⊥ < s.fold max ⊥ (fun j => if p j then (f j : EReal) else ⊥) := by
    rw [Finset.lt_fold_max]
    exact .inr ⟨i, hi, by rw [if_pos h]; exact EReal.bot_lt_coe _⟩
  exact ⟨_, (EReal.coe_toReal hlt.ne hgt.ne').symm⟩

theorem fold_max_coe {ι : Type} (s : Finset ι) (f : ι → ℝ) (i : ι) (hi : i ∈ s) :
    ∃ m : ℝ, s.fold max ⊥ (fun j => (f j : EReal)) = (m : EReal) := by
  obtain ⟨m, hm⟩ := fold_max_mask s (fun _ => True) f i hi trivial
  exact ⟨m, by simpa using hm⟩

/-- The scale `1/√192` as the programs write it, as a real number. -/
def scale : ℝ := 9686330 * (2 ^ 27)⁻¹

theorem scale_eq : Ideal.ofBits .f32 0x3D93CD3A#32 = (scale : EReal) := by
  rw [scale, EReal.coe_mul]
  simp [Ideal.ofBits, Ideal.ieee]

theorem negInf_eq : Ideal.ofBits .f32 0xFF800000#32 = ⊥ := by simp [Ideal.ofBits, Ideal.ieee]

/-- A comparison of two small positions, read as one of natural numbers. -/
theorem sle_small (a b : ℕ) (ha : a < 2 ^ 31) (hb : b < 2 ^ 31) {α : Type} (x y : α) :
    Scalar.select (IntOp.cmpi .sle (BitVec.ofNat 32 a) (BitVec.ofNat 32 b)) x y = if a ≤ b then x else y := by
  rw [WordCmp.cmpi_sle_ofNat ha hb, WordCmp.select_decide]

end Cert.Reals

end
-- ==== Proof.MemScores.lean ====
/- The attention into the memory, entry by entry: a head's scores, their softmax and its mean of the values. Arrays are
   functions of a row and a column; a memory row holds its four heads' keys, then their values. -/
module

public import proofs.«01_k».proof.Proof.Product
public import proofs.«01_k».proof.Proof.Reals

@[expose] public section

noncomputable section

namespace Cert.Mem

open Finset Idealize.ShloMosaic Cert.Product

/-- An array's entry, by the numbers of its batch, row and column. -/
def entry3 {a b d : ℕ} (x : Shape.Idx ⟨3, ![a, b, d]⟩ → EReal) (n r l : ℕ) : EReal :=
  if h : n < a ∧ r < b ∧ l < d then x (ix3 ⟨n, h.1⟩ ⟨r, h.2.1⟩ ⟨l, h.2.2⟩) else 0

theorem entry3_at {a b d : ℕ} (x : Shape.Idx ⟨3, ![a, b, d]⟩ → EReal) (i : Shape.Idx ⟨3, ![a, b, d]⟩) :
    x i = entry3 x (i 0).val (i 1).val (i 2).val := by
  have h0 : (i 0).val < a := (i 0).isLt
  have h1 : (i 1).val < b := (i 1).isLt
  have h2 : (i 2).val < d := (i 2).isLt
  rw [entry3, dif_pos ⟨h0, h1, h2⟩]
  congr 1
  funext j
  match j with
  | ⟨0, _⟩ => rfl
  | ⟨1, _⟩ => rfl
  | ⟨2, _⟩ => rfl

theorem entry3_congr {a b d : ℕ} (x : Shape.Idx ⟨3, ![a, b, d]⟩ → EReal) {n n' r r' l l' : ℕ} (hn : n = n') (hr : r = r')
    (hl : l = l') : entry3 x n r l = entry3 x n' r' l' := by rw [hn, hr, hl]

/-- The entries of an array of rows laid out batch by batch. -/
theorem entry3_rows {a b d n : ℕ} (x : Shape.Idx ⟨2, ![n, d]⟩ → EReal) (y : Shape.Idx ⟨3, ![a, b, d]⟩ → EReal) (hn : n = a * b)
    (h : ∀ (i : Fin a) (j : Fin b) (l : Fin d) (k : Fin n), k.val = i.val * b + j.val → y (ix3 i j l) = x (ix2 k l)) (i r l : ℕ)
    (hi : i < a) (hr : r < b) : entry3 y i r l = entry x (i * b + r) l := by
  have hk : i * b + r < n := by
    subst hn
    calc i * b + r < i * b + b := Nat.add_lt_add_left hr _
      _ = (i + 1) * b := by ring
      _ ≤ a * b := Nat.mul_le_mul_right _ hi
  unfold entry3 entry
  by_cases c : l < d
  · rw [dif_pos ⟨hi, hr, c⟩, dif_pos ⟨hk, c⟩, h ⟨i, hi⟩ ⟨r, hr⟩ ⟨l, c⟩ ⟨_, hk⟩ rfl]
  · rw [dif_neg fun d => c d.2.2, dif_neg fun d => c d.2]

/-- The scale as the programs write it. -/
def c : EReal := Ideal.ofBits .f32 0x3DB504F3#32

variable (q k : ℕ → ℕ → EReal) (h r : ℕ)

/-- A head's score of a row against a memory row. -/
def score (j : Fin 256) : EReal := (∑ x : Fin 128, q r (128 * h + x.val) * k j.val (128 * h + x.val)) * c
/-- The largest. -/
def top : EReal := univ.fold max ⊥ (score q k h r)
/-- Its exponential over the largest. -/
def power (j : Fin 256) : EReal := Ideal.exp (score q k h r j - top q k h r)
/-- The row's sum of them. -/
def mass : EReal := ∑ j : Fin 256, power q k h r j
/-- The softmax. -/
def weight (j : Fin 256) : EReal := Ideal.div (power q k h r j) (mass q k h r)
/-- Its mean of the head's values. -/
def mixed (l : ℕ) : EReal := ∑ j : Fin 256, weight q k h r j * k j.val (512 + 128 * h + l)

/-- A row's mean takes no queries but that row's. -/
theorem mixed_row (q' : ℕ → ℕ → EReal) (r' l : ℕ) (e : ∀ x, q r x = q' r' x) : mixed q k h r l = mixed q' k h r' l := by
  have hs : score q k h r = score q' k h r' := by unfold score; simp only [e]
  unfold mixed weight mass power top
  simp only [hs]

variable (g : ℕ → ℕ → EReal)

/-- The softmax's gradient: the row's output gradient against a memory row's values. -/
def up (j : Fin 256) : EReal := ∑ x : Fin 128, g r (128 * h + x.val) * k j.val (512 + 128 * h + x.val)
/-- The scores' gradient. -/
def slope (j : Fin 256) : EReal :=
  weight q k h r j * (up k h r g j - ∑ i : Fin 256, weight q k h r i * up k h r g i) * c
/-- The queries' gradient. -/
def toQuery (l : ℕ) : EReal := ∑ j : Fin 256, slope q k h r g j * k j.val (128 * h + l)
/-- The keys' gradient of `n` rows. -/
def toKey (n : ℕ) (j : Fin 256) (l : ℕ) : EReal := ∑ r : Fin n, slope q k h r.val g j * q r.val (128 * h + l)
/-- The values' gradient of `n` rows. -/
def toValue (n : ℕ) (j : Fin 256) (l : ℕ) : EReal := ∑ r : Fin n, weight q k h r.val j * g r.val (128 * h + l)
/-- Both, in the memory's lanes: the keys' heads, then the values'. -/
def toMemory (n : ℕ) (j : Fin 256) (l : ℕ) : EReal :=
  if l < 512 then toKey q k (l / 128) g n j (l % 128) else toValue q k ((l - 512) / 128) g n j (l % 128)

theorem memory_key (n : ℕ) (j : Fin 256) (a l : ℕ) (e : a = 128 * h) (hh : h < 4) (hl : l < 128) :
    toMemory q k g n j (a + l) = toKey q k h g n j l := by
  rw [toMemory, if_pos (by omega), show (a + l) / 128 = h by omega, show (a + l) % 128 = l by omega]

theorem memory_value (n : ℕ) (j : Fin 256) (a l : ℕ) (e : a = 512 + 128 * h) (hl : l < 128) :
    toMemory q k g n j (a + l) = toValue q k h g n j l := by
  rw [toMemory, if_neg (by omega), show (a + l - 512) / 128 = h by omega, show (a + l) % 128 = l by omega]

/-- The next 512 rows add their own gradient. -/
theorem memory_rows (n : ℕ) (j : Fin 256) (l : ℕ) : toMemory q k g (n + 512) j l
    = toMemory q k g n j l + toMemory (fun r => q (n + r)) k (fun r => g (n + r)) 512 j l := by
  unfold toMemory
  split
  · exact Fin.sum_univ_add (a := n) (b := 512) fun r => slope q k (l / 128) r.val g j * q r.val (128 * (l / 128) + l % 128)
  · exact Fin.sum_univ_add (a := n) (b := 512) fun r => weight q k ((l - 512) / 128) r.val j * g r.val (128 * ((l - 512) / 128) + l % 128)

/-- A row's gradient, the rows counted from another. -/
theorem query_rows (n l : ℕ) : toQuery (fun r => q (n + r)) k h r (fun r => g (n + r)) l = toQuery q k h (n + r) g l := rfl

/-- No rows, no gradient. -/
theorem memory_none (j : Fin 256) (l : ℕ) : toMemory q k g 0 j l = 0 := by
  unfold toMemory toKey toValue
  split <;> exact Fin.sum_univ_zero _

/-- The call's queries of batch `b`: the tile of 512 lanes from lane 2560 on. -/
def queries (x : Shape.Idx ⟨2, ![4096, 3456]⟩ → EReal) (b r l : ℕ) : EReal := entry x (b * 2048 + r) (2560 + l)

/-- The forward call's result. -/
def forward (x : Shape.Idx ⟨2, ![4096, 3456]⟩ → EReal) (y : Shape.Idx ⟨3, ![2, 256, 1024]⟩ → EReal) :
    Shape.Idx ⟨3, ![2, 2048, 512]⟩ → EReal :=
  fun i => mixed (queries x (i 0).val) (entry3 y (i 0).val) ((i 2).val / 128) (i 1).val ((i 2).val % 128)

theorem score_first : score q k 0 r = fun j => (∑ x : Fin 128, q r x.val * k j.val x.val) * c := by
  unfold score; simp only [Nat.mul_zero, Nat.zero_add]

/-- The first head, its lanes counted from the block's first. -/
theorem mixed_first (l : ℕ) : mixed q k 0 r l = ∑ j : Fin 256, Ideal.div
    (Ideal.exp ((∑ x : Fin 128, q r x.val * k j.val x.val) * c - univ.fold max ⊥ fun j : Fin 256 => (∑ x : Fin 128, q r x.val * k j.val x.val) * c))
    (∑ i : Fin 256, Ideal.exp ((∑ x : Fin 128, q r x.val * k i.val x.val) * c - univ.fold max ⊥ fun j : Fin 256 => (∑ x : Fin 128, q r x.val * k j.val x.val) * c))
      * k j.val (512 + l) := by
  unfold mixed weight mass power top
  simp only [score_first, Nat.mul_zero, Nat.add_zero]

theorem head (a l : ℕ) {n : ℕ} (e : n = 128 * a + l) (hl : l < 128) : n / 128 = a := by omega
theorem lane (a l : ℕ) {n : ℕ} (e : n = 128 * a + l) (hl : l < 128) : n % 128 = l := by omega

end Cert.Mem

end
-- ==== Proof.MemReference.lean ====
/- The reference's attention into the memory, its stages read head by head. -/
module

public import proofs.«01_k».proof.Proof.MemScores
public import proofs.«01_k».proof.Proof.Gen.Reference16Ideal.Read
public import Idealize.ShloMosaic.Lib.Pointwise

@[expose] public section

set_option maxRecDepth 16384

noncomputable section

namespace Cert.Mem

open Cert.Reference16Ideal Cert.Reference16Ideal.Gen Cert.Reference16Ideal.Read Cert.Product Cert.Reals
open Idealize.ShloMosaic Idealize.ShloMosaic.TcCoe

variable (x : S4096x3456.Idx → EReal) (y : S2x256x1024.Idx → EReal)

/-- The queries, head by head. -/
theorem v7_at (i : S2x2048x4x128.Idx) : val_main_v7 (F := Ideal) x i
    = queries x (i 0).val (i 1).val (128 * (i 2).val + (i 3).val) := by
  rw [val_main_v7_apply, val_main_v1_apply, val_main_v0_apply, queries]
  have h0 : (i 0).val < 2 := (i 0).isLt
  have h1 : (i 1).val < 2048 := (i 1).isLt
  have h2 : (i 2).val < 4 := (i 2).isLt
  have h3 : (i 3).val < 128 := (i 3).isLt
  refine (entry_at x _).trans (congrArg₂ (entry x) ?_ ?_)
  all_goals (dsimp only; omega)

/-- The keys. -/
theorem v5_at (i : S2x256x4x128.Idx) : val_main_v5 (F := Ideal) y i
    = entry3 y (i 0).val (i 1).val (128 * (i 2).val + (i 3).val) := by
  rw [val_main_v5_apply, val_main_v3_apply, val_main_v2_apply, Ideal.extf_def]
  have h0 : (i 0).val < 2 := (i 0).isLt
  have h1 : (i 1).val < 256 := (i 1).isLt
  have h2 : (i 2).val < 4 := (i 2).isLt
  have h3 : (i 3).val < 128 := (i 3).isLt
  refine (entry3_at y _).trans (entry3_congr y ?_ ?_ ?_)
  all_goals (dsimp only; omega)

/-- The values. -/
theorem v6_at (i : S2x256x4x128.Idx) : val_main_v6 (F := Ideal) y i
    = entry3 y (i 0).val (i 1).val (512 + 128 * (i 2).val + (i 3).val) := by
  rw [val_main_v6_apply, val_main_v4_apply, val_main_v2_apply, Ideal.extf_def]
  have h0 : (i 0).val < 2 := (i 0).isLt
  have h1 : (i 1).val < 256 := (i 1).isLt
  have h2 : (i 2).val < 4 := (i 2).isLt
  have h3 : (i 3).val < 128 := (i 3).isLt
  refine (entry3_at y _).trans (entry3_congr y ?_ ?_ ?_)
  all_goals (dsimp only; omega)

/-- The scores. -/
theorem v10_at (i : S2x4x2048x256.Idx) : val_main_v10 (F := Ideal) x y i
    = score (queries x (i 0).val) (entry3 y (i 0).val) (i 1).val (i 2).val (i 3) := by
  rw [val_main_v10_apply, val_main_v9_apply, val_main_v8_apply]
  simp only [v7_at, v5_at]
  rfl

/-- The rows' maxima. -/
theorem v13_at (i : S2x4x2048.Idx) : val_main_v13 (F := Ideal) x y i
    = top (queries x (i 0).val) (entry3 y (i 0).val) (i 1).val (i 2).val := by
  rw [val_main_v13_apply, val_main_v12_apply]
  have h : val_main_v11 (F := Ideal) x y i = top (queries x (i 0).val) (entry3 y (i 0).val) (i 1).val (i 2).val := by
    unfold val_main_v11
    pointwise
    simp only [v10_at]
    have hc : val_main_cst_0 (F := Ideal) (Shape.Idx.first h_S_) = (⊥ : EReal) := negInf_eq
    rw [hc]
    rfl
  have hc : val_main_cst_1 (F := Ideal) (idx_main_v12 i) = (⊥ : EReal) := negInf_eq
  rw [h, hc]
  exact bot_sup_eq _

/-- The exponentials. -/
theorem v17_at (i : S2x4x2048x256.Idx) : val_main_v17 (F := Ideal) x y i
    = power (queries x (i 0).val) (entry3 y (i 0).val) (i 1).val (i 2).val (i 3) := by
  rw [val_main_v17_apply, val_main_v16_apply, val_main_v15_apply, val_main_v14_apply, v10_at, v13_at]
  rfl

/-- The rows' sums. -/
theorem v20_at (i : S2x4x2048x256.Idx) : val_main_v20 (F := Ideal) x y i
    = mass (queries x (i 0).val) (entry3 y (i 0).val) (i 1).val (i 2).val := by
  rw [val_main_v20_apply, val_main_v19_apply, val_main_v18_apply]
  simp only [v17_at]
  have hc : val_main_cst_2 (F := Ideal) (Shape.Idx.first h_S_) = (0 : EReal) := Ideal.ofBits_zero_f32
  rw [hc, zero_add]
  rfl

/-- The reference's attention into the memory. -/
theorem reference_forward : val_main_v24 (F := Ideal) x y = forward x y := by
  funext i
  rw [val_main_v24_apply, val_main_v23_apply, val_main_v22_apply]
  simp only [v6_at, val_main_v21_apply, v17_at, v20_at]
  have h0 : (i 0).val < 2 := (i 0).isLt
  have h1 : (i 1).val < 2048 := (i 1).isLt
  have h2 : (i 2).val < 512 := (i 2).isLt
  have e0 : (((i 0).val * 2048 + (i 1).val) * 512 + (i 2).val) / 1048576 = (i 0).val := by omega
  have e1 : (((i 0).val * 2048 + (i 1).val) * 512 + (i 2).val) / 512 % 2048 = (i 1).val := by omega
  have e2 : (((i 0).val * 2048 + (i 1).val) * 512 + (i 2).val) / 128 % 4 = (i 2).val / 128 := by omega
  have e3 : (((i 0).val * 2048 + (i 1).val) * 512 + (i 2).val) % 128 = (i 2).val % 128 := by omega
  unfold forward mixed
  refine Finset.sum_congr rfl fun k _ => ?_
  dsimp only
  rw [mul_comm]
  rw [e0, e1, e2, e3]
  rfl

end Cert.Mem

end
-- ==== Proof.MemGradient.lean ====
/- The reference's gradients of the attention into the memory, and the form of them the call computes: equal where the
   scores are finite. -/
module

public import proofs.«01_k».proof.Proof.MemReference
public import proofs.«01_k».proof.Proof.Gen.Reference15Ideal.Read

@[expose] public section

set_option maxRecDepth 16384

noncomputable section

namespace Cert.Mem

open Cert.Reals Cert.Product Idealize.ShloMosaic Idealize.ShloMosaic.TcCoe

/-- A finite nonnegative factor of every term is a factor of the sum. -/
theorem mul_sum {ι : Type} (s : Finset ι) (a : ℝ) (ha : 0 ≤ a) (f : ι → EReal) : (a : EReal) * ∑ i ∈ s, f i = ∑ i ∈ s, (a : EReal) * f i := by
  classical
  induction s using Finset.induction_on with
  | empty => simp
  | insert i s hi ih =>
    rw [Finset.sum_insert hi, Finset.sum_insert hi, EReal.left_distrib_of_nonneg_of_ne_top (EReal.coe_nonneg.2 ha) (EReal.coe_ne_top a), ih]

/-- A row's gradient of the scores, from the exponentials and their sum or from the weights. -/
theorem slopes (E : Fin 256 → ℝ) (L : ℝ) (hL : 0 < L) (hE : ∀ j, 0 < E j) (u : Fin 256 → EReal) (d : EReal) (j : Fin 256) :
    (Ideal.div (u j) (L : EReal) + -(∑ i, u i * Ideal.div 1 ((L : EReal) * (L : EReal)) * (E i : EReal))) * (E j : EReal) * d
      = Ideal.div (E j : EReal) (L : EReal) * (u j - ∑ i, Ideal.div (E i : EReal) (L : EReal) * u i) * d := by
  have h1 : ∀ i, u i * Ideal.div 1 ((L : EReal) * (L : EReal)) * (E i : EReal)
      = ((1 / L : ℝ) : EReal) * (Ideal.div (E i : EReal) (L : EReal) * u i) := by
    intro i
    rw [← EReal.coe_mul, Reals.div_coe _ _ hL.ne', show (1 : EReal) = ((1 : ℝ) : EReal) from rfl, Reals.div_coe _ _ (mul_pos hL hL).ne',
      mul_assoc, mul_comm (u i), ← mul_assoc, ← EReal.coe_mul, ← EReal.coe_mul]
    congr 2
    field_simp
  rw [Finset.sum_congr rfl fun i _ => h1 i, ← mul_sum _ _ (one_div_pos.2 hL).le, Ideal.div_coe hL.ne' , mul_comm (u j), ← mul_neg,
    ← EReal.left_distrib_of_nonneg_of_ne_top (EReal.coe_nonneg.2 (one_div_pos.2 hL).le) (EReal.coe_ne_top _), ← sub_eq_add_neg,
    mul_comm (_ * _) (E j : EReal), ← mul_assoc, ← EReal.coe_mul, Reals.div_coe _ _ hL.ne', mul_one_div]

section
variable (q k : ℕ → ℕ → EReal) (h r : ℕ) (g : ℕ → ℕ → EReal)

/-- The gradient of a row's scores, from the exponentials and their sum. -/
def slope' (j : Fin 256) : EReal :=
  (Ideal.div (up k h r g j) (mass q k h r) + -(∑ i, up k h r g i * Ideal.div 1 (mass q k h r * mass q k h r) * power q k h r i))
    * power q k h r j * c

/-- Where the queries and keys are finite the two are one. -/
theorem slope_eq (hh : h < 4) (hq : ∀ l < 512, ∃ x : ℝ, q r l = x) (hk : ∀ (j : Fin 256), ∀ l < 512, ∃ x : ℝ, k j.val l = x) (j : Fin 256) :
    slope' q k h r g j = slope q k h r g j := by
  have hs : ∀ j, ∃ s : ℝ, score q k h r j = s := by
    intro j
    choose a ha using fun l : Fin 128 => hq (128 * h + l.val) (by omega)
    choose b hb using fun l : Fin 128 => hk j (128 * h + l.val) (by omega)
    obtain ⟨d, hd⟩ : ∃ d : ℝ, c = d := ⟨_, rfl⟩
    refine ⟨(∑ l, a l * b l) * d, ?_⟩
    unfold score
    rw [EReal.coe_mul, Reals.coe_sum, ← hd]
    simp only [ha, hb, EReal.coe_mul]
  choose s hs using hs
  have ht : ∃ t : ℝ, top q k h r = t := by
    unfold top
    rw [show score q k h r = fun j => (s j : EReal) from funext hs]
    exact fold_max_coe _ s 0 (Finset.mem_univ _)
  obtain ⟨t, ht⟩ := ht
  have he : ∀ j, power q k h r j = (Real.exp (s j - t) : ℝ) := by
    intro j
    unfold power
    rw [hs, ht, ← EReal.coe_sub, exp_coe]
  have hm : mass q k h r = ((∑ j, Real.exp (s j - t) : ℝ) : EReal) := by
    unfold mass
    rw [Reals.coe_sum]
    exact Finset.sum_congr rfl fun j _ => he j
  unfold slope' slope weight
  simp only [he, hm]
  exact slopes (fun j => Real.exp (s j - t)) _ (Finset.sum_pos (fun j _ => Real.exp_pos _) ⟨0, Finset.mem_univ _⟩)
    (fun j => Real.exp_pos _) (up k h r g) c j

end

open Cert.Reference15Ideal Cert.Reference15Ideal.Gen Cert.Reference15Ideal.Read

variable (x : S4096x3456.Idx → EReal) (y : S2x256x1024.Idx → EReal) (z : S4096x512.Idx → EReal)

/-- The results' cotangents. -/
def cotangents (z : Shape.Idx ⟨2, ![4096, 512]⟩ → EReal) (b r l : ℕ) : EReal := entry z (b * 2048 + r) l

/-- Head by head. -/
theorem w43_at (i : S2x2048x4x128.Idx) : val_main_v43 (F := Ideal) z i = cotangents z (i 0).val (i 1).val (128 * (i 2).val + (i 3).val) := by
  rw [val_main_v43_apply, val_main_v42_apply, cotangents]
  have h0 : (i 0).val < 2 := (i 0).isLt
  have h1 : (i 1).val < 2048 := (i 1).isLt
  have h2 : (i 2).val < 4 := (i 2).isLt
  have h3 : (i 3).val < 128 := (i 3).isLt
  refine (entry_at z _).trans (congrArg₂ (entry z) ?_ ?_)
  all_goals (dsimp only; omega)

/-- The queries, keys and values, and the rows' exponentials and sums, are the forward pass's. -/
theorem w7_at (i : S2x2048x4x128.Idx) : val_main_v7 (F := Ideal) x i = queries x (i 0).val (i 1).val (128 * (i 2).val + (i 3).val) := v7_at x i
theorem w5_at (i : S2x256x4x128.Idx) : val_main_v5 (F := Ideal) y i = entry3 y (i 0).val (i 1).val (128 * (i 2).val + (i 3).val) := v5_at y i
theorem w6_at (i : S2x256x4x128.Idx) : val_main_v6 (F := Ideal) y i = entry3 y (i 0).val (i 1).val (512 + 128 * (i 2).val + (i 3).val) := v6_at y i
theorem w31_at (i : S2x4x2048x256.Idx) : val_main_v31 (F := Ideal) x y i
    = power (queries x (i 0).val) (entry3 y (i 0).val) (i 1).val (i 2).val (i 3) := v17_at x y i
theorem w34_at (i : S2x4x2048x256.Idx) : val_main_v34 (F := Ideal) x y i
    = mass (queries x (i 0).val) (entry3 y (i 0).val) (i 1).val (i 2).val := v20_at x y i

/-- The weights' cotangents. -/
theorem w45_at (i : S2x4x2048x256.Idx) : val_main_v45 (F := Ideal) y z i
    = up (entry3 y (i 0).val) (i 1).val (i 2).val (cotangents z (i 0).val) (i 3) := by
  rw [val_main_v45_apply]
  simp only [w6_at, val_main_v44_apply, w43_at]
  rfl

/-- The rows' sums, once a row. -/
theorem w33_at (i : S2x4x2048x1.Idx) : val_main_v33 (F := Ideal) x y i
    = mass (queries x (i 0).val) (entry3 y (i 0).val) (i 1).val (i 2).val := by
  have hz : ∀ i : S_.Idx, val_main_cst_8 (F := Ideal) i = (0 : EReal) := fun _ => Ideal.ofBits_zero_f32
  rw [val_main_v33_apply, val_main_v32_apply]
  simp only [w31_at, hz, zero_add]
  rfl

/-- The rows' sums of the weights' cotangents. -/
theorem w53_at (i : S2x4x2048x1.Idx) : val_main_v53 (F := Ideal) x y z i
    = -(∑ j, up (entry3 y (i 0).val) (i 1).val (i 2).val (cotangents z (i 0).val) j
      * Ideal.div 1 (mass (queries x (i 0).val) (entry3 y (i 0).val) (i 1).val (i 2).val * mass (queries x (i 0).val) (entry3 y (i 0).val) (i 1).val (i 2).val)
      * power (queries x (i 0).val) (entry3 y (i 0).val) (i 1).val (i 2).val j) := by
  have hz : ∀ i : S_.Idx, val_main_cst_10 (F := Ideal) i = (0 : EReal) := fun _ => Ideal.ofBits_zero_f32
  have ho : ∀ i : S_.Idx, val_main_cst_9 (F := Ideal) i = (1 : EReal) := fun _ => Ideal.ofBits_one_f32
  have h0 : (i 0).val < 2 := (i 0).isLt
  have h1 : (i 1).val < 4 := (i 1).isLt
  have h2 : (i 2).val < 2048 := (i 2).isLt
  have h3 : (i 3).val < 1 := (i 3).isLt
  have e0 : ((((i 0).val * 4 + (i 1).val) * 2048 + (i 2).val) * 1 + (i 3).val) / 8192 = (i 0).val := by omega
  have e1 : ((((i 0).val * 4 + (i 1).val) * 2048 + (i 2).val) * 1 + (i 3).val) / 2048 % 4 = (i 1).val := by omega
  have e2 : ((((i 0).val * 4 + (i 1).val) * 2048 + (i 2).val) * 1 + (i 3).val) % 2048 = (i 2).val := by omega
  simp only [val_main_v53_apply, val_main_v52_apply, val_main_v51_apply, val_main_v50_apply, val_main_v49_apply,
    val_main_v48_apply, val_main_v38_apply, val_main_v37_apply, val_main_v36_apply, w31_at, w33_at, w45_at, hz, ho, zero_add,
    e0, e1, e2]
  rfl

/-- The scores' cotangents. -/
theorem w61_at (i : S2x4x2048x256.Idx) : val_main_v61 (F := Ideal) x y z i
    = slope' (queries x (i 0).val) (entry3 y (i 0).val) (i 1).val (i 2).val (cotangents z (i 0).val) (i 3) := by
  have hz : ∀ i : S_.Idx, val_main_cst_11 (F := Ideal) i = (0 : EReal) := fun _ => Ideal.ofBits_zero_f32
  rw [val_main_v61_apply, val_main_v60_apply, val_main_v59_apply, val_main_v58_apply, val_main_v57_apply, val_main_v56_apply,
    val_main_v55_apply, val_main_v54_apply]
  simp only [Fin.sum_univ_one, w31_at, w33_at, w45_at, w53_at, hz, zero_add]
  rfl

/-- The queries' gradient. -/
def backward (x : Shape.Idx ⟨2, ![4096, 3456]⟩ → EReal) (y : Shape.Idx ⟨3, ![2, 256, 1024]⟩ → EReal)
    (z : Shape.Idx ⟨2, ![4096, 512]⟩ → EReal) : Shape.Idx ⟨3, ![2, 2048, 512]⟩ → EReal :=
  fun i => toQuery (queries x (i 0).val) (entry3 y (i 0).val) ((i 2).val / 128) (i 1).val (cotangents z (i 0).val) ((i 2).val % 128)

/-- The memory's gradient. -/
def backwardMemory (x : Shape.Idx ⟨2, ![4096, 3456]⟩ → EReal) (y : Shape.Idx ⟨3, ![2, 256, 1024]⟩ → EReal)
    (z : Shape.Idx ⟨2, ![4096, 512]⟩ → EReal) : Shape.Idx ⟨3, ![2, 256, 1024]⟩ → EReal :=
  fun i => toMemory (queries x (i 0).val) (entry3 y (i 0).val) (cotangents z (i 0).val) 2048 (i 1) (i 2).val

section
variable (hx : ∀ r, r < 4096 → ∀ l, l < 512 → ∃ t : ℝ, entry x r (2560 + l) = t)
  (hy : ∀ n r l, l < 512 → ∃ t : ℝ, entry3 y n r l = t)
include hx hy

/-- The scores' cotangents, as the call computes them. -/
theorem slopes_at (b h r : ℕ) (g : ℕ → ℕ → EReal) (hb : b < 2) (hh : h < 4) (hr : r < 2048) (j : Fin 256) :
    slope' (queries x b) (entry3 y b) h r g j = slope (queries x b) (entry3 y b) h r g j :=
  slope_eq _ _ _ _ _ hh (fun l hl => hx _ (by omega) l hl) (fun j l hl => hy _ _ l hl) j

/-- The reference's gradient of the queries. -/
theorem reference_queries : val_main_v70 (F := Ideal) x y z = backward x y z := by
  funext i
  rw [val_main_v70_apply, val_main_v66_apply, val_main_v65_apply, val_main_v64_apply]
  simp only [w61_at, w5_at]
  have h0 : (i 0).val < 2 := (i 0).isLt
  have h1 : (i 1).val < 2048 := (i 1).isLt
  have h2 : (i 2).val < 512 := (i 2).isLt
  have e0 : (((i 0).val * 2048 + (i 1).val) * 512 + (i 2).val) / 1048576 = (i 0).val := by omega
  have e1 : (((i 0).val * 2048 + (i 1).val) * 512 + (i 2).val) / 512 % 2048 = (i 1).val := by omega
  have e2 : (((i 0).val * 2048 + (i 1).val) * 512 + (i 2).val) / 128 % 4 = (i 2).val / 128 := by omega
  have e3 : (((i 0).val * 2048 + (i 1).val) * 512 + (i 2).val) % 128 = (i 2).val % 128 := by omega
  rw [Ideal.truncf_def]
  unfold backward toQuery
  refine Finset.sum_congr rfl fun k _ => ?_
  dsimp only
  rw [e0, e1, e2, e3]
  exact congrArg (· * _) (slopes_at x y hx hy _ _ _ _ h0 (by omega) h1 k)

/-- The reference's gradient of the keys. -/
theorem w68_at (i : S2x256x512.Idx) : val_main_v68 (F := Ideal) x y z i
    = toKey (queries x (i 0).val) (entry3 y (i 0).val) ((i 2).val / 128) (cotangents z (i 0).val) 2048 (i 1) ((i 2).val % 128) := by
  rw [val_main_v68_apply, val_main_v63_apply, val_main_v62_apply]
  simp only [w61_at, w7_at]
  have h0 : (i 0).val < 2 := (i 0).isLt
  have h1 : (i 1).val < 256 := (i 1).isLt
  have h2 : (i 2).val < 512 := (i 2).isLt
  have e0 : (((i 0).val * 256 + (i 1).val) * 512 + (i 2).val) / 131072 = (i 0).val := by omega
  have e1 : (((i 0).val * 256 + (i 1).val) * 512 + (i 2).val) / 512 % 256 = (i 1).val := by omega
  have e2 : (((i 0).val * 256 + (i 1).val) * 512 + (i 2).val) / 128 % 4 = (i 2).val / 128 := by omega
  have e3 : (((i 0).val * 256 + (i 1).val) * 512 + (i 2).val) % 128 = (i 2).val % 128 := by omega
  unfold toKey
  refine Finset.sum_congr rfl fun r _ => ?_
  have ej : lidx_main_v62 (idx_main_v63 (idx_main_v68 i)) r 3 = i 1 := Fin.ext e1
  rw [ej]
  rw [e0, e2, e3]
  exact congrArg (· * _) (slopes_at x y hx hy _ _ _ _ h0 (by omega) r.isLt (i 1))

omit hx hy in
/-- The reference's gradient of the values. -/
theorem w67_at (i : S2x256x512.Idx) : val_main_v67 (F := Ideal) x y z i
    = toValue (queries x (i 0).val) (entry3 y (i 0).val) ((i 2).val / 128) (cotangents z (i 0).val) 2048 (i 1) ((i 2).val % 128) := by
  rw [val_main_v67_apply, val_main_v47_apply, val_main_v46_apply]
  simp only [val_main_v44_apply, w43_at, val_main_v35_apply, w31_at, w34_at]
  have h0 : (i 0).val < 2 := (i 0).isLt
  have h1 : (i 1).val < 256 := (i 1).isLt
  have h2 : (i 2).val < 512 := (i 2).isLt
  have e0 : (((i 0).val * 256 + (i 1).val) * 512 + (i 2).val) / 131072 = (i 0).val := by omega
  have e1 : (((i 0).val * 256 + (i 1).val) * 512 + (i 2).val) / 512 % 256 = (i 1).val := by omega
  have e2 : (((i 0).val * 256 + (i 1).val) * 512 + (i 2).val) / 128 % 4 = (i 2).val / 128 := by omega
  have e3 : (((i 0).val * 256 + (i 1).val) * 512 + (i 2).val) % 128 = (i 2).val % 128 := by omega
  unfold toValue
  refine Finset.sum_congr rfl fun r _ => ?_
  have ej : ridx_main_v46 (idx_main_v47 (idx_main_v67 i)) r 3 = i 1 := Fin.ext e1
  rw [ej]
  rw [e0, e2, e3]
  exact mul_comm _ _

/-- The reference's gradient of the memory. -/
theorem reference_memory : val_main_v69 (F := Ideal) x y z = backwardMemory x y z := by
  funext i
  have h2 : (i 2).val < 1024 := (i 2).isLt
  unfold val_main_v69 backwardMemory toMemory
  by_cases hl : (i 2).val < 512
  · rw [if_pos hl]
    exact (concatenate_pair_apply_left 2 _ _ concatenates_S2x256x512_S2x256x512_S2x256x1024_d2 i rfl (ix3 (i 0) (i 1) ⟨(i 2).val, hl⟩)
      (fun b => match b with | ⟨0, _⟩ => rfl | ⟨1, _⟩ => rfl | ⟨2, _⟩ => rfl)).trans (w68_at x y z hx hy _)
  · rw [if_neg hl]
    refine (concatenate_pair_apply_right 2 _ _ concatenates_S2x256x512_S2x256x512_S2x256x1024_d2 i rfl rfl
      (ix3 (i 0) (i 1) ⟨(i 2).val - 512, by omega⟩)
      (fun b hb => match b, hb with | ⟨0, _⟩, _ => rfl | ⟨1, _⟩, _ => rfl | ⟨2, _⟩, hb => absurd rfl hb) ?_).trans ((w67_at x y z _).trans ?_)
    · show (i 2).val - 512 + 512 = (i 2).val
      omega
    · refine congrArg _ ?_
      show ((i 2).val - 512) % 128 = (i 2).val % 128
      omega

end

end Cert.Mem

end
-- ==== Proof.Attention.lean ====
/- The mathematics of one head's causal attention and of its gradient, over the reals: rows, columns and lanes are
   natural numbers, a matrix is a function of two of them. -/
module

public import Idealize.ShloMosaic.PureOps.Ideal.Laws

@[expose] public section

noncomputable section

namespace Cert.Attention

open Finset

variable (c : ℝ) (q k v g : ℕ → ℕ → ℝ)

/-- The scaled product of query row `r` with key row `j`. -/
def score (r j : ℕ) : ℝ := (∑ l ∈ range 256, q r l * k j l) * c
/-- The sum of the exponentials a query row sees: of the keys up to its own position. -/
def mass (r : ℕ) : ℝ := ∑ j ∈ range (r + 1), Real.exp (score c q k r j)
/-- The causal softmax. -/
def weight (r j : ℕ) : ℝ := if j ≤ r then Real.exp (score c q k r j) / mass c q k r else 0
/-- The attention's output. -/
def mix (r l : ℕ) : ℝ := ∑ j ∈ range 2048, weight c q k r j * v j l
/-- The logarithm of the row's mass, which the forward pass saves. -/
def lse (r : ℕ) : ℝ := Real.log (mass c q k r)
/-- The softmax recomputed from the saved logarithms `L`. -/
def again (L : ℕ → ℝ) (r j : ℕ) : ℝ := if j ≤ r then Real.exp (score c q k r j - L r) else 0
/-- The softmax's incoming gradient. -/
def up (r j : ℕ) : ℝ := ∑ l ∈ range 128, g r l * v j l
/-- The inner product of the output's gradient with the output. -/
def dots (o : ℕ → ℕ → ℝ) (r : ℕ) : ℝ := ∑ l ∈ range 128, g r l * o r l
/-- The gradient by the unscaled product, from the weights `p` and the row terms `d`. -/
def slope (p : ℕ → ℕ → ℝ) (d : ℕ → ℝ) (r j : ℕ) : ℝ := p r j * (up v g r j - d r) * c
/-- The gradient by the values. -/
def gradV (p : ℕ → ℕ → ℝ) (j l : ℕ) : ℝ := ∑ r ∈ range 2048, p r j * g r l
/-- The gradient by the keys. -/
def gradK (s : ℕ → ℕ → ℝ) (j l : ℕ) : ℝ := ∑ r ∈ range 2048, s r j * q r l
/-- The gradient by the queries. -/
def gradQ (s : ℕ → ℕ → ℝ) (r l : ℕ) : ℝ := ∑ j ∈ range 2048, s r j * k j l

theorem mass_pos (r : ℕ) : 0 < mass c q k r :=
  sum_pos (fun _ _ => Real.exp_pos _) ⟨0, by simp⟩

/-- From the logarithms the forward pass saves the recomputed softmax is the softmax. -/
theorem again_lse (r j : ℕ) : again c q k (lse c q k) r j = weight c q k r j := by
  unfold again weight lse
  rw [Real.exp_sub, Real.exp_log (mass_pos c q k r)]

/-- A causal sum over all columns, split at the row's tile: the tile's own columns under the mask, then the columns
    before it. -/
theorem causal_split (f : ℕ → ℝ) (a r : ℕ) (hr : r < 256) (ha : a + 256 ≤ 2048) :
    (∑ j ∈ range 2048, if j ≤ a + r then f j else 0)
      = (∑ i ∈ range 256, if i ≤ r then f (a + i) else 0) + ∑ i ∈ range a, f i := by
  rw [← sum_subset (s₁ := range (a + 256)) (range_subset_range.2 ha) (fun x _ hx => by
    rw [mem_range, not_lt] at hx; rw [if_neg]; omega), sum_range_add, add_comm]
  congr 1
  · refine sum_congr rfl fun i _ => ?_
    simp only [Nat.add_le_add_iff_left]
  · refine sum_congr rfl fun i hi => ?_
    rw [mem_range] at hi; rw [if_pos]; omega

/-- The mass as a sum over all columns under the mask. -/
theorem mass_eq (r : ℕ) (hr : r < 2048) :
    mass c q k r = ∑ j ∈ range 2048, if j ≤ r then Real.exp (score c q k r j) else 0 := by
  unfold mass
  rw [← sum_subset (s₁ := range (r + 1)) (s₂ := range 2048) (range_subset_range.2 hr) (fun x _ hx => by
    rw [mem_range, not_lt] at hx; rw [if_neg]; omega)]
  refine sum_congr rfl fun i hi => ?_
  rw [mem_range] at hi; rw [if_pos]; omega

/-- What the forward pass divides by, whatever it subtracts from the scores: the row's tile, then the columns before it. -/
theorem tile_mass (a r : ℕ) (hr : r < 256) (ha : a + 256 ≤ 2048) (m : ℝ) :
    (∑ i ∈ range 256, if i ≤ r then Real.exp (score c q k (a + r) (a + i) - m) else 0)
        + ∑ i ∈ range a, Real.exp (score c q k (a + r) i - m)
      = mass c q k (a + r) * Real.exp (-m) := by
  rw [mass_eq c q k (a + r) (by omega), causal_split _ a r hr ha, add_mul, sum_mul, sum_mul]
  congr 1
  · refine sum_congr rfl fun i _ => ?_
    split_ifs <;> simp [sub_eq_add_neg, Real.exp_add]
  · refine sum_congr rfl fun i _ => ?_
    simp [sub_eq_add_neg, Real.exp_add]

/-- What the forward pass divides. -/
theorem tile_mix (a r l : ℕ) (hr : r < 256) (ha : a + 256 ≤ 2048) (m : ℝ) :
    (∑ i ∈ range 256, (if i ≤ r then Real.exp (score c q k (a + r) (a + i) - m) else 0) * v (a + i) l)
        + ∑ i ∈ range a, Real.exp (score c q k (a + r) i - m) * v i l
      = mix c q k v (a + r) l * (mass c q k (a + r) * Real.exp (-m)) := by
  have hz := (mass_pos c q k (a + r)).ne'
  have h : ∀ j, weight c q k (a + r) j * v j l
      = if j ≤ a + r then Real.exp (score c q k (a + r) j) / mass c q k (a + r) * v j l else 0 := fun j => by
    unfold weight; split_ifs <;> simp
  unfold mix
  rw [sum_congr rfl fun j _ => h j, causal_split _ a r hr ha, add_mul, sum_mul, sum_mul]
  congr 1
  · refine sum_congr rfl fun i _ => ?_
    split_ifs
    · rw [sub_eq_add_neg, Real.exp_add]; field_simp
    · simp
  · refine sum_congr rfl fun i _ => ?_
    rw [sub_eq_add_neg, Real.exp_add]; field_simp

/-- The quotient the forward pass stores. -/
theorem tile_out (a r l : ℕ) (hr : r < 256) (ha : a + 256 ≤ 2048) (m : ℝ) :
    mix c q k v (a + r) l * (mass c q k (a + r) * Real.exp (-m)) / (mass c q k (a + r) * Real.exp (-m))
      = mix c q k v (a + r) l :=
  mul_div_cancel_right₀ _ (mul_pos (mass_pos c q k _) (Real.exp_pos _)).ne'

/-- The logarithm it stores. -/
theorem tile_lse (r : ℕ) (m : ℝ) : m + Real.log (mass c q k r * Real.exp (-m)) = lse c q k r := by
  rw [Real.log_mul (mass_pos c q k r).ne' (Real.exp_pos _).ne', Real.log_exp]; unfold lse; ring

/-- Weights vanish above the diagonal, so a sum over the rows starts at the column's own tile: that tile's rows, then
    the rows after it. -/
theorem rows_split (f : ℕ → ℝ) (a n : ℕ) (hn : a + 256 + n = 2048) (h0 : ∀ r < a, f r = 0) :
    ∑ r ∈ range 2048, f r = (∑ i ∈ range 256, f (a + i)) + ∑ i ∈ range n, f (a + 256 + i) := by
  rw [← hn, sum_range_add, sum_range_add, sum_eq_zero fun r hr => h0 r (mem_range.1 hr), zero_add]

theorem again_above (L : ℕ → ℝ) (r j : ℕ) (h : r < j) : again c q k L r j = 0 := by
  unfold again; rw [if_neg]; omega

theorem slope_above (L d : ℕ → ℝ) (r j : ℕ) (h : r < j) : slope c v g (again c q k L) d r j = 0 := by
  unfold slope; rw [again_above c q k L r j h]; simp

/-- The columns of the query's gradient, tile by tile. -/
theorem cols_tiles (f : ℕ → ℝ) :
    ∑ j ∈ range 2048, f j = ∑ t ∈ range 8, ∑ i ∈ range 256, f (256 * t + i) := by
  have h : ∀ n, ∑ j ∈ range (256 * n), f j = ∑ t ∈ range n, ∑ i ∈ range 256, f (256 * t + i) := fun n => by
    induction n with
    | zero => simp
    | succ n ih => rw [sum_range_succ, ← ih, Nat.mul_succ, sum_range_add]
  exact h 8

/-- The row term: the output's gradient against the output is the softmax against its incoming gradient. -/
theorem dots_mix (r : ℕ) :
    dots g (mix c q k v) r = ∑ j ∈ range 2048, weight c q k r j * up v g r j := by
  unfold dots mix up
  simp only [mul_sum]
  rw [sum_comm]
  exact sum_congr rfl fun _ _ => sum_congr rfl fun _ _ => by ring

end Cert.Attention

end
-- ==== Proof.Step.lean ====
/- What the call computes, over the reals: the projections and their rotations, one head's attention, its gradient, and
   the gradient carried back through the rotations. Arrays are functions of a row and a column. -/
module

public import proofs.«01_k».proof.Proof.Attention
public import proofs.«01_k».proof.Proof.Reals

@[expose] public section

noncomputable section

namespace Cert.Step

open Finset Cert.Attention Cert.Reals

/-- The arguments: the two normed latents and their projections, the shared key's rotated part before its rotation, the
    rotation's cosines and sines, and the gradient of the output. -/
structure Args where
  cq : ℕ → ℕ → ℝ
  wq : ℕ → ℕ → ℝ
  ck : ℕ → ℕ → ℝ
  wk : ℕ → ℕ → ℝ
  kr : ℕ → ℕ → ℝ
  cs : ℕ → ℕ → ℝ
  sn : ℕ → ℕ → ℝ
  g : ℕ → ℕ → ℝ

/-- A product of `x` with `w` over `K` lanes. -/
def lin (K : ℕ) (x w : ℕ → ℕ → ℝ) (n c : ℕ) : ℝ := ∑ t ∈ range K, x n t * w t c

/-- The rotation of 64 lanes, paired 32 apart. -/
def turn (x c s : ℕ → ℝ) (l : ℕ) : ℝ :=
  if l < 32 then x l * c l - x (l + 32) * s l else x l * c (l - 32) + x (l - 32) * s (l - 32)

/-- Its transpose. -/
def turnBack (x c s : ℕ → ℝ) (l : ℕ) : ℝ :=
  if l < 32 then x l * c l + x (l + 32) * s l else x l * c (l - 32) - x (l - 32) * s (l - 32)

variable (A : Args) (b h : ℕ)

/-- A head's queries: 128 plain lanes, 64 rotated ones, 64 zeros. -/
def qh (r l : ℕ) : ℝ :=
  if l < 128 then lin 512 A.cq A.wq (b * 2048 + r) (h * 192 + l)
  else if l < 192 then
    turn (fun t => lin 512 A.cq A.wq (b * 2048 + r) (h * 192 + (128 + t))) (A.cs (b * 2048 + r)) (A.sn (b * 2048 + r))
      (l - 128)
  else 0
/-- Its keys: 128 lanes of its own, 64 rotated ones shared by the heads, 64 zeros. -/
def kh (r l : ℕ) : ℝ :=
  if l < 128 then lin 256 A.ck A.wk (b * 2048 + r) (h * 256 + l)
  else if l < 192 then turn (A.kr (b * 2048 + r)) (A.cs (b * 2048 + r)) (A.sn (b * 2048 + r)) (l - 128)
  else 0
/-- Its values. -/
def vh (r l : ℕ) : ℝ := lin 256 A.ck A.wk (b * 2048 + r) (h * 256 + (128 + l))
/-- Its share of the output's gradient. -/
def gh (r l : ℕ) : ℝ := A.g (b * 2048 + r) (h * 128 + l)

/-- A head's softmax. -/
def wh : ℕ → ℕ → ℝ := weight scale (qh A b h) (kh A b h)
/-- A head's output. -/
def oh : ℕ → ℕ → ℝ := mix scale (qh A b h) (kh A b h) (vh A b h)
/-- The gradient of its scores before the scale. -/
def sh : ℕ → ℕ → ℝ := slope scale (vh A b h) (gh A b h) (wh A b h) (dots (gh A b h) (oh A b h))

/-- The output. -/
def out (n c : ℕ) : ℝ := oh A (n / 2048) (c / 128) (n % 2048) (c % 128)

/-- The gradient of the queries, before their rotation. -/
def outQ (n c : ℕ) : ℝ :=
  if c % 256 < 128 then gradQ (kh A (n / 2048) (c / 256)) (sh A (n / 2048) (c / 256)) (n % 2048) (c % 256)
  else turnBack (fun t => gradQ (kh A (n / 2048) (c / 256)) (sh A (n / 2048) (c / 256)) (n % 2048) (128 + t))
    (A.cs n) (A.sn n) (c % 256 - 128)

/-- The gradient of the keys' own lanes, then of the values. -/
def outKV (n c : ℕ) : ℝ :=
  if c % 256 < 128 then gradK (qh A (n / 2048) (c / 256)) (sh A (n / 2048) (c / 256)) (n % 2048) (c % 256)
  else gradV (gh A (n / 2048) (c / 256)) (wh A (n / 2048) (c / 256)) (n % 2048) (c % 256 - 128)

/-- The gradient of the shared rotated lanes of the keys, before their rotation, summed over the heads. -/
def outR (n l : ℕ) : ℝ :=
  turnBack (fun t => ∑ h ∈ range 12, gradK (qh A (n / 2048) h) (sh A (n / 2048) h) (n % 2048) (128 + t))
    (A.cs n) (A.sn n) l

/-- The gradient of the queries, head by head. -/
theorem outQ_at (r l : ℕ) (hr : r < 2048) (hl : l < 256) : outQ A (b * 2048 + r) (h * 256 + l)
    = if l < 128 then gradQ (kh A b h) (sh A b h) r l
      else turnBack (fun t => gradQ (kh A b h) (sh A b h) r (128 + t)) (A.cs (b * 2048 + r)) (A.sn (b * 2048 + r))
        (l - 128) := by
  have e1 : (b * 2048 + r) / 2048 = b := by omega
  have e2 : (b * 2048 + r) % 2048 = r := by omega
  have e3 : (h * 256 + l) / 256 = h := by omega
  have e4 : (h * 256 + l) % 256 = l := by omega
  rw [outQ, e1, e2, e3, e4]

/-- The gradient of the keys and the values, head by head. -/
theorem outKV_at (r l : ℕ) (hr : r < 2048) (hl : l < 256) : outKV A (b * 2048 + r) (h * 256 + l)
    = if l < 128 then gradK (qh A b h) (sh A b h) r l else gradV (gh A b h) (wh A b h) r (l - 128) := by
  have e1 : (b * 2048 + r) / 2048 = b := by omega
  have e2 : (b * 2048 + r) % 2048 = r := by omega
  have e3 : (h * 256 + l) / 256 = h := by omega
  have e4 : (h * 256 + l) % 256 = l := by omega
  rw [outKV, e1, e2, e3, e4]

theorem outR_at (r l : ℕ) (hr : r < 2048) : outR A (b * 2048 + r) l
    = turnBack (fun t => ∑ h ∈ range 12, gradK (qh A b h) (sh A b h) r (128 + t)) (A.cs (b * 2048 + r))
        (A.sn (b * 2048 + r)) l := by
  have e1 : (b * 2048 + r) / 2048 = b := by omega
  have e2 : (b * 2048 + r) % 2048 = r := by omega
  rw [outR, e1, e2]

/-- The product of a query with a key, lanes by parts. -/
theorem score_parts (c : ℝ) (r j : ℕ) :
    score c (qh A b h) (kh A b h) r j
      = ((∑ l ∈ range 128, qh A b h r l * kh A b h j l)
          + ∑ l ∈ range 64, qh A b h r (128 + l) * kh A b h j (128 + l)) * c := by
  unfold score
  congr 1
  rw [show (256 : ℕ) = 128 + 64 + 64 from rfl, sum_range_add, sum_range_add, sum_eq_zero (s := range 64)
    (f := fun x => qh A b h r (128 + 64 + x) * kh A b h j (128 + 64 + x)), add_zero]
  intro x _
  have h1 : ¬ 128 + 64 + x < 128 := by omega
  have h2 : ¬ 128 + 64 + x < 192 := by omega
  rw [qh, if_neg h1, if_neg h2, zero_mul]

end Cert.Step

end
-- ==== Proof.Finite.lean ====
/- The precondition and the mask of the value claim, read: arguments the precondition holds of are arrays of reals, and the
   mask selects the lanes in use. -/
module

public import proofs.«01_k».proof.Defs
public import proofs.«01_k».proof.Proof.Step
public import Idealize.ShloMosaic.Lib.Pointwise
public import Idealize.ShloMosaic.Lib.WordCmp
public import Idealize.ShloMosaic.Lib.Routing.Words

@[expose] public section

noncomputable section

namespace Cert.Finite

open Idealize.ShloMosaic

instance factsPre : Cert.Pre_finite.Facts where
  bcast_S_S4096x512 := by decide
  bcast_S_S512x2304 := by decide
  bcast_S_S4096x256 := by decide
  bcast_S_S256x3072 := by decide
  bcast_S_S4096x64 := by decide
  bcast_S_S4096x32 := by decide
  bcast_S_S4096x1536 := by decide

instance factsOn : Cert.On_claimed.Facts where
  bcast_S_S4096x1536 := by decide
  bcast_S_S4096x3072 := by decide
  bcast_S_S4096x128 := by decide

/-- An extended real whose absolute value is below `⊤` is a real. -/
theorem real_of_lt (x : EReal) (h : Ideal.cmp .olt (max x (-x)) (Ideal.ofBits .f32 0x7F800000#32) = 1#1) :
    x = ((x.toReal : ℝ) : EReal) := by
  have t : Ideal.ofBits .f32 0x7F800000#32 = ⊤ := by simp [Ideal.ofBits, Ideal.ieee]
  have h' : BitVec.ofBool (decide (max x (-x) < Ideal.ofBits .f32 0x7F800000#32)) = 1#1 := h
  rw [WordCmp.ofBool_decide_eq_one_iff, t, max_lt_iff] at h'
  refine (EReal.coe_toReal h'.1.ne ?_).symm
  rintro rfl
  simp at h'

/-- The reals an array holds, by row and column. -/
def reals {a b : ℕ} (x : (⟨2, ![a, b]⟩ : Shape).Idx → EReal) (n c : ℕ) : ℝ :=
  if h : n < a ∧ c < b then (x (ValueIdx.ix2 ⟨n, h.1⟩ ⟨c, h.2⟩)).toReal else 0

theorem reals_at {a b : ℕ} (x : (⟨2, ![a, b]⟩ : Shape).Idx → EReal)
    (h : ∀ i, Ideal.cmp .olt (max (x i) (-(x i))) (Ideal.ofBits .f32 0x7F800000#32) = 1#1) (i : (⟨2, ![a, b]⟩ : Shape).Idx) :
    x i = ((reals x (i 0).val (i 1).val : ℝ) : EReal) := by
  have e : ValueIdx.ix2 (⟨(i 0).val, (i 0).isLt⟩ : Fin a) (⟨(i 1).val, (i 1).isLt⟩ : Fin b) = i := by
    funext k; match k with | 0 => rfl | 1 => rfl
  rw [reals, dif_pos ⟨(i 0).isLt, (i 1).isLt⟩, e]
  exact real_of_lt _ (h i)

/-! The mask. -/

theorem mask_q (i : (⟨2, ![4096, 3072]⟩ : Shape).Idx)
    (h : IntOp.cmpi .slt (IntOp.remsi .host (BitVec.ofNat 32 (i 1).val) 256#32) 192#32 = 1#1) : (i 1).val % 256 < 192 := by
  have b1 : (i 1).val < 3072 := (i 1).isLt
  rw [show (256#32 : BitVec 32) = BitVec.ofNat 32 256 from rfl, show (192#32 : BitVec 32) = BitVec.ofNat 32 192 from rfl,
    Routing.remsi_word _ (by omega) (by omega) (by omega), WordCmp.cmpi_slt_ofNat_eq_one_iff (by omega) (by omega)] at h
  exact h

theorem mask_r (i : (⟨2, ![4096, 128]⟩ : Shape).Idx)
    (h : IntOp.cmpi .slt (BitVec.ofNat 32 (i 1).val) 64#32 = 1#1) : (i 1).val < 64 := by
  have b1 : (i 1).val < 128 := (i 1).isLt
  rw [show (64#32 : BitVec 32) = BitVec.ofNat 32 64 from rfl, WordCmp.cmpi_slt_ofNat_eq_one_iff (by omega) (by omega)] at h
  exact h

end Cert.Finite

end
-- ==== Proof.MemBackward.lean ====
/- The attention into the memory's backward call: the blocks it stores, and the sums it adds up over the row tiles. -/
module

public import proofs.«01_k».proof.Proof.Product
public import proofs.«01_k».proof.Proof.MemGradient
public import proofs.«01_k».proof.Proof.Finite
public import proofs.«01_k».proof.Defs
public import proofs.«01_k».proof.Proof.Gen.Kernel15
public import proofs.«01_k».proof.Proof.Gen.Kernel15Ideal.Value
public import Idealize.ShloMosaic.Lib.Pipeline.ValueKit.Tiles

@[expose] public section

set_option maxRecDepth 16384

noncomputable section

namespace Cert.Kernel15Ideal.Read

open Cert.Kernel15Ideal Cert.Kernel15Ideal.Gen Cert.Kernel15Ideal.Value Cert.Product Cert.Reals
open Idealize.ShloMosaic Idealize.ShloMosaic.TcCoe Idealize.ShloMosaic.Tactic Idealize.SL.Sem

/-- An index of a head's part of a row tile, by its row and lane. -/
theorem part_idx (x : S1x512x128.Idx) : ∃ (r : Fin 512) (l : Fin 128), x = ix3 0 r l :=
  ⟨x 1, x 2, by
    funext a
    match a with
    | ⟨0, _⟩ => exact Subsingleton.elim (α := Fin 1) _ _
    | ⟨1, _⟩ => rfl
    | ⟨2, _⟩ => rfl⟩

/-- An index of a head's part of the memory, by its row and lane. -/
theorem mem_idx (x : S1x256x128.Idx) : ∃ (r : Fin 256) (l : Fin 128), x = ix3 0 r l :=
  ⟨x 1, x 2, by
    funext a
    match a with
    | ⟨0, _⟩ => exact Subsingleton.elim (α := Fin 1) _ _
    | ⟨1, _⟩ => rfl
    | ⟨2, _⟩ => rfl⟩

/-- A store over a head's lanes of the memory's block leaves the other lanes. -/
theorem skip {a : ℕ} (inb : ∀ x, (![0, 0, a] : Fin 3 → ℕ) x + (![1, 256, 128] : Fin 3 → ℕ) x ≤ S1x256x1024.size x)
    (w : (Rect.unit (s := S1x256x1024) ![0, 0, a] ![1, 256, 128] inb).shape.Idx → Elt Ideal .f32)
    (P : List (View.Piece (Elt Ideal) S1x256x1024 .f32)) (j : Fin 256) (l : Fin 1024) (h : ¬ (a ≤ l.val ∧ l.val < a + 128)) :
    View.canon (⟨Rect.unit ![0, 0, a] ![1, 256, 128] inb, w⟩ :: P) (ix3 0 j l) = View.canon P (ix3 0 j l) := by
  rw [View.canon_cons_of_not_mem]
  intro hm
  exact h ((Rect.mem_set_unit (inb := inb)).1 hm 2)

/-- What later stores cover reads nothing of the earlier. -/
theorem canon_append {s : Shape} {e : EltTy} (y : s.Idx) (L M : List (View.Piece (Elt Ideal) s e)) (h : ∃ p ∈ L, y ∈ p.1.set) :
    View.canon (L ++ M) y = View.canon L y := by
  induction L with
  | nil => exact absurd h (by simp)
  | cons p L ih =>
    by_cases hp : y ∈ p.1.set
    · rw [← Rect.map_emb_univ] at hp
      obtain ⟨x, -, rfl⟩ := Finset.mem_map.1 hp
      rw [List.cons_append, View.canon_cons_emb, View.canon_cons_emb]
    · rw [List.cons_append, View.canon_cons_of_not_mem _ _ hp, View.canon_cons_of_not_mem _ _ hp]
      refine ih ?_
      obtain ⟨q, hq, hy⟩ := h
      rcases List.mem_cons.1 hq with rfl | hq
      · exact absurd hy hp
      · exact ⟨q, hq, hy⟩

section
variable (c : Dev nD) (i : grid0.Coords) (a2 : Memref sig .tc .vmem S1x512x512 .f32) (h2 : a2.IsWhole)
  (a3 : Memref sig .tc .vmem S1x256x1024 .bf16) (h3 : a3.IsWhole) (a4 : Memref sig .tc .vmem S1x512x512 .f32) (h4 : a4.IsWhole)
  (a5 : Memref sig .tc .vmem S1x512x512 .bf16) (h5 : a5.IsWhole) (a6 : Memref sig .tc .vmem S1x256x1024 .f32) (h6 : a6.IsWhole)
  (x0 : Vec Ideal S1x512x512 .f32) (x1 : Vec Ideal S1x256x1024 .bf16) (x2 : Vec Ideal S1x512x512 .f32) (x4 : Vec Ideal S1x256x1024 .f32)
  (q k g : ℕ → ℕ → EReal)
  (hq : ∀ r l, x0 (ix3 0 r l) = q r.val l.val) (hk : ∀ r l, x1 (ix3 0 r l) = k r.val l.val) (hg : ∀ r l, x2 (ix3 0 r l) = g r.val l.val)
include hq hk hg

set_option maxHeartbeats 4000000 in
/-- The queries' gradient, at a batch's first tile. -/
theorem queries_A (hc : cond0_0 i) (y : S1x512x512.Idx) : out0_A_3 c i a2 h2 a3 h3 a4 h4 a5 h5 a6 h6 hc x0 x1 x2 y
    = Mem.toQuery q k ((y 2).val / 128) (y 1).val g ((y 2).val % 128) := by
  unfold out0_A_3
  rw [View.read_writes_eq_canon _ _ _ (cover0_A_3 c i a2 h2 a3 h3 a4 h4 a5 h5 a6 h6 hc x0 x1 x2)]
  unfold kernelRun0_A
  dsimp only
  simp only [kernelRun0_A.sl.r, kernelRun0_A.sl.r_1, kernelRun0_A.sl.r_2, kernelRun0_A.sl.r_3, kernelRun0_A.sl.r_4, kernelRun0_A.sl.r_5,
    kernelRun0_A.sl.r_6, kernelRun0_A.sl.r_7, kernelRun0_A.sl.r_8, kernelRun0_A.sl.r_12, kernelRun0_A.sl.r_15, kernelRun0_A.sl.r_16,
    kernelRun0_A.sl.r_17, kernelRun0_A.sl.r_18, kernelRun0_A.sl.cst_17, kernelRun0_A.sl.cst_86, View.readAt_eq_ld,
    h2.read_unread, h3.read_unread, h4.read_unread]
  canon_tiles z h using View.cover_of_tiled_head _ _ _ (by rfl) y
  all_goals
    obtain ⟨r, l, rfl⟩ := part_idx z
    open_payloads
    pointwise
    rw [show (y 1).val = r.val from h1]
    simp only [hq, hk, hg, negInf_eq]
  case piece0 =>
    have e : (y 2).val = 128 * 3 + l.val := (show (y 2).val = 384 + l.val from h2)
    rw [Mem.head 3 l.val e l.isLt, Mem.lane 3 l.val e l.isLt]
    exact rfl
  case piece1 =>
    have e : (y 2).val = 128 * 2 + l.val := (show (y 2).val = 256 + l.val from h2)
    rw [Mem.head 2 l.val e l.isLt, Mem.lane 2 l.val e l.isLt]
    exact rfl
  case piece2 =>
    have e : (y 2).val = 128 * 1 + l.val := (show (y 2).val = 128 + l.val from h2)
    rw [Mem.head 1 l.val e l.isLt, Mem.lane 1 l.val e l.isLt]
    exact rfl
  case piece3 =>
    have e : (y 2).val = 128 * 0 + l.val := (show (y 2).val = l.val from h2).trans (Nat.zero_add _).symm
    rw [Mem.head 0 l.val e l.isLt, Mem.lane 0 l.val e l.isLt]
    unfold Mem.toQuery Mem.slope Mem.up Mem.weight Mem.mass Mem.power Mem.top Mem.score
    simp only [Nat.mul_zero, Nat.zero_add, Nat.add_zero]
    exact rfl

/-- The same at its later tiles. -/
theorem queries_B (hc : ¬cond0_0 i) (y : S1x512x512.Idx) : out0_B_3 c i a2 h2 a3 h3 a4 h4 a5 h5 a6 h6 hc x0 x1 x2 x4 y
    = Mem.toQuery q k ((y 2).val / 128) (y 1).val g ((y 2).val % 128) := by
  refine Eq.trans ?_ (queries_A c (grid0.coords ⟨0, by decide⟩) a2 h2 a3 h3 a4 h4 a5 h5 a6 h6 x0 x1 x2 q k g hq hk hg
    ((hcond0_0 ⟨0, by decide⟩).mpr rfl) y)
  exact rfl

set_option maxHeartbeats 4000000 in
/-- The memory's gradient, at a batch's later tiles: what the tiles before left, and the tile's own. -/
theorem memory_B (hc : ¬cond0_0 i) (R : Fin 256) (L : Fin 1024) : out0_B_4 c i a2 h2 a3 h3 a4 h4 a5 h5 a6 h6 hc x0 x1 x2 x4 (ix3 0 R L)
    = x4 (ix3 0 R L) + Mem.toMemory q k g 512 R L.val := by
  unfold out0_B_4
  rw [View.read_writes_eq_canon _ _ _ (cover0_B_4 c i a2 h2 a3 h3 a4 h4 a5 h5 a6 h6 hc x0 x1 x2 x4)]
  unfold kernelRun0_B
  dsimp only
  simp only [kernelRun0_B.sl.r, kernelRun0_B.sl.r_1, kernelRun0_B.sl.r_2, kernelRun0_B.sl.r_3, kernelRun0_B.sl.r_4, kernelRun0_B.sl.r_5,
    kernelRun0_B.sl.r_6, kernelRun0_B.sl.r_7, kernelRun0_B.sl.r_8, kernelRun0_B.sl.r_9, kernelRun0_B.sl.r_10, kernelRun0_B.sl.r_11,
    kernelRun0_B.sl.r_13, kernelRun0_B.sl.r_14,
    kernelRun0_B.sl.r_12, kernelRun0_B.sl.r_15, kernelRun0_B.sl.r_16, kernelRun0_B.sl.r_19, kernelRun0_B.sl.r_20,
    kernelRun0_B.sl.r_17, kernelRun0_B.sl.r_18, kernelRun0_B.sl.cst_17, kernelRun0_B.sl.cst_86,
    kernelRun0_B.sl.v203, kernelRun0_B.sl.v196, kernelRun0_B.sl.v151, kernelRun0_B.sl.v144, kernelRun0_B.sl.v99, kernelRun0_B.sl.v92,
    kernelRun0_B.sl.v47, View.readAt_eq_ld,
    h2.read_unread, h3.read_unread, h4.read_unread, h6.read_unread]
  canon_tiles z h using View.cover_of_tiled_head _ _ _ (by rfl) _
  all_goals
    obtain ⟨r, l, rfl⟩ := mem_idx z
    open_payloads
    pointwise
    obtain rfl : R = r := Fin.ext h1
    simp only [hq, hk, hg, negInf_eq]
  case piece0 =>
    refine congrArg₂ (· + ·) (congrArg (fun t => x4 (ix3 0 R t)) (Fin.ext h2.symm)) ?_
    rw [show L.val = 896 + l.val from h2, Mem.memory_value q k 3 g 512 R 896 l.val rfl l.isLt]
    exact rfl
  case piece1 =>
    refine congrArg₂ (· + ·) (congrArg (fun t => x4 (ix3 0 R t)) (Fin.ext h2.symm)) ?_
    rw [show L.val = 384 + l.val from h2, Mem.memory_key q k 3 g 512 R 384 l.val rfl (by decide) l.isLt]
    exact rfl
  case piece2 =>
    refine congrArg₂ (· + ·) (congrArg (fun t => x4 (ix3 0 R t)) (Fin.ext h2.symm)) ?_
    rw [show L.val = 768 + l.val from h2, Mem.memory_value q k 2 g 512 R 768 l.val rfl l.isLt]
    exact rfl
  case piece3 =>
    refine congrArg₂ (· + ·) (congrArg (fun t => x4 (ix3 0 R t)) (Fin.ext h2.symm)) ?_
    rw [show L.val = 256 + l.val from h2, Mem.memory_key q k 2 g 512 R 256 l.val rfl (by decide) l.isLt]
    exact rfl
  case piece4 =>
    refine congrArg₂ (· + ·) (congrArg (fun t => x4 (ix3 0 R t)) (Fin.ext h2.symm)) ?_
    rw [show L.val = 640 + l.val from h2, Mem.memory_value q k 1 g 512 R 640 l.val rfl l.isLt]
    exact rfl
  case piece5 =>
    refine congrArg₂ (· + ·) (congrArg (fun t => x4 (ix3 0 R t)) (Fin.ext h2.symm)) ?_
    rw [show L.val = 128 + l.val from h2, Mem.memory_key q k 1 g 512 R 128 l.val rfl (by decide) l.isLt]
    exact rfl
  case piece6 =>
    refine congrArg₂ (· + ·) (congrArg (fun t => x4 (ix3 0 R t)) (Fin.ext h2.symm)) ?_
    rw [show L.val = 512 + l.val from h2, Mem.memory_value q k 0 g 512 R 512 l.val rfl l.isLt]
    unfold Mem.toValue Mem.weight Mem.mass Mem.power Mem.top Mem.score
    simp only [Nat.mul_zero, Nat.zero_add, Nat.add_zero]
    exact rfl
  case piece7 =>
    refine congrArg₂ (· + ·) (congrArg (fun t => x4 (ix3 0 R t)) (Fin.ext h2.symm)) ?_
    rw [show L.val = 0 + l.val from h2.trans (Nat.zero_add _).symm, Mem.memory_key q k 0 g 512 R 0 l.val rfl (by decide) l.isLt]
    unfold Mem.toKey Mem.slope Mem.up Mem.weight Mem.mass Mem.power Mem.top Mem.score
    simp only [Nat.mul_zero, Nat.zero_add, Nat.add_zero]
    exact rfl

omit hq hk hg in
set_option maxHeartbeats 4000000 in
/-- The first tile's stores find zeros. -/
theorem zeros : kernelRun0_A.sl.v203 (F := Ideal) c a2 h2 a3 h3 a4 h4 a6 x0 x1 x2 = (fun _ => (0 : EReal))
    ∧ kernelRun0_A.sl.v196 (F := Ideal) c a2 h2 a3 h3 a4 h4 a6 x0 x1 x2 = (fun _ => (0 : EReal))
    ∧ kernelRun0_A.sl.v151 (F := Ideal) c a2 h2 a3 h3 a4 h4 a6 x0 x1 x2 = (fun _ => (0 : EReal))
    ∧ kernelRun0_A.sl.v144 (F := Ideal) c a2 h2 a3 h3 a4 h4 a6 x0 x1 x2 = (fun _ => (0 : EReal))
    ∧ kernelRun0_A.sl.v99 (F := Ideal) c a2 h2 a3 h3 a4 h4 a6 x0 x1 x2 = (fun _ => (0 : EReal))
    ∧ kernelRun0_A.sl.v92 (F := Ideal) c a2 h2 a3 h3 a4 h4 a6 x0 x1 x2 = (fun _ => (0 : EReal))
    ∧ kernelRun0_A.sl.v47 (F := Ideal) c a2 h2 a3 h3 a4 h4 a6 x0 x1 x2 = (fun _ => (0 : EReal))
    ∧ kernelRun0_A.sl.v40 (F := Ideal) c a6 = (fun _ => (0 : EReal)) := by
  refine ⟨?_, ?_, ?_, ?_, ?_, ?_, ?_, ?_⟩ <;>
  · funext z
    obtain ⟨r, l, rfl⟩ := mem_idx z
    simp only [kernelRun0_A.sl.v203, kernelRun0_A.sl.v196, kernelRun0_A.sl.v151, kernelRun0_A.sl.v144, kernelRun0_A.sl.v99,
      kernelRun0_A.sl.v92, kernelRun0_A.sl.v47, kernelRun0_A.sl.v40,
      kernelRun0_A.sl.H4_8, kernelRun0_A.sl.H4_7, kernelRun0_A.sl.H4_6, kernelRun0_A.sl.H4_5, kernelRun0_A.sl.H4_4,
      kernelRun0_A.sl.H4_3, kernelRun0_A.sl.H4_2, kernelRun0_A.sl.H4_1, View.readCov_eq_canon']
    pointwise
    repeat rw [skip _ _ _ _ _ (by show ¬(_ ≤ _ ∧ _ < _); simp only []; omega)]
    rw [View.canon_unit_zero (S := S1x256x1024) (by decide)]
    unfold k0_pay2
    exact Ideal.ofBits_zero_f32

set_option maxHeartbeats 4000000 in
/-- The memory's gradient, at a batch's first tile. -/
theorem memory_A (hc : cond0_0 i) (R : Fin 256) (L : Fin 1024) : out0_A_4 c i a2 h2 a3 h3 a4 h4 a5 h5 a6 h6 hc x0 x1 x2 (ix3 0 R L)
    = Mem.toMemory q k g 512 R L.val := by
  have hb : ¬cond0_0 (grid0.coords ⟨1, by decide⟩) := fun h => absurd ((hcond0_0 ⟨1, by decide⟩).mp h) (by decide)
  have e := memory_B c _ a2 h2 a3 h3 a4 h4 a5 h5 a6 h6 x0 x1 x2 (fun _ => (0 : EReal)) q k g hq hk hg hb R L
  rw [zero_add] at e
  rw [← e]
  obtain ⟨z1, z2, z3, z4, z5, z6, z7, z8⟩ := zeros c a2 h2 a3 h3 a4 h4 a6 x0 x1 x2
  have hv := cover0_B_4 c _ a2 h2 a3 h3 a4 h4 a5 h5 a6 h6 hb x0 x1 x2 (fun _ => (0 : EReal))
  unfold out0_A_4 out0_B_4
  rw [View.read_writes_eq_canon _ _ _ (cover0_A_4 c i a2 h2 a3 h3 a4 h4 a5 h5 a6 h6 hc x0 x1 x2), View.read_writes_eq_canon _ _ _ hv]
  refine Eq.trans ?_ (canon_append (ix3 0 R L) _ [⟨Rect.unit ![0, 0, 0] S1x256x1024.size inb_S1x256x1024_S1x256x1024_0_0_0, k0_pay2 (F := Ideal)⟩] (hv _))
  unfold kernelRun0_A kernelRun0_B
  dsimp only
  simp only [z1, z2, z3, z4, z5, z6, z7, z8, kernelRun0_A.sl.H4_8, kernelRun0_A.sl.H4_7, kernelRun0_A.sl.H4_6, kernelRun0_A.sl.H4_5,
    kernelRun0_A.sl.H4_4, kernelRun0_A.sl.H4_3, kernelRun0_A.sl.H4_2, kernelRun0_A.sl.H4_1, kernelRun0_B.sl.v203, kernelRun0_B.sl.v196,
    kernelRun0_B.sl.v151, kernelRun0_B.sl.v144, kernelRun0_B.sl.v99, kernelRun0_B.sl.v92, kernelRun0_B.sl.v47, View.readAt_eq_ld,
    h6.read_unread]
  exact rfl

end
section
variable (m : (ℓ : Loc nD τ sig) → Buf (Elt Ideal) ℓ)

theorem at0 : ∀ t : Fin cfg0.N, win0_0.index t = ![t.val / 4, t.val % 4, 5] := (by decide +kernel : ∀ t : Fin grid0.N, _)
theorem at1 : ∀ t : Fin cfg0.N, win0_1.index t = ![t.val / 4, 0, 0] := (by decide +kernel : ∀ t : Fin grid0.N, _)
theorem at2 : ∀ t : Fin cfg0.N, win0_2.index t = ![t.val / 4, t.val % 4, 0] := (by decide +kernel : ∀ t : Fin grid0.N, _)
theorem at3 : ∀ t : Fin cfg0.N, win0_3.index t = ![t.val / 4, t.val % 4, 0] := (by decide +kernel : ∀ t : Fin grid0.N, _)
theorem at4 : ∀ t : Fin cfg0.N, win0_4.index t = ![t.val / 4, 0, 0] := (by decide +kernel : ∀ t : Fin grid0.N, _)

/-- The rows the call takes are the argument's, batch by batch. -/
theorem rows_at (c : Dev nD) (b r l : ℕ) (hb : b < 2) (hr : r < 2048) : Mem.entry3 (V m c main_v0) b r l
    = entry (V m c main_arg0) (b * 2048 + r) l := by
  have h : V m c main_v0 = shapeCast S2x2048x3456 (V m c main_arg0) shapeCasts_S4096x3456_S2x2048x3456 := by
    rw [V_main_arg0]
    unfold V hostOps0
    after_results
    rfl
  refine Mem.entry3_rows _ _ rfl (fun i j l k e => ?_) b r l hb hr
  rw [h]
  refine shapeCast_apply _ shapeCasts_S4096x3456_S2x2048x3456 (ix3 i j l) (ix2 k l) ?_
  rewrite [Shape.rowMajor_val_two, Shape.rowMajor_val_three]
  show k.val * 3456 + l.val = (i.val * 2048 + j.val) * 3456 + l.val
  rw [e]

/-- And the cotangent's. -/
theorem outer_at (c : Dev nD) (b r l : ℕ) (hb : b < 2) (hr : r < 2048) : Mem.entry3 (V m c main_v1) b r l
    = entry (V m c main_arg2) (b * 2048 + r) l := by
  have h : V m c main_v1 = shapeCast S2x2048x512 (V m c main_arg2) shapeCasts_S4096x512_S2x2048x512 := by
    rw [V_main_arg2]
    unfold V hostOps0
    after_results
    rfl
  refine Mem.entry3_rows _ _ rfl (fun i j l k e => ?_) b r l hb hr
  rw [h]
  refine shapeCast_apply _ shapeCasts_S4096x512_S2x2048x512 (ix3 i j l) (ix2 k l) ?_
  rewrite [Shape.rowMajor_val_two, Shape.rowMajor_val_three]
  show k.val * 512 + l.val = (i.val * 2048 + j.val) * 512 + l.val
  rw [e]

theorem queries_at (c : Dev nD) (t : Fin cfg0.N) (r l : Fin 512) : X0_0 m c t (ix3 0 r l)
    = Mem.queries (V m c main_arg0) (t.val / 4) (t.val % 4 * 512 + r.val) l.val := by
  have ht : t.val < 8 := t.isLt
  unfold Mem.queries
  rw [← rows_at m c _ _ _ (by omega) (by omega)]
  unfold X0_0 Pipeline.Window.fill
  rw [dif_pos (moved0_0 t _)]
  blk_simp [iblk]; rw [Mem.entry3_at (V m c main_v0)]; blk_simp [at0]; rfl

theorem memory_at (c : Dev nD) (t : Fin cfg0.N) (r : Fin 256) (l : Fin 1024) : iblk m c 1 t (ix3 0 r l)
    = Mem.entry3 (V m c main_arg1) (t.val / 4) r.val l.val := by
  blk_simp [iblk]; rw [Mem.entry3_at (V m c main_arg1)]; blk_simp [at1]; rfl

theorem cotangents_at (c : Dev nD) (t : Fin cfg0.N) (r l : Fin 512) : iblk m c 2 t (ix3 0 r l)
    = Mem.cotangents (V m c main_arg2) (t.val / 4) (t.val % 4 * 512 + r.val) l.val := by
  have ht : t.val < 8 := t.isLt
  unfold Mem.cotangents
  rw [← outer_at m c _ _ _ (by omega) (by omega)]
  blk_simp [iblk]; rw [Mem.entry3_at (V m c main_v1)]; blk_simp [at2]; rfl

/-- A tile's part of the queries' gradient. -/
theorem queries_out (c : Dev nD) (t : Fin cfg0.N) (y : S1x512x512.Idx) : (outsAt0 m c t.val t.isLt).1 y
    = Mem.toQuery (Mem.queries (V m c main_arg0) (t.val / 4)) (Mem.entry3 (V m c main_arg1) (t.val / 4)) ((y 2).val / 128)
      (t.val % 4 * 512 + (y 1).val) (Mem.cotangents (V m c main_arg2) (t.val / 4)) ((y 2).val % 128) := by
  refine Eq.trans ?_ (Mem.query_rows _ _ _ _ _ _ _)
  by_cases h : t.val % 4 = 0
  · rw [outsAt0_A m c t h]
    dsimp only
    rw [queries_A (q := fun r => Mem.queries (V m c main_arg0) (t.val / 4) (t.val % 4 * 512 + r)) (k := Mem.entry3 (V m c main_arg1) (t.val / 4))
      (g := fun r => Mem.cotangents (V m c main_arg2) (t.val / 4) (t.val % 4 * 512 + r)) (hq := queries_at m c t) (hk := memory_at m c t)
      (hg := cotangents_at m c t)]
  · rw [outsAt0_B m c t h]
    dsimp only
    rw [queries_B (q := fun r => Mem.queries (V m c main_arg0) (t.val / 4) (t.val % 4 * 512 + r)) (k := Mem.entry3 (V m c main_arg1) (t.val / 4))
      (g := fun r => Mem.cotangents (V m c main_arg2) (t.val / 4) (t.val % 4 * 512 + r)) (hq := queries_at m c t) (hk := memory_at m c t)
      (hg := cotangents_at m c t)]

/-- A batch's first tile starts the memory's gradient. -/
theorem memory_first (c : Dev nD) (t : Fin cfg0.N) (h : t.val % 4 = 0) (R : Fin 256) (L : Fin 1024) : (outsAt0 m c t.val t.isLt).2 (ix3 0 R L)
    = Mem.toMemory (Mem.queries (V m c main_arg0) (t.val / 4)) (Mem.entry3 (V m c main_arg1) (t.val / 4))
      (Mem.cotangents (V m c main_arg2) (t.val / 4)) 512 R L.val := by
  have hq := queries_at m c t
  have hg := cotangents_at m c t
  simp only [h, Nat.zero_mul, Nat.zero_add] at hq hg
  rw [outsAt0_A m c t h]
  dsimp only
  rw [memory_A (q := Mem.queries (V m c main_arg0) (t.val / 4)) (k := Mem.entry3 (V m c main_arg1) (t.val / 4))
    (g := Mem.cotangents (V m c main_arg2) (t.val / 4)) (hq := hq) (hk := memory_at m c t) (hg := hg)]

/-- A later tile adds its own to what the tiles before left. -/
theorem memory_later (c : Dev nD) (t : Fin cfg0.N) (h : ¬t.val % 4 = 0) (R : Fin 256) (L : Fin 1024) : (outsAt0 m c t.val t.isLt).2 (ix3 0 R L)
    = (outsAt0 m c (t.val - 1) (Nat.lt_of_le_of_lt (Nat.sub_le _ _) t.isLt)).2 (ix3 0 R L)
      + Mem.toMemory (fun r => Mem.queries (V m c main_arg0) (t.val / 4) (t.val % 4 * 512 + r)) (Mem.entry3 (V m c main_arg1) (t.val / 4))
        (fun r => Mem.cotangents (V m c main_arg2) (t.val / 4) (t.val % 4 * 512 + r)) 512 R L.val := by
  rw [outsAt0_B m c t h]
  dsimp only
  rw [memory_B (q := fun r => Mem.queries (V m c main_arg0) (t.val / 4) (t.val % 4 * 512 + r)) (k := Mem.entry3 (V m c main_arg1) (t.val / 4))
    (g := fun r => Mem.cotangents (V m c main_arg2) (t.val / 4) (t.val % 4 * 512 + r)) (hq := queries_at m c t) (hk := memory_at m c t)
    (hg := cotangents_at m c t)]

/-- The memory's gradient, of a batch's tiles so far. -/
theorem memory_out (c : Dev nD) (b : ℕ) (hb : b < 2) (n : ℕ) (hn : n < 4) (R : Fin 256) (L : Fin 1024) :
    (outsAt0 m c (4 * b + n) (show 4 * b + n < 8 by omega)).2 (ix3 0 R L)
      = Mem.toMemory (Mem.queries (V m c main_arg0) b) (Mem.entry3 (V m c main_arg1) b) (Mem.cotangents (V m c main_arg2) b)
        (n * 512 + 512) R L.val := by
  induction n with
  | zero =>
    have e := memory_first m c ⟨4 * b + 0, show 4 * b + 0 < 8 by omega⟩ (show (4 * b + 0) % 4 = 0 by omega) R L
    rw [show (4 * b + 0) / 4 = b by omega] at e
    rw [e, Nat.zero_mul, Nat.zero_add]
  | succ n ih =>
    have e := memory_later m c ⟨4 * b + (n + 1), show 4 * b + (n + 1) < 8 by omega⟩ (show ¬(4 * b + (n + 1)) % 4 = 0 by omega) R L
    rw [show (4 * b + (n + 1)) / 4 = b by omega, show (4 * b + (n + 1)) % 4 = n + 1 by omega] at e
    rw [e]
    refine Eq.trans ?_ (Mem.memory_rows _ _ _ ((n + 1) * 512) R L.val).symm
    refine congrArg₂ (· + ·) ((ih (by omega)).trans ?_) rfl
    rw [Nat.add_mul, Nat.one_mul]

/-- The whole gradient of the queries. -/
theorem final3 (c : Dev nD) : (dats m 0 c).arrAt 3 cfg0.N = Mem.backward (V m c main_arg0) (V m c main_arg1) (V m c main_arg2) := by
  refine (dats m 0 c).arrAt_eq_of_covers 3 _ (by decide +kernel) fun t hf y => ?_
  have ht : t.val < 8 := t.isLt
  blk_simp [at3, Mem.backward]
  rw [after0_3, queries_out]

/-- The whole gradient of the memory. -/
theorem final4 (c : Dev nD) : (dats m 0 c).arrAt 4 cfg0.N = Mem.backwardMemory (V m c main_arg0) (V m c main_arg1) (V m c main_arg2) := by
  refine (dats m 0 c).arrAt_eq_of_covers 4 _ (by decide +kernel) fun t hf y => ?_
  have ht : t.val < 8 := t.isLt
  have hm : t.val % 4 = 3 := (flush0_4 t).mp hf
  obtain ⟨R, L, rfl⟩ : ∃ (R : Fin 256) (L : Fin 1024), y = ix3 0 R L :=
    ⟨y 1, y 2, by
      funext a
      match a with
      | ⟨0, _⟩ => exact Subsingleton.elim (α := Fin 1) _ _
      | ⟨1, _⟩ => rfl
      | ⟨2, _⟩ => rfl⟩
  have e := memory_out m c (t.val / 4) (by omega) 3 (by omega) R L
  simp only [show 4 * (t.val / 4) + 3 = t.val by omega] at e
  have hR : (((win0_4.blk t).view.emb (ix3 0 R L)) 1 : Fin 256) = R := Fin.ext (by blk_simp [at4])
  blk_simp [at4, Mem.backwardMemory]
  rw [after0_4]
  refine e.trans ?_
  exact congrArg (fun R => Mem.toMemory _ _ _ 2048 R L.val) hR.symm

end

/-- The two programs have the same kernel bodies. -/
theorem bodies : Cert.Kernel15.defs (F := Bits) = defs (F := Bits) := by
  refine congrArg (Pipeline.defs Cert.Kernel15.pcfgs) (congrArg Defs.onTc (funext fun l => funext fun a => ?_))
  match l, a with
  | 0, (t, s) => rfl

theorem frame_bits : Cert.quiescent_Kernel15 := fun m ρ _ => bodies ▸ Gen.frame (F := Bits) m ρ

theorem frame_ideal : Cert.quiescent_Kernel15Ideal := fun m ρ _ => Gen.frame m ρ

theorem frame_reference : Cert.quiescent_Reference15Ideal := fun m ρ _ =>
  (θ_run Cert.Reference15Ideal.defs _ _).mono (fun r h => ⟨fun c => (h c).2.2, sem_eq_zero_of_no_sems (by decide) r.2⟩)
    (Cert.Reference15Ideal.Value.run (F := Ideal) m ρ)

/-! Where the queries and the keys are finite. -/

instance factsPre : Cert.Pre_finite15.Facts where
  slices_S4096x3456_S4096x512_0_2560 := by decide
  bcast_S_S4096x512 := by decide
  slices_S2x256x1024_S2x256x512_0_0_0 := by decide
  bitsLt_bf16_f32 := by decide
  bcast_S_S2x256x512 := by decide

theorem frame_ideal_finite : Cert.quiescent_Kernel15Ideal_pre_finite15 := fun m ρ _ => Gen.frame m ρ

theorem frame_reference_finite : Cert.quiescent_Reference15Ideal_pre_finite15 := fun m ρ _ =>
  (θ_run Cert.Reference15Ideal.defs _ _).mono (fun r h => ⟨fun c => (h c).2.2, sem_eq_zero_of_no_sems (by decide) r.2⟩)
    (Cert.Reference15Ideal.Value.run (F := Ideal) m ρ)

theorem finite_queries (m : (ℓ : Loc nD τ sig) → Buf (Elt Ideal) ℓ) (h : Cert.Pre_Kernel15Ideal_finite15 m) (c : Dev nD) (r : ℕ) (hr : r < 4096)
    (l : ℕ) (hl : l < 512) : ∃ t : ℝ, entry (m ((c : Thread nD τ).loc main_arg0)) r (2560 + l) = t := by
  have part (x : Cert.Pre_finite15.S4096x3456.Idx → EReal) (y : Cert.Pre_finite15.S2x256x1024.Idx → EReal)
      (z : Cert.Pre_finite15.S4096x512.Idx → EReal) (h : (Cert.Pre_finite15.fn (F := Ideal) x y z).1 = fun _ => 1#1) :
      ∃ t : ℝ, entry x r (2560 + l) = t := by
    let w : Cert.Pre_finite15.S4096x512.Idx → EReal := extractStridedSlice (s := Cert.Pre_finite15.S4096x3456) Cert.Pre_finite15.S4096x512 ![0, 2560] x
      Cert.Pre_finite15.Facts.slices_S4096x3456_S4096x512_0_2560
    have e := Finite.real_of_lt (w (ix2 ⟨r, hr⟩ ⟨l, hl⟩)) (congrFun h (ix2 ⟨r, hr⟩ ⟨l, hl⟩))
    dsimp only [w] at e
    rw [extractStridedSlice_apply _ _ _ _ (ix2 ⟨r, hr⟩ ⟨2560 + l, by omega⟩) fun a => by fin_cases a <;> simp [ix2]] at e
    exact ⟨_, (entry_at x (ix2 ⟨r, hr⟩ ⟨2560 + l, by omega⟩)).symm.trans e⟩
  exact part _ _ _ (h c).1

theorem finite_keys (m : (ℓ : Loc nD τ sig) → Buf (Elt Ideal) ℓ) (h : Cert.Pre_Kernel15Ideal_finite15 m) (c : Dev nD) (n r l : ℕ) (hl : l < 512) :
    ∃ t : ℝ, Mem.entry3 (m ((c : Thread nD τ).loc main_arg1)) n r l = t := by
  by_cases hr : n < 2 ∧ r < 256
  · have part (x : Cert.Pre_finite15.S4096x3456.Idx → EReal) (y : Cert.Pre_finite15.S2x256x1024.Idx → EReal)
        (z : Cert.Pre_finite15.S4096x512.Idx → EReal) (h : (Cert.Pre_finite15.fn (F := Ideal) x y z).2 = fun _ => 1#1) :
        ∃ t : ℝ, Mem.entry3 y n r l = t := by
      let w : Cert.Pre_finite15.S2x256x512.Idx → EReal := extractStridedSlice (s := Cert.Pre_finite15.S2x256x1024) Cert.Pre_finite15.S2x256x512 ![0, 0, 0] y
        Cert.Pre_finite15.Facts.slices_S2x256x1024_S2x256x512_0_0_0
      have e := Finite.real_of_lt (w (ix3 ⟨n, hr.1⟩ ⟨r, hr.2⟩ ⟨l, hl⟩)) (congrFun h (ix3 ⟨n, hr.1⟩ ⟨r, hr.2⟩ ⟨l, hl⟩))
      dsimp only [w] at e
      rw [extractStridedSlice_apply _ _ _ _ (ix3 ⟨n, hr.1⟩ ⟨r, hr.2⟩ ⟨l, by omega⟩) fun a => by fin_cases a <;> simp [ix3]] at e
      exact ⟨_, (Mem.entry3_at y (ix3 ⟨n, hr.1⟩ ⟨r, hr.2⟩ ⟨l, by omega⟩)).symm.trans e⟩
    exact part _ _ _ (h c).2
  · refine ⟨0, ?_⟩
    unfold Mem.entry3
    rw [dif_neg fun h => hr ⟨h.1, h.2.1⟩]
    rfl

/-- The call's values are the reference's. -/
theorem value : Cert.algebraic_Kernel15Ideal_Reference15Ideal_pre_finite15 := by
  intro m ρ m' ρ' hp h
  refine ⟨_, _, run_blocks m ρ, (θ_run _ _ _).mono (fun r hr c => ⟨?_, ?_, (hr c).2.2⟩) (Cert.Reference15Ideal.Value.run (F := Ideal) m' ρ')⟩
  · rw [(hr c).1, Cert.Reference15Ideal.Read.val_main_v70_eq, (h c).1, (h c).2.1, (h c).2.2,
      Mem.reference_queries _ _ _ (finite_queries m hp c) (finite_keys m hp c)]
    refine Eq.trans ?_ (final3 m c).symm
    rw [V_main_arg0, V_main_arg1, V_main_arg2]
  · rw [(hr c).2.1, Cert.Reference15Ideal.Read.val_main_v69_eq, (h c).1, (h c).2.1, (h c).2.2,
      Mem.reference_memory _ _ _ (finite_queries m hp c) (finite_keys m hp c)]
    refine Eq.trans ?_ (final4 m c).symm
    rw [V_main_arg0, V_main_arg1, V_main_arg2]

end Cert.Kernel15Ideal.Read

end
-- ==== Proof.MemForward.lean ====
/- The attention into the memory: each block of the call's result is the softmax's mean of the values, head by head. -/
module

public import proofs.«01_k».proof.Proof.Product
public import proofs.«01_k».proof.Proof.MemReference
public import proofs.«01_k».proof.Defs
public import proofs.«01_k».proof.Proof.Gen.Kernel16
public import proofs.«01_k».proof.Proof.Gen.Kernel16Ideal.Value
public import Idealize.ShloMosaic.Lib.Pipeline.ValueKit.Tiles

@[expose] public section

set_option maxRecDepth 16384

noncomputable section

namespace Cert.Kernel16Ideal.Read

open Cert.Kernel16Ideal Cert.Kernel16Ideal.Gen Cert.Kernel16Ideal.Value Cert.Product Cert.Reals
open Idealize.ShloMosaic Idealize.ShloMosaic.TcCoe Idealize.ShloMosaic.Tactic Idealize.SL.Sem

/-- An index of a head's part of a block, by its row and lane. -/
theorem part_idx (x : S1x512x128.Idx) : ∃ (r : Fin 512) (l : Fin 128), x = ix3 0 r l :=
  ⟨x 1, x 2, by
    funext a
    match a with
    | ⟨0, _⟩ => exact Subsingleton.elim (α := Fin 1) _ _
    | ⟨1, _⟩ => rfl
    | ⟨2, _⟩ => rfl⟩

section
variable (c : Dev nD) (i : grid0.Coords) (a2 : Memref sig .tc .vmem S1x512x512 .f32) (h2 : a2.IsWhole)
  (a3 : Memref sig .tc .vmem S1x256x1024 .bf16) (h3 : a3.IsWhole) (a4 : Memref sig .tc .vmem S1x512x512 .f32) (h4 : a4.IsWhole)
  (x0 : Vec Ideal S1x512x512 .f32) (x1 : Vec Ideal S1x256x1024 .bf16) (q k : ℕ → ℕ → EReal)
  (hq : ∀ r l, x0 (ix3 0 r l) = q r.val l.val) (hk : ∀ r l, x1 (ix3 0 r l) = k r.val l.val)
include hq hk

set_option maxHeartbeats 4000000 in
/-- The block stored. -/
theorem stored (y : S1x512x512.Idx) : out0_A_2 c i a2 h2 a3 h3 a4 h4 x0 x1 y
    = Mem.mixed q k ((y 2).val / 128) (y 1).val ((y 2).val % 128) := by
  unfold out0_A_2
  rw [View.read_writes_eq_canon _ _ _ (cover0_A_2 c i a2 h2 a3 h3 a4 h4 x0 x1)]
  unfold kernelRun0_A
  dsimp only
  simp only [kernelRun0_A.sl.r, kernelRun0_A.sl.r_1, kernelRun0_A.sl.r_2, kernelRun0_A.sl.cst_40, View.readAt_eq_ld,
    h2.read_unread, h3.read_unread]
  canon_tiles z h using View.cover_of_tiled_head _ _ _ (by rfl) y
  case piece0 =>
    obtain ⟨r, l, rfl⟩ := part_idx z
    open_payloads
    pointwise
    rw [show (y 1).val = r.val from h1, Mem.head 3 l.val (show (y 2).val = 384 + l.val from h2) l.isLt, Mem.lane 3 l.val (show (y 2).val = 384 + l.val from h2) l.isLt]
    simp only [hq, hk, negInf_eq]
    exact rfl
  case piece1 =>
    obtain ⟨r, l, rfl⟩ := part_idx z
    open_payloads
    pointwise
    rw [show (y 1).val = r.val from h1, Mem.head 2 l.val (show (y 2).val = 256 + l.val from h2) l.isLt, Mem.lane 2 l.val (show (y 2).val = 256 + l.val from h2) l.isLt]
    simp only [hq, hk, negInf_eq]
    exact rfl
  case piece2 =>
    obtain ⟨r, l, rfl⟩ := part_idx z
    open_payloads
    pointwise
    rw [show (y 1).val = r.val from h1, Mem.head 1 l.val (show (y 2).val = 128 + l.val from h2) l.isLt, Mem.lane 1 l.val (show (y 2).val = 128 + l.val from h2) l.isLt]
    simp only [hq, hk, negInf_eq]
    exact rfl
  case piece3 =>
    obtain ⟨r, l, rfl⟩ := part_idx z
    open_payloads
    pointwise
    rw [show (y 1).val = r.val from h1, Mem.head 0 l.val ((show (y 2).val = l.val from h2).trans (Nat.zero_add _).symm) l.isLt, Mem.lane 0 l.val ((show (y 2).val = l.val from h2).trans (Nat.zero_add _).symm) l.isLt]
    simp only [hq, hk, negInf_eq]
    exact (Mem.mixed_first q k r.val l.val).symm

end

section
variable (m : (ℓ : Loc nD τ sig) → Buf (Elt Ideal) ℓ)

theorem at0 : ∀ t : Fin cfg0.N, win0_0.index t = ![t.val / 4, t.val % 4, 5] := (by decide +kernel : ∀ t : Fin grid0.N, _)
theorem at1 : ∀ t : Fin cfg0.N, win0_1.index t = ![t.val / 4, 0, 0] := (by decide +kernel : ∀ t : Fin grid0.N, _)
theorem at2 : ∀ t : Fin cfg0.N, win0_2.index t = ![t.val / 4, t.val % 4, 0] := (by decide +kernel : ∀ t : Fin grid0.N, _)

/-- The rows the call takes are the argument's, batch by batch. -/
theorem rows_at (c : Dev nD) (b r l : ℕ) (hb : b < 2) (hr : r < 2048) : Mem.entry3 (V m c main_v0) b r l
    = entry (V m c main_arg0) (b * 2048 + r) l := by
  have h : V m c main_v0 = shapeCast S2x2048x3456 (V m c main_arg0) shapeCasts_S4096x3456_S2x2048x3456 := by
    rw [V_main_arg0]
    unfold V hostOps0
    after_results
    rfl
  refine Mem.entry3_rows _ _ rfl (fun i j l k e => ?_) b r l hb hr
  rw [h]
  refine shapeCast_apply _ shapeCasts_S4096x3456_S2x2048x3456 (ix3 i j l) (ix2 k l) ?_
  rewrite [Shape.rowMajor_val_two, Shape.rowMajor_val_three]
  show k.val * 3456 + l.val = (i.val * 2048 + j.val) * 3456 + l.val
  rw [e]

theorem queries_at (c : Dev nD) (t : Fin cfg0.N) (r l : Fin 512) : X0_0 m c t (ix3 0 r l)
    = entry (V m c main_arg0) (t.val / 4 * 2048 + (t.val % 4 * 512 + r.val)) (2560 + l.val) := by
  have ht : t.val < 8 := t.isLt
  rw [← rows_at m c _ _ _ (by omega) (by omega)]
  unfold X0_0 Pipeline.Window.fill
  rw [dif_pos (moved0_0 t _)]
  blk_simp [iblk]; rw [Mem.entry3_at (V m c main_v0)]; blk_simp [at0]; rfl

theorem memory_at (c : Dev nD) (t : Fin cfg0.N) (r : Fin 256) (l : Fin 1024) : iblk m c 1 t (ix3 0 r l)
    = Mem.entry3 (V m c main_arg1) (t.val / 4) r.val l.val := by
  blk_simp [iblk]; rw [Mem.entry3_at (V m c main_arg1)]; blk_simp [at1]; rfl

/-- The whole result. -/
theorem final (c : Dev nD) : (dats m 0 c).arrAt 2 cfg0.N = Mem.forward (V m c main_arg0) (V m c main_arg1) := by
  refine (dats m 0 c).arrAt_eq_of_covers 2 _ (by decide +kernel) fun t hf y => ?_
  have ht : t.val < 8 := t.isLt
  blk_simp [at2, Mem.forward]
  rw [after0_2]
  unfold outsAt0
  rw [stored _ _ _ _ _ _ _ _ (q := fun r l => entry (V m c main_arg0) (t.val / 4 * 2048 + (t.val % 4 * 512 + r)) (2560 + l))
    (k := Mem.entry3 (V m c main_arg1) (t.val / 4)) (hq := queries_at m c t) (hk := memory_at m c t)]
  exact Mem.mixed_row _ _ _ _ _ _ _ fun x => rfl

end

/-- The two programs have the same kernel bodies. -/
theorem bodies : Cert.Kernel16.defs (F := Bits) = defs (F := Bits) := by
  refine congrArg (Pipeline.defs Cert.Kernel16.pcfgs) (congrArg Defs.onTc (funext fun l => funext fun a => ?_))
  match l, a with
  | 0, (t, s) => rfl

theorem frame_bits : Cert.quiescent_Kernel16 := fun m ρ _ => bodies ▸ Gen.frame (F := Bits) m ρ

theorem frame_ideal : Cert.quiescent_Kernel16Ideal := fun m ρ _ => Gen.frame m ρ

theorem frame_reference : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

/-- The call's value is the reference's. -/
theorem value : Cert.algebraic_Kernel16Ideal_Reference16Ideal := by
  intro m ρ m' ρ' _ h
  refine ⟨_, run_blocks m ρ, (θ_run _ _ _).mono (fun r hr c => ⟨?_, (hr c).2⟩) (Cert.Reference16Ideal.Value.run (F := Ideal) m' ρ')⟩
  rw [(hr c).1, Cert.Reference16Ideal.Read.val_main_v24_eq, (h c).1, (h c).2, Mem.reference_forward]
  refine Eq.trans ?_ (final m c).symm
  rw [V_main_arg0, V_main_arg1]

end Cert.Kernel16Ideal.Read

end
-- ==== Proof.MemForward0.lean ====
/- The convolution block's attention into the memory: the same call on queries that stand in other columns of a wider array. -/
module

public import proofs.«01_k».proof.Proof.MemForward
public import proofs.«01_k».proof.Proof.Gen.Kernel18
public import proofs.«01_k».proof.Proof.Gen.Kernel18Ideal.Value
public import proofs.«01_k».proof.Proof.Gen.Reference18Ideal.Read

@[expose] public section

set_option maxRecDepth 16384

noncomputable section

namespace Cert.Mem

open Cert.Product Cert.Reals Idealize.ShloMosaic

/-- The wider array with its first 512 columns cut off: its queries stand where the attention block's stand. -/
def moved (x : Shape.Idx ⟨2, ![4096, 5632]⟩ → EReal) (i : Shape.Idx ⟨2, ![4096, 3456]⟩) : EReal := entry x (i 0).val (512 + (i 1).val)

theorem queries_moved (x : Shape.Idx ⟨2, ![4096, 5632]⟩ → EReal) (b r l : ℕ) (hb : b < 2) (hr : r < 2048) (hl : l < 512) :
    queries (moved x) b r l = entry x (b * 2048 + r) (3072 + l) := by
  have h : b * 2048 + r < 4096 ∧ 2560 + l < 3456 := ⟨by omega, by omega⟩
  rw [queries, entry, dif_pos h]
  exact congrArg (entry x _) (by show 512 + (2560 + l) = 3072 + l; omega)

/-- The reference takes the queries out of either. -/
theorem slice_moved (x : Shape.Idx ⟨2, ![4096, 5632]⟩ → EReal) :
    Cert.Reference18Ideal.Read.val_main_v0 (F := Ideal) x = Cert.Reference16Ideal.Read.val_main_v0 (F := Ideal) (moved x) := by
  funext i
  rw [Cert.Reference18Ideal.Read.val_main_v0_apply, Cert.Reference16Ideal.Read.val_main_v0_apply]
  refine (entry_at x _).trans (congrArg (entry x _) ?_)
  show 3072 + (i 1).val = 512 + (2560 + (i 1).val)
  omega

/-- So the two references' results are one. -/
theorem forward_moved (x : Shape.Idx ⟨2, ![4096, 5632]⟩ → EReal) (y : Shape.Idx ⟨3, ![2, 256, 1024]⟩ → EReal) :
    Cert.Reference18Ideal.Read.val_main_v24 (F := Ideal) x y = Cert.Reference16Ideal.Read.val_main_v24 (F := Ideal) (moved x) y := by
  have h := slice_moved x
  unfold Cert.Reference18Ideal.Read.val_main_v0 Cert.Reference16Ideal.Read.val_main_v0 at h
  rw [← Cert.Reference18Ideal.Read.val_main_v24_eq, ← Cert.Reference16Ideal.Read.val_main_v24_eq, ← h]
  exact rfl

end Cert.Mem

namespace Cert.Kernel18Ideal.Read

open Cert.Kernel18Ideal Cert.Kernel18Ideal.Gen Cert.Kernel18Ideal.Value Cert.Product Cert.Reals
open Idealize.ShloMosaic Idealize.ShloMosaic.TcCoe Idealize.ShloMosaic.Tactic Idealize.SL.Sem

set_option maxHeartbeats 4000000 in
/-- The block stored is what the attention block's call stores. -/
theorem stored (x0 : Vec Ideal S1x512x512 .f32) (x1 : Vec Ideal S1x256x1024 .bf16) (q k : ℕ → ℕ → EReal)
    (hq : ∀ r l, x0 (ix3 0 r l) = q r.val l.val) (hk : ∀ r l, x1 (ix3 0 r l) = k r.val l.val) (y : S1x512x512.Idx) :
    out0_2 x0 x1 y = Mem.mixed q k ((y 2).val / 128) (y 1).val ((y 2).val % 128) := by
  let t : Fin Cert.Kernel16Ideal.cfg0.N := ⟨0, by decide⟩
  refine Eq.trans ?_ (Cert.Kernel16Ideal.Read.stored 0 (Cert.Kernel16Ideal.grid0.coords t)
    _ (Cert.Kernel16Ideal.Gen.hs0_0 t) _ (Cert.Kernel16Ideal.Gen.hs0_1 t) _ (Cert.Kernel16Ideal.Gen.hs0_2 t) x0 x1 q k hq hk y)
  unfold Cert.Kernel16Ideal.Gen.out0_A_2
  rw [View.read_writes_eq_canon _ _ _ (Cert.Kernel16Ideal.Gen.cover0_A_2 _ _ _ _ _ _ _ _ x0 x1)]
  unfold Cert.Kernel16Ideal.Gen.kernelRun0_A
  dsimp only
  simp only [Cert.Kernel16Ideal.Gen.kernelRun0_A.sl.r, Cert.Kernel16Ideal.Gen.kernelRun0_A.sl.r_1, Cert.Kernel16Ideal.Gen.kernelRun0_A.sl.r_2,
    Cert.Kernel16Ideal.Gen.kernelRun0_A.sl.cst_40, View.readAt_eq_ld, (Cert.Kernel16Ideal.Gen.hs0_0 t).read_unread,
    (Cert.Kernel16Ideal.Gen.hs0_1 t).read_unread]
  exact rfl

section
variable (m : (ℓ : Loc nD τ sig) → Buf (Elt Ideal) ℓ)

theorem at0 : ∀ t : Fin cfg0.N, win0_0.index t = ![t.val / 4, t.val % 4, 6] := (by decide +kernel : ∀ t : Fin grid0.N, _)
theorem at1 : ∀ t : Fin cfg0.N, win0_1.index t = ![t.val / 4, 0, 0] := (by decide +kernel : ∀ t : Fin grid0.N, _)
theorem at2 : ∀ t : Fin cfg0.N, win0_2.index t = ![t.val / 4, t.val % 4, 0] := (by decide +kernel : ∀ t : Fin grid0.N, _)

/-- The rows the call takes are the argument's, batch by batch. -/
theorem rows_at (c : Dev nD) (b r l : ℕ) (hb : b < 2) (hr : r < 2048) : Mem.entry3 (V m c main_v0) b r l
    = entry (V m c main_arg0) (b * 2048 + r) l := by
  have h : V m c main_v0 = shapeCast S2x2048x5632 (V m c main_arg0) shapeCasts_S4096x5632_S2x2048x5632 := by
    rw [V_main_arg0]
    unfold V hostOps0
    after_results
    rfl
  refine Mem.entry3_rows _ _ rfl (fun i j l k e => ?_) b r l hb hr
  rw [h]
  refine shapeCast_apply _ shapeCasts_S4096x5632_S2x2048x5632 (ix3 i j l) (ix2 k l) ?_
  rewrite [Shape.rowMajor_val_two, Shape.rowMajor_val_three]
  show k.val * 5632 + l.val = (i.val * 2048 + j.val) * 5632 + l.val
  rw [e]

theorem queries_at (c : Dev nD) (t : Fin cfg0.N) (r l : Fin 512) : iblk m c 0 t (ix3 0 r l)
    = Mem.queries (Mem.moved (V m c main_arg0)) (t.val / 4) (t.val % 4 * 512 + r.val) l.val := by
  have ht : t.val < 8 := t.isLt
  rw [Mem.queries_moved _ _ _ _ (by omega) (by omega) l.isLt, ← rows_at m c _ _ _ (by omega) (by omega)]
  blk_simp [iblk]; rw [Mem.entry3_at (V m c main_v0)]; blk_simp [at0]; rfl

theorem memory_at (c : Dev nD) (t : Fin cfg0.N) (r : Fin 256) (l : Fin 1024) : iblk m c 1 t (ix3 0 r l)
    = Mem.entry3 (V m c main_arg1) (t.val / 4) r.val l.val := by
  blk_simp [iblk]; rw [Mem.entry3_at (V m c main_arg1)]; blk_simp [at1]; rfl

/-- The whole result. -/
theorem final (c : Dev nD) : (dats m 0 c).arrAt 2 cfg0.N = Mem.forward (Mem.moved (V m c main_arg0)) (V m c main_arg1) := by
  refine (dats m 0 c).arrAt_eq_of_covers 2 _ (by decide +kernel) fun t hf y => ?_
  have ht : t.val < 8 := t.isLt
  blk_simp [at2, Mem.forward]
  rw [after0_2, stored (q := fun r => Mem.queries (Mem.moved (V m c main_arg0)) (t.val / 4) (t.val % 4 * 512 + r))
    (k := Mem.entry3 (V m c main_arg1) (t.val / 4)) (hq := queries_at m c t) (hk := memory_at m c t)]
  exact Mem.mixed_row _ _ _ _ _ _ _ fun x => rfl

end

/-- The two programs have the same kernel bodies. -/
theorem bodies : Cert.Kernel18.defs (F := Bits) = defs (F := Bits) := by
  refine congrArg (Pipeline.defs Cert.Kernel18.pcfgs) (congrArg Defs.onTc (funext fun l => funext fun a => ?_))
  match l, a with
  | 0, (t, s) => rfl

theorem frame_bits : Cert.quiescent_Kernel18 := fun m ρ _ => bodies ▸ Gen.frame (F := Bits) m ρ

theorem frame_ideal : Cert.quiescent_Kernel18Ideal := fun m ρ _ => Gen.frame m ρ

theorem frame_reference : Cert.quiescent_Reference18Ideal := fun m ρ _ =>
  (θ_run Cert.Reference18Ideal.defs _ _).mono (fun r h => ⟨fun c => (h c).2, sem_eq_zero_of_no_sems (by decide) r.2⟩)
    (Cert.Reference18Ideal.Value.run (F := Ideal) m ρ)

/-- The call's value is the reference's. -/
theorem value : Cert.algebraic_Kernel18Ideal_Reference18Ideal := by
  intro m ρ m' ρ' _ h
  refine ⟨_, run_blocks m ρ, (θ_run _ _ _).mono (fun r hr c => ⟨?_, (hr c).2⟩) (Cert.Reference18Ideal.Value.run (F := Ideal) m' ρ')⟩
  rw [(hr c).1, Cert.Reference18Ideal.Read.val_main_v24_eq, (h c).1, (h c).2, Mem.forward_moved, Mem.reference_forward]
  refine Eq.trans ?_ (final m c).symm
  rw [V_main_arg0, V_main_arg1]

end Cert.Kernel18Ideal.Read

end
-- ==== Proof.MemBackward0.lean ====
/- The convolution block's attention into the memory, backward: the same call on queries that stand in other columns. -/
module

public import proofs.«01_k».proof.Proof.MemForward0
public import proofs.«01_k».proof.Proof.MemBackward
public import proofs.«01_k».proof.Proof.Gen.Kernel17
public import proofs.«01_k».proof.Proof.Gen.Kernel17Ideal.Value
public import proofs.«01_k».proof.Proof.Gen.Reference17Ideal.Read

@[expose] public section

set_option maxRecDepth 16384

noncomputable section

namespace Cert.Mem

open Cert.Product Cert.Reals Idealize.ShloMosaic

theorem entry_moved (x : Shape.Idx ⟨2, ![4096, 5632]⟩ → EReal) (r l : ℕ) (hr : r < 4096) (hl : l < 512) :
    entry (moved x) r (2560 + l) = entry x r (3072 + l) := by
  have h : r < 4096 ∧ 2560 + l < 3456 := ⟨hr, by omega⟩
  rw [entry, dif_pos h]
  exact congrArg (entry x _) (by show 512 + (2560 + l) = 3072 + l; omega)

/-- The reference takes the queries out of either. -/
theorem slice_moved_back (x : Shape.Idx ⟨2, ![4096, 5632]⟩ → EReal) :
    Cert.Reference17Ideal.Read.val_main_v0 (F := Ideal) x = Cert.Reference15Ideal.Read.val_main_v0 (F := Ideal) (moved x) := by
  funext i
  rw [Cert.Reference17Ideal.Read.val_main_v0_apply, Cert.Reference15Ideal.Read.val_main_v0_apply]
  refine (entry_at x _).trans (congrArg (entry x _) ?_)
  show 3072 + (i 1).val = 512 + (2560 + (i 1).val)
  omega

set_option maxHeartbeats 1000000 in
/-- So the two references' gradients are the same: stage by stage. -/
theorem backward_moved (x : Shape.Idx ⟨2, ![4096, 5632]⟩ → EReal) (y : Shape.Idx ⟨3, ![2, 256, 1024]⟩ → EReal)
    (z : Shape.Idx ⟨2, ![4096, 512]⟩ → EReal) :
    Reference17Ideal.Read.val_main_v70 (F := Ideal) x y z = Reference15Ideal.Read.val_main_v70 (F := Ideal) (moved x) y z
      ∧ Reference17Ideal.Read.val_main_v69 (F := Ideal) x y z = Reference15Ideal.Read.val_main_v69 (F := Ideal) (moved x) y z := by
  have h7 : Reference17Ideal.Read.val_main_v7 (F := Ideal) x = Reference15Ideal.Read.val_main_v7 (F := Ideal) (moved x) := by
    unfold Reference17Ideal.Read.val_main_v7 Reference15Ideal.Read.val_main_v7 Reference17Ideal.Read.val_main_v1
      Reference15Ideal.Read.val_main_v1
    rw [slice_moved_back] <;> rfl
  have h5 : Reference17Ideal.Read.val_main_v5 (F := Ideal) y = Reference15Ideal.Read.val_main_v5 (F := Ideal) y := rfl
  have h44 : Reference17Ideal.Read.val_main_v44 (F := Ideal) z = Reference15Ideal.Read.val_main_v44 (F := Ideal) z := rfl
  have h45 : Reference17Ideal.Read.val_main_v45 (F := Ideal) y z = Reference15Ideal.Read.val_main_v45 (F := Ideal) y z := rfl
  have h10 : Reference17Ideal.Read.val_main_v10 (F := Ideal) x y = Reference15Ideal.Read.val_main_v10 (F := Ideal) (moved x) y := by
    unfold Reference17Ideal.Read.val_main_v10 Reference15Ideal.Read.val_main_v10 Reference17Ideal.Read.val_main_v8
      Reference15Ideal.Read.val_main_v8
    rw [h7, h5] <;> rfl
  have h31 : Reference17Ideal.Read.val_main_v31 (F := Ideal) x y = Reference15Ideal.Read.val_main_v31 (F := Ideal) (moved x) y := by
    unfold Reference17Ideal.Read.val_main_v31 Reference15Ideal.Read.val_main_v31 Reference17Ideal.Read.val_main_v30
      Reference15Ideal.Read.val_main_v30 Reference17Ideal.Read.val_main_v29 Reference15Ideal.Read.val_main_v29
      Reference17Ideal.Read.val_main_v28 Reference15Ideal.Read.val_main_v28 Reference17Ideal.Read.val_main_v18
      Reference15Ideal.Read.val_main_v18 Reference17Ideal.Read.val_main_v11 Reference15Ideal.Read.val_main_v11
    rw [h10] <;> rfl
  have h33 : Reference17Ideal.Read.val_main_v33 (F := Ideal) x y = Reference15Ideal.Read.val_main_v33 (F := Ideal) (moved x) y := by
    unfold Reference17Ideal.Read.val_main_v33 Reference15Ideal.Read.val_main_v33 Reference17Ideal.Read.val_main_v32
      Reference15Ideal.Read.val_main_v32
    rw [h31] <;> rfl
  have h38 : Reference17Ideal.Read.val_main_v38 (F := Ideal) x y = Reference15Ideal.Read.val_main_v38 (F := Ideal) (moved x) y := by
    unfold Reference17Ideal.Read.val_main_v38 Reference15Ideal.Read.val_main_v38 Reference17Ideal.Read.val_main_v36
      Reference15Ideal.Read.val_main_v36
    rw [h33] <;> rfl
  have h35 : Reference17Ideal.Read.val_main_v35 (F := Ideal) x y = Reference15Ideal.Read.val_main_v35 (F := Ideal) (moved x) y := by
    unfold Reference17Ideal.Read.val_main_v35 Reference15Ideal.Read.val_main_v35 Reference17Ideal.Read.val_main_v34
      Reference15Ideal.Read.val_main_v34
    rw [h31, h33] <;> rfl
  have h50 : Reference17Ideal.Read.val_main_v50 (F := Ideal) x y z = Reference15Ideal.Read.val_main_v50 (F := Ideal) (moved x) y z := by
    unfold Reference17Ideal.Read.val_main_v50 Reference15Ideal.Read.val_main_v50 Reference17Ideal.Read.val_main_v49
      Reference15Ideal.Read.val_main_v49 Reference17Ideal.Read.val_main_v48 Reference15Ideal.Read.val_main_v48
    rw [h45, h38, h31] <;> rfl
  have h58 : Reference17Ideal.Read.val_main_v58 (F := Ideal) x y z = Reference15Ideal.Read.val_main_v58 (F := Ideal) (moved x) y z := by
    unfold Reference17Ideal.Read.val_main_v58 Reference15Ideal.Read.val_main_v58 Reference17Ideal.Read.val_main_v57
      Reference15Ideal.Read.val_main_v57 Reference17Ideal.Read.val_main_v56 Reference15Ideal.Read.val_main_v56
      Reference17Ideal.Read.val_main_v53 Reference15Ideal.Read.val_main_v53 Reference17Ideal.Read.val_main_v52
      Reference15Ideal.Read.val_main_v52 Reference17Ideal.Read.val_main_v51 Reference15Ideal.Read.val_main_v51
      Reference17Ideal.Read.val_main_v55 Reference15Ideal.Read.val_main_v55 Reference17Ideal.Read.val_main_v54
      Reference15Ideal.Read.val_main_v54
    rw [h50, h45, h33] <;> rfl
  have h61 : Reference17Ideal.Read.val_main_v61 (F := Ideal) x y z = Reference15Ideal.Read.val_main_v61 (F := Ideal) (moved x) y z := by
    unfold Reference17Ideal.Read.val_main_v61 Reference15Ideal.Read.val_main_v61 Reference17Ideal.Read.val_main_v59
      Reference15Ideal.Read.val_main_v59
    rw [h58, h31] <;> rfl
  have h70 : Reference17Ideal.Read.val_main_v70 (F := Ideal) x y z = Reference15Ideal.Read.val_main_v70 (F := Ideal) (moved x) y z := by
    unfold Reference17Ideal.Read.val_main_v70 Reference15Ideal.Read.val_main_v70 Reference17Ideal.Read.val_main_v66
      Reference15Ideal.Read.val_main_v66 Reference17Ideal.Read.val_main_v65 Reference15Ideal.Read.val_main_v65
      Reference17Ideal.Read.val_main_v64 Reference15Ideal.Read.val_main_v64
    rw [h61, h5] <;> rfl
  have h69 : Reference17Ideal.Read.val_main_v69 (F := Ideal) x y z = Reference15Ideal.Read.val_main_v69 (F := Ideal) (moved x) y z := by
    unfold Reference17Ideal.Read.val_main_v69 Reference15Ideal.Read.val_main_v69 Reference17Ideal.Read.val_main_v68
      Reference15Ideal.Read.val_main_v68 Reference17Ideal.Read.val_main_v67 Reference15Ideal.Read.val_main_v67
      Reference17Ideal.Read.val_main_v63 Reference15Ideal.Read.val_main_v63 Reference17Ideal.Read.val_main_v62
      Reference15Ideal.Read.val_main_v62 Reference17Ideal.Read.val_main_v47 Reference15Ideal.Read.val_main_v47
      Reference17Ideal.Read.val_main_v46 Reference15Ideal.Read.val_main_v46
    rw [h61, h7, h44, h35] <;> rfl
  exact ⟨h70, h69⟩

end Cert.Mem

namespace Cert.Kernel17Ideal.Read

open Cert.Kernel17Ideal Cert.Kernel17Ideal.Gen Cert.Kernel17Ideal.Value Cert.Product Cert.Reals
open Idealize.ShloMosaic Idealize.ShloMosaic.TcCoe Idealize.ShloMosaic.Tactic Idealize.SL.Sem

/-- The attention block's call, whose blocks these are: a tile and the parts of its buffers. -/
abbrev tile : Fin Cert.Kernel15Ideal.cfg0.N := ⟨0, by decide⟩
abbrev later : Fin Cert.Kernel15Ideal.cfg0.N := ⟨1, by decide⟩
abbrev buf0 := Cert.Kernel15Ideal.Gen.ms0_0 tile
theorem whole0 : buf0.IsWhole := Cert.Kernel15Ideal.Gen.hs0_0 tile
abbrev buf1 := Cert.Kernel15Ideal.Gen.ms0_1 tile
theorem whole1 : buf1.IsWhole := Cert.Kernel15Ideal.Gen.hs0_1 tile
abbrev buf2 := Cert.Kernel15Ideal.Gen.ms0_2 tile
theorem whole2 : buf2.IsWhole := Cert.Kernel15Ideal.Gen.hs0_2 tile
abbrev buf3 := Cert.Kernel15Ideal.Gen.ms0_3 tile
theorem whole3 : buf3.IsWhole := Cert.Kernel15Ideal.Gen.hs0_3 tile
abbrev buf4 := Cert.Kernel15Ideal.Gen.ms0_4 tile
theorem whole4 : buf4.IsWhole := Cert.Kernel15Ideal.Gen.hs0_4 tile

section
variable (c : Dev nD) (i : grid0.Coords) (a2 : Memref sig .tc .vmem S1x512x512 .f32) (h2 : a2.IsWhole)
  (a3 : Memref sig .tc .vmem S1x256x1024 .bf16) (h3 : a3.IsWhole) (a4 : Memref sig .tc .vmem S1x512x512 .f32) (h4 : a4.IsWhole)
  (a5 : Memref sig .tc .vmem S1x512x512 .bf16) (h5 : a5.IsWhole) (a6 : Memref sig .tc .vmem S1x256x1024 .f32) (h6 : a6.IsWhole)
  (x0 : Vec Ideal S1x512x512 .f32) (x1 : Vec Ideal S1x256x1024 .bf16) (x2 : Vec Ideal S1x512x512 .f32) (x4 : Vec Ideal S1x256x1024 .f32)
  (q k g : ℕ → ℕ → EReal)
  (hq : ∀ r l, x0 (ix3 0 r l) = q r.val l.val) (hk : ∀ r l, x1 (ix3 0 r l) = k r.val l.val) (hg : ∀ r l, x2 (ix3 0 r l) = g r.val l.val)
include hq hk hg

set_option maxHeartbeats 4000000 in
/-- The queries' gradient, at a batch's first tile. -/
theorem queries_A (hc : cond0_0 i) (y : S1x512x512.Idx) : out0_A_3 c i a2 h2 a3 h3 a4 h4 a5 h5 a6 h6 hc x0 x1 x2 y
    = Mem.toQuery q k ((y 2).val / 128) (y 1).val g ((y 2).val % 128) := by
  refine Eq.trans ?_ (Cert.Kernel15Ideal.Read.queries_A 0 (Cert.Kernel15Ideal.grid0.coords tile) buf0 whole0 buf1 whole1 buf2 whole2 buf3 whole3 buf4 whole4
    x0 x1 x2 q k g hq hk hg ((Cert.Kernel15Ideal.Gen.hcond0_0 tile).mpr rfl) y)
  unfold out0_A_3 Cert.Kernel15Ideal.Gen.out0_A_3
  rw [View.read_writes_eq_canon _ _ _ (cover0_A_3 c i a2 h2 a3 h3 a4 h4 a5 h5 a6 h6 hc x0 x1 x2),
    View.read_writes_eq_canon _ _ _ (Cert.Kernel15Ideal.Gen.cover0_A_3 0 _ buf0 whole0 buf1 whole1 buf2 whole2 buf3 whole3 buf4 whole4 _ x0 x1 x2)]
  unfold kernelRun0_A Cert.Kernel15Ideal.Gen.kernelRun0_A
  dsimp only
  simp only [
    kernelRun0_A.sl.r, kernelRun0_A.sl.r_1, kernelRun0_A.sl.r_2, kernelRun0_A.sl.r_3, kernelRun0_A.sl.r_4, kernelRun0_A.sl.r_5,
    kernelRun0_A.sl.r_6, kernelRun0_A.sl.r_7, kernelRun0_A.sl.r_8, kernelRun0_A.sl.r_12, kernelRun0_A.sl.r_15, kernelRun0_A.sl.r_16,
    kernelRun0_A.sl.r_17, kernelRun0_A.sl.r_18, kernelRun0_A.sl.cst_17, kernelRun0_A.sl.cst_86,
    Cert.Kernel15Ideal.Gen.kernelRun0_A.sl.r, Cert.Kernel15Ideal.Gen.kernelRun0_A.sl.r_1, Cert.Kernel15Ideal.Gen.kernelRun0_A.sl.r_2,
    Cert.Kernel15Ideal.Gen.kernelRun0_A.sl.r_3, Cert.Kernel15Ideal.Gen.kernelRun0_A.sl.r_4, Cert.Kernel15Ideal.Gen.kernelRun0_A.sl.r_5,
    Cert.Kernel15Ideal.Gen.kernelRun0_A.sl.r_6, Cert.Kernel15Ideal.Gen.kernelRun0_A.sl.r_7, Cert.Kernel15Ideal.Gen.kernelRun0_A.sl.r_8,
    Cert.Kernel15Ideal.Gen.kernelRun0_A.sl.r_12, Cert.Kernel15Ideal.Gen.kernelRun0_A.sl.r_15, Cert.Kernel15Ideal.Gen.kernelRun0_A.sl.r_16,
    Cert.Kernel15Ideal.Gen.kernelRun0_A.sl.r_17, Cert.Kernel15Ideal.Gen.kernelRun0_A.sl.r_18, Cert.Kernel15Ideal.Gen.kernelRun0_A.sl.cst_17,
    Cert.Kernel15Ideal.Gen.kernelRun0_A.sl.cst_86,
    View.readAt_eq_ld, h2.read_unread, h3.read_unread, h4.read_unread, whole0.read_unread, whole1.read_unread, whole2.read_unread]
  exact rfl

/-- The same at its later tiles. -/
theorem queries_B (hc : ¬cond0_0 i) (y : S1x512x512.Idx) : out0_B_3 c i a2 h2 a3 h3 a4 h4 a5 h5 a6 h6 hc x0 x1 x2 x4 y
    = Mem.toQuery q k ((y 2).val / 128) (y 1).val g ((y 2).val % 128) := by
  refine Eq.trans ?_ (queries_A c (grid0.coords ⟨0, by decide⟩) a2 h2 a3 h3 a4 h4 a5 h5 a6 h6 x0 x1 x2 q k g hq hk hg
    ((hcond0_0 ⟨0, by decide⟩).mpr rfl) y)
  exact rfl

set_option maxHeartbeats 4000000 in
/-- The memory's gradient, at a batch's later tiles: what the tiles before left, and the tile's own. -/
theorem memory_B (hc : ¬cond0_0 i) (R : Fin 256) (L : Fin 1024) : out0_B_4 c i a2 h2 a3 h3 a4 h4 a5 h5 a6 h6 hc x0 x1 x2 x4 (ix3 0 R L)
    = x4 (ix3 0 R L) + Mem.toMemory q k g 512 R L.val := by
  have hb : ¬Cert.Kernel15Ideal.Gen.cond0_0 (Cert.Kernel15Ideal.grid0.coords later) :=
    fun h => absurd ((Cert.Kernel15Ideal.Gen.hcond0_0 later).mp h) (by decide)
  have e := Cert.Kernel15Ideal.Read.memory_B 0 (Cert.Kernel15Ideal.grid0.coords later) buf0 whole0 buf1 whole1 buf2 whole2 buf3 whole3 buf4 whole4
    x0 x1 x2 x4 q k g hq hk hg hb R L
  refine Eq.trans ?_ e
  unfold out0_B_4 Cert.Kernel15Ideal.Gen.out0_B_4
  rw [View.read_writes_eq_canon _ _ _ (cover0_B_4 c i a2 h2 a3 h3 a4 h4 a5 h5 a6 h6 hc x0 x1 x2 x4),
    View.read_writes_eq_canon _ _ _ (Cert.Kernel15Ideal.Gen.cover0_B_4 0 _ buf0 whole0 buf1 whole1 buf2 whole2 buf3 whole3 buf4 whole4 _ x0 x1 x2 x4)]
  unfold kernelRun0_B Cert.Kernel15Ideal.Gen.kernelRun0_B
  dsimp only
  simp only [
    kernelRun0_B.sl.r, kernelRun0_B.sl.r_1, kernelRun0_B.sl.r_2, kernelRun0_B.sl.r_3, kernelRun0_B.sl.r_4, kernelRun0_B.sl.r_5,
    kernelRun0_B.sl.r_6, kernelRun0_B.sl.r_7, kernelRun0_B.sl.r_8, kernelRun0_B.sl.r_9, kernelRun0_B.sl.r_10, kernelRun0_B.sl.r_11,
    kernelRun0_B.sl.r_13, kernelRun0_B.sl.r_14, kernelRun0_B.sl.r_12, kernelRun0_B.sl.r_15, kernelRun0_B.sl.r_16, kernelRun0_B.sl.r_19,
    kernelRun0_B.sl.r_20, kernelRun0_B.sl.r_17, kernelRun0_B.sl.r_18, kernelRun0_B.sl.cst_17, kernelRun0_B.sl.cst_86, kernelRun0_B.sl.v203,
    kernelRun0_B.sl.v196, kernelRun0_B.sl.v151, kernelRun0_B.sl.v144, kernelRun0_B.sl.v99, kernelRun0_B.sl.v92, kernelRun0_B.sl.v47,
    Cert.Kernel15Ideal.Gen.kernelRun0_B.sl.r, Cert.Kernel15Ideal.Gen.kernelRun0_B.sl.r_1, Cert.Kernel15Ideal.Gen.kernelRun0_B.sl.r_2,
    Cert.Kernel15Ideal.Gen.kernelRun0_B.sl.r_3, Cert.Kernel15Ideal.Gen.kernelRun0_B.sl.r_4, Cert.Kernel15Ideal.Gen.kernelRun0_B.sl.r_5,
    Cert.Kernel15Ideal.Gen.kernelRun0_B.sl.r_6, Cert.Kernel15Ideal.Gen.kernelRun0_B.sl.r_7, Cert.Kernel15Ideal.Gen.kernelRun0_B.sl.r_8,
    Cert.Kernel15Ideal.Gen.kernelRun0_B.sl.r_9, Cert.Kernel15Ideal.Gen.kernelRun0_B.sl.r_10, Cert.Kernel15Ideal.Gen.kernelRun0_B.sl.r_11,
    Cert.Kernel15Ideal.Gen.kernelRun0_B.sl.r_13, Cert.Kernel15Ideal.Gen.kernelRun0_B.sl.r_14, Cert.Kernel15Ideal.Gen.kernelRun0_B.sl.r_12,
    Cert.Kernel15Ideal.Gen.kernelRun0_B.sl.r_15, Cert.Kernel15Ideal.Gen.kernelRun0_B.sl.r_16, Cert.Kernel15Ideal.Gen.kernelRun0_B.sl.r_19,
    Cert.Kernel15Ideal.Gen.kernelRun0_B.sl.r_20, Cert.Kernel15Ideal.Gen.kernelRun0_B.sl.r_17, Cert.Kernel15Ideal.Gen.kernelRun0_B.sl.r_18,
    Cert.Kernel15Ideal.Gen.kernelRun0_B.sl.cst_17, Cert.Kernel15Ideal.Gen.kernelRun0_B.sl.cst_86, Cert.Kernel15Ideal.Gen.kernelRun0_B.sl.v203,
    Cert.Kernel15Ideal.Gen.kernelRun0_B.sl.v196, Cert.Kernel15Ideal.Gen.kernelRun0_B.sl.v151, Cert.Kernel15Ideal.Gen.kernelRun0_B.sl.v144,
    Cert.Kernel15Ideal.Gen.kernelRun0_B.sl.v99, Cert.Kernel15Ideal.Gen.kernelRun0_B.sl.v92, Cert.Kernel15Ideal.Gen.kernelRun0_B.sl.v47,
    View.readAt_eq_ld, h2.read_unread, h3.read_unread, h4.read_unread, h6.read_unread,
    whole0.read_unread, whole1.read_unread, whole2.read_unread, whole4.read_unread]
  exact rfl

omit hq hk hg in
set_option maxHeartbeats 4000000 in
/-- The first tile's stores find zeros. -/
theorem zeros : kernelRun0_A.sl.v203 (F := Ideal) c a2 h2 a3 h3 a4 h4 a6 x0 x1 x2 = (fun _ => (0 : EReal))
    ∧ kernelRun0_A.sl.v196 (F := Ideal) c a2 h2 a3 h3 a4 h4 a6 x0 x1 x2 = (fun _ => (0 : EReal))
    ∧ kernelRun0_A.sl.v151 (F := Ideal) c a2 h2 a3 h3 a4 h4 a6 x0 x1 x2 = (fun _ => (0 : EReal))
    ∧ kernelRun0_A.sl.v144 (F := Ideal) c a2 h2 a3 h3 a4 h4 a6 x0 x1 x2 = (fun _ => (0 : EReal))
    ∧ kernelRun0_A.sl.v99 (F := Ideal) c a2 h2 a3 h3 a4 h4 a6 x0 x1 x2 = (fun _ => (0 : EReal))
    ∧ kernelRun0_A.sl.v92 (F := Ideal) c a2 h2 a3 h3 a4 h4 a6 x0 x1 x2 = (fun _ => (0 : EReal))
    ∧ kernelRun0_A.sl.v47 (F := Ideal) c a2 h2 a3 h3 a4 h4 a6 x0 x1 x2 = (fun _ => (0 : EReal))
    ∧ kernelRun0_A.sl.v40 (F := Ideal) c a6 = (fun _ => (0 : EReal)) := by
  refine ⟨?_, ?_, ?_, ?_, ?_, ?_, ?_, ?_⟩ <;>
  · funext z
    obtain ⟨r, l, rfl⟩ := Cert.Kernel15Ideal.Read.mem_idx z
    simp only [kernelRun0_A.sl.v203, kernelRun0_A.sl.v196, kernelRun0_A.sl.v151, kernelRun0_A.sl.v144, kernelRun0_A.sl.v99,
      kernelRun0_A.sl.v92, kernelRun0_A.sl.v47, kernelRun0_A.sl.v40,
      kernelRun0_A.sl.H4_8, kernelRun0_A.sl.H4_7, kernelRun0_A.sl.H4_6, kernelRun0_A.sl.H4_5, kernelRun0_A.sl.H4_4,
      kernelRun0_A.sl.H4_3, kernelRun0_A.sl.H4_2, kernelRun0_A.sl.H4_1, View.readCov_eq_canon']
    pointwise
    repeat rw [Cert.Kernel15Ideal.Read.skip _ _ _ _ _ (by show ¬(_ ≤ _ ∧ _ < _); simp only []; omega)]
    rw [View.canon_unit_zero (S := S1x256x1024) (by decide)]
    unfold k0_pay2
    exact Ideal.ofBits_zero_f32

set_option maxHeartbeats 4000000 in
/-- The memory's gradient, at a batch's first tile. -/
theorem memory_A (hc : cond0_0 i) (R : Fin 256) (L : Fin 1024) : out0_A_4 c i a2 h2 a3 h3 a4 h4 a5 h5 a6 h6 hc x0 x1 x2 (ix3 0 R L)
    = Mem.toMemory q k g 512 R L.val := by
  have hb : ¬cond0_0 (grid0.coords ⟨1, by decide⟩) := fun h => absurd ((hcond0_0 ⟨1, by decide⟩).mp h) (by decide)
  have e := memory_B c _ a2 h2 a3 h3 a4 h4 a5 h5 a6 h6 x0 x1 x2 (fun _ => (0 : EReal)) q k g hq hk hg hb R L
  rw [zero_add] at e
  rw [← e]
  obtain ⟨z1, z2, z3, z4, z5, z6, z7, z8⟩ := zeros c a2 h2 a3 h3 a4 h4 a6 x0 x1 x2
  have hv := cover0_B_4 c _ a2 h2 a3 h3 a4 h4 a5 h5 a6 h6 hb x0 x1 x2 (fun _ => (0 : EReal))
  unfold out0_A_4 out0_B_4
  rw [View.read_writes_eq_canon _ _ _ (cover0_A_4 c i a2 h2 a3 h3 a4 h4 a5 h5 a6 h6 hc x0 x1 x2), View.read_writes_eq_canon _ _ _ hv]
  refine Eq.trans ?_ (Cert.Kernel15Ideal.Read.canon_append (ix3 0 R L) _ [⟨Rect.unit ![0, 0, 0] S1x256x1024.size inb_S1x256x1024_S1x256x1024_0_0_0, k0_pay2 (F := Ideal)⟩] (hv _))
  unfold kernelRun0_A kernelRun0_B
  dsimp only
  simp only [z1, z2, z3, z4, z5, z6, z7, z8, kernelRun0_A.sl.H4_8, kernelRun0_A.sl.H4_7, kernelRun0_A.sl.H4_6, kernelRun0_A.sl.H4_5,
    kernelRun0_A.sl.H4_4, kernelRun0_A.sl.H4_3, kernelRun0_A.sl.H4_2, kernelRun0_A.sl.H4_1, kernelRun0_B.sl.v203, kernelRun0_B.sl.v196,
    kernelRun0_B.sl.v151, kernelRun0_B.sl.v144, kernelRun0_B.sl.v99, kernelRun0_B.sl.v92, kernelRun0_B.sl.v47, View.readAt_eq_ld,
    h6.read_unread]
  exact rfl

end
section
variable (m : (ℓ : Loc nD τ sig) → Buf (Elt Ideal) ℓ)

theorem at0 : ∀ t : Fin cfg0.N, win0_0.index t = ![t.val / 4, t.val % 4, 6] := (by decide +kernel : ∀ t : Fin grid0.N, _)
theorem at1 : ∀ t : Fin cfg0.N, win0_1.index t = ![t.val / 4, 0, 0] := (by decide +kernel : ∀ t : Fin grid0.N, _)
theorem at2 : ∀ t : Fin cfg0.N, win0_2.index t = ![t.val / 4, t.val % 4, 0] := (by decide +kernel : ∀ t : Fin grid0.N, _)
theorem at3 : ∀ t : Fin cfg0.N, win0_3.index t = ![t.val / 4, t.val % 4, 0] := (by decide +kernel : ∀ t : Fin grid0.N, _)
theorem at4 : ∀ t : Fin cfg0.N, win0_4.index t = ![t.val / 4, 0, 0] := (by decide +kernel : ∀ t : Fin grid0.N, _)

/-- The rows the call takes are the argument's, batch by batch. -/
theorem rows_at (c : Dev nD) (b r l : ℕ) (hb : b < 2) (hr : r < 2048) : Mem.entry3 (V m c main_v0) b r l
    = entry (V m c main_arg0) (b * 2048 + r) l := by
  have h : V m c main_v0 = shapeCast S2x2048x5632 (V m c main_arg0) shapeCasts_S4096x5632_S2x2048x5632 := by
    rw [V_main_arg0]
    unfold V hostOps0
    after_results
    rfl
  refine Mem.entry3_rows _ _ rfl (fun i j l k e => ?_) b r l hb hr
  rw [h]
  refine shapeCast_apply _ shapeCasts_S4096x5632_S2x2048x5632 (ix3 i j l) (ix2 k l) ?_
  rewrite [Shape.rowMajor_val_two, Shape.rowMajor_val_three]
  show k.val * 5632 + l.val = (i.val * 2048 + j.val) * 5632 + l.val
  rw [e]

/-- And the cotangent's. -/
theorem outer_at (c : Dev nD) (b r l : ℕ) (hb : b < 2) (hr : r < 2048) : Mem.entry3 (V m c main_v1) b r l
    = entry (V m c main_arg2) (b * 2048 + r) l := by
  have h : V m c main_v1 = shapeCast S2x2048x512 (V m c main_arg2) shapeCasts_S4096x512_S2x2048x512 := by
    rw [V_main_arg2]
    unfold V hostOps0
    after_results
    rfl
  refine Mem.entry3_rows _ _ rfl (fun i j l k e => ?_) b r l hb hr
  rw [h]
  refine shapeCast_apply _ shapeCasts_S4096x512_S2x2048x512 (ix3 i j l) (ix2 k l) ?_
  rewrite [Shape.rowMajor_val_two, Shape.rowMajor_val_three]
  show k.val * 512 + l.val = (i.val * 2048 + j.val) * 512 + l.val
  rw [e]

theorem queries_at (c : Dev nD) (t : Fin cfg0.N) (r l : Fin 512) : iblk m c 0 t (ix3 0 r l)
    = Mem.queries (Mem.moved (V m c main_arg0)) (t.val / 4) (t.val % 4 * 512 + r.val) l.val := by
  have ht : t.val < 8 := t.isLt
  rw [Mem.queries_moved _ _ _ _ (by omega) (by omega) l.isLt, ← rows_at m c _ _ _ (by omega) (by omega)]
  blk_simp [iblk]; rw [Mem.entry3_at (V m c main_v0)]; blk_simp [at0]; rfl

theorem memory_at (c : Dev nD) (t : Fin cfg0.N) (r : Fin 256) (l : Fin 1024) : iblk m c 1 t (ix3 0 r l)
    = Mem.entry3 (V m c main_arg1) (t.val / 4) r.val l.val := by
  blk_simp [iblk]; rw [Mem.entry3_at (V m c main_arg1)]; blk_simp [at1]; rfl

theorem cotangents_at (c : Dev nD) (t : Fin cfg0.N) (r l : Fin 512) : iblk m c 2 t (ix3 0 r l)
    = Mem.cotangents (V m c main_arg2) (t.val / 4) (t.val % 4 * 512 + r.val) l.val := by
  have ht : t.val < 8 := t.isLt
  unfold Mem.cotangents
  rw [← outer_at m c _ _ _ (by omega) (by omega)]
  blk_simp [iblk]; rw [Mem.entry3_at (V m c main_v1)]; blk_simp [at2]; rfl

/-- A tile's part of the queries' gradient. -/
theorem queries_out (c : Dev nD) (t : Fin cfg0.N) (y : S1x512x512.Idx) : (outsAt0 m c t.val t.isLt).1 y
    = Mem.toQuery (Mem.queries (Mem.moved (V m c main_arg0)) (t.val / 4)) (Mem.entry3 (V m c main_arg1) (t.val / 4)) ((y 2).val / 128)
      (t.val % 4 * 512 + (y 1).val) (Mem.cotangents (V m c main_arg2) (t.val / 4)) ((y 2).val % 128) := by
  refine Eq.trans ?_ (Mem.query_rows _ _ _ _ _ _ _)
  by_cases h : t.val % 4 = 0
  · rw [outsAt0_A m c t h]
    dsimp only
    rw [queries_A (q := fun r => Mem.queries (Mem.moved (V m c main_arg0)) (t.val / 4) (t.val % 4 * 512 + r)) (k := Mem.entry3 (V m c main_arg1) (t.val / 4))
      (g := fun r => Mem.cotangents (V m c main_arg2) (t.val / 4) (t.val % 4 * 512 + r)) (hq := queries_at m c t) (hk := memory_at m c t)
      (hg := cotangents_at m c t)]
  · rw [outsAt0_B m c t h]
    dsimp only
    rw [queries_B (q := fun r => Mem.queries (Mem.moved (V m c main_arg0)) (t.val / 4) (t.val % 4 * 512 + r)) (k := Mem.entry3 (V m c main_arg1) (t.val / 4))
      (g := fun r => Mem.cotangents (V m c main_arg2) (t.val / 4) (t.val % 4 * 512 + r)) (hq := queries_at m c t) (hk := memory_at m c t)
      (hg := cotangents_at m c t)]

/-- A batch's first tile starts the memory's gradient. -/
theorem memory_first (c : Dev nD) (t : Fin cfg0.N) (h : t.val % 4 = 0) (R : Fin 256) (L : Fin 1024) : (outsAt0 m c t.val t.isLt).2 (ix3 0 R L)
    = Mem.toMemory (Mem.queries (Mem.moved (V m c main_arg0)) (t.val / 4)) (Mem.entry3 (V m c main_arg1) (t.val / 4))
      (Mem.cotangents (V m c main_arg2) (t.val / 4)) 512 R L.val := by
  have hq := queries_at m c t
  have hg := cotangents_at m c t
  simp only [h, Nat.zero_mul, Nat.zero_add] at hq hg
  rw [outsAt0_A m c t h]
  dsimp only
  rw [memory_A (q := Mem.queries (Mem.moved (V m c main_arg0)) (t.val / 4)) (k := Mem.entry3 (V m c main_arg1) (t.val / 4))
    (g := Mem.cotangents (V m c main_arg2) (t.val / 4)) (hq := hq) (hk := memory_at m c t) (hg := hg)]

/-- A later tile adds its own to what the tiles before left. -/
theorem memory_later (c : Dev nD) (t : Fin cfg0.N) (h : ¬t.val % 4 = 0) (R : Fin 256) (L : Fin 1024) : (outsAt0 m c t.val t.isLt).2 (ix3 0 R L)
    = (outsAt0 m c (t.val - 1) (Nat.lt_of_le_of_lt (Nat.sub_le _ _) t.isLt)).2 (ix3 0 R L)
      + Mem.toMemory (fun r => Mem.queries (Mem.moved (V m c main_arg0)) (t.val / 4) (t.val % 4 * 512 + r)) (Mem.entry3 (V m c main_arg1) (t.val / 4))
        (fun r => Mem.cotangents (V m c main_arg2) (t.val / 4) (t.val % 4 * 512 + r)) 512 R L.val := by
  rw [outsAt0_B m c t h]
  dsimp only
  rw [memory_B (q := fun r => Mem.queries (Mem.moved (V m c main_arg0)) (t.val / 4) (t.val % 4 * 512 + r)) (k := Mem.entry3 (V m c main_arg1) (t.val / 4))
    (g := fun r => Mem.cotangents (V m c main_arg2) (t.val / 4) (t.val % 4 * 512 + r)) (hq := queries_at m c t) (hk := memory_at m c t)
    (hg := cotangents_at m c t)]

/-- The memory's gradient, of a batch's tiles so far. -/
theorem memory_out (c : Dev nD) (b : ℕ) (hb : b < 2) (n : ℕ) (hn : n < 4) (R : Fin 256) (L : Fin 1024) :
    (outsAt0 m c (4 * b + n) (show 4 * b + n < 8 by omega)).2 (ix3 0 R L)
      = Mem.toMemory (Mem.queries (Mem.moved (V m c main_arg0)) b) (Mem.entry3 (V m c main_arg1) b) (Mem.cotangents (V m c main_arg2) b)
        (n * 512 + 512) R L.val := by
  induction n with
  | zero =>
    have e := memory_first m c ⟨4 * b + 0, show 4 * b + 0 < 8 by omega⟩ (show (4 * b + 0) % 4 = 0 by omega) R L
    rw [show (4 * b + 0) / 4 = b by omega] at e
    rw [e, Nat.zero_mul, Nat.zero_add]
  | succ n ih =>
    have e := memory_later m c ⟨4 * b + (n + 1), show 4 * b + (n + 1) < 8 by omega⟩ (show ¬(4 * b + (n + 1)) % 4 = 0 by omega) R L
    rw [show (4 * b + (n + 1)) / 4 = b by omega, show (4 * b + (n + 1)) % 4 = n + 1 by omega] at e
    rw [e]
    refine Eq.trans ?_ (Mem.memory_rows _ _ _ ((n + 1) * 512) R L.val).symm
    refine congrArg₂ (· + ·) ((ih (by omega)).trans ?_) rfl
    rw [Nat.add_mul, Nat.one_mul]

/-- The whole gradient of the queries. -/
theorem final3 (c : Dev nD) : (dats m 0 c).arrAt 3 cfg0.N = Mem.backward (Mem.moved (V m c main_arg0)) (V m c main_arg1) (V m c main_arg2) := by
  refine (dats m 0 c).arrAt_eq_of_covers 3 _ (by decide +kernel) fun t hf y => ?_
  have ht : t.val < 8 := t.isLt
  blk_simp [at3, Mem.backward]
  rw [after0_3, queries_out]

/-- The whole gradient of the memory. -/
theorem final4 (c : Dev nD) : (dats m 0 c).arrAt 4 cfg0.N = Mem.backwardMemory (Mem.moved (V m c main_arg0)) (V m c main_arg1) (V m c main_arg2) := by
  refine (dats m 0 c).arrAt_eq_of_covers 4 _ (by decide +kernel) fun t hf y => ?_
  have ht : t.val < 8 := t.isLt
  have hm : t.val % 4 = 3 := (flush0_4 t).mp hf
  obtain ⟨R, L, rfl⟩ : ∃ (R : Fin 256) (L : Fin 1024), y = ix3 0 R L :=
    ⟨y 1, y 2, by
      funext a
      match a with
      | ⟨0, _⟩ => exact Subsingleton.elim (α := Fin 1) _ _
      | ⟨1, _⟩ => rfl
      | ⟨2, _⟩ => rfl⟩
  have e := memory_out m c (t.val / 4) (by omega) 3 (by omega) R L
  simp only [show 4 * (t.val / 4) + 3 = t.val by omega] at e
  have hR : (((win0_4.blk t).view.emb (ix3 0 R L)) 1 : Fin 256) = R := Fin.ext (by blk_simp [at4])
  blk_simp [at4, Mem.backwardMemory]
  rw [after0_4]
  refine e.trans ?_
  exact congrArg (fun R => Mem.toMemory _ _ _ 2048 R L.val) hR.symm

end

/-- The two programs have the same kernel bodies. -/
theorem bodies : Cert.Kernel17.defs (F := Bits) = defs (F := Bits) := by
  refine congrArg (Pipeline.defs Cert.Kernel17.pcfgs) (congrArg Defs.onTc (funext fun l => funext fun a => ?_))
  match l, a with
  | 0, (t, s) => rfl

theorem frame_bits : Cert.quiescent_Kernel17 := fun m ρ _ => bodies ▸ Gen.frame (F := Bits) m ρ

theorem frame_ideal : Cert.quiescent_Kernel17Ideal := fun m ρ _ => Gen.frame m ρ

theorem frame_reference : Cert.quiescent_Reference17Ideal := fun m ρ _ =>
  (θ_run Cert.Reference17Ideal.defs _ _).mono (fun r h => ⟨fun c => (h c).2.2, sem_eq_zero_of_no_sems (by decide) r.2⟩)
    (Cert.Reference17Ideal.Value.run (F := Ideal) m ρ)

/-! Where the queries and the keys are finite. -/

instance factsPre : Cert.Pre_finite17.Facts where
  slices_S4096x5632_S4096x512_0_3072 := by decide
  bcast_S_S4096x512 := by decide
  slices_S2x256x1024_S2x256x512_0_0_0 := by decide
  bitsLt_bf16_f32 := by decide
  bcast_S_S2x256x512 := by decide

theorem frame_ideal_finite : Cert.quiescent_Kernel17Ideal_pre_finite17 := fun m ρ _ => Gen.frame m ρ

theorem frame_reference_finite : Cert.quiescent_Reference17Ideal_pre_finite17 := fun m ρ _ =>
  (θ_run Cert.Reference17Ideal.defs _ _).mono (fun r h => ⟨fun c => (h c).2.2, sem_eq_zero_of_no_sems (by decide) r.2⟩)
    (Cert.Reference17Ideal.Value.run (F := Ideal) m ρ)

theorem finite_queries (m : (ℓ : Loc nD τ sig) → Buf (Elt Ideal) ℓ) (h : Cert.Pre_Kernel17Ideal_finite17 m) (c : Dev nD) (r : ℕ) (hr : r < 4096)
    (l : ℕ) (hl : l < 512) : ∃ t : ℝ, entry (Mem.moved (m ((c : Thread nD τ).loc main_arg0))) r (2560 + l) = t := by
  have part (x : Cert.Pre_finite17.S4096x5632.Idx → EReal) (y : Cert.Pre_finite17.S2x256x1024.Idx → EReal)
      (z : Cert.Pre_finite17.S4096x512.Idx → EReal) (h : (Cert.Pre_finite17.fn (F := Ideal) x y z).1 = fun _ => 1#1) :
      ∃ t : ℝ, entry (Mem.moved x) r (2560 + l) = t := by
    let w : Cert.Pre_finite17.S4096x512.Idx → EReal := extractStridedSlice (s := Cert.Pre_finite17.S4096x5632) Cert.Pre_finite17.S4096x512 ![0, 3072] x
      Cert.Pre_finite17.Facts.slices_S4096x5632_S4096x512_0_3072
    have e := Finite.real_of_lt (w (ix2 ⟨r, hr⟩ ⟨l, hl⟩)) (congrFun h (ix2 ⟨r, hr⟩ ⟨l, hl⟩))
    dsimp only [w] at e
    rw [extractStridedSlice_apply _ _ _ _ (ix2 ⟨r, hr⟩ ⟨3072 + l, by omega⟩) fun a => by fin_cases a <;> simp [ix2]] at e
    exact ⟨_, (Mem.entry_moved x r l hr hl).trans ((entry_at x (ix2 ⟨r, hr⟩ ⟨3072 + l, by omega⟩)).symm.trans e)⟩
  exact part _ _ _ (h c).1

theorem finite_keys (m : (ℓ : Loc nD τ sig) → Buf (Elt Ideal) ℓ) (h : Cert.Pre_Kernel17Ideal_finite17 m) (c : Dev nD) (n r l : ℕ) (hl : l < 512) :
    ∃ t : ℝ, Mem.entry3 (m ((c : Thread nD τ).loc main_arg1)) n r l = t := by
  by_cases hr : n < 2 ∧ r < 256
  · have part (x : Cert.Pre_finite17.S4096x5632.Idx → EReal) (y : Cert.Pre_finite17.S2x256x1024.Idx → EReal)
        (z : Cert.Pre_finite17.S4096x512.Idx → EReal) (h : (Cert.Pre_finite17.fn (F := Ideal) x y z).2 = fun _ => 1#1) :
        ∃ t : ℝ, Mem.entry3 y n r l = t := by
      let w : Cert.Pre_finite17.S2x256x512.Idx → EReal := extractStridedSlice (s := Cert.Pre_finite17.S2x256x1024) Cert.Pre_finite17.S2x256x512 ![0, 0, 0] y
        Cert.Pre_finite17.Facts.slices_S2x256x1024_S2x256x512_0_0_0
      have e := Finite.real_of_lt (w (ix3 ⟨n, hr.1⟩ ⟨r, hr.2⟩ ⟨l, hl⟩)) (congrFun h (ix3 ⟨n, hr.1⟩ ⟨r, hr.2⟩ ⟨l, hl⟩))
      dsimp only [w] at e
      rw [extractStridedSlice_apply _ _ _ _ (ix3 ⟨n, hr.1⟩ ⟨r, hr.2⟩ ⟨l, by omega⟩) fun a => by fin_cases a <;> simp [ix3]] at e
      exact ⟨_, (Mem.entry3_at y (ix3 ⟨n, hr.1⟩ ⟨r, hr.2⟩ ⟨l, by omega⟩)).symm.trans e⟩
    exact part _ _ _ (h c).2
  · refine ⟨0, ?_⟩
    unfold Mem.entry3
    rw [dif_neg fun h => hr ⟨h.1, h.2.1⟩]
    rfl

/-- The call's values are the reference's. -/
theorem value : Cert.algebraic_Kernel17Ideal_Reference17Ideal_pre_finite17 := by
  intro m ρ m' ρ' hp h
  refine ⟨_, _, run_blocks m ρ, (θ_run _ _ _).mono (fun r hr c => ⟨?_, ?_, (hr c).2.2⟩) (Cert.Reference17Ideal.Value.run (F := Ideal) m' ρ')⟩
  · rw [(hr c).1, Cert.Reference17Ideal.Read.val_main_v70_eq, (h c).1, (h c).2.1, (h c).2.2,
      (Mem.backward_moved _ _ _).1, Mem.reference_queries _ _ _ (finite_queries m hp c) (finite_keys m hp c)]
    refine Eq.trans ?_ (final3 m c).symm
    rw [V_main_arg0, V_main_arg1, V_main_arg2]
  · rw [(hr c).2.1, Cert.Reference17Ideal.Read.val_main_v69_eq, (h c).1, (h c).2.1, (h c).2.2,
      (Mem.backward_moved _ _ _).2, Mem.reference_memory _ _ _ (finite_queries m hp c) (finite_keys m hp c)]
    refine Eq.trans ?_ (final4 m c).symm
    rw [V_main_arg0, V_main_arg1, V_main_arg2]

end Cert.Kernel17Ideal.Read

end
-- ==== Proof.ForwardTile.lean ====
/- One tile of 256 query rows of the forward pass, as the kernel computes it on extended reals: the masked scores of the
   tile's own columns, the scores of the columns before it, their joint maximum, the exponentials, and the two stored
   numbers. -/
module

public import proofs.«01_k».proof.Proof.Attention
public import proofs.«01_k».proof.Proof.Reals

@[expose] public section

noncomputable section

namespace Cert.ForwardTile

open Finset Idealize.ShloMosaic Cert.Attention Cert.Reals

variable (c : ℝ) (q k v : ℕ → ℕ → ℝ)

/-- A score, from the entries of its rows. -/
theorem score_fin (r j : ℕ) :
    (∑ x : Fin 256, ((q r x.val * k j x.val : ℝ) : EReal)) * (c : EReal) = ((score c q k r j : ℝ) : EReal) := by
  rw [← coe_sum, ← EReal.coe_mul, score, Finset.sum_range]

/-- The masked scores of the tile that starts at row `a`. -/
def own (a r : ℕ) (x : Fin 256) : EReal := if x.val ≤ r then ((score c q k (a + r) (a + x.val) : ℝ) : EReal) else ⊥
/-- The scores of the columns before it. -/
def before (a r : ℕ) (x : Fin a) : EReal := ((score c q k (a + r) x.val : ℝ) : EReal)

theorem own_first (r : ℕ) :
    own c q k 0 r = fun x : Fin 256 => if x.val ≤ r then ((score c q k r x.val : ℝ) : EReal) else ⊥ := by
  funext x; simp only [own, Nat.zero_add]

theorem own_max (a r : ℕ) (hr : r < 256) : ∃ m : ℝ, univ.fold max ⊥ (own c q k a r) = (m : EReal) :=
  fold_max_mask univ (fun x : Fin 256 => x.val ≤ r) _ ⟨0, by omega⟩ (mem_univ _) (Nat.zero_le r)

theorem both_max (a r : ℕ) (hr : r < 256) (h0 : 0 < a) :
    ∃ m : ℝ, max (univ.fold max ⊥ (own c q k a r)) (univ.fold max ⊥ (before c q k a r)) = (m : EReal) := by
  obtain ⟨m, hm⟩ := own_max c q k a r hr
  obtain ⟨n, hn⟩ := fold_max_coe univ (fun x : Fin a => score c q k (a + r) x.val) ⟨0, h0⟩ (mem_univ _)
  refine ⟨max m n, ?_⟩
  unfold before
  rw [hm, hn, EReal.coe_strictMono.monotone.map_max]

section
variable (a r : ℕ) (hr : r < 256) (ha : a + 256 ≤ 2048)

theorem own_exp (m : ℝ) (x : Fin 256) : Ideal.exp (own c q k a r x - (m : EReal))
    = (((if x.val ≤ r then Real.exp (score c q k (a + r) (a + x.val) - m) else 0 : ℝ)) : EReal) := exp_mask _ _ _

theorem before_exp (m : ℝ) (x : Fin a) : Ideal.exp (before c q k a r x - (m : EReal))
    = ((Real.exp (score c q k (a + r) x.val - m) : ℝ) : EReal) := by
  unfold before; rw [← EReal.coe_sub, exp_coe]

include hr ha in
/-- The sum of the exponentials, whatever is subtracted. -/
theorem sum_exp (m : ℝ) :
    (∑ x : Fin 256, Ideal.exp (own c q k a r x - (m : EReal))) + ∑ x : Fin a, Ideal.exp (before c q k a r x - (m : EReal))
      = ((mass c q k (a + r) * Real.exp (-m) : ℝ) : EReal) := by
  have h := tile_mass c q k a r hr ha m
  rw [Finset.sum_range, Finset.sum_range] at h
  simp only [own_exp, before_exp, ← coe_sum, ← EReal.coe_add]
  rw [h]

include hr ha in
/-- Their sum against a lane of the values. -/
theorem sum_mix (l : ℕ) (m : ℝ) :
    (∑ x : Fin 256, Ideal.exp (own c q k a r x - (m : EReal)) * (v (a + x.val) l : EReal))
        + ∑ x : Fin a, Ideal.exp (before c q k a r x - (m : EReal)) * (v x.val l : EReal)
      = ((mix c q k v (a + r) l * (mass c q k (a + r) * Real.exp (-m)) : ℝ) : EReal) := by
  have h := tile_mix c q k v a r l hr ha m
  rw [Finset.sum_range, Finset.sum_range] at h
  simp only [own_exp, before_exp, ← EReal.coe_mul, ← coe_sum, ← EReal.coe_add]
  rw [h]

theorem quotient (l : ℕ) (m : ℝ) (hr : r < 256) (ha : a + 256 ≤ 2048) :
    Ideal.div ((mix c q k v (a + r) l * (mass c q k (a + r) * Real.exp (-m)) : ℝ) : EReal)
        ((mass c q k (a + r) * Real.exp (-m) : ℝ) : EReal) = ((mix c q k v (a + r) l : ℝ) : EReal) := by
  rw [div_coe _ _ (mul_pos (mass_pos c q k _) (Real.exp_pos _)).ne', tile_out c q k v a r l hr ha m]

theorem logarithm (m : ℝ) :
    (m : EReal) + Ideal.log ((mass c q k r * Real.exp (-m) : ℝ) : EReal) = ((lse c q k r : ℝ) : EReal) := by
  rw [log_coe _ (mul_pos (mass_pos c q k _) (Real.exp_pos _)), ← EReal.coe_add, tile_lse]

/-- The output stored for a tile with columns before it. -/
theorem out_later (h0 : 0 < a) (l : ℕ) {M : EReal}
    (hM : M = max (univ.fold max ⊥ (own c q k a r)) (univ.fold max ⊥ (before c q k a r)))
    (hr : r < 256) (ha : a + 256 ≤ 2048) :
    Ideal.div ((∑ x : Fin 256, Ideal.exp (own c q k a r x - M) * (v (a + x.val) l : EReal))
        + ∑ x : Fin a, Ideal.exp (before c q k a r x - M) * (v x.val l : EReal))
      ((∑ x : Fin 256, Ideal.exp (own c q k a r x - M)) + ∑ x : Fin a, Ideal.exp (before c q k a r x - M))
      = ((mix c q k v (a + r) l : ℝ) : EReal) := by
  obtain ⟨m, hm⟩ := both_max c q k a r hr h0
  rw [hM, hm, sum_exp c q k a r hr ha, sum_mix c q k v a r hr ha, quotient c q k v a r l m hr ha]

/-- The logarithm stored for a tile with columns before it. -/
theorem log_later (h0 : 0 < a) {M : EReal}
    (hM : M = max (univ.fold max ⊥ (own c q k a r)) (univ.fold max ⊥ (before c q k a r)))
    (hr : r < 256) (ha : a + 256 ≤ 2048) :
    M + Ideal.log ((∑ x : Fin 256, Ideal.exp (own c q k a r x - M)) + ∑ x : Fin a, Ideal.exp (before c q k a r x - M))
      = ((lse c q k (a + r) : ℝ) : EReal) := by
  obtain ⟨m, hm⟩ := both_max c q k a r hr h0
  rw [hM, hm, sum_exp c q k a r hr ha, logarithm]

end

/-- The output stored for the first tile. -/
theorem out_first (r l : ℕ) (hr : r < 256) {M : EReal} (hM : M = univ.fold max ⊥ (own c q k 0 r)) :
    Ideal.div (∑ x : Fin 256, Ideal.exp (own c q k 0 r x - M) * (v x.val l : EReal))
      (∑ x : Fin 256, Ideal.exp (own c q k 0 r x - M)) = ((mix c q k v r l : ℝ) : EReal) := by
  obtain ⟨m, hm⟩ := own_max c q k 0 r hr
  have h1 := sum_exp c q k 0 r hr (by omega) m
  have h2 := sum_mix c q k v 0 r hr (by omega) l m
  have h3 := quotient c q k v 0 r l m hr (by omega)
  simp only [univ_eq_empty, sum_empty, add_zero, Nat.zero_add] at h1 h2 h3
  rw [hM, hm, h1, h2, h3]

/-- The logarithm stored for the first tile. -/
theorem log_first (r : ℕ) (hr : r < 256) {M : EReal} (hM : M = univ.fold max ⊥ (own c q k 0 r)) :
    M + Ideal.log (∑ x : Fin 256, Ideal.exp (own c q k 0 r x - M)) = ((lse c q k r : ℝ) : EReal) := by
  obtain ⟨m, hm⟩ := own_max c q k 0 r hr
  have h1 := sum_exp c q k 0 r hr (by omega) m
  simp only [univ_eq_empty, sum_empty, add_zero, Nat.zero_add] at h1
  rw [hM, hm, h1, logarithm]

end Cert.ForwardTile

end
-- ==== Proof.Tile.lean ====
/- What the attention kernels' tiles share: the mask, the causal comparison inside a tile, indices by row and lane. -/
module

public import proofs.«01_k».proof.Proof.Gen.KernelIdeal.Frame
public import proofs.«01_k».proof.Proof.ForwardTile
public import Idealize.ShloMosaic.Lib.Pointwise
public import Idealize.ShloMosaic.Lib.Pipeline.ValueKit.Tiles
public import Idealize.ShloMosaic.Lib.Pipeline.FrameBody

@[expose] public section

set_option maxRecDepth 16384

noncomputable section

namespace Cert.KernelValue

open Cert.KernelIdeal Cert.KernelIdeal.Gen Cert.Reals Cert.Attention
open Idealize.ShloMosaic Idealize.ShloMosaic.TcCoe Idealize.ShloMosaic.Tactic

/-- The mask is the bottom value. -/
theorem mask_eq : Named.named (F := Idealize.ShloMosaic.Ideal) κ "mask" (φ := .f32) 4048155338#32 = (⊥ : EReal) := rfl

/-- The causal comparison inside a tile. -/
theorem tile_select (x y : Fin 256) (a b : EReal) :
    Scalar.select (IntOp.cmpi .sle (BitVec.ofNat 32 x.val) (BitVec.ofNat 32 y.val)) a b = if x.val ≤ y.val then a else b :=
  sle_small _ _ (by omega) (by omega) a b

/-- An index of a tile's block, by its row and lane. -/
theorem tile_idx (x : S1x256x128.Idx) : ∃ (r : Fin 256) (l : Fin 128), x = ix3 0 r l :=
  ⟨x 1, x 2, by
    funext a
    match a with
    | ⟨0, _⟩ => exact Subsingleton.elim (α := Fin 1) _ _
    | ⟨1, _⟩ => rfl
    | ⟨2, _⟩ => rfl⟩

/-- An index of a tile's column, by its row. -/
theorem column_idx (x : S1x1x256x1.Idx) : ∃ r : Fin 256, x = ix4 0 0 r 0 :=
  ⟨x 2, by
    funext a
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _⟩

end Cert.KernelValue

end
-- ==== Proof.Roll.lean ====
/- The rotation as the kernels compute it: on 128 lanes, the partners 32 apart brought together by two cyclic shifts, the
   cosines repeated and the sines signed. On the 64 lanes in use it is the rotation, on the others zero. -/
module

public import proofs.«01_k».proof.Proof.Step
public import Idealize.ShloMosaic.Lib.WordCmp

@[expose] public section

noncomputable section

namespace Cert.Roll

open Cert.Step

/-- The rotation, from the doubled cosines and the signed sines. -/
def roll (x c s : ℕ → ℝ) (l : ℕ) : ℝ := x l * c l + (if l < 32 then x (l + 32) else x (l - 32)) * s l

/-- Its transpose. -/
def rollBack (x c s : ℕ → ℝ) (l : ℕ) : ℝ :=
  x l * c l + (if l < 32 then x (l + 32) * s (l + 32) else x (l - 32) * s (l - 32))

/-- The cosines, repeated and padded. -/
def wideCos (c : ℕ → ℝ) (l : ℕ) : ℝ := if l < 32 then c l else if l < 64 then c (l - 32) else 0
/-- The sines, signed, repeated and padded. -/
def wideSin (s : ℕ → ℝ) (l : ℕ) : ℝ := if l < 32 then - s l else if l < 64 then s (l - 32) else 0

theorem roll_turn (x c s : ℕ → ℝ) (l : ℕ) : roll x (wideCos c) (wideSin s) l = if l < 64 then turn x c s l else 0 := by
  unfold roll turn wideCos wideSin
  by_cases h : l < 32
  · rw [if_pos h, if_pos h, if_pos h, if_pos h, if_pos (by omega)]; ring
  · rw [if_neg h, if_neg h, if_neg h, if_neg h]
    split_ifs <;> ring

theorem rollBack_turnBack (x c s : ℕ → ℝ) (l : ℕ) (hl : l < 64) :
    rollBack x (wideCos c) (wideSin s) l = turnBack x c s l := by
  unfold rollBack turnBack wideCos wideSin
  by_cases h : l < 32
  · rw [if_pos h, if_pos h, if_pos h, if_neg (by omega : ¬ l + 32 < 32), if_pos (by omega : l + 32 < 64),
      Nat.add_sub_cancel]
  · rw [if_neg h, if_neg h, if_pos hl, if_neg h, if_pos (by omega : l - 32 < 32)]; ring

open Idealize.ShloMosaic

/-- The lane's comparison with 32. -/
theorem lane_select (l : ℕ) (hl : l < 128) {α : Type} (a b : α) :
    Scalar.select (IntOp.cmpi .slt (BitVec.ofNat 32 l) 32#32) a b = if l < 32 then a else b := by
  rw [show (32#32 : BitVec 32) = BitVec.ofNat 32 32 from rfl, WordCmp.cmpi_slt_ofNat (by omega) (by omega),
    WordCmp.select_decide]

/-- The transpose on extended reals, the shifts' source lanes reduced into range. -/
theorem rollBack_fin (x c s : ℕ → ℝ) (l : ℕ) (hl : l < 128) :
    ((x l : ℝ) : EReal) * ((c l : ℝ) : EReal)
        + Scalar.select (IntOp.cmpi .slt (BitVec.ofNat 32 l) 32#32)
          (((x ((l + 128 - 96) % 128) : ℝ) : EReal) * ((s ((l + 128 - 96) % 128) : ℝ) : EReal))
          (((x ((l + 128 - 32) % 128) : ℝ) : EReal) * ((s ((l + 128 - 32) % 128) : ℝ) : EReal))
      = ((rollBack x c s l : ℝ) : EReal) := by
  rw [lane_select l hl, rollBack]
  by_cases h : l < 32
  · rw [if_pos h, if_pos h, show (l + 128 - 96) % 128 = l + 32 by omega]
    simp only [← EReal.coe_mul, ← EReal.coe_add]
  · rw [if_neg h, if_neg h, show (l + 128 - 32) % 128 = l - 32 by omega]
    simp only [← EReal.coe_mul, ← EReal.coe_add]

/-- The rotation on extended reals. -/
theorem roll_fin (x c s : ℕ → ℝ) (l : ℕ) (hl : l < 128) :
    ((x l : ℝ) : EReal) * ((c l : ℝ) : EReal)
        + Scalar.select (IntOp.cmpi .slt (BitVec.ofNat 32 l) 32#32)
          ((x ((l + 128 - 96) % 128) : ℝ) : EReal) ((x ((l + 128 - 32) % 128) : ℝ) : EReal) * ((s l : ℝ) : EReal)
      = ((roll x c s l : ℝ) : EReal) := by
  rw [lane_select l hl, roll]
  by_cases h : l < 32
  · rw [if_pos h, if_pos h, show (l + 128 - 96) % 128 = l + 32 by omega]
    simp only [← EReal.coe_mul, ← EReal.coe_add]
  · rw [if_neg h, if_neg h, show (l + 128 - 32) % 128 = l - 32 by omega]
    simp only [← EReal.coe_mul, ← EReal.coe_add]

end Cert.Roll

end
-- ==== Proof.Projections.lean ====
/- The calls beside the attention, block by block: the queries' projection with the rotation of its last lanes, the keys'
   and values' with the shared rotated lanes copied into each head, and the gradient of those lanes summed over the heads
   and rotated back. -/
module

public import proofs.«01_k».proof.Proof.Tile
public import proofs.«01_k».proof.Proof.Roll

@[expose] public section

set_option maxRecDepth 16384

noncomputable section

namespace Cert.KernelValue

open Cert.KernelIdeal Cert.KernelIdeal.Gen Cert.Reals Cert.Attention Cert.Step Cert.Roll
open Idealize.ShloMosaic Idealize.ShloMosaic.TcCoe Idealize.ShloMosaic.Tactic

/-- A product of real entries is the real product. -/
theorem lin_fin (K : ℕ) (x w : ℕ → ℕ → ℝ) (n c : ℕ) :
    ∑ t : Fin K, ((x n t.val : ℝ) : EReal) * ((w t.val c : ℝ) : EReal) = ((lin K x w n c : ℝ) : EReal) := by
  simp only [← EReal.coe_mul]
  exact coe_sum_fin K (fun t => x n t * w t c)

/-- An index of a head's part of a block, by its row and lane. -/
theorem part_idx (x : S512x128.Idx) : ∃ (r : Fin 512) (l : Fin 128), x = ix2 r l :=
  ⟨x 0, x 1, by
    funext a
    match a with
    | ⟨0, _⟩ => rfl
    | ⟨1, _⟩ => rfl⟩

/-- The queries' entry: a head's first 128 lanes as they come, its other 128 rotated. -/
def upQ (x w c s : ℕ → ℕ → ℝ) (r l : ℕ) : ℝ :=
  if l % 256 < 128 then lin 512 x w r l
  else roll (fun t => lin 512 x w r (l - l % 256 + (128 + t))) (c r) (s r) (l % 256 - 128)

theorem upQ_own (x w c s : ℕ → ℕ → ℝ) (h r l : ℕ) (hl : l < 128) : upQ x w c s r (256 * h + l) = lin 512 x w r (256 * h + l) := by
  have e : (256 * h + l) % 256 = l := by omega
  rw [upQ, e, if_pos hl]

theorem upQ_turned (x w c s : ℕ → ℕ → ℝ) (h r l : ℕ) (hl : l < 128) : upQ x w c s r (256 * h + (128 + l))
    = roll (fun t => lin 512 x w r (256 * h + (128 + t))) (c r) (s r) l := by
  have e : (256 * h + (128 + l)) % 256 = 128 + l := by omega
  have e1 : 256 * h + (128 + l) - (128 + l) = 256 * h := by omega
  have e2 : 128 + l - 128 = l := by omega
  rw [upQ, e, if_neg (by omega), e1, e2]

/-- The keys' entry: 128 projected lanes, then the shared ones, rotated. -/
def upK (x w e c s : ℕ → ℕ → ℝ) (r l : ℕ) : ℝ :=
  if l % 256 < 128 then lin 256 x w r l else roll (e r) (c r) (s r) (l % 256 - 128)

theorem upK_own (x w e c s : ℕ → ℕ → ℝ) (h r l : ℕ) (hl : l < 128) : upK x w e c s r (256 * h + l) = lin 256 x w r (256 * h + l) := by
  have e : (256 * h + l) % 256 = l := by omega
  rw [upK, e, if_pos hl]

theorem upK_turned (x w e c s : ℕ → ℕ → ℝ) (h r l : ℕ) (hl : l < 128) : upK x w e c s r (256 * h + (128 + l)) = roll (e r) (c r) (s r) l := by
  have e : (256 * h + (128 + l)) % 256 = 128 + l := by omega
  have e2 : 128 + l - 128 = l := by omega
  rw [upK, e, if_neg (by omega), e2]

/-- The values' entry: the projection's other lanes. -/
def upV (x w : ℕ → ℕ → ℝ) (r l : ℕ) : ℝ := lin 256 x w r (l / 128 * 256 + 128 + l % 128)

theorem upV_at (x w : ℕ → ℕ → ℝ) (h r l : ℕ) (hl : l < 128) : upV x w r (128 * h + l) = lin 256 x w r (256 * h + 128 + l) := by
  have e1 : (128 * h + l) / 128 = h := by omega
  have e2 : (128 * h + l) % 128 = l := by omega
  rw [upV, e1, e2, Nat.mul_comm h]

/-- The shared lanes' gradient: the heads' sum, rotated back. -/
def downR (x c s : ℕ → ℕ → ℝ) (r l : ℕ) : ℝ :=
  rollBack (fun t => ∑ h ∈ Finset.range 12, x r (128 * h + t)) (c r) (s r) l

section
variable {x0 : Vec Ideal S512x512 .bf16} {x1 : Vec Ideal S512x512 .bf16} {x2 x3 : Vec Ideal S512x128 .f32}
  {x w c s : ℕ → ℕ → ℝ} (hx : ∀ r l, x0 (ix2 r l) = (x r.val l.val : EReal))
  (hw : ∀ r l, x1 (ix2 r l) = (w r.val l.val : EReal)) (hc : ∀ r l, x2 (ix2 r l) = (c r.val l.val : EReal))
  (hs : ∀ r l, x3 (ix2 r l) = (s r.val l.val : EReal))
include hx hw hc hs

set_option maxHeartbeats 4000000 in
/-- The queries' block. -/
theorem out0_4_at (y : S512x512.Idx) : out0_4 x0 x1 x2 x3 y = ((upQ x w c s (y 0).val (y 1).val : ℝ) : EReal) := by
  canon_tiles z h using cover0_4 ..
  case piece0 =>
    obtain ⟨r, l, rfl⟩ := part_idx z
    open_payloads
    pointwise
    simp only [hx, hw, hc, hs, lin_fin]
    rw [show (y 0).val = r.val from h0, show (y 1).val = 256 * 1 + (128 + l.val) by
      rw [show (y 1).val = 384 + l.val from h1]; omega, upQ_turned _ _ _ _ _ _ _ l.isLt]
    simp only [← Nat.add_assoc, Nat.mul_one]
    exact roll_fin (fun t => lin 512 x w r.val (384 + t)) (c r.val) (s r.val) l.val l.isLt
  case piece1 =>
    obtain ⟨r, l, rfl⟩ := part_idx z
    open_payloads
    pointwise
    simp only [hx, hw, hc, hs, lin_fin]
    rw [show (y 0).val = r.val from h0, show (y 1).val = 256 * 1 + l.val from h1, upQ_own _ _ _ _ _ _ _ l.isLt]
  case piece2 =>
    obtain ⟨r, l, rfl⟩ := part_idx z
    open_payloads
    pointwise
    simp only [hx, hw, hc, hs, lin_fin]
    rw [show (y 0).val = r.val from h0, show (y 1).val = 256 * 0 + (128 + l.val) by
      rw [show (y 1).val = 128 + l.val from h1]; omega, upQ_turned _ _ _ _ _ _ _ l.isLt]
    simp only [Nat.mul_zero, Nat.zero_add]
    exact roll_fin (fun t => lin 512 x w r.val (128 + t)) (c r.val) (s r.val) l.val l.isLt
  case piece3 =>
    obtain ⟨r, l, rfl⟩ := part_idx z
    open_payloads
    pointwise
    simp only [hx, hw, hc, hs, lin_fin]
    rw [show (y 0).val = r.val from h0, show (y 1).val = 256 * 0 + l.val by
      rw [show (y 1).val = l.val from h1]; omega, upQ_own _ _ _ _ _ _ _ l.isLt, Nat.mul_zero, Nat.zero_add]

end

section
variable {x0 : Vec Ideal S512x256 .bf16} {x1 : Vec Ideal S256x512 .bf16} {x2 x3 x4 : Vec Ideal S512x128 .f32}
  {x w e c s : ℕ → ℕ → ℝ} (hx : ∀ r l, x0 (ix2 r l) = (x r.val l.val : EReal))
  (hw : ∀ r l, x1 (ix2 r l) = (w r.val l.val : EReal)) (he : ∀ r l, x2 (ix2 r l) = (e r.val l.val : EReal))
  (hc : ∀ r l, x3 (ix2 r l) = (c r.val l.val : EReal)) (hs : ∀ r l, x4 (ix2 r l) = (s r.val l.val : EReal))
include hx hw

set_option maxHeartbeats 4000000 in
/-- The values' block. -/
theorem out1_6_at (y : S512x256.Idx) : out1_6 x0 x1 x2 x3 x4 y = ((upV x w (y 0).val (y 1).val : ℝ) : EReal) := by
  canon_tiles z h using cover1_6 ..
  case piece0 =>
    obtain ⟨r, l, rfl⟩ := part_idx z
    open_payloads
    pointwise
    simp only [hx, hw, lin_fin]
    rw [show (y 0).val = r.val from h0, show (y 1).val = 128 * 1 + l.val from h1, upV_at _ _ _ _ _ l.isLt]
  case piece1 =>
    obtain ⟨r, l, rfl⟩ := part_idx z
    open_payloads
    pointwise
    simp only [hx, hw, lin_fin]
    rw [show (y 0).val = r.val from h0, show (y 1).val = 128 * 0 + l.val by
      rw [show (y 1).val = l.val from h1]; omega, upV_at _ _ _ _ _ l.isLt, Nat.mul_zero, Nat.zero_add]

include he hc hs

set_option maxHeartbeats 4000000 in
/-- The keys' block. -/
theorem out1_5_at (y : S512x512.Idx) : out1_5 x0 x1 x2 x3 x4 y = ((upK x w e c s (y 0).val (y 1).val : ℝ) : EReal) := by
  canon_tiles z h using cover1_5 ..
  case piece0 =>
    obtain ⟨r, l, rfl⟩ := part_idx z
    open_payloads
    pointwise
    simp only [he, hc, hs]
    rw [show (y 0).val = r.val from h0, show (y 1).val = 256 * 1 + (128 + l.val) by
      rw [show (y 1).val = 384 + l.val from h1]; omega, upK_turned _ _ _ _ _ _ _ _ l.isLt]
    exact roll_fin (e r.val) (c r.val) (s r.val) l.val l.isLt
  case piece1 =>
    obtain ⟨r, l, rfl⟩ := part_idx z
    open_payloads
    pointwise
    simp only [hx, hw, lin_fin]
    rw [show (y 0).val = r.val from h0, show (y 1).val = 256 * 1 + l.val from h1, upK_own _ _ _ _ _ _ _ _ l.isLt]
  case piece2 =>
    obtain ⟨r, l, rfl⟩ := part_idx z
    open_payloads
    pointwise
    simp only [he, hc, hs]
    rw [show (y 0).val = r.val from h0, show (y 1).val = 256 * 0 + (128 + l.val) by
      rw [show (y 1).val = 128 + l.val from h1]; omega, upK_turned _ _ _ _ _ _ _ _ l.isLt]
    exact roll_fin (e r.val) (c r.val) (s r.val) l.val l.isLt
  case piece3 =>
    obtain ⟨r, l, rfl⟩ := part_idx z
    open_payloads
    pointwise
    simp only [hx, hw, lin_fin]
    rw [show (y 0).val = r.val from h0, show (y 1).val = 256 * 0 + l.val by
      rw [show (y 1).val = l.val from h1]; omega, upK_own _ _ _ _ _ _ _ _ l.isLt, Nat.mul_zero, Nat.zero_add]

end

section
variable {x0 : Vec Ideal S512x1536 .f32} {x1 x2 : Vec Ideal S512x128 .f32}
  {x c s : ℕ → ℕ → ℝ} (hx : ∀ r l, x0 (ix2 r l) = (x r.val l.val : EReal))
  (hc : ∀ r l, x1 (ix2 r l) = (c r.val l.val : EReal)) (hs : ∀ r l, x2 (ix2 r l) = (s r.val l.val : EReal))

/-- Twelve heads' lanes, added one after another. -/
theorem twelve (f : ℕ → ℝ) (l : ℕ) :
    f l + f (128 + l) + f (256 + l) + f (384 + l) + f (512 + l) + f (640 + l) + f (768 + l) + f (896 + l)
        + f (1024 + l) + f (1152 + l) + f (1280 + l) + f (1408 + l)
      = ∑ h ∈ Finset.range 12, f (128 * h + l) := by
  simp only [Finset.sum_range_succ, Finset.sum_range_zero, Nat.mul_zero, Nat.zero_add, zero_add]

include hx hc hs in
set_option maxHeartbeats 4000000 in
/-- The shared lanes' block. -/
theorem out4_3_at (y : S512x128.Idx) : out4_3 x0 x1 x2 y = ((downR x c s (y 0).val (y 1).val : ℝ) : EReal) := by
  canon_tiles z h using cover4_3 ..
  case piece0 =>
    obtain ⟨r, l, rfl⟩ := part_idx z
    open_payloads
    pointwise
    simp only [hx, hc, hs, ← EReal.coe_add, twelve (x r.val)]
    rw [show (y 0).val = r.val from h0, show (y 1).val = l.val from h1]
    exact rollBack_fin (fun t => ∑ h ∈ Finset.range 12, x r.val (128 * h + t)) (c r.val) (s r.val) l.val l.isLt

end

end Cert.KernelValue

end
-- ==== Proof.HostParts.lean ====
/- The host's own work around the calls, entry by entry: the doubled cosines and signed sines, the queries' weights padded
   to whole tiles of a head, the shared lanes placed, and the arrays read anew as rows of a batch. -/
module

public import proofs.«01_k».proof.Proof.Projections
public import Idealize.ShloMosaic.Lib.Claim

@[expose] public section

set_option maxRecDepth 16384

noncomputable section

namespace Cert.KernelValue

open Cert.KernelIdeal Cert.KernelIdeal.Gen Cert.Reals Cert.Attention Cert.Step Cert.Roll
open Idealize.ShloMosaic Idealize.ShloMosaic.TcCoe Idealize.ShloMosaic.Tactic

/-- The queries' weights with every head's 192 lanes padded to 256. -/
def wideW (w : ℕ → ℕ → ℝ) (n c : ℕ) : ℝ := if c % 256 < 192 then w n (c / 256 * 192 + c % 256) else 0
/-- The shared lanes behind all the others. -/
def placed (x : ℕ → ℕ → ℝ) (n c : ℕ) : ℝ := if c < 3328 then 0 else if c < 3392 then x n (c - 3328) else 0

/-- Three arrays side by side, read at an entry. -/
theorem three {α : Type} (N a b c t : ℕ) (x : (⟨2, ![N, a]⟩ : Shape).Idx → α) (y : (⟨2, ![N, b]⟩ : Shape).Idx → α)
    (z : (⟨2, ![N, c]⟩ : Shape).Idx → α) (ht : t = a + b + c)
    (h : Shape.Concatenates [⟨2, ![N, a]⟩, ⟨2, ![N, b]⟩, ⟨2, ![N, c]⟩] ⟨2, ![N, t]⟩ 1) (i : (⟨2, ![N, t]⟩ : Shape).Idx) :
    concatenate ⟨2, ![N, t]⟩ 1 [⟨⟨2, ![N, a]⟩, x⟩, ⟨⟨2, ![N, b]⟩, y⟩, ⟨⟨2, ![N, c]⟩, z⟩] h i
      = if h1 : (i 1).val < a then x (ix2 (i 0) ⟨(i 1).val, h1⟩)
        else if h2 : (i 1).val - a < b then y (ix2 (i 0) ⟨(i 1).val - a, h2⟩)
        else z (ix2 (i 0) ⟨(i 1).val - a - b, by have : (i 1).val < t := (i 1).isLt; omega⟩) := by
  have hi : (i 1).val < t := (i 1).isLt
  by_cases h1 : (i 1).val < a
  · rw [dif_pos h1]
    refine concatenate_apply_piece (t := ⟨2, ![N, t]⟩) 1 [⟨⟨2, ![N, a]⟩, x⟩, ⟨⟨2, ![N, b]⟩, y⟩, ⟨⟨2, ![N, c]⟩, z⟩] h i 0 (by simp) _ x rfl rfl 0 rfl _ (fun p hp => ?_) (Nat.zero_add _)
    match p with
    | ⟨0, _⟩ => rfl
    | ⟨1, _⟩ => exact absurd rfl hp
  by_cases h2 : (i 1).val - a < b
  · rw [dif_neg h1, dif_pos h2]
    refine concatenate_apply_piece (t := ⟨2, ![N, t]⟩) 1 [⟨⟨2, ![N, a]⟩, x⟩, ⟨⟨2, ![N, b]⟩, y⟩, ⟨⟨2, ![N, c]⟩, z⟩] h i 1 (by simp) _ y rfl rfl a rfl _ (fun p hp => ?_) ?_
    · match p with
      | ⟨0, _⟩ => rfl
      | ⟨1, _⟩ => exact absurd rfl hp
    · show a + ((i 1).val - a) = (i 1).val
      omega
  · rw [dif_neg h1, dif_neg h2]
    refine concatenate_apply_piece (t := ⟨2, ![N, t]⟩) 1 [⟨⟨2, ![N, a]⟩, x⟩, ⟨⟨2, ![N, b]⟩, y⟩, ⟨⟨2, ![N, c]⟩, z⟩] h i 2 (by simp) _ z rfl rfl (a + b) rfl _ (fun p hp => ?_) ?_
    · match p with
      | ⟨0, _⟩ => rfl
      | ⟨1, _⟩ => exact absurd rfl hp
    · show a + b + ((i 1).val - a - b) = (i 1).val
      omega

variable {σ : Valuation τ sig (Elt Ideal)} {f : ℕ → ℕ → ℝ}

theorem read_cos : StableHlo.after hostOps0 σ (Proc.devRef .tc main_v1)
    = concatenate S4096x128 1 [⟨S4096x32, σ (Proc.devRef .tc main_arg5)⟩, ⟨S4096x32, σ (Proc.devRef .tc main_arg5)⟩,
        ⟨S4096x64, broadcastInDim S4096x64 ![] bcast_S_S4096x64 (constant (F := Ideal) S_ .f32 0x00000000#32)⟩]
        concatenates_S4096x32_S4096x32_S4096x64_S4096x128_d1 := rfl
theorem read_sin : StableHlo.after hostOps0 σ (Proc.devRef .tc main_v3)
    = concatenate S4096x128 1 [⟨S4096x32, Host.negf (F := Ideal) (φ := .f32) (σ (Proc.devRef .tc main_arg6))⟩,
        ⟨S4096x32, σ (Proc.devRef .tc main_arg6)⟩,
        ⟨S4096x64, broadcastInDim S4096x64 ![] bcast_S_S4096x64 (constant (F := Ideal) S_ .f32 0x00000000#32)⟩]
        concatenates_S4096x32_S4096x32_S4096x64_S4096x128_d1 := rfl
theorem read_placed : StableHlo.after hostOps0_2 σ (Proc.devRef .tc main_v9)
    = concatenate S4096x3456 1 [⟨S4096x3328, broadcastInDim S4096x3328 ![] bcast_S_S4096x3328 (constant (F := Ideal) S_ .f32 0x00000000#32)⟩,
        ⟨S4096x64, σ (Proc.devRef .tc main_arg4)⟩, ⟨S4096x64, σ (Proc.devRef .tc main_v0)⟩]
        concatenates_S4096x3328_S4096x64_S4096x64_S4096x3456_d1 := rfl
theorem read_zero : StableHlo.after hostOps0 σ (Proc.devRef .tc main_v0)
    = broadcastInDim S4096x64 ![] bcast_S_S4096x64 (constant (F := Ideal) S_ .f32 0x00000000#32) := rfl
theorem read_weights :
    StableHlo.after hostOps0_2 (StableHlo.after hostOps0_1 (StableHlo.after hostOps0 σ)) (Proc.devRef .tc main_v7)
      = shapeCast S512x3072 (pad S512x12x256 ![0, 0, 0] ![0, 0, 64] ![0, 0, 0]
          (shapeCast S512x12x192 (truncf .bf16 (σ (Proc.devRef .tc main_arg1)) bitsLt_bf16_f32) shapeCasts_S512x2304_S512x12x192)
          (sitofp (F := Ideal) .bf16 (constantI S_ 32 0#32)) pads_S512x12x192_S512x12x256_000_000_0640 h_S_)
          shapeCasts_S512x12x256_S512x3072 := rfl

/-- The cosines, doubled. -/
theorem host_cos (h : ∀ i : S4096x32.Idx, σ (Proc.devRef .tc main_arg5) i = ((f (i 0).val (i 1).val : ℝ) : EReal))
    (i : S4096x128.Idx) :
    StableHlo.after hostOps0 σ (Proc.devRef .tc main_v1) i = ((wideCos (f (i 0).val) (i 1).val : ℝ) : EReal) := by
  rw [read_cos]
  refine (three 4096 32 32 64 128 _ _ _ rfl _ i).trans ?_
  unfold wideCos
  split_ifs with h1 h2 h3 h4
  · rw [h]; rfl
  · rw [h]; rfl
  · omega
  · omega
  · pointwise; rfl

/-- The sines, signed. -/
theorem host_sin (h : ∀ i : S4096x32.Idx, σ (Proc.devRef .tc main_arg6) i = ((f (i 0).val (i 1).val : ℝ) : EReal))
    (i : S4096x128.Idx) :
    StableHlo.after hostOps0 σ (Proc.devRef .tc main_v3) i = ((wideSin (f (i 0).val) (i 1).val : ℝ) : EReal) := by
  rw [read_sin]
  refine (three 4096 32 32 64 128 _ _ _ rfl _ i).trans ?_
  unfold wideSin
  split_ifs with h1 h2 h3 h4
  · show Neg.neg (α := EReal) (σ (Proc.devRef .tc main_arg6) _) = _
    rw [h, ← EReal.coe_neg]; rfl
  · rw [h]; rfl
  · omega
  · omega
  · pointwise; rfl

/-- The shared lanes in their place. -/
theorem host_placed (h : ∀ i : S4096x64.Idx, σ (Proc.devRef .tc main_arg4) i = ((f (i 0).val (i 1).val : ℝ) : EReal))
    (h0 : ∀ i : S4096x64.Idx, σ (Proc.devRef .tc main_v0) i = ((0 : ℝ) : EReal)) (i : S4096x3456.Idx) :
    StableHlo.after hostOps0_2 σ (Proc.devRef .tc main_v9) i = ((placed f (i 0).val (i 1).val : ℝ) : EReal) := by
  rw [read_placed]
  refine (three 4096 3328 64 64 3456 _ _ _ rfl _ i).trans ?_
  unfold placed
  split_ifs with h1 h2 h3 h4
  · pointwise; rfl
  · rw [h]; rfl
  · omega
  · omega
  · rw [h0]

theorem host_zero (i : S4096x64.Idx) : StableHlo.after hostOps0 σ (Proc.devRef .tc main_v0) i = ((0 : ℝ) : EReal) := by
  rw [read_zero]
  pointwise
  rfl

/-- The padded weights. -/
theorem host_weights (h : ∀ i : S512x2304.Idx, σ (Proc.devRef .tc main_arg1) i = ((f (i 0).val (i 1).val : ℝ) : EReal))
    (i : S512x3072.Idx) :
    StableHlo.after hostOps0_2 (StableHlo.after hostOps0_1 (StableHlo.after hostOps0 σ)) (Proc.devRef .tc main_v7) i
      = ((wideW f (i 0).val (i 1).val : ℝ) : EReal) := by
  rw [read_weights]
  pointwise
  have hi : (i 1).val < 3072 := (i 1).isLt
  unfold wideW
  split_ifs with h1 h2 h2
  · rw [h]; rfl
  · omega
  · omega
  · show (((0#32 : BitVec 32).toInt : ℝ) : EReal) = _
    simp

/-- The queries' latent. -/
theorem host_x (h : ∀ i : S4096x512.Idx, σ (Proc.devRef .tc main_arg0) i = ((f (i 0).val (i 1).val : ℝ) : EReal)) (i : S4096x512.Idx) :
    StableHlo.after hostOps0_2 σ (Proc.devRef .tc main_v10) i = ((f (i 0).val (i 1).val : ℝ) : EReal) := by
  entry_read
  pointwise
  rw [h]

/-- The keys' and values' latent. -/
theorem host_ck (h : ∀ i : S4096x256.Idx, σ (Proc.devRef .tc main_arg2) i = ((f (i 0).val (i 1).val : ℝ) : EReal)) (i : S4096x256.Idx) :
    StableHlo.after hostOps1 σ (Proc.devRef .tc main_v12) i = ((f (i 0).val (i 1).val : ℝ) : EReal) := by
  entry_read
  pointwise
  rw [h]

/-- Their weights. -/
theorem host_wk (h : ∀ i : S256x3072.Idx, σ (Proc.devRef .tc main_arg3) i = ((f (i 0).val (i 1).val : ℝ) : EReal)) (i : S256x3072.Idx) :
    StableHlo.after hostOps1 σ (Proc.devRef .tc main_v13) i = ((f (i 0).val (i 1).val : ℝ) : EReal) := by
  entry_read
  pointwise
  rw [h]

/-- Rows of a batch. -/
theorem rows_q (h : ∀ i : S4096x3072.Idx, σ (Proc.devRef .tc main_v11) i = ((f (i 0).val (i 1).val : ℝ) : EReal))
    (i : S2x2048x3072.Idx) : StableHlo.after hostOps2 σ (Proc.devRef .tc main_v15) i
      = ((f ((i 0).val * 2048 + (i 1).val) (i 2).val : ℝ) : EReal) := by
  entry_read
  pointwise
  rw [h]
  rfl

/-- Rows of a batch. -/
theorem rows_k (h : ∀ i : S4096x3072.Idx, σ (Proc.devRef .tc main_v14_0) i = ((f (i 0).val (i 1).val : ℝ) : EReal))
    (i : S2x2048x3072.Idx) : StableHlo.after hostOps2 σ (Proc.devRef .tc main_v16) i
      = ((f ((i 0).val * 2048 + (i 1).val) (i 2).val : ℝ) : EReal) := by
  entry_read
  pointwise
  rw [h]
  rfl

/-- Rows of a batch. -/
theorem rows_v (h : ∀ i : S4096x1536.Idx, σ (Proc.devRef .tc main_v14_1) i = ((f (i 0).val (i 1).val : ℝ) : EReal))
    (i : S2x2048x1536.Idx) : StableHlo.after hostOps2 σ (Proc.devRef .tc main_v17) i
      = ((f ((i 0).val * 2048 + (i 1).val) (i 2).val : ℝ) : EReal) := by
  entry_read
  pointwise
  rw [h]
  rfl

/-- Rows of a batch. -/
theorem rows_q3 (h : ∀ i : S4096x3072.Idx, σ (Proc.devRef .tc main_v11) i = ((f (i 0).val (i 1).val : ℝ) : EReal))
    (i : S2x2048x3072.Idx) : StableHlo.after hostOps3 σ (Proc.devRef .tc main_v19) i
      = ((f ((i 0).val * 2048 + (i 1).val) (i 2).val : ℝ) : EReal) := by
  entry_read
  pointwise
  rw [h]
  rfl

/-- Rows of a batch. -/
theorem rows_k3 (h : ∀ i : S4096x3072.Idx, σ (Proc.devRef .tc main_v14_0) i = ((f (i 0).val (i 1).val : ℝ) : EReal))
    (i : S2x2048x3072.Idx) : StableHlo.after hostOps3 σ (Proc.devRef .tc main_v20) i
      = ((f ((i 0).val * 2048 + (i 1).val) (i 2).val : ℝ) : EReal) := by
  entry_read
  pointwise
  rw [h]
  rfl

/-- Rows of a batch. -/
theorem rows_v3 (h : ∀ i : S4096x1536.Idx, σ (Proc.devRef .tc main_v14_1) i = ((f (i 0).val (i 1).val : ℝ) : EReal))
    (i : S2x2048x1536.Idx) : StableHlo.after hostOps3 σ (Proc.devRef .tc main_v21) i
      = ((f ((i 0).val * 2048 + (i 1).val) (i 2).val : ℝ) : EReal) := by
  entry_read
  pointwise
  rw [h]
  rfl

/-- Rows of a batch. -/
theorem rows_g3 (h : ∀ i : S4096x1536.Idx, σ (Proc.devRef .tc main_arg7) i = ((f (i 0).val (i 1).val : ℝ) : EReal))
    (i : S2x2048x1536.Idx) : StableHlo.after hostOps3 σ (Proc.devRef .tc main_v22) i
      = ((f ((i 0).val * 2048 + (i 1).val) (i 2).val : ℝ) : EReal) := by
  entry_read
  pointwise
  rw [h]
  rfl

/-- Rows of a batch. -/
theorem rows_c3 (h : ∀ i : S4096x128.Idx, σ (Proc.devRef .tc main_v1) i = ((f (i 0).val (i 1).val : ℝ) : EReal))
    (i : S2x2048x128.Idx) : StableHlo.after hostOps3 σ (Proc.devRef .tc main_v23) i
      = ((f ((i 0).val * 2048 + (i 1).val) (i 2).val : ℝ) : EReal) := by
  entry_read
  pointwise
  rw [h]
  rfl

/-- Rows of a batch. -/
theorem rows_s3 (h : ∀ i : S4096x128.Idx, σ (Proc.devRef .tc main_v3) i = ((f (i 0).val (i 1).val : ℝ) : EReal))
    (i : S2x2048x128.Idx) : StableHlo.after hostOps3 σ (Proc.devRef .tc main_v24) i
      = ((f ((i 0).val * 2048 + (i 1).val) (i 2).val : ℝ) : EReal) := by
  entry_read
  pointwise
  rw [h]
  rfl

/-- Rows of the whole. -/
theorem flat_dq {p : ℕ → ℕ → ℕ → ℝ} (h : ∀ i : S2x2048x3072.Idx, σ (Proc.devRef .tc main_v25_0) i
      = ((p (i 0).val (i 1).val (i 2).val : ℝ) : EReal)) (i : S4096x3072.Idx) :
    StableHlo.after hostOps4 σ (Proc.devRef .tc main_v26) i
      = ((p ((i 0).val / 2048) ((i 0).val % 2048) (i 1).val : ℝ) : EReal) := by
  entry_read
  pointwise
  rw [h]
  rfl

/-- Rows of the whole. -/
theorem flat_dkv {p : ℕ → ℕ → ℕ → ℝ} (h : ∀ i : S2x2048x3072.Idx, σ (Proc.devRef .tc main_v25_1) i
      = ((p (i 0).val (i 1).val (i 2).val : ℝ) : EReal)) (i : S4096x3072.Idx) :
    StableHlo.after hostOps4 σ (Proc.devRef .tc main_v27) i
      = ((p ((i 0).val / 2048) ((i 0).val % 2048) (i 1).val : ℝ) : EReal) := by
  entry_read
  pointwise
  rw [h]
  rfl

/-- Rows of the whole. -/
theorem flat_dr {p : ℕ → ℕ → ℕ → ℝ} (h : ∀ i : S2x2048x1536.Idx, σ (Proc.devRef .tc main_v25_2) i
      = ((p (i 0).val (i 1).val (i 2).val : ℝ) : EReal)) (i : S4096x1536.Idx) :
    StableHlo.after hostOps4 σ (Proc.devRef .tc main_v28) i
      = ((p ((i 0).val / 2048) ((i 0).val % 2048) (i 1).val : ℝ) : EReal) := by
  entry_read
  pointwise
  rw [h]
  rfl

/-- Rows of the whole. -/
theorem flat_o {p : ℕ → ℕ → ℕ → ℝ} (h : ∀ i : S2x2048x1536.Idx, σ (Proc.devRef .tc main_v18_0) i
      = ((p (i 0).val (i 1).val (i 2).val : ℝ) : EReal)) (i : S4096x1536.Idx) :
    StableHlo.after hostOps5 σ (Proc.devRef .tc main_v30) i
      = ((p ((i 0).val / 2048) ((i 0).val % 2048) (i 1).val : ℝ) : EReal) := by
  entry_read
  pointwise
  rw [h]
  rfl

end Cert.KernelValue

end
-- ==== Proof.BackwardTile.lean ====
/- One tile of 256 key rows of the backward pass, in the reals: the products over the tile's own query rows under the
   mask and over the rows after it are the gradients by the keys and by the values, and what the tile adds to a query
   row's gradient is that gradient's part over the tile's columns. -/
module

public import proofs.«01_k».proof.Proof.Attention
public import proofs.«01_k».proof.Proof.Reals

@[expose] public section

noncomputable section

namespace Cert.BackwardTile

open Finset Idealize.ShloMosaic Cert.Attention Cert.Reals

variable (c : ℝ) (q k v g : ℕ → ℕ → ℝ) (L d : ℕ → ℝ)

/-- The incoming gradient of a weight, from the entries of its rows. -/
theorem up_fin (r j : ℕ) : (∑ x : Fin 128, ((g r x.val * v j x.val : ℝ) : EReal)) = ((up v g r j : ℝ) : EReal) := by
  rw [← coe_sum, up, Finset.sum_range]

theorem dots_fin (o : ℕ → ℕ → ℝ) (r : ℕ) :
    (∑ x : Fin 128, ((g r x.val * o r x.val : ℝ) : EReal)) = ((dots g o r : ℝ) : EReal) := by
  rw [← coe_sum, dots, Finset.sum_range]

/-- A weight of the tile itself, under the mask. -/
theorem again_own (a r j : ℕ) :
    (if j ≤ r then Real.exp (score c q k (a + r) (a + j) - L (a + r)) else 0) = again c q k L (a + r) (a + j) := by
  unfold again; simp only [Nat.add_le_add_iff_left]

/-- A weight of a row after the tile. -/
theorem again_later (r j : ℕ) (h : j ≤ r) : Real.exp (score c q k r j - L r) = again c q k L r j := by
  unfold again; rw [if_pos h]

section
variable (a b n : ℕ) (hb : a + 256 = b) (hn : b + n = 2048)
include hb hn

/-- The gradient by the values, of a tile that is not the last. -/
theorem gradV_tile (r l : ℕ) (hr : r < 256) :
    (∑ x : Fin 256, (if r ≤ x.val then Real.exp (score c q k (a + x.val) (a + r) - L (a + x.val)) else 0)
          * g (a + x.val) l)
        + ∑ x : Fin n, Real.exp (score c q k (b + x.val) (a + r) - L (b + x.val)) * g (b + x.val) l
      = gradV g (again c q k L) (a + r) l := by
  subst hb
  unfold gradV
  rw [rows_split _ a n hn fun i hi => by rw [again_above c q k L i _ (by omega), zero_mul], Finset.sum_range,
    Finset.sum_range]
  congr 1
  · exact sum_congr rfl fun x _ => by rw [again_own]
  · exact sum_congr rfl fun x _ => by rw [again_later _ _ _ _ _ _ (by omega)]

/-- The gradient by the keys, of a tile that is not the last. -/
theorem gradK_tile (r l : ℕ) (hr : r < 256) :
    (∑ x : Fin 256, (if r ≤ x.val then Real.exp (score c q k (a + x.val) (a + r) - L (a + x.val)) else 0)
          * (up v g (a + x.val) (a + r) - d (a + x.val)) * c * q (a + x.val) l)
        + ∑ x : Fin n, Real.exp (score c q k (b + x.val) (a + r) - L (b + x.val))
          * (up v g (b + x.val) (a + r) - d (b + x.val)) * c * q (b + x.val) l
      = gradK q (slope c v g (again c q k L) d) (a + r) l := by
  subst hb
  unfold gradK
  rw [rows_split _ a n hn fun i hi => by rw [slope_above c q k v g L d i _ (by omega), zero_mul], Finset.sum_range,
    Finset.sum_range]
  congr 1
  · exact sum_congr rfl fun x _ => by rw [again_own]; rfl
  · exact sum_congr rfl fun x _ => by rw [again_later _ _ _ _ _ _ (by omega)]; rfl

end

theorem gradV_last (r l : ℕ) (hr : r < 256) :
    (∑ x : Fin 256, (if r ≤ x.val then Real.exp (score c q k (1792 + x.val) (1792 + r) - L (1792 + x.val)) else 0)
          * g (1792 + x.val) l)
      = gradV g (again c q k L) (1792 + r) l := by
  rw [← gradV_tile c q k g L 1792 2048 0 rfl rfl r l hr]; simp

theorem gradK_last (r l : ℕ) (hr : r < 256) :
    (∑ x : Fin 256, (if r ≤ x.val then Real.exp (score c q k (1792 + x.val) (1792 + r) - L (1792 + x.val)) else 0)
          * (up v g (1792 + x.val) (1792 + r) - d (1792 + x.val)) * c * q (1792 + x.val) l)
      = gradK q (slope c v g (again c q k L) d) (1792 + r) l := by
  rw [← gradK_tile c q k v g L d 1792 2048 0 rfl rfl r l hr]; simp

theorem gradV_first (r l : ℕ) (hr : r < 256) :
    (∑ x : Fin 256, (if r ≤ x.val then Real.exp (score c q k x.val r - L x.val) else 0) * g x.val l)
        + ∑ x : Fin 1792, Real.exp (score c q k (256 + x.val) r - L (256 + x.val)) * g (256 + x.val) l
      = gradV g (again c q k L) r l := by
  have h := gradV_tile c q k g L 0 256 1792 rfl rfl r l hr
  simpa only [Nat.zero_add] using h

theorem gradK_first (r l : ℕ) (hr : r < 256) :
    (∑ x : Fin 256, (if r ≤ x.val then Real.exp (score c q k x.val r - L x.val) else 0)
          * (up v g x.val r - d x.val) * c * q x.val l)
        + ∑ x : Fin 1792, Real.exp (score c q k (256 + x.val) r - L (256 + x.val))
          * (up v g (256 + x.val) r - d (256 + x.val)) * c * q (256 + x.val) l
      = gradK q (slope c v g (again c q k L) d) r l := by
  have h := gradK_tile c q k v g L d 0 256 1792 rfl rfl r l hr
  simpa only [Nat.zero_add] using h

/-- A query row's gradient over the first `n` columns. -/
def part (s : ℕ → ℕ → ℝ) (n r l : ℕ) : ℝ := ∑ j ∈ range n, s r j * k j l

theorem part_zero (s : ℕ → ℕ → ℝ) (r l : ℕ) : part k s 0 r l = 0 := by simp [part]

theorem part_all (s : ℕ → ℕ → ℝ) (r l : ℕ) : part k s 2048 r l = gradQ k s r l := rfl

/-- What a tile adds to its own rows. -/
theorem part_own (a b r l : ℕ) (hb : a + 256 = b) :
    part k (slope c v g (again c q k L) d) a (a + r) l
        + ∑ x : Fin 256, (if x.val ≤ r then Real.exp (score c q k (a + r) (a + x.val) - L (a + r)) else 0)
          * (up v g (a + r) (a + x.val) - d (a + r)) * c * k (a + x.val) l
      = part k (slope c v g (again c q k L) d) b (a + r) l := by
  subst hb
  unfold part
  rw [sum_range_add, Finset.sum_range (n := 256)]
  congr 1
  exact sum_congr rfl fun x _ => by rw [again_own]; rfl

/-- What it adds to a row after it. -/
theorem part_later (a b r l : ℕ) (hb : a + 256 = b) (hr : b ≤ r) :
    part k (slope c v g (again c q k L) d) a r l
        + ∑ x : Fin 256, Real.exp (score c q k r (a + x.val) - L r)
          * (up v g r (a + x.val) - d r) * c * k (a + x.val) l
      = part k (slope c v g (again c q k L) d) b r l := by
  subst hb
  unfold part
  rw [sum_range_add, Finset.sum_range (n := 256)]
  congr 1
  exact sum_congr rfl fun x _ => by rw [again_later _ _ _ _ _ _ (by omega)]; rfl

/-- It adds nothing to the rows before it. -/
theorem part_before (a b r l : ℕ) (hb : a + 256 = b) (hr : r < a) :
    part k (slope c v g (again c q k L) d) a r l = part k (slope c v g (again c q k L) d) b r l := by
  subst hb
  unfold part
  rw [sum_range_add, sum_eq_zero (s := range 256) fun i _ => by rw [slope_above c q k v g L d r _ (by omega), zero_mul],
    add_zero]

end Cert.BackwardTile

end
-- ==== Proof.BackwardRows.lean ====
/- The backward pass's row terms: what the kernel's first scratch array holds, the inner product of the output's gradient
   with the output for every row. -/
module

public import proofs.«01_k».proof.Proof.Tile
public import proofs.«01_k».proof.Proof.BackwardTile
public import Idealize.ShloMosaic.Lib.WholeRead

@[expose] public section

set_option maxRecDepth 16384

noncomputable section

namespace Cert.KernelValue

open Cert.KernelIdeal Cert.KernelIdeal.Gen Cert.Reals Cert.Attention
open Idealize.ShloMosaic Idealize.ShloMosaic.TcCoe Idealize.ShloMosaic.Tactic

/-- A row of a column of 256 rows. -/
theorem rows_idx (x : S256x1.Idx) : ∃ r : Fin 256, x = ix2 r 0 :=
  ⟨x 0, by
    funext a
    match a with
    | ⟨0, _⟩ => rfl
    | ⟨1, _⟩ => exact Subsingleton.elim (α := Fin 1) _ _⟩

variable {c : Dev nD}
  {arg5 : Memref sig .tc .vmem S1x2048x128 .f32} {harg5 : arg5.IsWhole}
  {arg6 : Memref sig .tc .vmem S1x2048x128 .f32} {harg6 : arg6.IsWhole}
  {x3 : Vec Ideal S1x2048x128 .f32}
  {x4 : Vec Ideal S1x2048x128 .f32}
  {o g : ℕ → ℕ → ℝ} (ho : ∀ r l, x3 (ix3 0 r l) = (o r.val l.val : EReal))
  (hg : ∀ r l, x4 (ix3 0 r l) = (g r.val l.val : EReal))
include ho hg

set_option maxHeartbeats 4000000 in
theorem delta_at (y : S2048x1.Idx) :
    View.canon (kernelRun3_A.sl.HS0_8 c arg5 harg5 arg6 harg6 x3 x4) y = ((dots g o (y 0).val : ℝ) : EReal) := by
  unfold kernelRun3_A.sl.HS0_8
  canon_tiles y h
  case piece0 =>
    obtain ⟨r, rfl⟩ := rows_idx y
    simp only [
      kernelRun3_A.sl.v71, kernelRun3_A.sl.v73, kernelRun3_A.sl.v74, kernelRun3_A.sl.v75, kernelRun3_A.sl.v76,
      kernelRun3_A.sl.v79,
      View.readAt_eq_ld, Memref.IsWhole.read_unread]
    open_payloads
    pointwise
    simp only [ho, hg, ← EReal.coe_mul, BackwardTile.dots_fin g o]
    rw [h0]
    rfl
  case piece1 =>
    obtain ⟨r, rfl⟩ := rows_idx y
    simp only [
      kernelRun3_A.sl.v61, kernelRun3_A.sl.v63, kernelRun3_A.sl.v64, kernelRun3_A.sl.v65, kernelRun3_A.sl.v66,
      kernelRun3_A.sl.v69,
      View.readAt_eq_ld, Memref.IsWhole.read_unread]
    open_payloads
    pointwise
    simp only [ho, hg, ← EReal.coe_mul, BackwardTile.dots_fin g o]
    rw [h0]
    rfl
  case piece2 =>
    obtain ⟨r, rfl⟩ := rows_idx y
    simp only [
      kernelRun3_A.sl.v51, kernelRun3_A.sl.v53, kernelRun3_A.sl.v54, kernelRun3_A.sl.v55, kernelRun3_A.sl.v56,
      kernelRun3_A.sl.v59,
      View.readAt_eq_ld, Memref.IsWhole.read_unread]
    open_payloads
    pointwise
    simp only [ho, hg, ← EReal.coe_mul, BackwardTile.dots_fin g o]
    rw [h0]
    rfl
  case piece3 =>
    obtain ⟨r, rfl⟩ := rows_idx y
    simp only [
      kernelRun3_A.sl.v41, kernelRun3_A.sl.v43, kernelRun3_A.sl.v44, kernelRun3_A.sl.v45, kernelRun3_A.sl.v46,
      kernelRun3_A.sl.v49,
      View.readAt_eq_ld, Memref.IsWhole.read_unread]
    open_payloads
    pointwise
    simp only [ho, hg, ← EReal.coe_mul, BackwardTile.dots_fin g o]
    rw [h0]
    rfl
  case piece4 =>
    obtain ⟨r, rfl⟩ := rows_idx y
    simp only [
      kernelRun3_A.sl.v31, kernelRun3_A.sl.v33, kernelRun3_A.sl.v34, kernelRun3_A.sl.v35, kernelRun3_A.sl.v36,
      kernelRun3_A.sl.v39,
      View.readAt_eq_ld, Memref.IsWhole.read_unread]
    open_payloads
    pointwise
    simp only [ho, hg, ← EReal.coe_mul, BackwardTile.dots_fin g o]
    rw [h0]
    rfl
  case piece5 =>
    obtain ⟨r, rfl⟩ := rows_idx y
    simp only [
      kernelRun3_A.sl.v21, kernelRun3_A.sl.v23, kernelRun3_A.sl.v24, kernelRun3_A.sl.v25, kernelRun3_A.sl.v26,
      kernelRun3_A.sl.v29,
      View.readAt_eq_ld, Memref.IsWhole.read_unread]
    open_payloads
    pointwise
    simp only [ho, hg, ← EReal.coe_mul, BackwardTile.dots_fin g o]
    rw [h0]
    rfl
  case piece6 =>
    obtain ⟨r, rfl⟩ := rows_idx y
    simp only [
      kernelRun3_A.sl.v11, kernelRun3_A.sl.v13, kernelRun3_A.sl.v14, kernelRun3_A.sl.v15, kernelRun3_A.sl.v16,
      kernelRun3_A.sl.v19,
      View.readAt_eq_ld, Memref.IsWhole.read_unread]
    open_payloads
    pointwise
    simp only [ho, hg, ← EReal.coe_mul, BackwardTile.dots_fin g o]
    rw [h0]
    rfl
  case piece7 =>
    obtain ⟨r, rfl⟩ := rows_idx y
    simp only [
      kernelRun3_A.sl.v1, kernelRun3_A.sl.v3, kernelRun3_A.sl.v4, kernelRun3_A.sl.v5, kernelRun3_A.sl.v6,
      kernelRun3_A.sl.v9,
      View.readAt_eq_ld, Memref.IsWhole.read_unread]
    open_payloads
    pointwise
    simp only [ho, hg, ← EReal.coe_mul, BackwardTile.dots_fin g o]
    rw [h0]
    rfl

end Cert.KernelValue

end
-- ==== Proof.BackwardSum.lean ====
/- The running sum of the queries' gradient between the stores of one tile, and what a store over whole rows leaves of an
   array held at real entries. -/
module

public import proofs.«01_k».proof.Proof.Tile
public import proofs.«01_k».proof.Proof.BackwardTile

@[expose] public section

noncomputable section

namespace Cert.BackwardTile

open Finset Cert.Attention

variable (c : ℝ) (q k v g : ℕ → ℕ → ℝ) (L d : ℕ → ℝ)

/-- Between a tile's two stores: rows of the tile and above hold the sum with the tile, the rows after it without. -/
def mid (s : ℕ → ℕ → ℝ) (a b r l : ℕ) : ℝ := if r < b then part k s b r l else part k s a r l

theorem mid_own (a b r l : ℕ) (hb : a + 256 = b) (hr : r < 256) :
    part k (slope c v g (again c q k L) d) a (a + r) l
        + ∑ x : Fin 256, (if x.val ≤ r then Real.exp (score c q k (a + r) (a + x.val) - L (a + r)) else 0)
          * (up v g (a + r) (a + x.val) - d (a + r)) * c * k (a + x.val) l
      = mid k (slope c v g (again c q k L) d) a b (a + r) l := by
  rw [part_own c q k v g L d a b r l hb, mid, if_pos (by omega)]

theorem mid_later (a b r l : ℕ) (hb : a + 256 = b) :
    mid k (slope c v g (again c q k L) d) a b (b + r) l
        + ∑ x : Fin 256, Real.exp (score c q k (b + r) (a + x.val) - L (b + r))
          * (up v g (b + r) (a + x.val) - d (b + r)) * c * k (a + x.val) l
      = part k (slope c v g (again c q k L) d) b (b + r) l := by
  rw [mid, if_neg (by omega), part_later c q k v g L d a b _ l hb (by omega)]

theorem mid_own_first (r l : ℕ) (hr : r < 256) :
    part k (slope c v g (again c q k L) d) 0 r l
        + ∑ x : Fin 256, (if x.val ≤ r then Real.exp (score c q k r x.val - L r) else 0)
          * (up v g r x.val - d r) * c * k x.val l
      = mid k (slope c v g (again c q k L) d) 0 256 r l := by
  have h := mid_own c q k v g L d 0 256 r l rfl hr
  simpa only [Nat.zero_add] using h

theorem mid_later_first (r l : ℕ) :
    mid k (slope c v g (again c q k L) d) 0 256 (256 + r) l
        + ∑ x : Fin 256, Real.exp (score c q k (256 + r) x.val - L (256 + r))
          * (up v g (256 + r) x.val - d (256 + r)) * c * k x.val l
      = part k (slope c v g (again c q k L) d) 256 (256 + r) l := by
  have h := mid_later c q k v g L d 0 256 r l rfl
  simpa only [Nat.zero_add] using h

theorem off_own (a b r l : ℕ) (hb : a + 256 = b) (h : ¬ (a ≤ r ∧ r < a + 256)) :
    part k (slope c v g (again c q k L) d) a r l = mid k (slope c v g (again c q k L) d) a b r l := by
  unfold mid
  split_ifs with hr
  · exact part_before c q k v g L d a b r l hb (by omega)
  · rfl

theorem off_later (a b r l : ℕ) (h : r < b) :
    mid k (slope c v g (again c q k L) d) a b r l = part k (slope c v g (again c q k L) d) b r l := by
  rw [mid, if_pos h]

end Cert.BackwardTile

namespace Cert.KernelValue

open Cert.KernelIdeal Idealize.ShloMosaic

/-- A store over the rows from `a` on, into an array of real entries. -/
theorem canon_rows {a n : ℕ} (inb : ∀ x, (![a, 0] : Fin 2 → ℕ) x + (![n, 256] : Fin 2 → ℕ) x ≤ S2048x256.size x)
    (w : (Rect.unit (s := S2048x256) ![a, 0] ![n, 256] inb).shape.Idx → Elt Ideal .f32)
    (P : List (View.Piece (Elt Ideal) S2048x256 .f32)) (f f' : ℕ → ℕ → ℝ)
    (hP : ∀ (R : Fin 2048) (l : Fin 256), ¬ (a ≤ R.val ∧ R.val < a + n) → View.canon P (ix2 R l) = (f R.val l.val : EReal))
    (hw : ∀ (r : Fin n) (l : Fin 256), w (ix2 r l) = (f' (a + r.val) l.val : EReal))
    (hoff : ∀ R l : ℕ, R < 2048 → ¬ (a ≤ R ∧ R < a + n) → f R l = f' R l) (R : Fin 2048) (l : Fin 256) :
    View.canon (⟨Rect.unit ![a, 0] ![n, 256] inb, w⟩ :: P) (ix2 R l) = (f' R.val l.val : EReal) := by
  by_cases h : a ≤ R.val ∧ R.val < a + n
  · have e : (ix2 R l : S2048x256.Idx)
        = (Rect.unit (s := S2048x256) ![a, 0] ![n, 256] inb).emb (ix2 (⟨R.val - a, by omega⟩ : Fin n) l) := by
      funext x
      match x with
      | ⟨0, _⟩ => exact Fin.ext (by show R.val = a + 1 * (R.val - a); omega)
      | ⟨1, _⟩ => exact Fin.ext (by show l.val = 0 + 1 * l.val; omega)
    rw [e, View.canon_cons_emb, hw]
    show ((f' (a + (R.val - a)) l.val : ℝ) : EReal) = _
    rw [show a + (R.val - a) = R.val by omega]
  · rw [View.canon_cons_of_not_mem]
    · rw [hP R l h, hoff _ _ R.isLt h]
    · intro hm
      exact h ((Rect.mem_set_unit (inb := inb)).1 hm 0)

end Cert.KernelValue

end
-- ==== Proof.BackwardAcc.lean ====
/- The backward pass's running sum: what the kernel's second scratch array holds after each of its stores, the queries'
   gradient over the columns of the tiles done so far. -/
module

public import proofs.«01_k».proof.Proof.BackwardRows
public import proofs.«01_k».proof.Proof.BackwardSum

@[expose] public section

set_option maxRecDepth 16384

noncomputable section

namespace Cert.KernelValue

open Cert.KernelIdeal Cert.KernelIdeal.Gen Cert.Reals Cert.Attention
open Idealize.ShloMosaic Idealize.ShloMosaic.TcCoe Idealize.ShloMosaic.Tactic

variable {c : Dev nD} {i : grid3.Coords}
  {arg2 : Memref sig .tc .vmem S1x2048x256 .bf16} {harg2 : arg2.IsWhole}
  {arg3 : Memref sig .tc .vmem S1x2048x256 .bf16} {harg3 : arg3.IsWhole}
  {arg4 : Memref sig .tc .vmem S1x2048x128 .bf16} {harg4 : arg4.IsWhole}
  {arg5 : Memref sig .tc .vmem S1x2048x128 .f32} {harg5 : arg5.IsWhole}
  {arg6 : Memref sig .tc .vmem S1x2048x128 .f32} {harg6 : arg6.IsWhole}
  {arg7 : Memref sig .tc .vmem S1x1x2048x1 .f32} {harg7 : arg7.IsWhole}
  {arg8 : Memref sig .tc .vmem S1x2048x128 .f32} {harg8 : arg8.IsWhole}
  {arg9 : Memref sig .tc .vmem S1x2048x128 .f32} {harg9 : arg9.IsWhole}
  {arg10 : Memref sig .tc .vmem S1x2048x256 .bf16} {harg10 : arg10.IsWhole}
  {arg11 : Memref sig .tc .vmem S1x2048x256 .bf16} {harg11 : arg11.IsWhole}
  {arg12 : Memref sig .tc .vmem S1x2048x128 .f32} {harg12 : arg12.IsWhole}
  {arg13 : Memref sig .tc .vmem S2048x1 .f32}
  {arg14 : Memref sig .tc .vmem S2048x256 .f32}
  {x0 : Vec Ideal S1x2048x256 .bf16}
  {x1 : Vec Ideal S1x2048x256 .bf16}
  {x2 : Vec Ideal S1x2048x128 .bf16}
  {x3 : Vec Ideal S1x2048x128 .f32}
  {x4 : Vec Ideal S1x2048x128 .f32}
  {x5 : Vec Ideal S1x1x2048x1 .f32}
  {x6 : Vec Ideal S1x2048x128 .f32}
  {x7 : Vec Ideal S1x2048x128 .f32}
  {q k v o g : ℕ → ℕ → ℝ} {L : ℕ → ℝ} (hq : ∀ r l, x0 (ix3 0 r l) = (q r.val l.val : EReal))
  (hk : ∀ r l, x1 (ix3 0 r l) = (k r.val l.val : EReal)) (hv : ∀ r l, x2 (ix3 0 r l) = (v r.val l.val : EReal))
  (ho : ∀ r l, x3 (ix3 0 r l) = (o r.val l.val : EReal)) (hg : ∀ r l, x4 (ix3 0 r l) = (g r.val l.val : EReal))
  (hL : ∀ r, x5 (ix4 0 0 r 0) = (L r.val : EReal))

theorem acc_1 (s : ℕ → ℕ → ℝ) (R : Fin 2048) (l : Fin 256) :
    View.canon (kernelRun3_A.sl.HS1_1 (F := Ideal)) (ix2 R l) = ((BackwardTile.part k s 0 R.val l.val : ℝ) : EReal) := by
  unfold kernelRun3_A.sl.HS1_1
  refine canon_rows (a := 0) (n := 2048) _ _ _ (fun _ _ => 0) (BackwardTile.part k s 0)
    (fun R l h => absurd ⟨Nat.zero_le _, R.isLt.trans_eq (Nat.zero_add _).symm⟩ h) (fun r l => ?_) (fun R l hR h => ?_) R l
  · simp only [
      kernelRun3_A.sl.cst_63, kernelRun3_A.sl.v80, kernelRun3_A.sl.v83]
    open_payloads
    pointwise
    rw [BackwardTile.part_zero]
    rfl
  · exact absurd ⟨Nat.zero_le _, hR.trans_eq (Nat.zero_add _).symm⟩ h

include hq hk hv ho hg hL

set_option maxHeartbeats 4000000 in
theorem acc_2 (R : Fin 2048) (l : Fin 256) :
    View.canon (kernelRun3_A.sl.HS1_2
        c arg2 harg2 arg3 harg3 arg4 harg4 arg5 harg5 arg6 harg6 arg7 harg7 arg13 arg14 x0 x1 x2 x3 x4 x5) (ix2 R l)
      = (((BackwardTile.mid k (Cert.Attention.slope scale v g (again scale q k L) (dots g o)) 0 256) R.val l.val : ℝ) : EReal) := by
  unfold kernelRun3_A.sl.HS1_2
  refine canon_rows (a := 0) (n := 256) _ _ _ (BackwardTile.part k (Cert.Attention.slope scale v g (again scale q k L) (dots g o)) 0) (BackwardTile.mid k (Cert.Attention.slope scale v g (again scale q k L) (dots g o)) 0 256)
    (fun R l _ => acc_1 (k := k) (Cert.Attention.slope scale v g (again scale q k L) (dots g o)) R l) (fun r l => ?_) (fun R l hR h => ?_) R l
  · simp only [
      kernelRun3_A.sl.v85, kernelRun3_A.sl.v87, kernelRun3_A.sl.v107, kernelRun3_A.sl.v114,
      View.readAt_eq_ld, Memref.IsWhole.read_unread, View.readCov_eq_canon']
    open_payloads
    pointwise
    have hp := acc_1 (k := k) (Cert.Attention.slope scale v g (again scale q k L) (dots g o))
    simp only [hp, hq, hk, hv, hg, hL, delta_at ho hg, scale_eq, mask_eq, tile_select, ← EReal.coe_mul,
      ForwardTile.score_fin scale q k, BackwardTile.up_fin v g]
    simp only [exp_mask, ← EReal.coe_sub, exp_coe, ← EReal.coe_mul, ← coe_sum, ← EReal.coe_add]
    exact congrArg (fun t : ℝ => (t : EReal)) (BackwardTile.mid_own_first scale q k v g L (dots g o) r.val l.val r.isLt)
  · exact BackwardTile.off_own scale q k v g L (dots g o) 0 256 R l rfl h

set_option maxHeartbeats 4000000 in
theorem acc_3 (R : Fin 2048) (l : Fin 256) :
    View.canon (kernelRun3_A.sl.HS1_3
        c arg2 harg2 arg3 harg3 arg4 harg4 arg5 harg5 arg6 harg6 arg7 harg7 arg13 arg14 x0 x1 x2 x3 x4 x5) (ix2 R l)
      = (((BackwardTile.part k (Cert.Attention.slope scale v g (again scale q k L) (dots g o)) 256) R.val l.val : ℝ) : EReal) := by
  unfold kernelRun3_A.sl.HS1_3
  refine canon_rows (a := 256) (n := 1792) _ _ _ (BackwardTile.mid k (Cert.Attention.slope scale v g (again scale q k L) (dots g o)) 0 256) (BackwardTile.part k (Cert.Attention.slope scale v g (again scale q k L) (dots g o)) 256)
    (fun R l _ => acc_2 hq hk hv ho hg hL R l) (fun r l => ?_) (fun R l hR h => ?_) R l
  · simp only [
      kernelRun3_A.sl.cst_102, kernelRun3_A.sl.cst_103, kernelRun3_A.sl.v85, kernelRun3_A.sl.v87,
      kernelRun3_A.sl.v124, kernelRun3_A.sl.v126, kernelRun3_A.sl.v127, kernelRun3_A.sl.v128, kernelRun3_A.sl.v129,
      kernelRun3_A.sl.v130, kernelRun3_A.sl.v132, kernelRun3_A.sl.v133, kernelRun3_A.sl.v134, kernelRun3_A.sl.v135,
      kernelRun3_A.sl.v136, kernelRun3_A.sl.v137, kernelRun3_A.sl.v138, kernelRun3_A.sl.v139, kernelRun3_A.sl.v140,
      kernelRun3_A.sl.v142, kernelRun3_A.sl.v143, kernelRun3_A.sl.v144, kernelRun3_A.sl.v145, kernelRun3_A.sl.v146,
      kernelRun3_A.sl.v149,
      View.readAt_eq_ld, Memref.IsWhole.read_unread, View.readCov_eq_canon']
    open_payloads
    pointwise
    have hp := acc_2 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg13 := arg13) (arg14 := arg14) hq hk hv ho hg hL
    simp only [hp, hq, hk, hv, hg, hL, delta_at ho hg, scale_eq, mask_eq, tile_select, ← EReal.coe_mul,
      ForwardTile.score_fin scale q k, BackwardTile.up_fin v g]
    simp only [exp_mask, ← EReal.coe_sub, exp_coe, ← EReal.coe_mul, ← coe_sum, ← EReal.coe_add]
    exact congrArg (fun t : ℝ => (t : EReal)) (BackwardTile.mid_later_first scale q k v g L (dots g o) r.val l.val)
  · exact BackwardTile.off_later scale q k v g L (dots g o) 0 256 R l (by omega)

set_option maxHeartbeats 4000000 in
theorem acc_4 (R : Fin 2048) (l : Fin 256) :
    View.canon (kernelRun3_A.sl.HS1_4
        c arg2 harg2 arg3 harg3 arg4 harg4 arg5 harg5 arg6 harg6 arg7 harg7 arg13 arg14 x0 x1 x2 x3 x4 x5) (ix2 R l)
      = (((BackwardTile.mid k (Cert.Attention.slope scale v g (again scale q k L) (dots g o)) 256 512) R.val l.val : ℝ) : EReal) := by
  unfold kernelRun3_A.sl.HS1_4
  refine canon_rows (a := 256) (n := 256) _ _ _ (BackwardTile.part k (Cert.Attention.slope scale v g (again scale q k L) (dots g o)) 256) (BackwardTile.mid k (Cert.Attention.slope scale v g (again scale q k L) (dots g o)) 256 512)
    (fun R l _ => acc_3 hq hk hv ho hg hL R l) (fun r l => ?_) (fun R l hR h => ?_) R l
  · simp only [
      kernelRun3_A.sl.cst_103, kernelRun3_A.sl.cst_117, kernelRun3_A.sl.r_2, kernelRun3_A.sl.r_3, kernelRun3_A.sl.r_5,
      kernelRun3_A.sl.r_6, kernelRun3_A.sl.r_7, kernelRun3_A.sl.v188, kernelRun3_A.sl.v189, kernelRun3_A.sl.v190,
      kernelRun3_A.sl.v191, kernelRun3_A.sl.v192, kernelRun3_A.sl.v193, kernelRun3_A.sl.v194, kernelRun3_A.sl.v195,
      kernelRun3_A.sl.v196, kernelRun3_A.sl.v197, kernelRun3_A.sl.v198, kernelRun3_A.sl.v199, kernelRun3_A.sl.v200,
      kernelRun3_A.sl.v203,
      View.readAt_eq_ld, Memref.IsWhole.read_unread, View.readCov_eq_canon']
    open_payloads
    pointwise
    have hp := acc_3 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg13 := arg13) (arg14 := arg14) hq hk hv ho hg hL
    simp only [hp, hq, hk, hv, hg, hL, delta_at ho hg, scale_eq, mask_eq, tile_select, ← EReal.coe_mul,
      ForwardTile.score_fin scale q k, BackwardTile.up_fin v g]
    simp only [exp_mask, ← EReal.coe_sub, exp_coe, ← EReal.coe_mul, ← coe_sum, ← EReal.coe_add]
    exact congrArg (fun t : ℝ => (t : EReal)) (BackwardTile.mid_own scale q k v g L (dots g o) 256 512 r.val l.val rfl r.isLt)
  · exact BackwardTile.off_own scale q k v g L (dots g o) 256 512 R l rfl h

set_option maxHeartbeats 4000000 in
theorem acc_5 (R : Fin 2048) (l : Fin 256) :
    View.canon (kernelRun3_A.sl.HS1_5
        c arg2 harg2 arg3 harg3 arg4 harg4 arg5 harg5 arg6 harg6 arg7 harg7 arg13 arg14 x0 x1 x2 x3 x4 x5) (ix2 R l)
      = (((BackwardTile.part k (Cert.Attention.slope scale v g (again scale q k L) (dots g o)) 512) R.val l.val : ℝ) : EReal) := by
  unfold kernelRun3_A.sl.HS1_5
  refine canon_rows (a := 512) (n := 1536) _ _ _ (BackwardTile.mid k (Cert.Attention.slope scale v g (again scale q k L) (dots g o)) 256 512) (BackwardTile.part k (Cert.Attention.slope scale v g (again scale q k L) (dots g o)) 512)
    (fun R l _ => acc_4 hq hk hv ho hg hL R l) (fun r l => ?_) (fun R l hR h => ?_) R l
  · simp only [
      kernelRun3_A.sl.cst_103, kernelRun3_A.sl.cst_163, kernelRun3_A.sl.r_2, kernelRun3_A.sl.r_3,
      kernelRun3_A.sl.v208, kernelRun3_A.sl.v210, kernelRun3_A.sl.v211, kernelRun3_A.sl.v212, kernelRun3_A.sl.v213,
      kernelRun3_A.sl.v214, kernelRun3_A.sl.v216, kernelRun3_A.sl.v217, kernelRun3_A.sl.v218, kernelRun3_A.sl.v219,
      kernelRun3_A.sl.v220, kernelRun3_A.sl.v221, kernelRun3_A.sl.v222, kernelRun3_A.sl.v223, kernelRun3_A.sl.v224,
      kernelRun3_A.sl.v226, kernelRun3_A.sl.v227, kernelRun3_A.sl.v228, kernelRun3_A.sl.v229, kernelRun3_A.sl.v230,
      kernelRun3_A.sl.v233,
      View.readAt_eq_ld, Memref.IsWhole.read_unread, View.readCov_eq_canon']
    open_payloads
    pointwise
    have hp := acc_4 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg13 := arg13) (arg14 := arg14) hq hk hv ho hg hL
    simp only [hp, hq, hk, hv, hg, hL, delta_at ho hg, scale_eq, mask_eq, tile_select, ← EReal.coe_mul,
      ForwardTile.score_fin scale q k, BackwardTile.up_fin v g]
    simp only [exp_mask, ← EReal.coe_sub, exp_coe, ← EReal.coe_mul, ← coe_sum, ← EReal.coe_add]
    exact congrArg (fun t : ℝ => (t : EReal)) (BackwardTile.mid_later scale q k v g L (dots g o) 256 512 r.val l.val rfl)
  · exact BackwardTile.off_later scale q k v g L (dots g o) 256 512 R l (by omega)

set_option maxHeartbeats 4000000 in
theorem acc_6 (R : Fin 2048) (l : Fin 256) :
    View.canon (kernelRun3_A.sl.HS1_6
        c arg2 harg2 arg3 harg3 arg4 harg4 arg5 harg5 arg6 harg6 arg7 harg7 arg13 arg14 x0 x1 x2 x3 x4 x5) (ix2 R l)
      = (((BackwardTile.mid k (Cert.Attention.slope scale v g (again scale q k L) (dots g o)) 512 768) R.val l.val : ℝ) : EReal) := by
  unfold kernelRun3_A.sl.HS1_6
  refine canon_rows (a := 512) (n := 256) _ _ _ (BackwardTile.part k (Cert.Attention.slope scale v g (again scale q k L) (dots g o)) 512) (BackwardTile.mid k (Cert.Attention.slope scale v g (again scale q k L) (dots g o)) 512 768)
    (fun R l _ => acc_5 hq hk hv ho hg hL R l) (fun r l => ?_) (fun R l hR h => ?_) R l
  · simp only [
      kernelRun3_A.sl.v253, kernelRun3_A.sl.v275, kernelRun3_A.sl.v282,
      View.readAt_eq_ld, Memref.IsWhole.read_unread, View.readCov_eq_canon']
    open_payloads
    pointwise
    have hp := acc_5 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg13 := arg13) (arg14 := arg14) hq hk hv ho hg hL
    simp only [hp, hq, hk, hv, hg, hL, delta_at ho hg, scale_eq, mask_eq, tile_select, ← EReal.coe_mul,
      ForwardTile.score_fin scale q k, BackwardTile.up_fin v g]
    simp only [exp_mask, ← EReal.coe_sub, exp_coe, ← EReal.coe_mul, ← coe_sum, ← EReal.coe_add]
    exact congrArg (fun t : ℝ => (t : EReal)) (BackwardTile.mid_own scale q k v g L (dots g o) 512 768 r.val l.val rfl r.isLt)
  · exact BackwardTile.off_own scale q k v g L (dots g o) 512 768 R l rfl h

set_option maxHeartbeats 4000000 in
theorem acc_7 (R : Fin 2048) (l : Fin 256) :
    View.canon (kernelRun3_A.sl.HS1_7
        c arg2 harg2 arg3 harg3 arg4 harg4 arg5 harg5 arg6 harg6 arg7 harg7 arg13 arg14 x0 x1 x2 x3 x4 x5) (ix2 R l)
      = (((BackwardTile.part k (Cert.Attention.slope scale v g (again scale q k L) (dots g o)) 768) R.val l.val : ℝ) : EReal) := by
  unfold kernelRun3_A.sl.HS1_7
  refine canon_rows (a := 768) (n := 1280) _ _ _ (BackwardTile.mid k (Cert.Attention.slope scale v g (again scale q k L) (dots g o)) 512 768) (BackwardTile.part k (Cert.Attention.slope scale v g (again scale q k L) (dots g o)) 768)
    (fun R l _ => acc_6 hq hk hv ho hg hL R l) (fun r l => ?_) (fun R l hR h => ?_) R l
  · simp only [
      kernelRun3_A.sl.cst_103, kernelRun3_A.sl.cst_225, kernelRun3_A.sl.r_8, kernelRun3_A.sl.v253,
      kernelRun3_A.sl.v292, kernelRun3_A.sl.v294, kernelRun3_A.sl.v295, kernelRun3_A.sl.v296, kernelRun3_A.sl.v297,
      kernelRun3_A.sl.v298, kernelRun3_A.sl.v300, kernelRun3_A.sl.v301, kernelRun3_A.sl.v302, kernelRun3_A.sl.v303,
      kernelRun3_A.sl.v304, kernelRun3_A.sl.v305, kernelRun3_A.sl.v306, kernelRun3_A.sl.v307, kernelRun3_A.sl.v308,
      kernelRun3_A.sl.v310, kernelRun3_A.sl.v311, kernelRun3_A.sl.v312, kernelRun3_A.sl.v313, kernelRun3_A.sl.v314,
      kernelRun3_A.sl.v317,
      View.readAt_eq_ld, Memref.IsWhole.read_unread, View.readCov_eq_canon']
    open_payloads
    pointwise
    have hp := acc_6 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg13 := arg13) (arg14 := arg14) hq hk hv ho hg hL
    simp only [hp, hq, hk, hv, hg, hL, delta_at ho hg, scale_eq, mask_eq, tile_select, ← EReal.coe_mul,
      ForwardTile.score_fin scale q k, BackwardTile.up_fin v g]
    simp only [exp_mask, ← EReal.coe_sub, exp_coe, ← EReal.coe_mul, ← coe_sum, ← EReal.coe_add]
    exact congrArg (fun t : ℝ => (t : EReal)) (BackwardTile.mid_later scale q k v g L (dots g o) 512 768 r.val l.val rfl)
  · exact BackwardTile.off_later scale q k v g L (dots g o) 512 768 R l (by omega)

set_option maxHeartbeats 4000000 in
theorem acc_8 (R : Fin 2048) (l : Fin 256) :
    View.canon (kernelRun3_A.sl.HS1_8
        c arg2 harg2 arg3 harg3 arg4 harg4 arg5 harg5 arg6 harg6 arg7 harg7 arg13 arg14 x0 x1 x2 x3 x4 x5) (ix2 R l)
      = (((BackwardTile.mid k (Cert.Attention.slope scale v g (again scale q k L) (dots g o)) 768 1024) R.val l.val : ℝ) : EReal) := by
  unfold kernelRun3_A.sl.HS1_8
  refine canon_rows (a := 768) (n := 256) _ _ _ (BackwardTile.part k (Cert.Attention.slope scale v g (again scale q k L) (dots g o)) 768) (BackwardTile.mid k (Cert.Attention.slope scale v g (again scale q k L) (dots g o)) 768 1024)
    (fun R l _ => acc_7 hq hk hv ho hg hL R l) (fun r l => ?_) (fun R l hR h => ?_) R l
  · simp only [
      kernelRun3_A.sl.cst_103, kernelRun3_A.sl.cst_117, kernelRun3_A.sl.r_12, kernelRun3_A.sl.r_13,
      kernelRun3_A.sl.r_15, kernelRun3_A.sl.r_16, kernelRun3_A.sl.r_17, kernelRun3_A.sl.v195, kernelRun3_A.sl.v354,
      kernelRun3_A.sl.v355, kernelRun3_A.sl.v356, kernelRun3_A.sl.v357, kernelRun3_A.sl.v358, kernelRun3_A.sl.v359,
      kernelRun3_A.sl.v360, kernelRun3_A.sl.v361, kernelRun3_A.sl.v362, kernelRun3_A.sl.v364, kernelRun3_A.sl.v365,
      kernelRun3_A.sl.v366, kernelRun3_A.sl.v367, kernelRun3_A.sl.v368, kernelRun3_A.sl.v371,
      View.readAt_eq_ld, Memref.IsWhole.read_unread, View.readCov_eq_canon']
    open_payloads
    pointwise
    have hp := acc_7 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg13 := arg13) (arg14 := arg14) hq hk hv ho hg hL
    simp only [hp, hq, hk, hv, hg, hL, delta_at ho hg, scale_eq, mask_eq, tile_select, ← EReal.coe_mul,
      ForwardTile.score_fin scale q k, BackwardTile.up_fin v g]
    simp only [exp_mask, ← EReal.coe_sub, exp_coe, ← EReal.coe_mul, ← coe_sum, ← EReal.coe_add]
    exact congrArg (fun t : ℝ => (t : EReal)) (BackwardTile.mid_own scale q k v g L (dots g o) 768 1024 r.val l.val rfl r.isLt)
  · exact BackwardTile.off_own scale q k v g L (dots g o) 768 1024 R l rfl h

set_option maxHeartbeats 4000000 in
theorem acc_9 (R : Fin 2048) (l : Fin 256) :
    View.canon (kernelRun3_A.sl.HS1_9
        c arg2 harg2 arg3 harg3 arg4 harg4 arg5 harg5 arg6 harg6 arg7 harg7 arg13 arg14 x0 x1 x2 x3 x4 x5) (ix2 R l)
      = (((BackwardTile.part k (Cert.Attention.slope scale v g (again scale q k L) (dots g o)) 1024) R.val l.val : ℝ) : EReal) := by
  unfold kernelRun3_A.sl.HS1_9
  refine canon_rows (a := 1024) (n := 1024) _ _ _ (BackwardTile.mid k (Cert.Attention.slope scale v g (again scale q k L) (dots g o)) 768 1024) (BackwardTile.part k (Cert.Attention.slope scale v g (again scale q k L) (dots g o)) 1024)
    (fun R l _ => acc_8 hq hk hv ho hg hL R l) (fun r l => ?_) (fun R l hR h => ?_) R l
  · simp only [
      kernelRun3_A.sl.cst_103, kernelRun3_A.sl.cst_287, kernelRun3_A.sl.r_12, kernelRun3_A.sl.r_13,
      kernelRun3_A.sl.v376, kernelRun3_A.sl.v378, kernelRun3_A.sl.v379, kernelRun3_A.sl.v380, kernelRun3_A.sl.v381,
      kernelRun3_A.sl.v382, kernelRun3_A.sl.v384, kernelRun3_A.sl.v385, kernelRun3_A.sl.v386, kernelRun3_A.sl.v387,
      kernelRun3_A.sl.v388, kernelRun3_A.sl.v389, kernelRun3_A.sl.v390, kernelRun3_A.sl.v391, kernelRun3_A.sl.v392,
      kernelRun3_A.sl.v394, kernelRun3_A.sl.v395, kernelRun3_A.sl.v396, kernelRun3_A.sl.v397, kernelRun3_A.sl.v398,
      kernelRun3_A.sl.v401,
      View.readAt_eq_ld, Memref.IsWhole.read_unread, View.readCov_eq_canon']
    open_payloads
    pointwise
    have hp := acc_8 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg13 := arg13) (arg14 := arg14) hq hk hv ho hg hL
    simp only [hp, hq, hk, hv, hg, hL, delta_at ho hg, scale_eq, mask_eq, tile_select, ← EReal.coe_mul,
      ForwardTile.score_fin scale q k, BackwardTile.up_fin v g]
    simp only [exp_mask, ← EReal.coe_sub, exp_coe, ← EReal.coe_mul, ← coe_sum, ← EReal.coe_add]
    exact congrArg (fun t : ℝ => (t : EReal)) (BackwardTile.mid_later scale q k v g L (dots g o) 768 1024 r.val l.val rfl)
  · exact BackwardTile.off_later scale q k v g L (dots g o) 768 1024 R l (by omega)

set_option maxHeartbeats 4000000 in
theorem acc_10 (R : Fin 2048) (l : Fin 256) :
    View.canon (kernelRun3_A.sl.HS1_10
        c arg2 harg2 arg3 harg3 arg4 harg4 arg5 harg5 arg6 harg6 arg7 harg7 arg13 arg14 x0 x1 x2 x3 x4 x5) (ix2 R l)
      = (((BackwardTile.mid k (Cert.Attention.slope scale v g (again scale q k L) (dots g o)) 1024 1280) R.val l.val : ℝ) : EReal) := by
  unfold kernelRun3_A.sl.HS1_10
  refine canon_rows (a := 1024) (n := 256) _ _ _ (BackwardTile.part k (Cert.Attention.slope scale v g (again scale q k L) (dots g o)) 1024) (BackwardTile.mid k (Cert.Attention.slope scale v g (again scale q k L) (dots g o)) 1024 1280)
    (fun R l _ => acc_9 hq hk hv ho hg hL R l) (fun r l => ?_) (fun R l hR h => ?_) R l
  · simp only [
      kernelRun3_A.sl.v421, kernelRun3_A.sl.v443, kernelRun3_A.sl.v450,
      View.readAt_eq_ld, Memref.IsWhole.read_unread, View.readCov_eq_canon']
    open_payloads
    pointwise
    have hp := acc_9 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg13 := arg13) (arg14 := arg14) hq hk hv ho hg hL
    simp only [hp, hq, hk, hv, hg, hL, delta_at ho hg, scale_eq, mask_eq, tile_select, ← EReal.coe_mul,
      ForwardTile.score_fin scale q k, BackwardTile.up_fin v g]
    simp only [exp_mask, ← EReal.coe_sub, exp_coe, ← EReal.coe_mul, ← coe_sum, ← EReal.coe_add]
    exact congrArg (fun t : ℝ => (t : EReal)) (BackwardTile.mid_own scale q k v g L (dots g o) 1024 1280 r.val l.val rfl r.isLt)
  · exact BackwardTile.off_own scale q k v g L (dots g o) 1024 1280 R l rfl h

set_option maxHeartbeats 4000000 in
theorem acc_11 (R : Fin 2048) (l : Fin 256) :
    View.canon (kernelRun3_A.sl.HS1_11
        c arg2 harg2 arg3 harg3 arg4 harg4 arg5 harg5 arg6 harg6 arg7 harg7 arg13 arg14 x0 x1 x2 x3 x4 x5) (ix2 R l)
      = (((BackwardTile.part k (Cert.Attention.slope scale v g (again scale q k L) (dots g o)) 1280) R.val l.val : ℝ) : EReal) := by
  unfold kernelRun3_A.sl.HS1_11
  refine canon_rows (a := 1280) (n := 768) _ _ _ (BackwardTile.mid k (Cert.Attention.slope scale v g (again scale q k L) (dots g o)) 1024 1280) (BackwardTile.part k (Cert.Attention.slope scale v g (again scale q k L) (dots g o)) 1280)
    (fun R l _ => acc_10 hq hk hv ho hg hL R l) (fun r l => ?_) (fun R l hR h => ?_) R l
  · simp only [
      kernelRun3_A.sl.cst_103, kernelRun3_A.sl.cst_349, kernelRun3_A.sl.r_18, kernelRun3_A.sl.v421,
      kernelRun3_A.sl.v460, kernelRun3_A.sl.v462, kernelRun3_A.sl.v463, kernelRun3_A.sl.v464, kernelRun3_A.sl.v465,
      kernelRun3_A.sl.v466, kernelRun3_A.sl.v468, kernelRun3_A.sl.v469, kernelRun3_A.sl.v470, kernelRun3_A.sl.v471,
      kernelRun3_A.sl.v472, kernelRun3_A.sl.v473, kernelRun3_A.sl.v474, kernelRun3_A.sl.v475, kernelRun3_A.sl.v476,
      kernelRun3_A.sl.v478, kernelRun3_A.sl.v479, kernelRun3_A.sl.v480, kernelRun3_A.sl.v481, kernelRun3_A.sl.v482,
      kernelRun3_A.sl.v485,
      View.readAt_eq_ld, Memref.IsWhole.read_unread, View.readCov_eq_canon']
    open_payloads
    pointwise
    have hp := acc_10 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg13 := arg13) (arg14 := arg14) hq hk hv ho hg hL
    simp only [hp, hq, hk, hv, hg, hL, delta_at ho hg, scale_eq, mask_eq, tile_select, ← EReal.coe_mul,
      ForwardTile.score_fin scale q k, BackwardTile.up_fin v g]
    simp only [exp_mask, ← EReal.coe_sub, exp_coe, ← EReal.coe_mul, ← coe_sum, ← EReal.coe_add]
    exact congrArg (fun t : ℝ => (t : EReal)) (BackwardTile.mid_later scale q k v g L (dots g o) 1024 1280 r.val l.val rfl)
  · exact BackwardTile.off_later scale q k v g L (dots g o) 1024 1280 R l (by omega)

set_option maxHeartbeats 4000000 in
theorem acc_12 (R : Fin 2048) (l : Fin 256) :
    View.canon (kernelRun3_A.sl.HS1_12
        c arg2 harg2 arg3 harg3 arg4 harg4 arg5 harg5 arg6 harg6 arg7 harg7 arg13 arg14 x0 x1 x2 x3 x4 x5) (ix2 R l)
      = (((BackwardTile.mid k (Cert.Attention.slope scale v g (again scale q k L) (dots g o)) 1280 1536) R.val l.val : ℝ) : EReal) := by
  unfold kernelRun3_A.sl.HS1_12
  refine canon_rows (a := 1280) (n := 256) _ _ _ (BackwardTile.part k (Cert.Attention.slope scale v g (again scale q k L) (dots g o)) 1280) (BackwardTile.mid k (Cert.Attention.slope scale v g (again scale q k L) (dots g o)) 1280 1536)
    (fun R l _ => acc_11 hq hk hv ho hg hL R l) (fun r l => ?_) (fun R l hR h => ?_) R l
  · simp only [
      kernelRun3_A.sl.cst_103, kernelRun3_A.sl.cst_117, kernelRun3_A.sl.r_23, kernelRun3_A.sl.r_24,
      kernelRun3_A.sl.r_26, kernelRun3_A.sl.r_27, kernelRun3_A.sl.v195, kernelRun3_A.sl.v522, kernelRun3_A.sl.v523,
      kernelRun3_A.sl.v524, kernelRun3_A.sl.v525, kernelRun3_A.sl.v526, kernelRun3_A.sl.v527, kernelRun3_A.sl.v528,
      kernelRun3_A.sl.v529, kernelRun3_A.sl.v530, kernelRun3_A.sl.v532, kernelRun3_A.sl.v533, kernelRun3_A.sl.v534,
      kernelRun3_A.sl.v535, kernelRun3_A.sl.v536, kernelRun3_A.sl.v539,
      View.readAt_eq_ld, Memref.IsWhole.read_unread, View.readCov_eq_canon']
    open_payloads
    pointwise
    have hp := acc_11 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg13 := arg13) (arg14 := arg14) hq hk hv ho hg hL
    simp only [hp, hq, hk, hv, hg, hL, delta_at ho hg, scale_eq, mask_eq, tile_select, ← EReal.coe_mul,
      ForwardTile.score_fin scale q k, BackwardTile.up_fin v g]
    simp only [exp_mask, ← EReal.coe_sub, exp_coe, ← EReal.coe_mul, ← coe_sum, ← EReal.coe_add]
    exact congrArg (fun t : ℝ => (t : EReal)) (BackwardTile.mid_own scale q k v g L (dots g o) 1280 1536 r.val l.val rfl r.isLt)
  · exact BackwardTile.off_own scale q k v g L (dots g o) 1280 1536 R l rfl h

set_option maxHeartbeats 4000000 in
theorem acc_13 (R : Fin 2048) (l : Fin 256) :
    View.canon (kernelRun3_A.sl.HS1_13
        c arg2 harg2 arg3 harg3 arg4 harg4 arg5 harg5 arg6 harg6 arg7 harg7 arg13 arg14 x0 x1 x2 x3 x4 x5) (ix2 R l)
      = (((BackwardTile.part k (Cert.Attention.slope scale v g (again scale q k L) (dots g o)) 1536) R.val l.val : ℝ) : EReal) := by
  unfold kernelRun3_A.sl.HS1_13
  refine canon_rows (a := 1536) (n := 512) _ _ _ (BackwardTile.mid k (Cert.Attention.slope scale v g (again scale q k L) (dots g o)) 1280 1536) (BackwardTile.part k (Cert.Attention.slope scale v g (again scale q k L) (dots g o)) 1536)
    (fun R l _ => acc_12 hq hk hv ho hg hL R l) (fun r l => ?_) (fun R l hR h => ?_) R l
  · simp only [
      kernelRun3_A.sl.cst_103, kernelRun3_A.sl.cst_411, kernelRun3_A.sl.r_23, kernelRun3_A.sl.r_24,
      kernelRun3_A.sl.v544, kernelRun3_A.sl.v546, kernelRun3_A.sl.v547, kernelRun3_A.sl.v548, kernelRun3_A.sl.v549,
      kernelRun3_A.sl.v550, kernelRun3_A.sl.v552, kernelRun3_A.sl.v553, kernelRun3_A.sl.v554, kernelRun3_A.sl.v555,
      kernelRun3_A.sl.v556, kernelRun3_A.sl.v557, kernelRun3_A.sl.v558, kernelRun3_A.sl.v559, kernelRun3_A.sl.v560,
      kernelRun3_A.sl.v562, kernelRun3_A.sl.v563, kernelRun3_A.sl.v564, kernelRun3_A.sl.v565, kernelRun3_A.sl.v566,
      kernelRun3_A.sl.v569,
      View.readAt_eq_ld, Memref.IsWhole.read_unread, View.readCov_eq_canon']
    open_payloads
    pointwise
    have hp := acc_12 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg13 := arg13) (arg14 := arg14) hq hk hv ho hg hL
    simp only [hp, hq, hk, hv, hg, hL, delta_at ho hg, scale_eq, mask_eq, tile_select, ← EReal.coe_mul,
      ForwardTile.score_fin scale q k, BackwardTile.up_fin v g]
    simp only [exp_mask, ← EReal.coe_sub, exp_coe, ← EReal.coe_mul, ← coe_sum, ← EReal.coe_add]
    exact congrArg (fun t : ℝ => (t : EReal)) (BackwardTile.mid_later scale q k v g L (dots g o) 1280 1536 r.val l.val rfl)
  · exact BackwardTile.off_later scale q k v g L (dots g o) 1280 1536 R l (by omega)

set_option maxHeartbeats 4000000 in
theorem acc_14 (R : Fin 2048) (l : Fin 256) :
    View.canon (kernelRun3_A.sl.HS1_14
        c arg2 harg2 arg3 harg3 arg4 harg4 arg5 harg5 arg6 harg6 arg7 harg7 arg13 arg14 x0 x1 x2 x3 x4 x5) (ix2 R l)
      = (((BackwardTile.mid k (Cert.Attention.slope scale v g (again scale q k L) (dots g o)) 1536 1792) R.val l.val : ℝ) : EReal) := by
  unfold kernelRun3_A.sl.HS1_14
  refine canon_rows (a := 1536) (n := 256) _ _ _ (BackwardTile.part k (Cert.Attention.slope scale v g (again scale q k L) (dots g o)) 1536) (BackwardTile.mid k (Cert.Attention.slope scale v g (again scale q k L) (dots g o)) 1536 1792)
    (fun R l _ => acc_13 hq hk hv ho hg hL R l) (fun r l => ?_) (fun R l hR h => ?_) R l
  · simp only [
      kernelRun3_A.sl.r_28, kernelRun3_A.sl.r_35, kernelRun3_A.sl.v611, kernelRun3_A.sl.v618,
      View.readAt_eq_ld, Memref.IsWhole.read_unread, View.readCov_eq_canon']
    open_payloads
    pointwise
    have hp := acc_13 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg13 := arg13) (arg14 := arg14) hq hk hv ho hg hL
    simp only [hp, hq, hk, hv, hg, hL, delta_at ho hg, scale_eq, mask_eq, tile_select, ← EReal.coe_mul,
      ForwardTile.score_fin scale q k, BackwardTile.up_fin v g]
    simp only [exp_mask, ← EReal.coe_sub, exp_coe, ← EReal.coe_mul, ← coe_sum, ← EReal.coe_add]
    exact congrArg (fun t : ℝ => (t : EReal)) (BackwardTile.mid_own scale q k v g L (dots g o) 1536 1792 r.val l.val rfl r.isLt)
  · exact BackwardTile.off_own scale q k v g L (dots g o) 1536 1792 R l rfl h

set_option maxHeartbeats 4000000 in
theorem acc_15 (R : Fin 2048) (l : Fin 256) :
    View.canon (kernelRun3_A.sl.HS1_15
        c arg2 harg2 arg3 harg3 arg4 harg4 arg5 harg5 arg6 harg6 arg7 harg7 arg13 arg14 x0 x1 x2 x3 x4 x5) (ix2 R l)
      = (((BackwardTile.part k (Cert.Attention.slope scale v g (again scale q k L) (dots g o)) 1792) R.val l.val : ℝ) : EReal) := by
  unfold kernelRun3_A.sl.HS1_15
  refine canon_rows (a := 1792) (n := 256) _ _ _ (BackwardTile.mid k (Cert.Attention.slope scale v g (again scale q k L) (dots g o)) 1536 1792) (BackwardTile.part k (Cert.Attention.slope scale v g (again scale q k L) (dots g o)) 1792)
    (fun R l _ => acc_14 hq hk hv ho hg hL R l) (fun r l => ?_) (fun R l hR h => ?_) R l
  · simp only [
      kernelRun3_A.sl.cst_103, kernelRun3_A.sl.cst_117, kernelRun3_A.sl.r_28, kernelRun3_A.sl.r_29,
      kernelRun3_A.sl.r_30, kernelRun3_A.sl.v71, kernelRun3_A.sl.v195, kernelRun3_A.sl.v628, kernelRun3_A.sl.v631,
      kernelRun3_A.sl.v632, kernelRun3_A.sl.v634, kernelRun3_A.sl.v636, kernelRun3_A.sl.v637, kernelRun3_A.sl.v638,
      kernelRun3_A.sl.v639, kernelRun3_A.sl.v640, kernelRun3_A.sl.v641, kernelRun3_A.sl.v642, kernelRun3_A.sl.v643,
      kernelRun3_A.sl.v644, kernelRun3_A.sl.v646, kernelRun3_A.sl.v647, kernelRun3_A.sl.v648, kernelRun3_A.sl.v649,
      kernelRun3_A.sl.v650, kernelRun3_A.sl.v653,
      View.readAt_eq_ld, Memref.IsWhole.read_unread, View.readCov_eq_canon']
    open_payloads
    pointwise
    have hp := acc_14 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg13 := arg13) (arg14 := arg14) hq hk hv ho hg hL
    simp only [hp, hq, hk, hv, hg, hL, delta_at ho hg, scale_eq, mask_eq, tile_select, ← EReal.coe_mul,
      ForwardTile.score_fin scale q k, BackwardTile.up_fin v g]
    simp only [exp_mask, ← EReal.coe_sub, exp_coe, ← EReal.coe_mul, ← coe_sum, ← EReal.coe_add]
    exact congrArg (fun t : ℝ => (t : EReal)) (BackwardTile.mid_later scale q k v g L (dots g o) 1536 1792 r.val l.val rfl)
  · exact BackwardTile.off_later scale q k v g L (dots g o) 1536 1792 R l (by omega)

set_option maxHeartbeats 4000000 in
theorem acc_16 (R : Fin 2048) (l : Fin 256) :
    View.canon (kernelRun3_A.sl.HS1_16
        c arg2 harg2 arg3 harg3 arg4 harg4 arg5 harg5 arg6 harg6 arg7 harg7 arg13 arg14 x0 x1 x2 x3 x4 x5) (ix2 R l)
      = (((BackwardTile.mid k (Cert.Attention.slope scale v g (again scale q k L) (dots g o)) 1792 2048) R.val l.val : ℝ) : EReal) := by
  unfold kernelRun3_A.sl.HS1_16
  refine canon_rows (a := 1792) (n := 256) _ _ _ (BackwardTile.part k (Cert.Attention.slope scale v g (again scale q k L) (dots g o)) 1792) (BackwardTile.mid k (Cert.Attention.slope scale v g (again scale q k L) (dots g o)) 1792 2048)
    (fun R l _ => acc_15 hq hk hv ho hg hL R l) (fun r l => ?_) (fun R l hR h => ?_) R l
  · simp only [
      kernelRun3_A.sl.cst_103, kernelRun3_A.sl.cst_117, kernelRun3_A.sl.r_36, kernelRun3_A.sl.r_37,
      kernelRun3_A.sl.r_39, kernelRun3_A.sl.r_40, kernelRun3_A.sl.v195, kernelRun3_A.sl.v636, kernelRun3_A.sl.v637,
      kernelRun3_A.sl.v641, kernelRun3_A.sl.v642, kernelRun3_A.sl.v692, kernelRun3_A.sl.v693, kernelRun3_A.sl.v694,
      kernelRun3_A.sl.v697, kernelRun3_A.sl.v698, kernelRun3_A.sl.v700, kernelRun3_A.sl.v701, kernelRun3_A.sl.v702,
      kernelRun3_A.sl.v703, kernelRun3_A.sl.v704, kernelRun3_A.sl.v707,
      View.readAt_eq_ld, Memref.IsWhole.read_unread, View.readCov_eq_canon']
    open_payloads
    pointwise
    have hp := acc_15 (c := c) (arg2 := arg2) (harg2 := harg2) (arg3 := arg3) (harg3 := harg3) (arg4 := arg4) (harg4 := harg4) (arg5 := arg5) (harg5 := harg5) (arg6 := arg6) (harg6 := harg6) (arg7 := arg7) (harg7 := harg7) (arg13 := arg13) (arg14 := arg14) hq hk hv ho hg hL
    simp only [hp, hq, hk, hv, hg, hL, delta_at ho hg, scale_eq, mask_eq, tile_select, ← EReal.coe_mul,
      ForwardTile.score_fin scale q k, BackwardTile.up_fin v g]
    simp only [exp_mask, ← EReal.coe_sub, exp_coe, ← EReal.coe_mul, ← coe_sum, ← EReal.coe_add]
    exact congrArg (fun t : ℝ => (t : EReal)) (BackwardTile.mid_own scale q k v g L (dots g o) 1792 2048 r.val l.val rfl r.isLt)
  · exact BackwardTile.off_own scale q k v g L (dots g o) 1792 2048 R l rfl h

end Cert.KernelValue

end
-- ==== Proof.BackwardQuery.lean ====
/- The backward pass of one head: the queries' gradient, rotated back, as the kernel leaves it in its block. -/
module

public import proofs.«01_k».proof.Proof.BackwardAcc
public import proofs.«01_k».proof.Proof.Roll

@[expose] public section

set_option maxRecDepth 16384

noncomputable section

namespace Cert.KernelValue

open Cert.KernelIdeal Cert.KernelIdeal.Gen Cert.Reals Cert.Attention
open Idealize.ShloMosaic Idealize.ShloMosaic.TcCoe Idealize.ShloMosaic.Tactic

variable {c : Dev nD} {i : grid3.Coords}
  {arg2 : Memref sig .tc .vmem S1x2048x256 .bf16} {harg2 : arg2.IsWhole}
  {arg3 : Memref sig .tc .vmem S1x2048x256 .bf16} {harg3 : arg3.IsWhole}
  {arg4 : Memref sig .tc .vmem S1x2048x128 .bf16} {harg4 : arg4.IsWhole}
  {arg5 : Memref sig .tc .vmem S1x2048x128 .f32} {harg5 : arg5.IsWhole}
  {arg6 : Memref sig .tc .vmem S1x2048x128 .f32} {harg6 : arg6.IsWhole}
  {arg7 : Memref sig .tc .vmem S1x1x2048x1 .f32} {harg7 : arg7.IsWhole}
  {arg8 : Memref sig .tc .vmem S1x2048x128 .f32} {harg8 : arg8.IsWhole}
  {arg9 : Memref sig .tc .vmem S1x2048x128 .f32} {harg9 : arg9.IsWhole}
  {arg10 : Memref sig .tc .vmem S1x2048x256 .bf16} {harg10 : arg10.IsWhole}
  {arg11 : Memref sig .tc .vmem S1x2048x256 .bf16} {harg11 : arg11.IsWhole}
  {arg12 : Memref sig .tc .vmem S1x2048x128 .f32} {harg12 : arg12.IsWhole}
  {arg13 : Memref sig .tc .vmem S2048x1 .f32}
  {arg14 : Memref sig .tc .vmem S2048x256 .f32}
  {harg13 : arg13.IsWhole} {harg14 : arg14.IsWhole}
  {x0 : Vec Ideal S1x2048x256 .bf16}
  {x1 : Vec Ideal S1x2048x256 .bf16}
  {x2 : Vec Ideal S1x2048x128 .bf16}
  {x3 : Vec Ideal S1x2048x128 .f32}
  {x4 : Vec Ideal S1x2048x128 .f32}
  {x5 : Vec Ideal S1x1x2048x1 .f32}
  {x6 : Vec Ideal S1x2048x128 .f32}
  {x7 : Vec Ideal S1x2048x128 .f32}
  {q k v o g : ℕ → ℕ → ℝ} {L : ℕ → ℝ} (hq : ∀ r l, x0 (ix3 0 r l) = (q r.val l.val : EReal))
  (hk : ∀ r l, x1 (ix3 0 r l) = (k r.val l.val : EReal)) (hv : ∀ r l, x2 (ix3 0 r l) = (v r.val l.val : EReal))
  (ho : ∀ r l, x3 (ix3 0 r l) = (o r.val l.val : EReal)) (hg : ∀ r l, x4 (ix3 0 r l) = (g r.val l.val : EReal))
  (hL : ∀ r, x5 (ix4 0 0 r 0) = (L r.val : EReal))
  {cs sn : ℕ → ℕ → ℝ} (hc : ∀ r l, x6 (ix3 0 r l) = (cs r.val l.val : EReal))
  (hs : ∀ r l, x7 (ix3 0 r l) = (sn r.val l.val : EReal))
include hq hk hv ho hg hL

theorem sum_at (y : S2048x256.Idx) :
    View.canon (kernelRun3_A.sl.HS1_16
        c arg2 harg2 arg3 harg3 arg4 harg4 arg5 harg5 arg6 harg6 arg7 harg7 arg13 arg14 x0 x1 x2 x3 x4 x5) y
      = ((gradQ k (Cert.Attention.slope scale v g (again scale q k L) (dots g o)) (y 0).val (y 1).val : ℝ) : EReal) := by
  have e : y = ix2 (y 0) (y 1) := by
    funext a
    match a with
    | ⟨0, _⟩ => rfl
    | ⟨1, _⟩ => rfl
  rw [e]
  refine (acc_16 hq hk hv ho hg hL (y 0) (y 1)).trans (congrArg (fun t : ℝ => (t : EReal)) ?_)
  rw [BackwardTile.mid, if_pos (show (y 0).val < 2048 from (y 0).isLt)]
  rfl

include hc hs

set_option maxHeartbeats 16000000 in
/-- The block of the queries' gradient: the first 128 lanes as they are, the others rotated back. -/
theorem out3_8_at (y : S1x2048x256.Idx) :
    out3_A_8 c i arg2 harg2 arg3 harg3 arg4 harg4 arg5 harg5 arg6 harg6 arg7 harg7 arg8 harg8 arg9 harg9 arg10 harg10 arg11 harg11
      arg12 harg12 arg13 harg13 arg14 harg14 x0 x1 x2 x3 x4 x5 x6 x7 y
      = (((if (y 2).val < 128 then
            gradQ k (Cert.Attention.slope scale v g (again scale q k L) (dots g o)) (y 1).val (y 2).val
          else Cert.Roll.rollBack (fun t => gradQ k (Cert.Attention.slope scale v g (again scale q k L) (dots g o)) (y 1).val (128 + t))
            (cs (y 1).val) (sn (y 1).val) ((y 2).val - 128) : ℝ)) : EReal) := by
  unfold out3_A_8
  rw [View.read_writes_eq_canon]
  unfold kernelRun3_A; dsimp only
  canon_tiles y h
  case piece0 =>
    obtain ⟨r, l, rfl⟩ := tile_idx y
    rw [h1, h2]
    simp only [
      kernelRun3_A.sl.r_41, kernelRun3_A.sl.r_42, kernelRun3_A.sl.v892,
      View.readAt_eq_ld, Memref.IsWhole.read_unread, View.readCov_eq_canon']
    open_payloads
    pointwise
    simp only [sum_at hq hk hv ho hg hL, hc, hs]
    exact Roll.rollBack_fin (fun t => gradQ k (Cert.Attention.slope scale v g (again scale q k L) (dots g o)) (1792 + r.val) (128 + t)) (cs (1792 + r.val)) (sn (1792 + r.val)) l.val l.isLt
  case piece1 =>
    obtain ⟨r, l, rfl⟩ := tile_idx y
    rw [h1, h2]
    simp only [
      kernelRun3_A.sl.v892,
      View.readAt_eq_ld, Memref.IsWhole.read_unread, View.readCov_eq_canon']
    open_payloads
    pointwise
    simp only [sum_at hq hk hv ho hg hL, hc, hs]
    rfl
  case piece2 =>
    obtain ⟨r, l, rfl⟩ := tile_idx y
    rw [h1, h2]
    simp only [
      kernelRun3_A.sl.v737, kernelRun3_A.sl.v738, kernelRun3_A.sl.v868, kernelRun3_A.sl.v874, kernelRun3_A.sl.v876,
      kernelRun3_A.sl.v878, kernelRun3_A.sl.v879, kernelRun3_A.sl.v880, kernelRun3_A.sl.v884, kernelRun3_A.sl.v885,
      kernelRun3_A.sl.v886, kernelRun3_A.sl.v887, kernelRun3_A.sl.v888,
      View.readAt_eq_ld, Memref.IsWhole.read_unread, View.readCov_eq_canon']
    open_payloads
    pointwise
    simp only [sum_at hq hk hv ho hg hL, hc, hs]
    exact Roll.rollBack_fin (fun t => gradQ k (Cert.Attention.slope scale v g (again scale q k L) (dots g o)) (1536 + r.val) (128 + t)) (cs (1536 + r.val)) (sn (1536 + r.val)) l.val l.isLt
  case piece3 =>
    obtain ⟨r, l, rfl⟩ := tile_idx y
    rw [h1, h2]
    simp only [
      kernelRun3_A.sl.v868, kernelRun3_A.sl.v869, kernelRun3_A.sl.v870, kernelRun3_A.sl.v873,
      View.readAt_eq_ld, Memref.IsWhole.read_unread, View.readCov_eq_canon']
    open_payloads
    pointwise
    simp only [sum_at hq hk hv ho hg hL, hc, hs]
    rfl
  case piece4 =>
    obtain ⟨r, l, rfl⟩ := tile_idx y
    rw [h1, h2]
    simp only [
      kernelRun3_A.sl.v737, kernelRun3_A.sl.v738, kernelRun3_A.sl.v844, kernelRun3_A.sl.v850, kernelRun3_A.sl.v852,
      kernelRun3_A.sl.v854, kernelRun3_A.sl.v855, kernelRun3_A.sl.v856, kernelRun3_A.sl.v860, kernelRun3_A.sl.v861,
      kernelRun3_A.sl.v862, kernelRun3_A.sl.v863, kernelRun3_A.sl.v864, kernelRun3_A.sl.v867,
      View.readAt_eq_ld, Memref.IsWhole.read_unread, View.readCov_eq_canon']
    open_payloads
    pointwise
    simp only [sum_at hq hk hv ho hg hL, hc, hs]
    exact Roll.rollBack_fin (fun t => gradQ k (Cert.Attention.slope scale v g (again scale q k L) (dots g o)) (1280 + r.val) (128 + t)) (cs (1280 + r.val)) (sn (1280 + r.val)) l.val l.isLt
  case piece5 =>
    obtain ⟨r, l, rfl⟩ := tile_idx y
    rw [h1, h2]
    simp only [
      kernelRun3_A.sl.v844, kernelRun3_A.sl.v845, kernelRun3_A.sl.v846, kernelRun3_A.sl.v849,
      View.readAt_eq_ld, Memref.IsWhole.read_unread, View.readCov_eq_canon']
    open_payloads
    pointwise
    simp only [sum_at hq hk hv ho hg hL, hc, hs]
    rfl
  case piece6 =>
    obtain ⟨r, l, rfl⟩ := tile_idx y
    rw [h1, h2]
    simp only [
      kernelRun3_A.sl.v737, kernelRun3_A.sl.v738, kernelRun3_A.sl.v820, kernelRun3_A.sl.v826, kernelRun3_A.sl.v828,
      kernelRun3_A.sl.v830, kernelRun3_A.sl.v831, kernelRun3_A.sl.v832, kernelRun3_A.sl.v836, kernelRun3_A.sl.v837,
      kernelRun3_A.sl.v838, kernelRun3_A.sl.v839, kernelRun3_A.sl.v840, kernelRun3_A.sl.v843,
      View.readAt_eq_ld, Memref.IsWhole.read_unread, View.readCov_eq_canon']
    open_payloads
    pointwise
    simp only [sum_at hq hk hv ho hg hL, hc, hs]
    exact Roll.rollBack_fin (fun t => gradQ k (Cert.Attention.slope scale v g (again scale q k L) (dots g o)) (1024 + r.val) (128 + t)) (cs (1024 + r.val)) (sn (1024 + r.val)) l.val l.isLt
  case piece7 =>
    obtain ⟨r, l, rfl⟩ := tile_idx y
    rw [h1, h2]
    simp only [
      kernelRun3_A.sl.v820, kernelRun3_A.sl.v821, kernelRun3_A.sl.v822, kernelRun3_A.sl.v825,
      View.readAt_eq_ld, Memref.IsWhole.read_unread, View.readCov_eq_canon']
    open_payloads
    pointwise
    simp only [sum_at hq hk hv ho hg hL, hc, hs]
    rfl
  case piece8 =>
    obtain ⟨r, l, rfl⟩ := tile_idx y
    rw [h1, h2]
    simp only [
      kernelRun3_A.sl.v737, kernelRun3_A.sl.v738, kernelRun3_A.sl.v796, kernelRun3_A.sl.v802, kernelRun3_A.sl.v804,
      kernelRun3_A.sl.v806, kernelRun3_A.sl.v807, kernelRun3_A.sl.v808, kernelRun3_A.sl.v812, kernelRun3_A.sl.v813,
      kernelRun3_A.sl.v814, kernelRun3_A.sl.v815, kernelRun3_A.sl.v816, kernelRun3_A.sl.v819,
      View.readAt_eq_ld, Memref.IsWhole.read_unread, View.readCov_eq_canon']
    open_payloads
    pointwise
    simp only [sum_at hq hk hv ho hg hL, hc, hs]
    exact Roll.rollBack_fin (fun t => gradQ k (Cert.Attention.slope scale v g (again scale q k L) (dots g o)) (768 + r.val) (128 + t)) (cs (768 + r.val)) (sn (768 + r.val)) l.val l.isLt
  case piece9 =>
    obtain ⟨r, l, rfl⟩ := tile_idx y
    rw [h1, h2]
    simp only [
      kernelRun3_A.sl.v796, kernelRun3_A.sl.v797, kernelRun3_A.sl.v798, kernelRun3_A.sl.v801,
      View.readAt_eq_ld, Memref.IsWhole.read_unread, View.readCov_eq_canon']
    open_payloads
    pointwise
    simp only [sum_at hq hk hv ho hg hL, hc, hs]
    rfl
  case piece10 =>
    obtain ⟨r, l, rfl⟩ := tile_idx y
    rw [h1, h2]
    simp only [
      kernelRun3_A.sl.v737, kernelRun3_A.sl.v738, kernelRun3_A.sl.v772, kernelRun3_A.sl.v778, kernelRun3_A.sl.v780,
      kernelRun3_A.sl.v782, kernelRun3_A.sl.v783, kernelRun3_A.sl.v784, kernelRun3_A.sl.v788, kernelRun3_A.sl.v789,
      kernelRun3_A.sl.v790, kernelRun3_A.sl.v791, kernelRun3_A.sl.v792, kernelRun3_A.sl.v795,
      View.readAt_eq_ld, Memref.IsWhole.read_unread, View.readCov_eq_canon']
    open_payloads
    pointwise
    simp only [sum_at hq hk hv ho hg hL, hc, hs]
    exact Roll.rollBack_fin (fun t => gradQ k (Cert.Attention.slope scale v g (again scale q k L) (dots g o)) (512 + r.val) (128 + t)) (cs (512 + r.val)) (sn (512 + r.val)) l.val l.isLt
  case piece11 =>
    obtain ⟨r, l, rfl⟩ := tile_idx y
    rw [h1, h2]
    simp only [
      kernelRun3_A.sl.v772, kernelRun3_A.sl.v773, kernelRun3_A.sl.v774, kernelRun3_A.sl.v777,
      View.readAt_eq_ld, Memref.IsWhole.read_unread, View.readCov_eq_canon']
    open_payloads
    pointwise
    simp only [sum_at hq hk hv ho hg hL, hc, hs]
    rfl
  case piece12 =>
    obtain ⟨r, l, rfl⟩ := tile_idx y
    rw [h1, h2]
    simp only [
      kernelRun3_A.sl.v737, kernelRun3_A.sl.v738, kernelRun3_A.sl.v748, kernelRun3_A.sl.v754, kernelRun3_A.sl.v756,
      kernelRun3_A.sl.v758, kernelRun3_A.sl.v759, kernelRun3_A.sl.v760, kernelRun3_A.sl.v764, kernelRun3_A.sl.v765,
      kernelRun3_A.sl.v766, kernelRun3_A.sl.v767, kernelRun3_A.sl.v768, kernelRun3_A.sl.v771,
      View.readAt_eq_ld, Memref.IsWhole.read_unread, View.readCov_eq_canon']
    open_payloads
    pointwise
    simp only [sum_at hq hk hv ho hg hL, hc, hs]
    exact Roll.rollBack_fin (fun t => gradQ k (Cert.Attention.slope scale v g (again scale q k L) (dots g o)) (256 + r.val) (128 + t)) (cs (256 + r.val)) (sn (256 + r.val)) l.val l.isLt
  case piece13 =>
    obtain ⟨r, l, rfl⟩ := tile_idx y
    rw [h1, h2]
    simp only [
      kernelRun3_A.sl.v748, kernelRun3_A.sl.v749, kernelRun3_A.sl.v750, kernelRun3_A.sl.v753,
      View.readAt_eq_ld, Memref.IsWhole.read_unread, View.readCov_eq_canon']
    open_payloads
    pointwise
    simp only [sum_at hq hk hv ho hg hL, hc, hs]
    rfl
  case piece14 =>
    obtain ⟨r, l, rfl⟩ := tile_idx y
    rw [h1, h2]
    simp only [
      kernelRun3_A.sl.v724, kernelRun3_A.sl.v730, kernelRun3_A.sl.v732, kernelRun3_A.sl.v734, kernelRun3_A.sl.v735,
      kernelRun3_A.sl.v736, kernelRun3_A.sl.v737, kernelRun3_A.sl.v738, kernelRun3_A.sl.v740, kernelRun3_A.sl.v741,
      kernelRun3_A.sl.v742, kernelRun3_A.sl.v743, kernelRun3_A.sl.v744, kernelRun3_A.sl.v747,
      View.readAt_eq_ld, Memref.IsWhole.read_unread, View.readCov_eq_canon']
    open_payloads
    pointwise
    simp only [sum_at hq hk hv ho hg hL, hc, hs]
    exact Roll.rollBack_fin (fun t => gradQ k (Cert.Attention.slope scale v g (again scale q k L) (dots g o)) r.val (128 + t)) (cs r.val) (sn r.val) l.val l.isLt
  case piece15 =>
    obtain ⟨r, l, rfl⟩ := tile_idx y
    rw [h1, h2]
    simp only [
      kernelRun3_A.sl.v724, kernelRun3_A.sl.v725, kernelRun3_A.sl.v726, kernelRun3_A.sl.v729,
      View.readAt_eq_ld, Memref.IsWhole.read_unread, View.readCov_eq_canon']
    open_payloads
    pointwise
    simp only [sum_at hq hk hv ho hg hL, hc, hs]
    rfl
  case h => exact cover3_A_8 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7

end Cert.KernelValue

end
-- ==== Proof.BackwardKeyValue.lean ====
/- The backward pass of one head: the gradients of its packed keys and values, as the kernel leaves them in its block. -/
module

public import proofs.«01_k».proof.Proof.BackwardRows

@[expose] public section

set_option maxRecDepth 16384

noncomputable section

namespace Cert.KernelValue

open Cert.KernelIdeal Cert.KernelIdeal.Gen Cert.Reals Cert.Attention
open Idealize.ShloMosaic Idealize.ShloMosaic.TcCoe Idealize.ShloMosaic.Tactic

variable {c : Dev nD} {i : grid3.Coords}
  {arg2 : Memref sig .tc .vmem S1x2048x256 .bf16} {harg2 : arg2.IsWhole}
  {arg3 : Memref sig .tc .vmem S1x2048x256 .bf16} {harg3 : arg3.IsWhole}
  {arg4 : Memref sig .tc .vmem S1x2048x128 .bf16} {harg4 : arg4.IsWhole}
  {arg5 : Memref sig .tc .vmem S1x2048x128 .f32} {harg5 : arg5.IsWhole}
  {arg6 : Memref sig .tc .vmem S1x2048x128 .f32} {harg6 : arg6.IsWhole}
  {arg7 : Memref sig .tc .vmem S1x1x2048x1 .f32} {harg7 : arg7.IsWhole}
  {arg8 : Memref sig .tc .vmem S1x2048x128 .f32} {harg8 : arg8.IsWhole}
  {arg9 : Memref sig .tc .vmem S1x2048x128 .f32} {harg9 : arg9.IsWhole}
  {arg10 : Memref sig .tc .vmem S1x2048x256 .bf16} {harg10 : arg10.IsWhole}
  {arg11 : Memref sig .tc .vmem S1x2048x256 .bf16} {harg11 : arg11.IsWhole}
  {arg12 : Memref sig .tc .vmem S1x2048x128 .f32} {harg12 : arg12.IsWhole}
  {arg13 : Memref sig .tc .vmem S2048x1 .f32}
  {arg14 : Memref sig .tc .vmem S2048x256 .f32}
  {harg13 : arg13.IsWhole} {harg14 : arg14.IsWhole}
  {x0 : Vec Ideal S1x2048x256 .bf16}
  {x1 : Vec Ideal S1x2048x256 .bf16}
  {x2 : Vec Ideal S1x2048x128 .bf16}
  {x3 : Vec Ideal S1x2048x128 .f32}
  {x4 : Vec Ideal S1x2048x128 .f32}
  {x5 : Vec Ideal S1x1x2048x1 .f32}
  {x6 : Vec Ideal S1x2048x128 .f32}
  {x7 : Vec Ideal S1x2048x128 .f32}
  {q k v o g : ℕ → ℕ → ℝ} {L : ℕ → ℝ} (hq : ∀ r l, x0 (ix3 0 r l) = (q r.val l.val : EReal))
  (hk : ∀ r l, x1 (ix3 0 r l) = (k r.val l.val : EReal)) (hv : ∀ r l, x2 (ix3 0 r l) = (v r.val l.val : EReal))
  (ho : ∀ r l, x3 (ix3 0 r l) = (o r.val l.val : EReal)) (hg : ∀ r l, x4 (ix3 0 r l) = (g r.val l.val : EReal))
  (hL : ∀ r, x5 (ix4 0 0 r 0) = (L r.val : EReal))
include hq hk hv ho hg hL

set_option maxHeartbeats 16000000 in
/-- The block of the keys' and values' gradients: in the first 128 lanes the keys', in the others the values'. -/
theorem out3_9_at (y : S1x2048x256.Idx) :
    out3_A_9 c i arg2 harg2 arg3 harg3 arg4 harg4 arg5 harg5 arg6 harg6 arg7 harg7 arg8 harg8 arg9 harg9 arg10 harg10 arg11 harg11
      arg12 harg12 arg13 harg13 arg14 harg14 x0 x1 x2 x3 x4 x5 x6 x7 y
      = (((if (y 2).val < 128 then
            gradK q (Cert.Attention.slope scale v g (again scale q k L) (dots g o)) (y 1).val (y 2).val
          else gradV g (again scale q k L) (y 1).val ((y 2).val - 128) : ℝ)) : EReal) := by
  unfold out3_A_9
  rw [View.read_writes_eq_canon]
  unfold kernelRun3_A; dsimp only
  canon_tiles y h
  case piece0 =>
    obtain ⟨r, l, rfl⟩ := tile_idx y
    rw [h1, h2]
    simp only [
      kernelRun3_A.sl.cst_118, kernelRun3_A.sl.r_39, kernelRun3_A.sl.r_40, kernelRun3_A.sl.v636, kernelRun3_A.sl.v637,
      kernelRun3_A.sl.v692, kernelRun3_A.sl.v693, kernelRun3_A.sl.v709, kernelRun3_A.sl.v710, kernelRun3_A.sl.v716,
      kernelRun3_A.sl.v719,
      View.readAt_eq_ld, Memref.IsWhole.read_unread, View.readCov_eq_canon']
    open_payloads
    pointwise
    simp only [hq, hk, hv, hg, hL, delta_at ho hg, scale_eq, mask_eq, tile_select, ← EReal.coe_mul,
      ForwardTile.score_fin scale q k, BackwardTile.up_fin v g]
    simp only [exp_mask, ← EReal.coe_sub, exp_coe, ← EReal.coe_mul, ← coe_sum, ← EReal.coe_add]
    exact congrArg (fun t : ℝ => (t : EReal)) (BackwardTile.gradV_last scale q k g L r.val l.val r.isLt)
  case piece1 =>
    obtain ⟨r, l, rfl⟩ := tile_idx y
    rw [h1, h2]
    simp only [
      kernelRun3_A.sl.cst_103, kernelRun3_A.sl.cst_117, kernelRun3_A.sl.r_37, kernelRun3_A.sl.r_38,
      kernelRun3_A.sl.r_39, kernelRun3_A.sl.r_40, kernelRun3_A.sl.v195, kernelRun3_A.sl.v636, kernelRun3_A.sl.v637,
      kernelRun3_A.sl.v641, kernelRun3_A.sl.v642, kernelRun3_A.sl.v692, kernelRun3_A.sl.v693, kernelRun3_A.sl.v694,
      kernelRun3_A.sl.v697, kernelRun3_A.sl.v698, kernelRun3_A.sl.v700, kernelRun3_A.sl.v701, kernelRun3_A.sl.v708,
      kernelRun3_A.sl.v711, kernelRun3_A.sl.v712, kernelRun3_A.sl.v715,
      View.readAt_eq_ld, Memref.IsWhole.read_unread, View.readCov_eq_canon']
    open_payloads
    pointwise
    simp only [hq, hk, hv, hg, hL, delta_at ho hg, scale_eq, mask_eq, tile_select, ← EReal.coe_mul,
      ForwardTile.score_fin scale q k, BackwardTile.up_fin v g]
    simp only [exp_mask, ← EReal.coe_sub, exp_coe, ← EReal.coe_mul, ← coe_sum, ← EReal.coe_add]
    exact congrArg (fun t : ℝ => (t : EReal)) (BackwardTile.gradK_last scale q k v g L (dots g o) r.val l.val r.isLt)
  case piece2 =>
    obtain ⟨r, l, rfl⟩ := tile_idx y
    rw [h1, h2]
    simp only [
      kernelRun3_A.sl.cst_103, kernelRun3_A.sl.cst_117, kernelRun3_A.sl.cst_118, kernelRun3_A.sl.r_28,
      kernelRun3_A.sl.r_29, kernelRun3_A.sl.r_32, kernelRun3_A.sl.r_33, kernelRun3_A.sl.v71, kernelRun3_A.sl.v195,
      kernelRun3_A.sl.v625, kernelRun3_A.sl.v626, kernelRun3_A.sl.v628, kernelRun3_A.sl.v631, kernelRun3_A.sl.v632,
      kernelRun3_A.sl.v634, kernelRun3_A.sl.v636, kernelRun3_A.sl.v637, kernelRun3_A.sl.v638, kernelRun3_A.sl.v639,
      kernelRun3_A.sl.v655, kernelRun3_A.sl.v656,
      View.readAt_eq_ld, Memref.IsWhole.read_unread, View.readCov_eq_canon']
    open_payloads
    pointwise
    simp only [hq, hk, hv, hg, hL, delta_at ho hg, scale_eq, mask_eq, tile_select, ← EReal.coe_mul,
      ForwardTile.score_fin scale q k, BackwardTile.up_fin v g]
    simp only [exp_mask, ← EReal.coe_sub, exp_coe, ← EReal.coe_mul, ← coe_sum, ← EReal.coe_add]
    exact congrArg (fun t : ℝ => (t : EReal)) (BackwardTile.gradV_tile scale q k g L 1536 1792 256 rfl rfl r.val l.val r.isLt)
  case piece3 =>
    obtain ⟨r, l, rfl⟩ := tile_idx y
    rw [h1, h2]
    simp only [
      kernelRun3_A.sl.cst_103, kernelRun3_A.sl.cst_117, kernelRun3_A.sl.r_28, kernelRun3_A.sl.r_29,
      kernelRun3_A.sl.r_30, kernelRun3_A.sl.r_31, kernelRun3_A.sl.r_34, kernelRun3_A.sl.v71, kernelRun3_A.sl.v195,
      kernelRun3_A.sl.v611, kernelRun3_A.sl.v624, kernelRun3_A.sl.v628, kernelRun3_A.sl.v631, kernelRun3_A.sl.v632,
      kernelRun3_A.sl.v634, kernelRun3_A.sl.v636, kernelRun3_A.sl.v637, kernelRun3_A.sl.v638, kernelRun3_A.sl.v639,
      kernelRun3_A.sl.v640, kernelRun3_A.sl.v641, kernelRun3_A.sl.v642, kernelRun3_A.sl.v643, kernelRun3_A.sl.v644,
      kernelRun3_A.sl.v646, kernelRun3_A.sl.v647, kernelRun3_A.sl.v654,
      View.readAt_eq_ld, Memref.IsWhole.read_unread, View.readCov_eq_canon']
    open_payloads
    pointwise
    simp only [hq, hk, hv, hg, hL, delta_at ho hg, scale_eq, mask_eq, tile_select, ← EReal.coe_mul,
      ForwardTile.score_fin scale q k, BackwardTile.up_fin v g]
    simp only [exp_mask, ← EReal.coe_sub, exp_coe, ← EReal.coe_mul, ← coe_sum, ← EReal.coe_add]
    exact congrArg (fun t : ℝ => (t : EReal)) (BackwardTile.gradK_tile scale q k v g L (dots g o) 1536 1792 256 rfl rfl r.val l.val r.isLt)
  case piece4 =>
    obtain ⟨r, l, rfl⟩ := tile_idx y
    rw [h1, h2]
    simp only [
      kernelRun3_A.sl.cst_103, kernelRun3_A.sl.cst_118, kernelRun3_A.sl.cst_411, kernelRun3_A.sl.r_23,
      kernelRun3_A.sl.r_26, kernelRun3_A.sl.r_27, kernelRun3_A.sl.v522, kernelRun3_A.sl.v523, kernelRun3_A.sl.v524,
      kernelRun3_A.sl.v525, kernelRun3_A.sl.v541, kernelRun3_A.sl.v542, kernelRun3_A.sl.v544, kernelRun3_A.sl.v546,
      kernelRun3_A.sl.v547, kernelRun3_A.sl.v548, kernelRun3_A.sl.v549, kernelRun3_A.sl.v550, kernelRun3_A.sl.v552,
      kernelRun3_A.sl.v553, kernelRun3_A.sl.v554, kernelRun3_A.sl.v555, kernelRun3_A.sl.v571, kernelRun3_A.sl.v572,
      kernelRun3_A.sl.v574, kernelRun3_A.sl.v580, kernelRun3_A.sl.v583,
      View.readAt_eq_ld, Memref.IsWhole.read_unread, View.readCov_eq_canon']
    open_payloads
    pointwise
    simp only [hq, hk, hv, hg, hL, delta_at ho hg, scale_eq, mask_eq, tile_select, ← EReal.coe_mul,
      ForwardTile.score_fin scale q k, BackwardTile.up_fin v g]
    simp only [exp_mask, ← EReal.coe_sub, exp_coe, ← EReal.coe_mul, ← coe_sum, ← EReal.coe_add]
    exact congrArg (fun t : ℝ => (t : EReal)) (BackwardTile.gradV_tile scale q k g L 1280 1536 512 rfl rfl r.val l.val r.isLt)
  case piece5 =>
    obtain ⟨r, l, rfl⟩ := tile_idx y
    rw [h1, h2]
    simp only [
      kernelRun3_A.sl.cst_103, kernelRun3_A.sl.cst_117, kernelRun3_A.sl.cst_411, kernelRun3_A.sl.r_23,
      kernelRun3_A.sl.r_24, kernelRun3_A.sl.r_25, kernelRun3_A.sl.r_26, kernelRun3_A.sl.r_27, kernelRun3_A.sl.v195,
      kernelRun3_A.sl.v522, kernelRun3_A.sl.v523, kernelRun3_A.sl.v524, kernelRun3_A.sl.v525, kernelRun3_A.sl.v526,
      kernelRun3_A.sl.v527, kernelRun3_A.sl.v528, kernelRun3_A.sl.v529, kernelRun3_A.sl.v530, kernelRun3_A.sl.v532,
      kernelRun3_A.sl.v533, kernelRun3_A.sl.v540, kernelRun3_A.sl.v544, kernelRun3_A.sl.v546, kernelRun3_A.sl.v547,
      kernelRun3_A.sl.v548, kernelRun3_A.sl.v549, kernelRun3_A.sl.v550, kernelRun3_A.sl.v552, kernelRun3_A.sl.v553,
      kernelRun3_A.sl.v554, kernelRun3_A.sl.v555, kernelRun3_A.sl.v556, kernelRun3_A.sl.v557, kernelRun3_A.sl.v558,
      kernelRun3_A.sl.v559, kernelRun3_A.sl.v560, kernelRun3_A.sl.v562, kernelRun3_A.sl.v563, kernelRun3_A.sl.v570,
      kernelRun3_A.sl.v573, kernelRun3_A.sl.v575, kernelRun3_A.sl.v576, kernelRun3_A.sl.v579,
      View.readAt_eq_ld, Memref.IsWhole.read_unread, View.readCov_eq_canon']
    open_payloads
    pointwise
    simp only [hq, hk, hv, hg, hL, delta_at ho hg, scale_eq, mask_eq, tile_select, ← EReal.coe_mul,
      ForwardTile.score_fin scale q k, BackwardTile.up_fin v g]
    simp only [exp_mask, ← EReal.coe_sub, exp_coe, ← EReal.coe_mul, ← coe_sum, ← EReal.coe_add]
    exact congrArg (fun t : ℝ => (t : EReal)) (BackwardTile.gradK_tile scale q k v g L (dots g o) 1280 1536 512 rfl rfl r.val l.val r.isLt)
  case piece6 =>
    obtain ⟨r, l, rfl⟩ := tile_idx y
    rw [h1, h2]
    simp only [
      kernelRun3_A.sl.cst_103, kernelRun3_A.sl.cst_118, kernelRun3_A.sl.cst_349, kernelRun3_A.sl.r_20,
      kernelRun3_A.sl.r_21, kernelRun3_A.sl.v421, kernelRun3_A.sl.v457, kernelRun3_A.sl.v458, kernelRun3_A.sl.v460,
      kernelRun3_A.sl.v462, kernelRun3_A.sl.v463, kernelRun3_A.sl.v464, kernelRun3_A.sl.v465, kernelRun3_A.sl.v466,
      kernelRun3_A.sl.v468, kernelRun3_A.sl.v469, kernelRun3_A.sl.v470, kernelRun3_A.sl.v471, kernelRun3_A.sl.v487,
      kernelRun3_A.sl.v488, kernelRun3_A.sl.v490,
      View.readAt_eq_ld, Memref.IsWhole.read_unread, View.readCov_eq_canon']
    open_payloads
    pointwise
    simp only [hq, hk, hv, hg, hL, delta_at ho hg, scale_eq, mask_eq, tile_select, ← EReal.coe_mul,
      ForwardTile.score_fin scale q k, BackwardTile.up_fin v g]
    simp only [exp_mask, ← EReal.coe_sub, exp_coe, ← EReal.coe_mul, ← coe_sum, ← EReal.coe_add]
    exact congrArg (fun t : ℝ => (t : EReal)) (BackwardTile.gradV_tile scale q k g L 1024 1280 768 rfl rfl r.val l.val r.isLt)
  case piece7 =>
    obtain ⟨r, l, rfl⟩ := tile_idx y
    rw [h1, h2]
    simp only [
      kernelRun3_A.sl.cst_103, kernelRun3_A.sl.cst_117, kernelRun3_A.sl.cst_349, kernelRun3_A.sl.r_18,
      kernelRun3_A.sl.r_19, kernelRun3_A.sl.r_22, kernelRun3_A.sl.v421, kernelRun3_A.sl.v443, kernelRun3_A.sl.v456,
      kernelRun3_A.sl.v460, kernelRun3_A.sl.v462, kernelRun3_A.sl.v463, kernelRun3_A.sl.v464, kernelRun3_A.sl.v465,
      kernelRun3_A.sl.v466, kernelRun3_A.sl.v468, kernelRun3_A.sl.v469, kernelRun3_A.sl.v470, kernelRun3_A.sl.v471,
      kernelRun3_A.sl.v472, kernelRun3_A.sl.v473, kernelRun3_A.sl.v474, kernelRun3_A.sl.v475, kernelRun3_A.sl.v476,
      kernelRun3_A.sl.v478, kernelRun3_A.sl.v479, kernelRun3_A.sl.v486, kernelRun3_A.sl.v489,
      View.readAt_eq_ld, Memref.IsWhole.read_unread, View.readCov_eq_canon']
    open_payloads
    pointwise
    simp only [hq, hk, hv, hg, hL, delta_at ho hg, scale_eq, mask_eq, tile_select, ← EReal.coe_mul,
      ForwardTile.score_fin scale q k, BackwardTile.up_fin v g]
    simp only [exp_mask, ← EReal.coe_sub, exp_coe, ← EReal.coe_mul, ← coe_sum, ← EReal.coe_add]
    exact congrArg (fun t : ℝ => (t : EReal)) (BackwardTile.gradK_tile scale q k v g L (dots g o) 1024 1280 768 rfl rfl r.val l.val r.isLt)
  case piece8 =>
    obtain ⟨r, l, rfl⟩ := tile_idx y
    rw [h1, h2]
    simp only [
      kernelRun3_A.sl.cst_103, kernelRun3_A.sl.cst_118, kernelRun3_A.sl.cst_287, kernelRun3_A.sl.r_12,
      kernelRun3_A.sl.r_15, kernelRun3_A.sl.r_16, kernelRun3_A.sl.r_17, kernelRun3_A.sl.v354, kernelRun3_A.sl.v355,
      kernelRun3_A.sl.v356, kernelRun3_A.sl.v357, kernelRun3_A.sl.v373, kernelRun3_A.sl.v374, kernelRun3_A.sl.v376,
      kernelRun3_A.sl.v378, kernelRun3_A.sl.v379, kernelRun3_A.sl.v380, kernelRun3_A.sl.v381, kernelRun3_A.sl.v382,
      kernelRun3_A.sl.v384, kernelRun3_A.sl.v385, kernelRun3_A.sl.v386, kernelRun3_A.sl.v387, kernelRun3_A.sl.v403,
      kernelRun3_A.sl.v404, kernelRun3_A.sl.v406, kernelRun3_A.sl.v412, kernelRun3_A.sl.v415,
      View.readAt_eq_ld, Memref.IsWhole.read_unread, View.readCov_eq_canon']
    open_payloads
    pointwise
    simp only [hq, hk, hv, hg, hL, delta_at ho hg, scale_eq, mask_eq, tile_select, ← EReal.coe_mul,
      ForwardTile.score_fin scale q k, BackwardTile.up_fin v g]
    simp only [exp_mask, ← EReal.coe_sub, exp_coe, ← EReal.coe_mul, ← coe_sum, ← EReal.coe_add]
    exact congrArg (fun t : ℝ => (t : EReal)) (BackwardTile.gradV_tile scale q k g L 768 1024 1024 rfl rfl r.val l.val r.isLt)
  case piece9 =>
    obtain ⟨r, l, rfl⟩ := tile_idx y
    rw [h1, h2]
    simp only [
      kernelRun3_A.sl.cst_103, kernelRun3_A.sl.cst_117, kernelRun3_A.sl.cst_287, kernelRun3_A.sl.r_12,
      kernelRun3_A.sl.r_13, kernelRun3_A.sl.r_14, kernelRun3_A.sl.r_15, kernelRun3_A.sl.r_16, kernelRun3_A.sl.r_17,
      kernelRun3_A.sl.v195, kernelRun3_A.sl.v354, kernelRun3_A.sl.v355, kernelRun3_A.sl.v356, kernelRun3_A.sl.v357,
      kernelRun3_A.sl.v358, kernelRun3_A.sl.v359, kernelRun3_A.sl.v360, kernelRun3_A.sl.v361, kernelRun3_A.sl.v362,
      kernelRun3_A.sl.v364, kernelRun3_A.sl.v365, kernelRun3_A.sl.v372, kernelRun3_A.sl.v376, kernelRun3_A.sl.v378,
      kernelRun3_A.sl.v379, kernelRun3_A.sl.v380, kernelRun3_A.sl.v381, kernelRun3_A.sl.v382, kernelRun3_A.sl.v384,
      kernelRun3_A.sl.v385, kernelRun3_A.sl.v386, kernelRun3_A.sl.v387, kernelRun3_A.sl.v388, kernelRun3_A.sl.v389,
      kernelRun3_A.sl.v390, kernelRun3_A.sl.v391, kernelRun3_A.sl.v392, kernelRun3_A.sl.v394, kernelRun3_A.sl.v395,
      kernelRun3_A.sl.v402, kernelRun3_A.sl.v405, kernelRun3_A.sl.v407, kernelRun3_A.sl.v408, kernelRun3_A.sl.v411,
      View.readAt_eq_ld, Memref.IsWhole.read_unread, View.readCov_eq_canon']
    open_payloads
    pointwise
    simp only [hq, hk, hv, hg, hL, delta_at ho hg, scale_eq, mask_eq, tile_select, ← EReal.coe_mul,
      ForwardTile.score_fin scale q k, BackwardTile.up_fin v g]
    simp only [exp_mask, ← EReal.coe_sub, exp_coe, ← EReal.coe_mul, ← coe_sum, ← EReal.coe_add]
    exact congrArg (fun t : ℝ => (t : EReal)) (BackwardTile.gradK_tile scale q k v g L (dots g o) 768 1024 1024 rfl rfl r.val l.val r.isLt)
  case piece10 =>
    obtain ⟨r, l, rfl⟩ := tile_idx y
    rw [h1, h2]
    simp only [
      kernelRun3_A.sl.cst_103, kernelRun3_A.sl.cst_118, kernelRun3_A.sl.cst_225, kernelRun3_A.sl.r_9,
      kernelRun3_A.sl.r_11, kernelRun3_A.sl.v253, kernelRun3_A.sl.v290, kernelRun3_A.sl.v292, kernelRun3_A.sl.v294,
      kernelRun3_A.sl.v295, kernelRun3_A.sl.v296, kernelRun3_A.sl.v297, kernelRun3_A.sl.v298, kernelRun3_A.sl.v300,
      kernelRun3_A.sl.v301, kernelRun3_A.sl.v302, kernelRun3_A.sl.v303, kernelRun3_A.sl.v319, kernelRun3_A.sl.v320,
      kernelRun3_A.sl.v322,
      View.readAt_eq_ld, Memref.IsWhole.read_unread, View.readCov_eq_canon']
    open_payloads
    pointwise
    simp only [hq, hk, hv, hg, hL, delta_at ho hg, scale_eq, mask_eq, tile_select, ← EReal.coe_mul,
      ForwardTile.score_fin scale q k, BackwardTile.up_fin v g]
    simp only [exp_mask, ← EReal.coe_sub, exp_coe, ← EReal.coe_mul, ← coe_sum, ← EReal.coe_add]
    exact congrArg (fun t : ℝ => (t : EReal)) (BackwardTile.gradV_tile scale q k g L 512 768 1280 rfl rfl r.val l.val r.isLt)
  case piece11 =>
    obtain ⟨r, l, rfl⟩ := tile_idx y
    rw [h1, h2]
    simp only [
      kernelRun3_A.sl.cst_103, kernelRun3_A.sl.cst_117, kernelRun3_A.sl.cst_225, kernelRun3_A.sl.r_8,
      kernelRun3_A.sl.r_10, kernelRun3_A.sl.v253, kernelRun3_A.sl.v275, kernelRun3_A.sl.v292, kernelRun3_A.sl.v294,
      kernelRun3_A.sl.v295, kernelRun3_A.sl.v296, kernelRun3_A.sl.v297, kernelRun3_A.sl.v298, kernelRun3_A.sl.v300,
      kernelRun3_A.sl.v301, kernelRun3_A.sl.v302, kernelRun3_A.sl.v303, kernelRun3_A.sl.v304, kernelRun3_A.sl.v305,
      kernelRun3_A.sl.v306, kernelRun3_A.sl.v307, kernelRun3_A.sl.v308, kernelRun3_A.sl.v310, kernelRun3_A.sl.v311,
      kernelRun3_A.sl.v318, kernelRun3_A.sl.v321, kernelRun3_A.sl.v323, kernelRun3_A.sl.v324,
      View.readAt_eq_ld, Memref.IsWhole.read_unread, View.readCov_eq_canon']
    open_payloads
    pointwise
    simp only [hq, hk, hv, hg, hL, delta_at ho hg, scale_eq, mask_eq, tile_select, ← EReal.coe_mul,
      ForwardTile.score_fin scale q k, BackwardTile.up_fin v g]
    simp only [exp_mask, ← EReal.coe_sub, exp_coe, ← EReal.coe_mul, ← coe_sum, ← EReal.coe_add]
    exact congrArg (fun t : ℝ => (t : EReal)) (BackwardTile.gradK_tile scale q k v g L (dots g o) 512 768 1280 rfl rfl r.val l.val r.isLt)
  case piece12 =>
    obtain ⟨r, l, rfl⟩ := tile_idx y
    rw [h1, h2]
    simp only [
      kernelRun3_A.sl.cst_103, kernelRun3_A.sl.cst_118, kernelRun3_A.sl.cst_163, kernelRun3_A.sl.r_2,
      kernelRun3_A.sl.r_5, kernelRun3_A.sl.r_6, kernelRun3_A.sl.r_7, kernelRun3_A.sl.v188, kernelRun3_A.sl.v189,
      kernelRun3_A.sl.v205, kernelRun3_A.sl.v206, kernelRun3_A.sl.v208, kernelRun3_A.sl.v210, kernelRun3_A.sl.v211,
      kernelRun3_A.sl.v212, kernelRun3_A.sl.v213, kernelRun3_A.sl.v214, kernelRun3_A.sl.v216, kernelRun3_A.sl.v217,
      kernelRun3_A.sl.v218, kernelRun3_A.sl.v219, kernelRun3_A.sl.v235, kernelRun3_A.sl.v236, kernelRun3_A.sl.v238,
      kernelRun3_A.sl.v244, kernelRun3_A.sl.v247,
      View.readAt_eq_ld, Memref.IsWhole.read_unread, View.readCov_eq_canon']
    open_payloads
    pointwise
    simp only [hq, hk, hv, hg, hL, delta_at ho hg, scale_eq, mask_eq, tile_select, ← EReal.coe_mul,
      ForwardTile.score_fin scale q k, BackwardTile.up_fin v g]
    simp only [exp_mask, ← EReal.coe_sub, exp_coe, ← EReal.coe_mul, ← coe_sum, ← EReal.coe_add]
    exact congrArg (fun t : ℝ => (t : EReal)) (BackwardTile.gradV_tile scale q k g L 256 512 1536 rfl rfl r.val l.val r.isLt)
  case piece13 =>
    obtain ⟨r, l, rfl⟩ := tile_idx y
    rw [h1, h2]
    simp only [
      kernelRun3_A.sl.cst_103, kernelRun3_A.sl.cst_117, kernelRun3_A.sl.cst_163, kernelRun3_A.sl.r_2,
      kernelRun3_A.sl.r_3, kernelRun3_A.sl.r_4, kernelRun3_A.sl.r_5, kernelRun3_A.sl.r_6, kernelRun3_A.sl.r_7,
      kernelRun3_A.sl.v188, kernelRun3_A.sl.v189, kernelRun3_A.sl.v190, kernelRun3_A.sl.v191, kernelRun3_A.sl.v192,
      kernelRun3_A.sl.v193, kernelRun3_A.sl.v194, kernelRun3_A.sl.v195, kernelRun3_A.sl.v196, kernelRun3_A.sl.v197,
      kernelRun3_A.sl.v204, kernelRun3_A.sl.v208, kernelRun3_A.sl.v210, kernelRun3_A.sl.v211, kernelRun3_A.sl.v212,
      kernelRun3_A.sl.v213, kernelRun3_A.sl.v214, kernelRun3_A.sl.v216, kernelRun3_A.sl.v217, kernelRun3_A.sl.v218,
      kernelRun3_A.sl.v219, kernelRun3_A.sl.v220, kernelRun3_A.sl.v221, kernelRun3_A.sl.v222, kernelRun3_A.sl.v223,
      kernelRun3_A.sl.v224, kernelRun3_A.sl.v226, kernelRun3_A.sl.v227, kernelRun3_A.sl.v234, kernelRun3_A.sl.v237,
      kernelRun3_A.sl.v239, kernelRun3_A.sl.v240, kernelRun3_A.sl.v243,
      View.readAt_eq_ld, Memref.IsWhole.read_unread, View.readCov_eq_canon']
    open_payloads
    pointwise
    simp only [hq, hk, hv, hg, hL, delta_at ho hg, scale_eq, mask_eq, tile_select, ← EReal.coe_mul,
      ForwardTile.score_fin scale q k, BackwardTile.up_fin v g]
    simp only [exp_mask, ← EReal.coe_sub, exp_coe, ← EReal.coe_mul, ← coe_sum, ← EReal.coe_add]
    exact congrArg (fun t : ℝ => (t : EReal)) (BackwardTile.gradK_tile scale q k v g L (dots g o) 256 512 1536 rfl rfl r.val l.val r.isLt)
  case piece14 =>
    obtain ⟨r, l, rfl⟩ := tile_idx y
    rw [h1, h2]
    simp only [
      kernelRun3_A.sl.cst_102, kernelRun3_A.sl.cst_103, kernelRun3_A.sl.cst_118, kernelRun3_A.sl.r_1,
      kernelRun3_A.sl.v85, kernelRun3_A.sl.v124, kernelRun3_A.sl.v126, kernelRun3_A.sl.v127, kernelRun3_A.sl.v128,
      kernelRun3_A.sl.v129, kernelRun3_A.sl.v130, kernelRun3_A.sl.v132, kernelRun3_A.sl.v133, kernelRun3_A.sl.v134,
      kernelRun3_A.sl.v135, kernelRun3_A.sl.v151, kernelRun3_A.sl.v152, kernelRun3_A.sl.v154,
      View.readAt_eq_ld, Memref.IsWhole.read_unread, View.readCov_eq_canon']
    open_payloads
    pointwise
    simp only [hq, hk, hv, hg, hL, delta_at ho hg, scale_eq, mask_eq, tile_select, ← EReal.coe_mul,
      ForwardTile.score_fin scale q k, BackwardTile.up_fin v g]
    simp only [exp_mask, ← EReal.coe_sub, exp_coe, ← EReal.coe_mul, ← coe_sum, ← EReal.coe_add]
    exact congrArg (fun t : ℝ => (t : EReal)) (BackwardTile.gradV_first scale q k g L r.val l.val r.isLt)
  case piece15 =>
    obtain ⟨r, l, rfl⟩ := tile_idx y
    rw [h1, h2]
    simp only [
      kernelRun3_A.sl.cst_102, kernelRun3_A.sl.cst_103, kernelRun3_A.sl.cst_117, kernelRun3_A.sl.r,
      kernelRun3_A.sl.v85, kernelRun3_A.sl.v87, kernelRun3_A.sl.v107, kernelRun3_A.sl.v124, kernelRun3_A.sl.v126,
      kernelRun3_A.sl.v127, kernelRun3_A.sl.v128, kernelRun3_A.sl.v129, kernelRun3_A.sl.v130, kernelRun3_A.sl.v132,
      kernelRun3_A.sl.v133, kernelRun3_A.sl.v134, kernelRun3_A.sl.v135, kernelRun3_A.sl.v136, kernelRun3_A.sl.v137,
      kernelRun3_A.sl.v138, kernelRun3_A.sl.v139, kernelRun3_A.sl.v140, kernelRun3_A.sl.v142, kernelRun3_A.sl.v143,
      kernelRun3_A.sl.v150, kernelRun3_A.sl.v153, kernelRun3_A.sl.v155, kernelRun3_A.sl.v156,
      View.readAt_eq_ld, Memref.IsWhole.read_unread, View.readCov_eq_canon']
    open_payloads
    pointwise
    simp only [hq, hk, hv, hg, hL, delta_at ho hg, scale_eq, mask_eq, tile_select, ← EReal.coe_mul,
      ForwardTile.score_fin scale q k, BackwardTile.up_fin v g]
    simp only [exp_mask, ← EReal.coe_sub, exp_coe, ← EReal.coe_mul, ← coe_sum, ← EReal.coe_add]
    exact congrArg (fun t : ℝ => (t : EReal)) (BackwardTile.gradK_first scale q k v g L (dots g o) r.val l.val r.isLt)
  case h => exact cover3_A_9 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7

end Cert.KernelValue

end
-- ==== Proof.BackwardShared.lean ====
/- The backward pass of one head: its part of the shared key's gradient, as the kernel leaves it in its block. -/
module

public import proofs.«01_k».proof.Proof.BackwardRows

@[expose] public section

set_option maxRecDepth 16384

noncomputable section

namespace Cert.KernelValue

open Cert.KernelIdeal Cert.KernelIdeal.Gen Cert.Reals Cert.Attention
open Idealize.ShloMosaic Idealize.ShloMosaic.TcCoe Idealize.ShloMosaic.Tactic

variable {c : Dev nD} {i : grid3.Coords}
  {arg2 : Memref sig .tc .vmem S1x2048x256 .bf16} {harg2 : arg2.IsWhole}
  {arg3 : Memref sig .tc .vmem S1x2048x256 .bf16} {harg3 : arg3.IsWhole}
  {arg4 : Memref sig .tc .vmem S1x2048x128 .bf16} {harg4 : arg4.IsWhole}
  {arg5 : Memref sig .tc .vmem S1x2048x128 .f32} {harg5 : arg5.IsWhole}
  {arg6 : Memref sig .tc .vmem S1x2048x128 .f32} {harg6 : arg6.IsWhole}
  {arg7 : Memref sig .tc .vmem S1x1x2048x1 .f32} {harg7 : arg7.IsWhole}
  {arg8 : Memref sig .tc .vmem S1x2048x128 .f32} {harg8 : arg8.IsWhole}
  {arg9 : Memref sig .tc .vmem S1x2048x128 .f32} {harg9 : arg9.IsWhole}
  {arg10 : Memref sig .tc .vmem S1x2048x256 .bf16} {harg10 : arg10.IsWhole}
  {arg11 : Memref sig .tc .vmem S1x2048x256 .bf16} {harg11 : arg11.IsWhole}
  {arg12 : Memref sig .tc .vmem S1x2048x128 .f32} {harg12 : arg12.IsWhole}
  {arg13 : Memref sig .tc .vmem S2048x1 .f32}
  {arg14 : Memref sig .tc .vmem S2048x256 .f32}
  {harg13 : arg13.IsWhole} {harg14 : arg14.IsWhole}
  {x0 : Vec Ideal S1x2048x256 .bf16}
  {x1 : Vec Ideal S1x2048x256 .bf16}
  {x2 : Vec Ideal S1x2048x128 .bf16}
  {x3 : Vec Ideal S1x2048x128 .f32}
  {x4 : Vec Ideal S1x2048x128 .f32}
  {x5 : Vec Ideal S1x1x2048x1 .f32}
  {x6 : Vec Ideal S1x2048x128 .f32}
  {x7 : Vec Ideal S1x2048x128 .f32}
  {q k v o g : ℕ → ℕ → ℝ} {L : ℕ → ℝ} (hq : ∀ r l, x0 (ix3 0 r l) = (q r.val l.val : EReal))
  (hk : ∀ r l, x1 (ix3 0 r l) = (k r.val l.val : EReal)) (hv : ∀ r l, x2 (ix3 0 r l) = (v r.val l.val : EReal))
  (ho : ∀ r l, x3 (ix3 0 r l) = (o r.val l.val : EReal)) (hg : ∀ r l, x4 (ix3 0 r l) = (g r.val l.val : EReal))
  (hL : ∀ r, x5 (ix4 0 0 r 0) = (L r.val : EReal))
include hq hk hv ho hg hL

set_option maxHeartbeats 16000000 in
/-- The block of the gradient by the keys' last 128 lanes. -/
theorem out3_10_at (y : S1x2048x128.Idx) :
    out3_A_10 c i arg2 harg2 arg3 harg3 arg4 harg4 arg5 harg5 arg6 harg6 arg7 harg7 arg8 harg8 arg9 harg9 arg10 harg10 arg11 harg11
      arg12 harg12 arg13 harg13 arg14 harg14 x0 x1 x2 x3 x4 x5 x6 x7 y
      = ((gradK q (Cert.Attention.slope scale v g (again scale q k L) (dots g o)) (y 1).val
          (128 + (y 2).val) : ℝ) : EReal) := by
  unfold out3_A_10
  rw [View.read_writes_eq_canon]
  unfold kernelRun3_A; dsimp only
  canon_tiles y h
  case piece0 =>
    obtain ⟨r, l, rfl⟩ := tile_idx y
    rw [h1, h2]
    simp only [
      kernelRun3_A.sl.cst_103, kernelRun3_A.sl.cst_117, kernelRun3_A.sl.r_37, kernelRun3_A.sl.r_38,
      kernelRun3_A.sl.r_39, kernelRun3_A.sl.r_40, kernelRun3_A.sl.v195, kernelRun3_A.sl.v636, kernelRun3_A.sl.v637,
      kernelRun3_A.sl.v641, kernelRun3_A.sl.v642, kernelRun3_A.sl.v692, kernelRun3_A.sl.v693, kernelRun3_A.sl.v694,
      kernelRun3_A.sl.v697, kernelRun3_A.sl.v698, kernelRun3_A.sl.v700, kernelRun3_A.sl.v701, kernelRun3_A.sl.v708,
      kernelRun3_A.sl.v720, kernelRun3_A.sl.v723,
      View.readAt_eq_ld, Memref.IsWhole.read_unread, View.readCov_eq_canon']
    open_payloads
    pointwise
    simp only [hq, hk, hv, hg, hL, delta_at ho hg, scale_eq, mask_eq, tile_select, ← EReal.coe_mul,
      ForwardTile.score_fin scale q k, BackwardTile.up_fin v g]
    simp only [exp_mask, ← EReal.coe_sub, exp_coe, ← EReal.coe_mul, ← coe_sum, ← EReal.coe_add]
    exact congrArg (fun t : ℝ => (t : EReal)) (BackwardTile.gradK_last scale q k v g L (dots g o) r.val (128 + l.val) r.isLt)
  case piece1 =>
    obtain ⟨r, l, rfl⟩ := tile_idx y
    rw [h1, h2]
    simp only [
      kernelRun3_A.sl.cst_103, kernelRun3_A.sl.cst_117, kernelRun3_A.sl.r_28, kernelRun3_A.sl.r_29,
      kernelRun3_A.sl.r_30, kernelRun3_A.sl.r_31, kernelRun3_A.sl.r_34, kernelRun3_A.sl.v71, kernelRun3_A.sl.v195,
      kernelRun3_A.sl.v611, kernelRun3_A.sl.v624, kernelRun3_A.sl.v628, kernelRun3_A.sl.v631, kernelRun3_A.sl.v632,
      kernelRun3_A.sl.v634, kernelRun3_A.sl.v636, kernelRun3_A.sl.v637, kernelRun3_A.sl.v638, kernelRun3_A.sl.v639,
      kernelRun3_A.sl.v640, kernelRun3_A.sl.v641, kernelRun3_A.sl.v642, kernelRun3_A.sl.v643, kernelRun3_A.sl.v644,
      kernelRun3_A.sl.v646, kernelRun3_A.sl.v647, kernelRun3_A.sl.v654,
      View.readAt_eq_ld, Memref.IsWhole.read_unread, View.readCov_eq_canon']
    open_payloads
    pointwise
    simp only [hq, hk, hv, hg, hL, delta_at ho hg, scale_eq, mask_eq, tile_select, ← EReal.coe_mul,
      ForwardTile.score_fin scale q k, BackwardTile.up_fin v g]
    simp only [exp_mask, ← EReal.coe_sub, exp_coe, ← EReal.coe_mul, ← coe_sum, ← EReal.coe_add]
    exact congrArg (fun t : ℝ => (t : EReal)) (BackwardTile.gradK_tile scale q k v g L (dots g o) 1536 1792 256 rfl rfl r.val (128 + l.val) r.isLt)
  case piece2 =>
    obtain ⟨r, l, rfl⟩ := tile_idx y
    rw [h1, h2]
    simp only [
      kernelRun3_A.sl.cst_103, kernelRun3_A.sl.cst_117, kernelRun3_A.sl.cst_411, kernelRun3_A.sl.r_23,
      kernelRun3_A.sl.r_24, kernelRun3_A.sl.r_25, kernelRun3_A.sl.r_26, kernelRun3_A.sl.r_27, kernelRun3_A.sl.v195,
      kernelRun3_A.sl.v522, kernelRun3_A.sl.v523, kernelRun3_A.sl.v524, kernelRun3_A.sl.v525, kernelRun3_A.sl.v526,
      kernelRun3_A.sl.v527, kernelRun3_A.sl.v528, kernelRun3_A.sl.v529, kernelRun3_A.sl.v530, kernelRun3_A.sl.v532,
      kernelRun3_A.sl.v533, kernelRun3_A.sl.v540, kernelRun3_A.sl.v544, kernelRun3_A.sl.v546, kernelRun3_A.sl.v547,
      kernelRun3_A.sl.v548, kernelRun3_A.sl.v549, kernelRun3_A.sl.v550, kernelRun3_A.sl.v552, kernelRun3_A.sl.v553,
      kernelRun3_A.sl.v554, kernelRun3_A.sl.v555, kernelRun3_A.sl.v556, kernelRun3_A.sl.v557, kernelRun3_A.sl.v558,
      kernelRun3_A.sl.v559, kernelRun3_A.sl.v560, kernelRun3_A.sl.v562, kernelRun3_A.sl.v563, kernelRun3_A.sl.v570,
      kernelRun3_A.sl.v573, kernelRun3_A.sl.v584, kernelRun3_A.sl.v587,
      View.readAt_eq_ld, Memref.IsWhole.read_unread, View.readCov_eq_canon']
    open_payloads
    pointwise
    simp only [hq, hk, hv, hg, hL, delta_at ho hg, scale_eq, mask_eq, tile_select, ← EReal.coe_mul,
      ForwardTile.score_fin scale q k, BackwardTile.up_fin v g]
    simp only [exp_mask, ← EReal.coe_sub, exp_coe, ← EReal.coe_mul, ← coe_sum, ← EReal.coe_add]
    exact congrArg (fun t : ℝ => (t : EReal)) (BackwardTile.gradK_tile scale q k v g L (dots g o) 1280 1536 512 rfl rfl r.val (128 + l.val) r.isLt)
  case piece3 =>
    obtain ⟨r, l, rfl⟩ := tile_idx y
    rw [h1, h2]
    simp only [
      kernelRun3_A.sl.cst_103, kernelRun3_A.sl.cst_117, kernelRun3_A.sl.cst_349, kernelRun3_A.sl.r_18,
      kernelRun3_A.sl.r_19, kernelRun3_A.sl.r_22, kernelRun3_A.sl.v421, kernelRun3_A.sl.v443, kernelRun3_A.sl.v456,
      kernelRun3_A.sl.v460, kernelRun3_A.sl.v462, kernelRun3_A.sl.v463, kernelRun3_A.sl.v464, kernelRun3_A.sl.v465,
      kernelRun3_A.sl.v466, kernelRun3_A.sl.v468, kernelRun3_A.sl.v469, kernelRun3_A.sl.v470, kernelRun3_A.sl.v471,
      kernelRun3_A.sl.v472, kernelRun3_A.sl.v473, kernelRun3_A.sl.v474, kernelRun3_A.sl.v475, kernelRun3_A.sl.v476,
      kernelRun3_A.sl.v478, kernelRun3_A.sl.v479, kernelRun3_A.sl.v486, kernelRun3_A.sl.v489,
      View.readAt_eq_ld, Memref.IsWhole.read_unread, View.readCov_eq_canon']
    open_payloads
    pointwise
    simp only [hq, hk, hv, hg, hL, delta_at ho hg, scale_eq, mask_eq, tile_select, ← EReal.coe_mul,
      ForwardTile.score_fin scale q k, BackwardTile.up_fin v g]
    simp only [exp_mask, ← EReal.coe_sub, exp_coe, ← EReal.coe_mul, ← coe_sum, ← EReal.coe_add]
    exact congrArg (fun t : ℝ => (t : EReal)) (BackwardTile.gradK_tile scale q k v g L (dots g o) 1024 1280 768 rfl rfl r.val (128 + l.val) r.isLt)
  case piece4 =>
    obtain ⟨r, l, rfl⟩ := tile_idx y
    rw [h1, h2]
    simp only [
      kernelRun3_A.sl.cst_103, kernelRun3_A.sl.cst_117, kernelRun3_A.sl.cst_287, kernelRun3_A.sl.r_12,
      kernelRun3_A.sl.r_13, kernelRun3_A.sl.r_14, kernelRun3_A.sl.r_15, kernelRun3_A.sl.r_16, kernelRun3_A.sl.r_17,
      kernelRun3_A.sl.v195, kernelRun3_A.sl.v354, kernelRun3_A.sl.v355, kernelRun3_A.sl.v356, kernelRun3_A.sl.v357,
      kernelRun3_A.sl.v358, kernelRun3_A.sl.v359, kernelRun3_A.sl.v360, kernelRun3_A.sl.v361, kernelRun3_A.sl.v362,
      kernelRun3_A.sl.v364, kernelRun3_A.sl.v365, kernelRun3_A.sl.v372, kernelRun3_A.sl.v376, kernelRun3_A.sl.v378,
      kernelRun3_A.sl.v379, kernelRun3_A.sl.v380, kernelRun3_A.sl.v381, kernelRun3_A.sl.v382, kernelRun3_A.sl.v384,
      kernelRun3_A.sl.v385, kernelRun3_A.sl.v386, kernelRun3_A.sl.v387, kernelRun3_A.sl.v388, kernelRun3_A.sl.v389,
      kernelRun3_A.sl.v390, kernelRun3_A.sl.v391, kernelRun3_A.sl.v392, kernelRun3_A.sl.v394, kernelRun3_A.sl.v395,
      kernelRun3_A.sl.v402, kernelRun3_A.sl.v405, kernelRun3_A.sl.v416, kernelRun3_A.sl.v419,
      View.readAt_eq_ld, Memref.IsWhole.read_unread, View.readCov_eq_canon']
    open_payloads
    pointwise
    simp only [hq, hk, hv, hg, hL, delta_at ho hg, scale_eq, mask_eq, tile_select, ← EReal.coe_mul,
      ForwardTile.score_fin scale q k, BackwardTile.up_fin v g]
    simp only [exp_mask, ← EReal.coe_sub, exp_coe, ← EReal.coe_mul, ← coe_sum, ← EReal.coe_add]
    exact congrArg (fun t : ℝ => (t : EReal)) (BackwardTile.gradK_tile scale q k v g L (dots g o) 768 1024 1024 rfl rfl r.val (128 + l.val) r.isLt)
  case piece5 =>
    obtain ⟨r, l, rfl⟩ := tile_idx y
    rw [h1, h2]
    simp only [
      kernelRun3_A.sl.cst_103, kernelRun3_A.sl.cst_117, kernelRun3_A.sl.cst_225, kernelRun3_A.sl.r_8,
      kernelRun3_A.sl.r_10, kernelRun3_A.sl.v253, kernelRun3_A.sl.v275, kernelRun3_A.sl.v292, kernelRun3_A.sl.v294,
      kernelRun3_A.sl.v295, kernelRun3_A.sl.v296, kernelRun3_A.sl.v297, kernelRun3_A.sl.v298, kernelRun3_A.sl.v300,
      kernelRun3_A.sl.v301, kernelRun3_A.sl.v302, kernelRun3_A.sl.v303, kernelRun3_A.sl.v304, kernelRun3_A.sl.v305,
      kernelRun3_A.sl.v306, kernelRun3_A.sl.v307, kernelRun3_A.sl.v308, kernelRun3_A.sl.v310, kernelRun3_A.sl.v311,
      kernelRun3_A.sl.v318, kernelRun3_A.sl.v321,
      View.readAt_eq_ld, Memref.IsWhole.read_unread, View.readCov_eq_canon']
    open_payloads
    pointwise
    simp only [hq, hk, hv, hg, hL, delta_at ho hg, scale_eq, mask_eq, tile_select, ← EReal.coe_mul,
      ForwardTile.score_fin scale q k, BackwardTile.up_fin v g]
    simp only [exp_mask, ← EReal.coe_sub, exp_coe, ← EReal.coe_mul, ← coe_sum, ← EReal.coe_add]
    exact congrArg (fun t : ℝ => (t : EReal)) (BackwardTile.gradK_tile scale q k v g L (dots g o) 512 768 1280 rfl rfl r.val (128 + l.val) r.isLt)
  case piece6 =>
    obtain ⟨r, l, rfl⟩ := tile_idx y
    rw [h1, h2]
    simp only [
      kernelRun3_A.sl.cst_103, kernelRun3_A.sl.cst_117, kernelRun3_A.sl.cst_163, kernelRun3_A.sl.r_2,
      kernelRun3_A.sl.r_3, kernelRun3_A.sl.r_4, kernelRun3_A.sl.r_5, kernelRun3_A.sl.r_6, kernelRun3_A.sl.r_7,
      kernelRun3_A.sl.v188, kernelRun3_A.sl.v189, kernelRun3_A.sl.v190, kernelRun3_A.sl.v191, kernelRun3_A.sl.v192,
      kernelRun3_A.sl.v193, kernelRun3_A.sl.v194, kernelRun3_A.sl.v195, kernelRun3_A.sl.v196, kernelRun3_A.sl.v197,
      kernelRun3_A.sl.v204, kernelRun3_A.sl.v208, kernelRun3_A.sl.v210, kernelRun3_A.sl.v211, kernelRun3_A.sl.v212,
      kernelRun3_A.sl.v213, kernelRun3_A.sl.v214, kernelRun3_A.sl.v216, kernelRun3_A.sl.v217, kernelRun3_A.sl.v218,
      kernelRun3_A.sl.v219, kernelRun3_A.sl.v220, kernelRun3_A.sl.v221, kernelRun3_A.sl.v222, kernelRun3_A.sl.v223,
      kernelRun3_A.sl.v224, kernelRun3_A.sl.v226, kernelRun3_A.sl.v227, kernelRun3_A.sl.v234, kernelRun3_A.sl.v237,
      kernelRun3_A.sl.v248, kernelRun3_A.sl.v251,
      View.readAt_eq_ld, Memref.IsWhole.read_unread, View.readCov_eq_canon']
    open_payloads
    pointwise
    simp only [hq, hk, hv, hg, hL, delta_at ho hg, scale_eq, mask_eq, tile_select, ← EReal.coe_mul,
      ForwardTile.score_fin scale q k, BackwardTile.up_fin v g]
    simp only [exp_mask, ← EReal.coe_sub, exp_coe, ← EReal.coe_mul, ← coe_sum, ← EReal.coe_add]
    exact congrArg (fun t : ℝ => (t : EReal)) (BackwardTile.gradK_tile scale q k v g L (dots g o) 256 512 1536 rfl rfl r.val (128 + l.val) r.isLt)
  case piece7 =>
    obtain ⟨r, l, rfl⟩ := tile_idx y
    rw [h1, h2]
    simp only [
      kernelRun3_A.sl.cst_102, kernelRun3_A.sl.cst_103, kernelRun3_A.sl.cst_117, kernelRun3_A.sl.r,
      kernelRun3_A.sl.v85, kernelRun3_A.sl.v87, kernelRun3_A.sl.v107, kernelRun3_A.sl.v124, kernelRun3_A.sl.v126,
      kernelRun3_A.sl.v127, kernelRun3_A.sl.v128, kernelRun3_A.sl.v129, kernelRun3_A.sl.v130, kernelRun3_A.sl.v132,
      kernelRun3_A.sl.v133, kernelRun3_A.sl.v134, kernelRun3_A.sl.v135, kernelRun3_A.sl.v136, kernelRun3_A.sl.v137,
      kernelRun3_A.sl.v138, kernelRun3_A.sl.v139, kernelRun3_A.sl.v140, kernelRun3_A.sl.v142, kernelRun3_A.sl.v143,
      kernelRun3_A.sl.v150, kernelRun3_A.sl.v153,
      View.readAt_eq_ld, Memref.IsWhole.read_unread, View.readCov_eq_canon']
    open_payloads
    pointwise
    simp only [hq, hk, hv, hg, hL, delta_at ho hg, scale_eq, mask_eq, tile_select, ← EReal.coe_mul,
      ForwardTile.score_fin scale q k, BackwardTile.up_fin v g]
    simp only [exp_mask, ← EReal.coe_sub, exp_coe, ← EReal.coe_mul, ← coe_sum, ← EReal.coe_add]
    exact congrArg (fun t : ℝ => (t : EReal)) (BackwardTile.gradK_first scale q k v g L (dots g o) r.val (128 + l.val) r.isLt)
  case h => exact cover3_A_10 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7

end Cert.KernelValue

end
-- ==== Proof.ForwardOut.lean ====
/- One head's forward pass: the output block the kernel stores is the attention of its blocks. -/
module

public import proofs.«01_k».proof.Proof.Tile

@[expose] public section

set_option maxRecDepth 16384

noncomputable section

namespace Cert.KernelValue

open Cert.KernelIdeal Cert.KernelIdeal.Gen Cert.Reals Cert.Attention
open Idealize.ShloMosaic Idealize.ShloMosaic.TcCoe Idealize.ShloMosaic.Tactic

variable {x0 : Vec Ideal S1x2048x256 .bf16} {x1 : Vec Ideal S1x2048x256 .bf16} {x2 : Vec Ideal S1x2048x128 .bf16}
  {q k v : ℕ → ℕ → ℝ} (hq : ∀ r l, x0 (ix3 0 r l) = (q r.val l.val : EReal))
  (hk : ∀ r l, x1 (ix3 0 r l) = (k r.val l.val : EReal)) (hv : ∀ r l, x2 (ix3 0 r l) = (v r.val l.val : EReal))
include hq hk hv

set_option maxHeartbeats 4000000 in
/-- The output block. -/
theorem out2_3_at (y : S1x2048x128.Idx) : out2_3 x0 x1 x2 y = ((mix scale q k v (y 1).val (y 2).val : ℝ) : EReal) := by
  canon_tiles x h using cover2_3 ..
  case piece0 =>
    rw [h1, h2]
    obtain ⟨r, l, rfl⟩ := tile_idx x
    open_payloads
    pointwise
    simp only [hq, hk, hv, scale_eq, negInf_eq, mask_eq, tile_select, ← EReal.coe_mul, ForwardTile.score_fin scale q k]
    exact ForwardTile.out_later scale q k v 1792 r.val (by omega) l.val rfl r.isLt (by omega)
  case piece1 =>
    rw [h1, h2]
    obtain ⟨r, l, rfl⟩ := tile_idx x
    open_payloads
    pointwise
    simp only [hq, hk, hv, scale_eq, negInf_eq, mask_eq, tile_select, ← EReal.coe_mul, ForwardTile.score_fin scale q k]
    exact ForwardTile.out_later scale q k v 1536 r.val (by omega) l.val rfl r.isLt (by omega)
  case piece2 =>
    rw [h1, h2]
    obtain ⟨r, l, rfl⟩ := tile_idx x
    open_payloads
    pointwise
    simp only [hq, hk, hv, scale_eq, negInf_eq, mask_eq, tile_select, ← EReal.coe_mul, ForwardTile.score_fin scale q k]
    exact ForwardTile.out_later scale q k v 1280 r.val (by omega) l.val rfl r.isLt (by omega)
  case piece3 =>
    rw [h1, h2]
    obtain ⟨r, l, rfl⟩ := tile_idx x
    open_payloads
    pointwise
    simp only [hq, hk, hv, scale_eq, negInf_eq, mask_eq, tile_select, ← EReal.coe_mul, ForwardTile.score_fin scale q k]
    exact ForwardTile.out_later scale q k v 1024 r.val (by omega) l.val rfl r.isLt (by omega)
  case piece4 =>
    rw [h1, h2]
    obtain ⟨r, l, rfl⟩ := tile_idx x
    open_payloads
    pointwise
    simp only [hq, hk, hv, scale_eq, negInf_eq, mask_eq, tile_select, ← EReal.coe_mul, ForwardTile.score_fin scale q k]
    exact ForwardTile.out_later scale q k v 768 r.val (by omega) l.val rfl r.isLt (by omega)
  case piece5 =>
    rw [h1, h2]
    obtain ⟨r, l, rfl⟩ := tile_idx x
    open_payloads
    pointwise
    simp only [hq, hk, hv, scale_eq, negInf_eq, mask_eq, tile_select, ← EReal.coe_mul, ForwardTile.score_fin scale q k]
    exact ForwardTile.out_later scale q k v 512 r.val (by omega) l.val rfl r.isLt (by omega)
  case piece6 =>
    rw [h1, h2]
    obtain ⟨r, l, rfl⟩ := tile_idx x
    open_payloads
    pointwise
    simp only [hq, hk, hv, scale_eq, negInf_eq, mask_eq, tile_select, ← EReal.coe_mul, ForwardTile.score_fin scale q k]
    exact ForwardTile.out_later scale q k v 256 r.val (by omega) l.val rfl r.isLt (by omega)
  case piece7 =>
    rw [h1, h2]
    obtain ⟨r, l, rfl⟩ := tile_idx x
    open_payloads
    pointwise
    simp only [hq, hk, hv, scale_eq, negInf_eq, mask_eq, tile_select, ← EReal.coe_mul, ForwardTile.score_fin scale q k]
    have h := ForwardTile.out_first scale q k v r.val l.val r.isLt rfl
    rw [ForwardTile.own_first] at h
    exact h

end Cert.KernelValue

end
-- ==== Proof.ForwardLog.lean ====
/- One head's forward pass: the logarithms of the rows' masses, which the kernel stores beside its output. -/
module

public import proofs.«01_k».proof.Proof.Tile

@[expose] public section

set_option maxRecDepth 16384

noncomputable section

namespace Cert.KernelValue

open Cert.KernelIdeal Cert.KernelIdeal.Gen Cert.Reals Cert.Attention
open Idealize.ShloMosaic Idealize.ShloMosaic.TcCoe Idealize.ShloMosaic.Tactic

variable {x0 : Vec Ideal S1x2048x256 .bf16} {x1 : Vec Ideal S1x2048x256 .bf16} {x2 : Vec Ideal S1x2048x128 .bf16}
  {q k v : ℕ → ℕ → ℝ} (hq : ∀ r l, x0 (ix3 0 r l) = (q r.val l.val : EReal))
  (hk : ∀ r l, x1 (ix3 0 r l) = (k r.val l.val : EReal)) (hv : ∀ r l, x2 (ix3 0 r l) = (v r.val l.val : EReal))
include hq hk hv

set_option maxHeartbeats 4000000 in
/-- The logarithms' block. -/
theorem out2_4_at (y : S1x1x2048x1.Idx) : out2_4 x0 x1 x2 y = ((lse scale q k (y 2).val : ℝ) : EReal) := by
  canon_tiles x h using cover2_4 ..
  case piece0 =>
    rw [h2]
    obtain ⟨r, rfl⟩ := column_idx x
    open_payloads
    pointwise
    simp only [hq, hk, hv, scale_eq, negInf_eq, mask_eq, tile_select, ← EReal.coe_mul, ForwardTile.score_fin scale q k]
    exact ForwardTile.log_later scale q k 1792 r.val (by omega) rfl r.isLt (by omega)
  case piece1 =>
    rw [h2]
    obtain ⟨r, rfl⟩ := column_idx x
    open_payloads
    pointwise
    simp only [hq, hk, hv, scale_eq, negInf_eq, mask_eq, tile_select, ← EReal.coe_mul, ForwardTile.score_fin scale q k]
    exact ForwardTile.log_later scale q k 1536 r.val (by omega) rfl r.isLt (by omega)
  case piece2 =>
    rw [h2]
    obtain ⟨r, rfl⟩ := column_idx x
    open_payloads
    pointwise
    simp only [hq, hk, hv, scale_eq, negInf_eq, mask_eq, tile_select, ← EReal.coe_mul, ForwardTile.score_fin scale q k]
    exact ForwardTile.log_later scale q k 1280 r.val (by omega) rfl r.isLt (by omega)
  case piece3 =>
    rw [h2]
    obtain ⟨r, rfl⟩ := column_idx x
    open_payloads
    pointwise
    simp only [hq, hk, hv, scale_eq, negInf_eq, mask_eq, tile_select, ← EReal.coe_mul, ForwardTile.score_fin scale q k]
    exact ForwardTile.log_later scale q k 1024 r.val (by omega) rfl r.isLt (by omega)
  case piece4 =>
    rw [h2]
    obtain ⟨r, rfl⟩ := column_idx x
    open_payloads
    pointwise
    simp only [hq, hk, hv, scale_eq, negInf_eq, mask_eq, tile_select, ← EReal.coe_mul, ForwardTile.score_fin scale q k]
    exact ForwardTile.log_later scale q k 768 r.val (by omega) rfl r.isLt (by omega)
  case piece5 =>
    rw [h2]
    obtain ⟨r, rfl⟩ := column_idx x
    open_payloads
    pointwise
    simp only [hq, hk, hv, scale_eq, negInf_eq, mask_eq, tile_select, ← EReal.coe_mul, ForwardTile.score_fin scale q k]
    exact ForwardTile.log_later scale q k 512 r.val (by omega) rfl r.isLt (by omega)
  case piece6 =>
    rw [h2]
    obtain ⟨r, rfl⟩ := column_idx x
    open_payloads
    pointwise
    simp only [hq, hk, hv, scale_eq, negInf_eq, mask_eq, tile_select, ← EReal.coe_mul, ForwardTile.score_fin scale q k]
    exact ForwardTile.log_later scale q k 256 r.val (by omega) rfl r.isLt (by omega)
  case piece7 =>
    rw [h2]
    obtain ⟨r, rfl⟩ := column_idx x
    open_payloads
    pointwise
    simp only [hq, hk, hv, scale_eq, negInf_eq, mask_eq, tile_select, ← EReal.coe_mul, ForwardTile.score_fin scale q k]
    have h := ForwardTile.log_first scale q k r.val r.isLt rfl
    rw [ForwardTile.own_first] at h
    exact h

end Cert.KernelValue

end
-- ==== Proof.ArraysHeads.lean ====
/- The arrays the attention's forward and backward calls leave, head by head, from the arrays they find. -/
module

public import proofs.«01_k».proof.Proof.BackwardQuery
public import proofs.«01_k».proof.Proof.BackwardKeyValue
public import proofs.«01_k».proof.Proof.BackwardShared
public import proofs.«01_k».proof.Proof.ForwardOut
public import proofs.«01_k».proof.Proof.ForwardLog
public import Idealize.ShloMosaic.Lib.Pipeline.ValueKit

@[expose] public section

set_option maxRecDepth 16384

noncomputable section

namespace Cert.KernelValue

open Cert.KernelIdeal Cert.KernelIdeal.Gen Cert.Reals Cert.Attention Cert.Step Cert.Roll
open Idealize.ShloMosaic Idealize.ShloMosaic.TcCoe Idealize.ShloMosaic.Tactic

variable (V : (c : Dev nD) → (b : Ref sig .tc) → Buf (Elt Ideal) ((c : Thread nD τ).loc b))

/-! The blocks each grid point takes: one batch row, one head's lanes. -/

theorem at2_0 : ∀ t : Fin cfg2.N, win2_0.index t = ![t.val / 12, 0, t.val % 12] := (by decide +kernel : ∀ t : Fin grid2.N, _)
theorem at2_1 : ∀ t : Fin cfg2.N, win2_1.index t = ![t.val / 12, 0, t.val % 12] := (by decide +kernel : ∀ t : Fin grid2.N, _)
theorem at2_2 : ∀ t : Fin cfg2.N, win2_2.index t = ![t.val / 12, 0, t.val % 12] := (by decide +kernel : ∀ t : Fin grid2.N, _)
theorem at2_3 : ∀ t : Fin cfg2.N, win2_3.index t = ![t.val / 12, 0, t.val % 12] := (by decide +kernel : ∀ t : Fin grid2.N, _)
theorem at2_4 : ∀ t : Fin cfg2.N, win2_4.index t = ![t.val / 12, t.val % 12, 0, 0] := (by decide +kernel : ∀ t : Fin grid2.N, _)
theorem at3_0 : ∀ t : Fin cfg3.N, win3_0.index t = ![t.val / 12, 0, t.val % 12] := (by decide +kernel : ∀ t : Fin grid3.N, _)
theorem at3_1 : ∀ t : Fin cfg3.N, win3_1.index t = ![t.val / 12, 0, t.val % 12] := (by decide +kernel : ∀ t : Fin grid3.N, _)
theorem at3_2 : ∀ t : Fin cfg3.N, win3_2.index t = ![t.val / 12, 0, t.val % 12] := (by decide +kernel : ∀ t : Fin grid3.N, _)
theorem at3_3 : ∀ t : Fin cfg3.N, win3_3.index t = ![t.val / 12, 0, t.val % 12] := (by decide +kernel : ∀ t : Fin grid3.N, _)
theorem at3_4 : ∀ t : Fin cfg3.N, win3_4.index t = ![t.val / 12, 0, t.val % 12] := (by decide +kernel : ∀ t : Fin grid3.N, _)
theorem at3_8 : ∀ t : Fin cfg3.N, win3_8.index t = ![t.val / 12, 0, t.val % 12] := (by decide +kernel : ∀ t : Fin grid3.N, _)
theorem at3_9 : ∀ t : Fin cfg3.N, win3_9.index t = ![t.val / 12, 0, t.val % 12] := (by decide +kernel : ∀ t : Fin grid3.N, _)
theorem at3_10 : ∀ t : Fin cfg3.N, win3_10.index t = ![t.val / 12, 0, t.val % 12] := (by decide +kernel : ∀ t : Fin grid3.N, _)
theorem at3_5 : ∀ t : Fin cfg3.N, win3_5.index t = ![t.val / 12, t.val % 12, 0, 0] := (by decide +kernel : ∀ t : Fin grid3.N, _)
theorem at3_6 : ∀ t : Fin cfg3.N, win3_6.index t = ![t.val / 12, 0, 0] := (by decide +kernel : ∀ t : Fin grid3.N, _)
theorem at3_7 : ∀ t : Fin cfg3.N, win3_7.index t = ![t.val / 12, 0, 0] := (by decide +kernel : ∀ t : Fin grid3.N, _)

/-- One head's part of an array of rows and lanes. -/
def head (n : ℕ) (x : ℕ → ℕ → ℝ) (b h r l : ℕ) : ℝ := x (b * 2048 + r) (h * n + l)

variable {q k v o g c s : ℕ → ℕ → ℝ} {L : ℕ → ℕ → ℕ → ℝ} (d : Dev nD)

/-- A head's slopes. -/
def slopes (q k v o g : ℕ → ℕ → ℝ) (L : ℕ → ℕ → ℕ → ℝ) (b h : ℕ) : ℕ → ℕ → ℝ :=
  Cert.Attention.slope scale (head 128 v b h) (head 128 g b h) (again scale (head 256 q b h) (head 256 k b h) (L b h))
    (dots (head 128 g b h) (head 128 o b h))

/-- The output of the forward call. -/
theorem final2_3 (hq : ∀ i : S2x2048x3072.Idx, V d main_v15 i = ((q ((i 0).val * 2048 + (i 1).val) (i 2).val : ℝ) : EReal))
    (hk : ∀ i : S2x2048x3072.Idx, V d main_v16 i = ((k ((i 0).val * 2048 + (i 1).val) (i 2).val : ℝ) : EReal))
    (hv : ∀ i : S2x2048x1536.Idx, V d main_v17 i = ((v ((i 0).val * 2048 + (i 1).val) (i 2).val : ℝ) : EReal)) :
    (dat2 V d).arrAt 3 cfg2.N = fun i : S2x2048x1536.Idx => ((mix scale (head 256 q (i 0).val ((i 2).val / 128))
      (head 256 k (i 0).val ((i 2).val / 128)) (head 128 v (i 0).val ((i 2).val / 128)) (i 1).val ((i 2).val % 128) : ℝ) : EReal) := by
  refine (dat2 V d).arrAt_eq_of_covers 3 _ (by decide +kernel) fun t hf y => ?_
  blk_simp [at2_3]
  rw [after2_3, out2_3_at (q := head 256 q (t.val / 12) (t.val % 12)) (k := head 256 k (t.val / 12) (t.val % 12))
    (v := head 128 v (t.val / 12) (t.val % 12))
    (fun r l => by blk_simp [iblk2]; rw [hq]; blk_simp [at2_0]; rfl)
    (fun r l => by blk_simp [iblk2]; rw [hk]; blk_simp [at2_1]; rfl)
    (fun r l => by blk_simp [iblk2]; rw [hv]; blk_simp [at2_2]; rfl)]
  have hy : (y 2).val < 128 := (y 2).isLt
  rw [show (t.val % 12 * 128 + (y 2).val) / 128 = t.val % 12 by omega,
    show (t.val % 12 * 128 + (y 2).val) % 128 = (y 2).val by omega]

/-- The logarithms of the forward call. -/
theorem final2_4 (hq : ∀ i : S2x2048x3072.Idx, V d main_v15 i = ((q ((i 0).val * 2048 + (i 1).val) (i 2).val : ℝ) : EReal))
    (hk : ∀ i : S2x2048x3072.Idx, V d main_v16 i = ((k ((i 0).val * 2048 + (i 1).val) (i 2).val : ℝ) : EReal))
    (hv : ∀ i : S2x2048x1536.Idx, V d main_v17 i = ((v ((i 0).val * 2048 + (i 1).val) (i 2).val : ℝ) : EReal)) :
    (dat2 V d).arrAt 4 cfg2.N = fun i : S2x12x2048x1.Idx =>
      ((lse scale (head 256 q (i 0).val (i 1).val) (head 256 k (i 0).val (i 1).val) (i 2).val : ℝ) : EReal) := by
  refine (dat2 V d).arrAt_eq_of_covers 4 _ (by decide +kernel) fun t hf y => ?_
  blk_simp [at2_4]
  rw [after2_4, out2_4_at (q := head 256 q (t.val / 12) (t.val % 12)) (k := head 256 k (t.val / 12) (t.val % 12))
    (v := head 128 v (t.val / 12) (t.val % 12))
    (fun r l => by blk_simp [iblk2]; rw [hq]; blk_simp [at2_0]; rfl)
    (fun r l => by blk_simp [iblk2]; rw [hk]; blk_simp [at2_1]; rfl)
    (fun r l => by blk_simp [iblk2]; rw [hv]; blk_simp [at2_2]; rfl)]

/-- The gradient of the queries. -/
theorem final3_8 (hq : ∀ i : S2x2048x3072.Idx, V d main_v19 i = ((q ((i 0).val * 2048 + (i 1).val) (i 2).val : ℝ) : EReal))
    (hk : ∀ i : S2x2048x3072.Idx, V d main_v20 i = ((k ((i 0).val * 2048 + (i 1).val) (i 2).val : ℝ) : EReal))
    (hv : ∀ i : S2x2048x1536.Idx, V d main_v21 i = ((v ((i 0).val * 2048 + (i 1).val) (i 2).val : ℝ) : EReal))
    (ho : ∀ i : S2x2048x1536.Idx, V d main_v18_0 i = ((o ((i 0).val * 2048 + (i 1).val) (i 2).val : ℝ) : EReal))
    (hg : ∀ i : S2x2048x1536.Idx, V d main_v22 i = ((g ((i 0).val * 2048 + (i 1).val) (i 2).val : ℝ) : EReal))
    (hL : ∀ i : S2x12x2048x1.Idx, V d main_v18_1 i = ((L (i 0).val (i 1).val (i 2).val : ℝ) : EReal))
    (hc : ∀ i : S2x2048x128.Idx, V d main_v23 i = ((c ((i 0).val * 2048 + (i 1).val) (i 2).val : ℝ) : EReal))
    (hs : ∀ i : S2x2048x128.Idx, V d main_v24 i = ((s ((i 0).val * 2048 + (i 1).val) (i 2).val : ℝ) : EReal)) :
    (dat3 V d).arrAt 8 cfg3.N = fun i : S2x2048x3072.Idx => ((if (i 2).val % 256 < 128 then
      gradQ (head 256 k (i 0).val ((i 2).val / 256)) (slopes q k v o g L (i 0).val ((i 2).val / 256)) (i 1).val ((i 2).val % 256)
    else rollBack (fun t => gradQ (head 256 k (i 0).val ((i 2).val / 256)) (slopes q k v o g L (i 0).val ((i 2).val / 256)) (i 1).val (128 + t))
      (c ((i 0).val * 2048 + (i 1).val)) (s ((i 0).val * 2048 + (i 1).val)) ((i 2).val % 256 - 128) : ℝ) : EReal) := by
  refine (dat3 V d).arrAt_eq_of_covers 8 _ (by decide +kernel) fun t hf y => ?_
  blk_simp [at3_8]
  rw [after3_8]
  simp only [outsAt3]
  rw [out3_8_at (q := head 256 q (t.val / 12) (t.val % 12)) (k := head 256 k (t.val / 12) (t.val % 12))
    (v := head 128 v (t.val / 12) (t.val % 12)) (o := head 128 o (t.val / 12) (t.val % 12))
    (g := head 128 g (t.val / 12) (t.val % 12)) (L := L (t.val / 12) (t.val % 12))
    (cs := fun r l => c (t.val / 12 * 2048 + r) l) (sn := fun r l => s (t.val / 12 * 2048 + r) l)
    (fun r l => by blk_simp [iblk3]; rw [hq]; blk_simp [at3_0]; rfl)
    (fun r l => by blk_simp [iblk3]; rw [hk]; blk_simp [at3_1]; rfl)
    (fun r l => by blk_simp [iblk3]; rw [hv]; blk_simp [at3_2]; rfl)
    (fun r l => by blk_simp [iblk3]; rw [ho]; blk_simp [at3_3]; rfl)
    (fun r l => by blk_simp [iblk3]; rw [hg]; blk_simp [at3_4]; rfl)
    (fun r => by blk_simp [iblk3]; rw [hL]; blk_simp [at3_5]; rfl)
    (fun r l => by blk_simp [iblk3]; rw [hc]; blk_simp [at3_6]; rfl)
    (fun r l => by blk_simp [iblk3]; rw [hs]; blk_simp [at3_7]; rfl)]
  have hy : (y 2).val < 256 := (y 2).isLt
  rw [show (t.val % 12 * 256 + (y 2).val) / 256 = t.val % 12 by omega,
    show (t.val % 12 * 256 + (y 2).val) % 256 = (y 2).val by omega]
  rfl

/-- The gradient of the keys' own lanes and of the values. -/
theorem final3_9 (hq : ∀ i : S2x2048x3072.Idx, V d main_v19 i = ((q ((i 0).val * 2048 + (i 1).val) (i 2).val : ℝ) : EReal))
    (hk : ∀ i : S2x2048x3072.Idx, V d main_v20 i = ((k ((i 0).val * 2048 + (i 1).val) (i 2).val : ℝ) : EReal))
    (hv : ∀ i : S2x2048x1536.Idx, V d main_v21 i = ((v ((i 0).val * 2048 + (i 1).val) (i 2).val : ℝ) : EReal))
    (ho : ∀ i : S2x2048x1536.Idx, V d main_v18_0 i = ((o ((i 0).val * 2048 + (i 1).val) (i 2).val : ℝ) : EReal))
    (hg : ∀ i : S2x2048x1536.Idx, V d main_v22 i = ((g ((i 0).val * 2048 + (i 1).val) (i 2).val : ℝ) : EReal))
    (hL : ∀ i : S2x12x2048x1.Idx, V d main_v18_1 i = ((L (i 0).val (i 1).val (i 2).val : ℝ) : EReal)) :
    (dat3 V d).arrAt 9 cfg3.N = fun i : S2x2048x3072.Idx => ((if (i 2).val % 256 < 128 then
      gradK (head 256 q (i 0).val ((i 2).val / 256)) (slopes q k v o g L (i 0).val ((i 2).val / 256)) (i 1).val ((i 2).val % 256)
    else gradV (head 128 g (i 0).val ((i 2).val / 256)) (again scale (head 256 q (i 0).val ((i 2).val / 256))
      (head 256 k (i 0).val ((i 2).val / 256)) (L (i 0).val ((i 2).val / 256))) (i 1).val ((i 2).val % 256 - 128) : ℝ) : EReal) := by
  refine (dat3 V d).arrAt_eq_of_covers 9 _ (by decide +kernel) fun t hf y => ?_
  blk_simp [at3_9]
  rw [after3_9]
  simp only [outsAt3]
  rw [out3_9_at (q := head 256 q (t.val / 12) (t.val % 12)) (k := head 256 k (t.val / 12) (t.val % 12))
    (v := head 128 v (t.val / 12) (t.val % 12)) (o := head 128 o (t.val / 12) (t.val % 12))
    (g := head 128 g (t.val / 12) (t.val % 12)) (L := L (t.val / 12) (t.val % 12))
    (fun r l => by blk_simp [iblk3]; rw [hq]; blk_simp [at3_0]; rfl)
    (fun r l => by blk_simp [iblk3]; rw [hk]; blk_simp [at3_1]; rfl)
    (fun r l => by blk_simp [iblk3]; rw [hv]; blk_simp [at3_2]; rfl)
    (fun r l => by blk_simp [iblk3]; rw [ho]; blk_simp [at3_3]; rfl)
    (fun r l => by blk_simp [iblk3]; rw [hg]; blk_simp [at3_4]; rfl)
    (fun r => by blk_simp [iblk3]; rw [hL]; blk_simp [at3_5]; rfl)]
  have hy : (y 2).val < 256 := (y 2).isLt
  rw [show (t.val % 12 * 256 + (y 2).val) / 256 = t.val % 12 by omega,
    show (t.val % 12 * 256 + (y 2).val) % 256 = (y 2).val by omega]
  rfl

/-- The gradient of the shared lanes, head by head. -/
theorem final3_10 (hq : ∀ i : S2x2048x3072.Idx, V d main_v19 i = ((q ((i 0).val * 2048 + (i 1).val) (i 2).val : ℝ) : EReal))
    (hk : ∀ i : S2x2048x3072.Idx, V d main_v20 i = ((k ((i 0).val * 2048 + (i 1).val) (i 2).val : ℝ) : EReal))
    (hv : ∀ i : S2x2048x1536.Idx, V d main_v21 i = ((v ((i 0).val * 2048 + (i 1).val) (i 2).val : ℝ) : EReal))
    (ho : ∀ i : S2x2048x1536.Idx, V d main_v18_0 i = ((o ((i 0).val * 2048 + (i 1).val) (i 2).val : ℝ) : EReal))
    (hg : ∀ i : S2x2048x1536.Idx, V d main_v22 i = ((g ((i 0).val * 2048 + (i 1).val) (i 2).val : ℝ) : EReal))
    (hL : ∀ i : S2x12x2048x1.Idx, V d main_v18_1 i = ((L (i 0).val (i 1).val (i 2).val : ℝ) : EReal)) :
    (dat3 V d).arrAt 10 cfg3.N = fun i : S2x2048x1536.Idx => ((gradK (head 256 q (i 0).val ((i 2).val / 128)) (slopes q k v o g L (i 0).val ((i 2).val / 128))
      (i 1).val (128 + (i 2).val % 128) : ℝ) : EReal) := by
  refine (dat3 V d).arrAt_eq_of_covers 10 _ (by decide +kernel) fun t hf y => ?_
  blk_simp [at3_10]
  rw [after3_10]
  simp only [outsAt3]
  rw [out3_10_at (q := head 256 q (t.val / 12) (t.val % 12)) (k := head 256 k (t.val / 12) (t.val % 12))
    (v := head 128 v (t.val / 12) (t.val % 12)) (o := head 128 o (t.val / 12) (t.val % 12))
    (g := head 128 g (t.val / 12) (t.val % 12)) (L := L (t.val / 12) (t.val % 12))
    (fun r l => by blk_simp [iblk3]; rw [hq]; blk_simp [at3_0]; rfl)
    (fun r l => by blk_simp [iblk3]; rw [hk]; blk_simp [at3_1]; rfl)
    (fun r l => by blk_simp [iblk3]; rw [hv]; blk_simp [at3_2]; rfl)
    (fun r l => by blk_simp [iblk3]; rw [ho]; blk_simp [at3_3]; rfl)
    (fun r l => by blk_simp [iblk3]; rw [hg]; blk_simp [at3_4]; rfl)
    (fun r => by blk_simp [iblk3]; rw [hL]; blk_simp [at3_5]; rfl)]
  have hy : (y 2).val < 128 := (y 2).isLt
  rw [show (t.val % 12 * 128 + (y 2).val) / 128 = t.val % 12 by omega,
    show (t.val % 12 * 128 + (y 2).val) % 128 = (y 2).val by omega]
  rfl

end Cert.KernelValue

end
-- ==== Proof.Links.lean ====
/- The arrays the calls pass between them hold the heads' queries, keys, values and gradients: the equations of real
   functions that join the calls' results to the call's own mathematics. -/
module

public import proofs.«01_k».proof.Proof.HostParts
public import proofs.«01_k».proof.Proof.ArraysHeads

@[expose] public section

noncomputable section

namespace Cert.KernelValue

open Finset Cert.Attention Cert.Step Cert.Roll Cert.Reals

variable (A : Args)

/-- The queries' array. -/
def allQ : ℕ → ℕ → ℝ := upQ A.cq (wideW A.wq) (fun n => wideCos (A.cs n)) (fun n => wideSin (A.sn n))
/-- The keys' array. -/
def allK : ℕ → ℕ → ℝ :=
  upK A.ck A.wk (fun r l => placed A.kr r (3328 + l)) (fun n => wideCos (A.cs n)) (fun n => wideSin (A.sn n))
/-- The values' array. -/
def allV : ℕ → ℕ → ℝ := upV A.ck A.wk
/-- The logarithms. -/
def allL (b h r : ℕ) : ℝ := lse scale (qh A b h) (kh A b h) r

theorem turn_congr {x y : ℕ → ℝ} (c s : ℕ → ℝ) {l : ℕ} (hl : l < 64) (h : ∀ t < 64, x t = y t) :
    turn x c s l = turn y c s l := by
  unfold turn
  split_ifs with h1
  · rw [h l hl, h (l + 32) (by omega)]
  · rw [h l hl, h (l - 32) (by omega)]

theorem turnBack_congr {x y : ℕ → ℝ} (c s : ℕ → ℝ) {l : ℕ} (hl : l < 64) (h : ∀ t < 64, x t = y t) :
    turnBack x c s l = turnBack y c s l := by
  unfold turnBack
  split_ifs with h1
  · rw [h l hl, h (l + 32) (by omega)]
  · rw [h l hl, h (l - 32) (by omega)]

/-- The padded weights give a head's lanes. -/
theorem lin_wide (n h l : ℕ) (hl : l < 192) : lin 512 A.cq (wideW A.wq) n (256 * h + l) = lin 512 A.cq A.wq n (h * 192 + l) := by
  refine sum_congr rfl fun t _ => ?_
  rw [wideW, show (256 * h + l) % 256 = l by omega, show (256 * h + l) / 256 = h by omega, if_pos hl]

theorem head_q (b h r l : ℕ) (hl : l < 256) : head 256 (allQ A) b h r l = qh A b h r l := by
  unfold head allQ qh
  rw [Nat.mul_comm h 256]
  split_ifs with h1 h2
  · rw [upQ_own _ _ _ _ _ _ _ h1, lin_wide A _ _ _ (by omega)]
  · obtain ⟨t, rfl⟩ : ∃ t, l = 128 + t := ⟨l - 128, by omega⟩
    rw [upQ_turned _ _ _ _ _ _ _ (by omega), roll_turn, if_pos (by omega), Nat.add_sub_cancel_left]
    exact turn_congr _ _ (by omega) fun u hu => lin_wide A _ _ _ (by omega)
  · obtain ⟨t, rfl⟩ : ∃ t, l = 128 + t := ⟨l - 128, by omega⟩
    rw [upQ_turned _ _ _ _ _ _ _ (by omega), roll_turn, if_neg (by omega)]

theorem head_k (b h r l : ℕ) (hl : l < 256) : head 256 (allK A) b h r l = kh A b h r l := by
  unfold head allK kh
  rw [Nat.mul_comm h 256]
  split_ifs with h1 h2
  · rw [upK_own _ _ _ _ _ _ _ _ h1]
  · obtain ⟨t, rfl⟩ : ∃ t, l = 128 + t := ⟨l - 128, by omega⟩
    rw [upK_turned _ _ _ _ _ _ _ _ (by omega), roll_turn, if_pos (by omega), Nat.add_sub_cancel_left]
    refine turn_congr _ _ (by omega) fun u hu => ?_
    rw [placed, if_neg (by omega), if_pos (by omega), Nat.add_sub_cancel_left]
  · obtain ⟨t, rfl⟩ : ∃ t, l = 128 + t := ⟨l - 128, by omega⟩
    rw [upK_turned _ _ _ _ _ _ _ _ (by omega), roll_turn, if_neg (by omega)]

theorem head_v (b h r l : ℕ) (hl : l < 128) : head 128 (allV A) b h r l = vh A b h r l := by
  unfold head allV vh
  rw [Nat.mul_comm h 128, upV_at _ _ _ _ _ hl, Nat.mul_comm h 256, Nat.add_assoc]

theorem head_g (b h : ℕ) : head 128 A.g b h = gh A b h := rfl

theorem head_o (b h r l : ℕ) (hr : r < 2048) (hl : l < 128) : head 128 (out A) b h r l = oh A b h r l := by
  unfold head out
  rw [show (b * 2048 + r) / 2048 = b by omega, show (b * 2048 + r) % 2048 = r by omega,
    show (h * 128 + l) / 128 = h by omega, show (h * 128 + l) % 128 = l by omega]

/-- A head's scores. -/
theorem head_score (b h : ℕ) : score scale (head 256 (allQ A) b h) (head 256 (allK A) b h) = score scale (qh A b h) (kh A b h) := by
  funext r j
  unfold score
  congr 1
  exact sum_congr rfl fun l hl => by rw [head_q A b h r l (mem_range.1 hl), head_k A b h j l (mem_range.1 hl)]

theorem head_mass (b h : ℕ) : mass scale (head 256 (allQ A) b h) (head 256 (allK A) b h) = mass scale (qh A b h) (kh A b h) := by
  funext r; unfold mass; rw [head_score]

theorem head_weight (b h : ℕ) : weight scale (head 256 (allQ A) b h) (head 256 (allK A) b h) = wh A b h := by
  funext r j; unfold wh weight; rw [head_score, head_mass]

theorem head_lse (b h r : ℕ) : lse scale (head 256 (allQ A) b h) (head 256 (allK A) b h) r = allL A b h r := by
  unfold allL lse; rw [head_mass]

/-- The forward call's output. -/
theorem head_mix (b h r l : ℕ) (hl : l < 128) :
    mix scale (head 256 (allQ A) b h) (head 256 (allK A) b h) (head 128 (allV A) b h) r l = oh A b h r l := by
  unfold oh mix
  rw [head_weight]
  exact sum_congr rfl fun j _ => by rw [head_v A b h j l hl]; rfl

/-- The recomputed softmax is the softmax. -/
theorem head_again (b h : ℕ) : again scale (head 256 (allQ A) b h) (head 256 (allK A) b h) (allL A b h) = wh A b h := by
  funext r j
  unfold again
  rw [head_score]
  exact again_lse scale (qh A b h) (kh A b h) r j

theorem head_up (b h : ℕ) : up (head 128 (allV A) b h) (gh A b h) = up (vh A b h) (gh A b h) := by
  funext r j
  exact sum_congr rfl fun l hl => by rw [head_v A b h j l (mem_range.1 hl)]

theorem head_dots (b h r : ℕ) (hr : r < 2048) : dots (gh A b h) (head 128 (out A) b h) r = dots (gh A b h) (oh A b h) r :=
  sum_congr rfl fun l hl => by rw [head_o A b h r l hr (mem_range.1 hl)]

/-- The backward call's slopes. -/
theorem head_slopes (b h r j : ℕ) (hr : r < 2048) :
    slopes (allQ A) (allK A) (allV A) (out A) A.g (allL A) b h r j = sh A b h r j := by
  unfold slopes sh Cert.Attention.slope
  rw [head_again, head_g, head_up, head_dots A b h r hr]

theorem head_gradQ (b h r l : ℕ) (hr : r < 2048) (hl : l < 256) :
    gradQ (head 256 (allK A) b h) (slopes (allQ A) (allK A) (allV A) (out A) A.g (allL A) b h) r l
      = gradQ (kh A b h) (sh A b h) r l :=
  sum_congr rfl fun j _ => by rw [head_slopes A b h r j hr, head_k A b h j l hl]

theorem head_gradK (b h j l : ℕ) (hl : l < 256) :
    gradK (head 256 (allQ A) b h) (slopes (allQ A) (allK A) (allV A) (out A) A.g (allL A) b h) j l
      = gradK (qh A b h) (sh A b h) j l :=
  sum_congr rfl fun r hr => by rw [head_slopes A b h r j (mem_range.1 hr), head_q A b h r l hl]

/-- What the backward call leaves of the queries' gradient, row by row of a batch. -/
def leftQ (b r c : ℕ) : ℝ :=
  if c % 256 < 128 then
    gradQ (head 256 (allK A) b (c / 256)) (slopes (allQ A) (allK A) (allV A) (out A) A.g (allL A) b (c / 256)) r (c % 256)
  else rollBack (fun t => gradQ (head 256 (allK A) b (c / 256))
      (slopes (allQ A) (allK A) (allV A) (out A) A.g (allL A) b (c / 256)) r (128 + t))
    (wideCos (A.cs (b * 2048 + r))) (wideSin (A.sn (b * 2048 + r))) (c % 256 - 128)

/-- Of the keys' and values'. -/
def leftKV (b r c : ℕ) : ℝ :=
  if c % 256 < 128 then
    gradK (head 256 (allQ A) b (c / 256)) (slopes (allQ A) (allK A) (allV A) (out A) A.g (allL A) b (c / 256)) r (c % 256)
  else gradV (head 128 A.g b (c / 256)) (again scale (head 256 (allQ A) b (c / 256)) (head 256 (allK A) b (c / 256))
    (allL A b (c / 256))) r (c % 256 - 128)

/-- Of the shared lanes', head by head. -/
def leftR (b r c : ℕ) : ℝ :=
  gradK (head 256 (allQ A) b (c / 128)) (slopes (allQ A) (allK A) (allV A) (out A) A.g (allL A) b (c / 128)) r (128 + c % 128)

theorem leftQ_eq (n c : ℕ) (hc : c % 256 < 192) : leftQ A (n / 2048) (n % 2048) c = outQ A n c := by
  have hn : n % 2048 < 2048 := Nat.mod_lt _ (by omega)
  unfold leftQ outQ
  split_ifs with h1
  · exact head_gradQ A _ _ _ _ hn (by omega)
  · rw [rollBack_turnBack _ _ _ _ (by omega), show n / 2048 * 2048 + n % 2048 = n by omega]
    exact turnBack_congr _ _ (by omega) fun t ht => head_gradQ A _ _ _ _ hn (by omega)

theorem leftKV_eq (n c : ℕ) : leftKV A (n / 2048) (n % 2048) c = outKV A n c := by
  unfold leftKV outKV
  split_ifs with h1
  · exact head_gradK A _ _ _ _ (by omega)
  · rw [head_again, head_g]

theorem downR_eq (n l : ℕ) (hl : l < 64) :
    downR (fun n c => leftR A (n / 2048) (n % 2048) c) (fun n => wideCos (A.cs n)) (fun n => wideSin (A.sn n)) n l
      = outR A n l := by
  unfold downR outR
  rw [rollBack_turnBack _ _ _ _ hl]
  refine turnBack_congr _ _ hl fun t ht => sum_congr rfl fun h _ => ?_
  show leftR A (n / 2048) (n % 2048) (128 * h + t) = _
  unfold leftR
  rw [show (128 * h + t) / 128 = h by omega, show (128 * h + t) % 128 = t by omega]
  exact head_gradK A _ _ _ _ (by omega)

end Cert.KernelValue

end
-- ==== Proof.ArraysBeside.lean ====
/- The arrays the calls beside the attention leave, entry by entry, from the arrays they find. -/
module

public import proofs.«01_k».proof.Proof.Projections
public import Idealize.ShloMosaic.Lib.Pipeline.ValueKit

@[expose] public section

set_option maxRecDepth 16384

noncomputable section

namespace Cert.KernelValue

open Cert.KernelIdeal Cert.KernelIdeal.Gen Cert.Reals Cert.Attention Cert.Step Cert.Roll
open Idealize.ShloMosaic Idealize.ShloMosaic.TcCoe Idealize.ShloMosaic.Tactic

variable (V : (c : Dev nD) → (b : Ref sig .tc) → Buf (Elt Ideal) ((c : Thread nD τ).loc b))

/-! The blocks each grid point takes. -/

theorem at0_0 : ∀ t : Fin cfg0.N, win0_0.index t = ![t.val / 6, 0] := (by decide +kernel : ∀ t : Fin grid0.N, _)
theorem at0_1 : ∀ t : Fin cfg0.N, win0_1.index t = ![0, t.val % 6] := (by decide +kernel : ∀ t : Fin grid0.N, _)
theorem at0_2 : ∀ t : Fin cfg0.N, win0_2.index t = ![t.val / 6, 0] := (by decide +kernel : ∀ t : Fin grid0.N, _)
theorem at0_3 : ∀ t : Fin cfg0.N, win0_3.index t = ![t.val / 6, 0] := (by decide +kernel : ∀ t : Fin grid0.N, _)
theorem at0_4 : ∀ t : Fin cfg0.N, win0_4.index t = ![t.val / 6, t.val % 6] := (by decide +kernel : ∀ t : Fin grid0.N, _)
theorem at1_0 : ∀ t : Fin cfg1.N, win1_0.index t = ![t.val / 6, 0] := (by decide +kernel : ∀ t : Fin grid1.N, _)
theorem at1_1 : ∀ t : Fin cfg1.N, win1_1.index t = ![0, t.val % 6] := (by decide +kernel : ∀ t : Fin grid1.N, _)
theorem at1_2 : ∀ t : Fin cfg1.N, win1_2.index t = ![t.val / 6, 26] := (by decide +kernel : ∀ t : Fin grid1.N, _)
theorem at1_3 : ∀ t : Fin cfg1.N, win1_3.index t = ![t.val / 6, 0] := (by decide +kernel : ∀ t : Fin grid1.N, _)
theorem at1_4 : ∀ t : Fin cfg1.N, win1_4.index t = ![t.val / 6, 0] := (by decide +kernel : ∀ t : Fin grid1.N, _)
theorem at1_5 : ∀ t : Fin cfg1.N, win1_5.index t = ![t.val / 6, t.val % 6] := (by decide +kernel : ∀ t : Fin grid1.N, _)
theorem at1_6 : ∀ t : Fin cfg1.N, win1_6.index t = ![t.val / 6, t.val % 6] := (by decide +kernel : ∀ t : Fin grid1.N, _)
theorem at4_0 : ∀ t : Fin cfg4.N, win4_0.index t = ![t.val, 0] := (by decide +kernel : ∀ t : Fin grid4.N, _)
theorem at4_1 : ∀ t : Fin cfg4.N, win4_1.index t = ![t.val, 0] := (by decide +kernel : ∀ t : Fin grid4.N, _)
theorem at4_2 : ∀ t : Fin cfg4.N, win4_2.index t = ![t.val, 0] := (by decide +kernel : ∀ t : Fin grid4.N, _)
theorem at4_3 : ∀ t : Fin cfg4.N, win4_3.index t = ![t.val, 0] := (by decide +kernel : ∀ t : Fin grid4.N, _)

/-- The queries' entries do not depend on where the blocks are cut. -/
theorem upQ_shift (x w c s : ℕ → ℕ → ℝ) (a j r l : ℕ) :
    upQ (fun r l => x (a + r) l) (fun r l => w r (j * 512 + l)) (fun r l => c (a + r) l) (fun r l => s (a + r) l) r l
      = upQ x w c s (a + r) (j * 512 + l) := by
  have e : (j * 512 + l) % 256 = l % 256 := by omega
  have e1 : ∀ t, j * 512 + l - l % 256 + (128 + t) = j * 512 + (l - l % 256 + (128 + t)) := fun t => by omega
  unfold upQ
  rw [e]
  simp only [e1]
  rfl

/-- Nor the keys'. -/
theorem upK_shift (x w e c s : ℕ → ℕ → ℝ) (a j r l : ℕ) :
    upK (fun r l => x (a + r) l) (fun r l => w r (j * 512 + l)) (fun r l => e (a + r) l) (fun r l => c (a + r) l)
        (fun r l => s (a + r) l) r l = upK x w e c s (a + r) (j * 512 + l) := by
  have e : (j * 512 + l) % 256 = l % 256 := by omega
  unfold upK
  rw [e]
  rfl

/-- Nor the values'. -/
theorem upV_shift (x w : ℕ → ℕ → ℝ) (a j r l : ℕ) :
    upV (fun r l => x (a + r) l) (fun r l => w r (j * 512 + l)) r l = upV x w (a + r) (j * 256 + l) := by
  have e : (j * 256 + l) / 128 * 256 + 128 + (j * 256 + l) % 128 = j * 512 + (l / 128 * 256 + 128 + l % 128) := by omega
  unfold upV
  rw [e]
  rfl

variable {x w e c s : ℕ → ℕ → ℝ} (d : Dev nD)

/-- The queries, after the first call. -/
theorem final0 (hx : ∀ i : S4096x512.Idx, V d main_v10 i = ((x (i 0).val (i 1).val : ℝ) : EReal))
    (hw : ∀ i : S512x3072.Idx, V d main_v7 i = ((w (i 0).val (i 1).val : ℝ) : EReal))
    (hc : ∀ i : S4096x128.Idx, V d main_v1 i = ((c (i 0).val (i 1).val : ℝ) : EReal))
    (hs : ∀ i : S4096x128.Idx, V d main_v3 i = ((s (i 0).val (i 1).val : ℝ) : EReal)) :
    (dat0 V d).arrAt 4 cfg0.N = fun i : S4096x3072.Idx => ((upQ x w c s (i 0).val (i 1).val : ℝ) : EReal) := by
  refine (dat0 V d).arrAt_eq_of_covers 4 _ (by decide +kernel) fun t hf y => ?_
  blk_simp [at0_4]
  rw [after0_4, out0_4_at (x := fun r l => x (t.val / 6 * 512 + r) l) (w := fun r l => w r (t.val % 6 * 512 + l))
    (c := fun r l => c (t.val / 6 * 512 + r) l) (s := fun r l => s (t.val / 6 * 512 + r) l)
    (fun r l => by blk_simp [iblk0]; rw [hx]; blk_simp [at0_0])
    (fun r l => by blk_simp [iblk0]; rw [hw]; blk_simp [at0_1])
    (fun r l => by blk_simp [iblk0]; rw [hc]; blk_simp [at0_2])
    (fun r l => by blk_simp [iblk0]; rw [hs]; blk_simp [at0_3]), upQ_shift]

/-- The keys, after the second call. -/
theorem final1_5 (hx : ∀ i : S4096x256.Idx, V d main_v12 i = ((x (i 0).val (i 1).val : ℝ) : EReal))
    (hw : ∀ i : S256x3072.Idx, V d main_v13 i = ((w (i 0).val (i 1).val : ℝ) : EReal))
    (he : ∀ i : S4096x3456.Idx, V d main_v9 i = ((e (i 0).val (i 1).val : ℝ) : EReal))
    (hc : ∀ i : S4096x128.Idx, V d main_v1 i = ((c (i 0).val (i 1).val : ℝ) : EReal))
    (hs : ∀ i : S4096x128.Idx, V d main_v3 i = ((s (i 0).val (i 1).val : ℝ) : EReal)) :
    (dat1 V d).arrAt 5 cfg1.N = fun i : S4096x3072.Idx => ((upK x w (fun r l => e r (3328 + l)) c s (i 0).val (i 1).val : ℝ) : EReal) := by
  refine (dat1 V d).arrAt_eq_of_covers 5 _ (by decide +kernel) fun t hf y => ?_
  blk_simp [at1_5]
  rw [after1_5, out1_5_at (x := fun r l => x (t.val / 6 * 512 + r) l) (w := fun r l => w r (t.val % 6 * 512 + l))
    (e := fun r l => e (t.val / 6 * 512 + r) (3328 + l)) (c := fun r l => c (t.val / 6 * 512 + r) l)
    (s := fun r l => s (t.val / 6 * 512 + r) l)
    (fun r l => by blk_simp [iblk1]; rw [hx]; blk_simp [at1_0])
    (fun r l => by blk_simp [iblk1]; rw [hw]; blk_simp [at1_1])
    (fun r l => by blk_simp [iblk1]; rw [he]; blk_simp [at1_2])
    (fun r l => by blk_simp [iblk1]; rw [hc]; blk_simp [at1_3])
    (fun r l => by blk_simp [iblk1]; rw [hs]; blk_simp [at1_4])]
  exact congrArg _ (upK_shift x w (fun r l => e r (3328 + l)) c s _ _ _ _)

/-- The values, after the second call. -/
theorem final1_6 (hx : ∀ i : S4096x256.Idx, V d main_v12 i = ((x (i 0).val (i 1).val : ℝ) : EReal))
    (hw : ∀ i : S256x3072.Idx, V d main_v13 i = ((w (i 0).val (i 1).val : ℝ) : EReal)) :
    (dat1 V d).arrAt 6 cfg1.N = fun i : S4096x1536.Idx => ((upV x w (i 0).val (i 1).val : ℝ) : EReal) := by
  refine (dat1 V d).arrAt_eq_of_covers 6 _ (by decide +kernel) fun t hf y => ?_
  blk_simp [at1_6]
  rw [after1_6, out1_6_at (x := fun r l => x (t.val / 6 * 512 + r) l) (w := fun r l => w r (t.val % 6 * 512 + l))
    (fun r l => by blk_simp [iblk1]; rw [hx]; blk_simp [at1_0])
    (fun r l => by blk_simp [iblk1]; rw [hw]; blk_simp [at1_1]), upV_shift]

/-- The shared lanes' gradient, after the last call. -/
theorem final4 (hx : ∀ i : S4096x1536.Idx, V d main_v28 i = ((x (i 0).val (i 1).val : ℝ) : EReal))
    (hc : ∀ i : S4096x128.Idx, V d main_v1 i = ((c (i 0).val (i 1).val : ℝ) : EReal))
    (hs : ∀ i : S4096x128.Idx, V d main_v3 i = ((s (i 0).val (i 1).val : ℝ) : EReal)) :
    (dat4 V d).arrAt 3 cfg4.N = fun i : S4096x128.Idx => ((downR x c s (i 0).val (i 1).val : ℝ) : EReal) := by
  refine (dat4 V d).arrAt_eq_of_covers 3 _ (by decide +kernel) fun t hf y => ?_
  blk_simp [at4_3]
  rw [after4_3, out4_3_at (x := fun r l => x (t.val * 512 + r) l) (c := fun r l => c (t.val * 512 + r) l)
    (s := fun r l => s (t.val * 512 + r) l)
    (fun r l => by blk_simp [iblk4]; rw [hx]; blk_simp [at4_0])
    (fun r l => by blk_simp [iblk4]; rw [hc]; blk_simp [at4_1])
    (fun r l => by blk_simp [iblk4]; rw [hs]; blk_simp [at4_2])]
  rfl

end Cert.KernelValue

end
-- ==== Proof.Chain.lean ====
/- The contents of the arrays between the calls, followed from the launch to the end: on real arguments every array holds
   the real arrays of the call's mathematics. -/
module

public import proofs.«01_k».proof.Proof.Links
public import proofs.«01_k».proof.Proof.ArraysBeside

@[expose] public section

set_option maxRecDepth 16384

noncomputable section

namespace Cert.KernelValue

open Cert.KernelIdeal Cert.KernelIdeal.Gen Cert.Reals Cert.Attention Cert.Step Cert.Roll
open Idealize.ShloMosaic Idealize.ShloMosaic.TcCoe Idealize.ShloMosaic.Tactic

variable (m : (ℓ : Loc nD τ sig) → Buf (Elt Ideal) ℓ) (ρ : Dev nD → PrngReg) (c : Dev nD)

/-- The arguments hold the reals `A`. -/
structure Given (A : Args) : Prop where
  h0 : ∀ i : S4096x512.Idx, m ((c : Thread nD τ).loc main_arg0) i = ((A.cq (i 0).val (i 1).val : ℝ) : EReal)
  h1 : ∀ i : S512x2304.Idx, m ((c : Thread nD τ).loc main_arg1) i = ((A.wq (i 0).val (i 1).val : ℝ) : EReal)
  h2 : ∀ i : S4096x256.Idx, m ((c : Thread nD τ).loc main_arg2) i = ((A.ck (i 0).val (i 1).val : ℝ) : EReal)
  h3 : ∀ i : S256x3072.Idx, m ((c : Thread nD τ).loc main_arg3) i = ((A.wk (i 0).val (i 1).val : ℝ) : EReal)
  h4 : ∀ i : S4096x64.Idx, m ((c : Thread nD τ).loc main_arg4) i = ((A.kr (i 0).val (i 1).val : ℝ) : EReal)
  h5 : ∀ i : S4096x32.Idx, m ((c : Thread nD τ).loc main_arg5) i = ((A.cs (i 0).val (i 1).val : ℝ) : EReal)
  h6 : ∀ i : S4096x32.Idx, m ((c : Thread nD τ).loc main_arg6) i = ((A.sn (i 0).val (i 1).val : ℝ) : EReal)
  h7 : ∀ i : S4096x1536.Idx, m ((c : Thread nD τ).loc main_arg7) i = ((A.g (i 0).val (i 1).val : ℝ) : EReal)

/-! Arrays no item in between writes. -/

theorem keep_v1_3 : W3 m ρ c (Proc.devRef .tc main_v1) = W1 m ρ c (Proc.devRef .tc main_v1) :=
  (W3_of m ρ c main_v1 (by decide)).trans
    (W2_of m ρ c main_v1 (by decide))
theorem keep_v1_5 : W5 m ρ c (Proc.devRef .tc main_v1) = W3 m ρ c (Proc.devRef .tc main_v1) :=
  (W5_of m ρ c main_v1 (by decide)).trans
    (W4_of m ρ c main_v1 (by decide +kernel))
theorem keep_v1_8 : W8 m ρ c (Proc.devRef .tc main_v1) = W5 m ρ c (Proc.devRef .tc main_v1) :=
  ((W8_of m ρ c main_v1 (by decide +kernel)).trans
    (W7_of m ρ c main_v1 (by decide))).trans
    (W6_of m ρ c main_v1 (by decide +kernel))
theorem keep_v1_11 : W11 m ρ c (Proc.devRef .tc main_v1) = W8 m ρ c (Proc.devRef .tc main_v1) :=
  ((W11_of m ρ c main_v1 (by decide)).trans
    (W10_of m ρ c main_v1 (by decide +kernel))).trans
    (W9_of m ρ c main_v1 (by decide))
theorem keep_v3_3 : W3 m ρ c (Proc.devRef .tc main_v3) = W1 m ρ c (Proc.devRef .tc main_v3) :=
  (W3_of m ρ c main_v3 (by decide)).trans
    (W2_of m ρ c main_v3 (by decide))
theorem keep_v3_5 : W5 m ρ c (Proc.devRef .tc main_v3) = W3 m ρ c (Proc.devRef .tc main_v3) :=
  (W5_of m ρ c main_v3 (by decide)).trans
    (W4_of m ρ c main_v3 (by decide +kernel))
theorem keep_v3_8 : W8 m ρ c (Proc.devRef .tc main_v3) = W5 m ρ c (Proc.devRef .tc main_v3) :=
  ((W8_of m ρ c main_v3 (by decide +kernel)).trans
    (W7_of m ρ c main_v3 (by decide))).trans
    (W6_of m ρ c main_v3 (by decide +kernel))
theorem keep_v3_11 : W11 m ρ c (Proc.devRef .tc main_v3) = W8 m ρ c (Proc.devRef .tc main_v3) :=
  ((W11_of m ρ c main_v3 (by decide)).trans
    (W10_of m ρ c main_v3 (by decide +kernel))).trans
    (W9_of m ρ c main_v3 (by decide))
theorem keep_v0_2 : W2 m ρ c (Proc.devRef .tc main_v0) = W1 m ρ c (Proc.devRef .tc main_v0) :=
  (W2_of m ρ c main_v0 (by decide))
theorem keep_v9_5 : W5 m ρ c (Proc.devRef .tc main_v9) = W3 m ρ c (Proc.devRef .tc main_v9) :=
  (W5_of m ρ c main_v9 (by decide)).trans
    (W4_of m ρ c main_v9 (by decide +kernel))
theorem keep_v11_6 : W6 m ρ c (Proc.devRef .tc main_v11) = W4 m ρ c (Proc.devRef .tc main_v11) :=
  (W6_of m ρ c main_v11 (by decide +kernel)).trans
    (W5_of m ρ c main_v11 (by decide))
theorem keep_v11_8 : W8 m ρ c (Proc.devRef .tc main_v11) = W6 m ρ c (Proc.devRef .tc main_v11) :=
  (W8_of m ρ c main_v11 (by decide +kernel)).trans
    (W7_of m ρ c main_v11 (by decide))
theorem keep_v14_0_8 : W8 m ρ c (Proc.devRef .tc main_v14_0) = W6 m ρ c (Proc.devRef .tc main_v14_0) :=
  (W8_of m ρ c main_v14_0 (by decide +kernel)).trans
    (W7_of m ρ c main_v14_0 (by decide))
theorem keep_v14_1_8 : W8 m ρ c (Proc.devRef .tc main_v14_1) = W6 m ρ c (Proc.devRef .tc main_v14_1) :=
  (W8_of m ρ c main_v14_1 (by decide +kernel)).trans
    (W7_of m ρ c main_v14_1 (by decide))
theorem keep_v18_0_9 : W9 m ρ c (Proc.devRef .tc main_v18_0) = W8 m ρ c (Proc.devRef .tc main_v18_0) :=
  (W9_of m ρ c main_v18_0 (by decide))
theorem keep_v18_1_9 : W9 m ρ c (Proc.devRef .tc main_v18_1) = W8 m ρ c (Proc.devRef .tc main_v18_1) :=
  (W9_of m ρ c main_v18_1 (by decide))
theorem keep_v18_0_12 : W12 m ρ c (Proc.devRef .tc main_v18_0) = W9 m ρ c (Proc.devRef .tc main_v18_0) :=
  ((W12_of m ρ c main_v18_0 (by decide +kernel)).trans
    (W11_of m ρ c main_v18_0 (by decide))).trans
    (W10_of m ρ c main_v18_0 (by decide +kernel))
theorem keep_v26_13 : W13 m ρ c (Proc.devRef .tc main_v26) = W11 m ρ c (Proc.devRef .tc main_v26) :=
  (W13_of m ρ c main_v26 (by decide)).trans
    (W12_of m ρ c main_v26 (by decide +kernel))
theorem keep_v27_13 : W13 m ρ c (Proc.devRef .tc main_v27) = W11 m ρ c (Proc.devRef .tc main_v27) :=
  (W13_of m ρ c main_v27 (by decide)).trans
    (W12_of m ρ c main_v27 (by decide +kernel))
theorem keep_v29_13 : W13 m ρ c (Proc.devRef .tc main_v29) = W12 m ρ c (Proc.devRef .tc main_v29) :=
  (W13_of m ρ c main_v29 (by decide))

variable {m} {c} {A : Args} (G : Given m c A)
include G

/-! The rotation's cosines and sines, wherever they are read. -/

theorem cos_3 (i : S4096x128.Idx) : W3 m ρ c (Proc.devRef .tc main_v1) i = ((wideCos (A.cs (i 0).val) (i 1).val : ℝ) : EReal) :=
  (congrFun (keep_v1_3 m ρ c) i).trans (host_cos (σ := W0 m ρ c) G.h5 i)
theorem cos_5 (i : S4096x128.Idx) : W5 m ρ c (Proc.devRef .tc main_v1) i = ((wideCos (A.cs (i 0).val) (i 1).val : ℝ) : EReal) :=
  (congrFun (keep_v1_5 m ρ c) i).trans (cos_3 ρ G i)
theorem cos_8 (i : S4096x128.Idx) : W8 m ρ c (Proc.devRef .tc main_v1) i = ((wideCos (A.cs (i 0).val) (i 1).val : ℝ) : EReal) :=
  (congrFun (keep_v1_8 m ρ c) i).trans (cos_5 ρ G i)
theorem cos_11 (i : S4096x128.Idx) : W11 m ρ c (Proc.devRef .tc main_v1) i = ((wideCos (A.cs (i 0).val) (i 1).val : ℝ) : EReal) :=
  (congrFun (keep_v1_11 m ρ c) i).trans (cos_8 ρ G i)
theorem sin_3 (i : S4096x128.Idx) : W3 m ρ c (Proc.devRef .tc main_v3) i = ((wideSin (A.sn (i 0).val) (i 1).val : ℝ) : EReal) :=
  (congrFun (keep_v3_3 m ρ c) i).trans (host_sin (σ := W0 m ρ c) G.h6 i)
theorem sin_5 (i : S4096x128.Idx) : W5 m ρ c (Proc.devRef .tc main_v3) i = ((wideSin (A.sn (i 0).val) (i 1).val : ℝ) : EReal) :=
  (congrFun (keep_v3_5 m ρ c) i).trans (sin_3 ρ G i)
theorem sin_8 (i : S4096x128.Idx) : W8 m ρ c (Proc.devRef .tc main_v3) i = ((wideSin (A.sn (i 0).val) (i 1).val : ℝ) : EReal) :=
  (congrFun (keep_v3_8 m ρ c) i).trans (sin_5 ρ G i)
theorem sin_11 (i : S4096x128.Idx) : W11 m ρ c (Proc.devRef .tc main_v3) i = ((wideSin (A.sn (i 0).val) (i 1).val : ℝ) : EReal) :=
  (congrFun (keep_v3_11 m ρ c) i).trans (sin_8 ρ G i)

/-- The queries. -/
theorem w11_4 (i : S4096x3072.Idx) : W4 m ρ c (Proc.devRef .tc main_v11) i = ((allQ A (i 0).val (i 1).val : ℝ) : EReal) :=
  (congrFun (W4_arr m ρ c 4) i).trans (congrFun (final0 (V3 m ρ) c
    (host_x (σ := W2 m ρ c) fun i => (congrFun (W2_args m ρ c main_arg0 (by decide)) i).trans (G.h0 i))
    (host_weights (σ := W0 m ρ c) G.h1) (cos_3 ρ G) (sin_3 ρ G)) i)

/-- The shared lanes in their place. -/
theorem w9_5 (i : S4096x3456.Idx) : W5 m ρ c (Proc.devRef .tc main_v9) i = ((placed A.kr (i 0).val (i 1).val : ℝ) : EReal) :=
  (congrFun (keep_v9_5 m ρ c) i).trans (host_placed (σ := W2 m ρ c)
    (fun i => (congrFun (W2_args m ρ c main_arg4 (by decide)) i).trans (G.h4 i))
    (fun i => (congrFun (keep_v0_2 m ρ c) i).trans (host_zero i)) i)

theorem w12_5 (i : S4096x256.Idx) : W5 m ρ c (Proc.devRef .tc main_v12) i = ((A.ck (i 0).val (i 1).val : ℝ) : EReal) :=
  host_ck (σ := W4 m ρ c) (fun i => (congrFun (W4_args m ρ c main_arg2 (by decide)) i).trans (G.h2 i)) i
theorem w13_5 (i : S256x3072.Idx) : W5 m ρ c (Proc.devRef .tc main_v13) i = ((A.wk (i 0).val (i 1).val : ℝ) : EReal) :=
  host_wk (σ := W4 m ρ c) (fun i => (congrFun (W4_args m ρ c main_arg3 (by decide)) i).trans (G.h3 i)) i

/-- The keys. -/
theorem w140_6 (i : S4096x3072.Idx) : W6 m ρ c (Proc.devRef .tc main_v14_0) i = ((allK A (i 0).val (i 1).val : ℝ) : EReal) :=
  (congrFun (W6_arr m ρ c 5) i).trans (congrFun (final1_5 (V5 m ρ) c (w12_5 ρ G) (w13_5 ρ G) (w9_5 ρ G) (cos_5 ρ G) (sin_5 ρ G)) i)
/-- The values. -/
theorem w141_6 (i : S4096x1536.Idx) : W6 m ρ c (Proc.devRef .tc main_v14_1) i = ((allV A (i 0).val (i 1).val : ℝ) : EReal) :=
  (congrFun (W6_arr m ρ c 6) i).trans (congrFun (final1_6 (V5 m ρ) c (w12_5 ρ G) (w13_5 ρ G)) i)

theorem w11_6 (i : S4096x3072.Idx) : W6 m ρ c (Proc.devRef .tc main_v11) i = ((allQ A (i 0).val (i 1).val : ℝ) : EReal) :=
  (congrFun (keep_v11_6 m ρ c) i).trans (w11_4 ρ G i)
theorem w11_8 (i : S4096x3072.Idx) : W8 m ρ c (Proc.devRef .tc main_v11) i = ((allQ A (i 0).val (i 1).val : ℝ) : EReal) :=
  (congrFun (keep_v11_8 m ρ c) i).trans (w11_6 ρ G i)
theorem w140_8 (i : S4096x3072.Idx) : W8 m ρ c (Proc.devRef .tc main_v14_0) i = ((allK A (i 0).val (i 1).val : ℝ) : EReal) :=
  (congrFun (keep_v14_0_8 m ρ c) i).trans (w140_6 ρ G i)
theorem w141_8 (i : S4096x1536.Idx) : W8 m ρ c (Proc.devRef .tc main_v14_1) i = ((allV A (i 0).val (i 1).val : ℝ) : EReal) :=
  (congrFun (keep_v14_1_8 m ρ c) i).trans (w141_6 ρ G i)

/-- The attention's output. -/
theorem w180_8 (i : S2x2048x1536.Idx) : W8 m ρ c (Proc.devRef .tc main_v18_0) i
    = ((oh A (i 0).val ((i 2).val / 128) (i 1).val ((i 2).val % 128) : ℝ) : EReal) :=
  ((congrFun (W8_arr m ρ c 3) i).trans (congrFun (final2_3 (V7 m ρ) c (rows_q (σ := W6 m ρ c) (w11_6 ρ G))
    (rows_k (σ := W6 m ρ c) (w140_6 ρ G)) (rows_v (σ := W6 m ρ c) (w141_6 ρ G))) i)).trans
    (congrArg _ (head_mix A _ _ _ _ (Nat.mod_lt _ (by omega))))
/-- The logarithms. -/
theorem w181_8 (i : S2x12x2048x1.Idx) : W8 m ρ c (Proc.devRef .tc main_v18_1) i
    = ((allL A (i 0).val (i 1).val (i 2).val : ℝ) : EReal) :=
  ((congrFun (W8_arr m ρ c 4) i).trans (congrFun (final2_4 (V7 m ρ) c (rows_q (σ := W6 m ρ c) (w11_6 ρ G))
    (rows_k (σ := W6 m ρ c) (w140_6 ρ G)) (rows_v (σ := W6 m ρ c) (w141_6 ρ G))) i)).trans
    (congrArg _ (head_lse A _ _ _))

theorem w180_9 (i : S2x2048x1536.Idx) : W9 m ρ c (Proc.devRef .tc main_v18_0) i
    = ((out A ((i 0).val * 2048 + (i 1).val) (i 2).val : ℝ) : EReal) := by
  refine ((congrFun (keep_v18_0_9 m ρ c) i).trans (w180_8 ρ G i)).trans ?_
  have hi : (i 1).val < 2048 := (i 1).isLt
  unfold out
  rw [show ((i 0).val * 2048 + (i 1).val) / 2048 = (i 0).val by omega,
    show ((i 0).val * 2048 + (i 1).val) % 2048 = (i 1).val by omega]
theorem w181_9 (i : S2x12x2048x1.Idx) : W9 m ρ c (Proc.devRef .tc main_v18_1) i
    = ((allL A (i 0).val (i 1).val (i 2).val : ℝ) : EReal) :=
  (congrFun (keep_v18_1_9 m ρ c) i).trans (w181_8 ρ G i)

theorem w22_9 (i : S2x2048x1536.Idx) : W9 m ρ c (Proc.devRef .tc main_v22) i
    = ((A.g ((i 0).val * 2048 + (i 1).val) (i 2).val : ℝ) : EReal) :=
  rows_g3 (σ := W8 m ρ c) (fun i => (congrFun (W8_args m ρ c main_arg7 (by decide)) i).trans (G.h7 i)) i

set_option maxHeartbeats 1600000 in
/-- The queries' gradient, as the call leaves it. -/
theorem w250_10 (i : S2x2048x3072.Idx) : W10 m ρ c (Proc.devRef .tc main_v25_0) i
    = ((leftQ A (i 0).val (i 1).val (i 2).val : ℝ) : EReal) :=
  (congrFun (W10_arr m ρ c 8) i).trans (congrFun (final3_8 (V9 m ρ) c (c := fun n => wideCos (A.cs n)) (s := fun n => wideSin (A.sn n)) (rows_q3 (σ := W8 m ρ c) (w11_8 ρ G))
    (rows_k3 (σ := W8 m ρ c) (w140_8 ρ G)) (rows_v3 (σ := W8 m ρ c) (w141_8 ρ G)) (w180_9 ρ G) (w22_9 ρ G) (w181_9 ρ G)
    (rows_c3 (σ := W8 m ρ c) (f := fun n => wideCos (A.cs n)) (cos_8 ρ G)) (rows_s3 (σ := W8 m ρ c) (f := fun n => wideSin (A.sn n)) (sin_8 ρ G))) i)

/-- The keys' and values'. -/
theorem w251_10 (i : S2x2048x3072.Idx) : W10 m ρ c (Proc.devRef .tc main_v25_1) i
    = ((leftKV A (i 0).val (i 1).val (i 2).val : ℝ) : EReal) :=
  (congrFun (W10_arr m ρ c 9) i).trans (congrFun (final3_9 (V9 m ρ) c (rows_q3 (σ := W8 m ρ c) (w11_8 ρ G))
    (rows_k3 (σ := W8 m ρ c) (w140_8 ρ G)) (rows_v3 (σ := W8 m ρ c) (w141_8 ρ G)) (w180_9 ρ G) (w22_9 ρ G) (w181_9 ρ G)) i)

/-- The shared lanes', head by head. -/
theorem w252_10 (i : S2x2048x1536.Idx) : W10 m ρ c (Proc.devRef .tc main_v25_2) i
    = ((leftR A (i 0).val (i 1).val (i 2).val : ℝ) : EReal) :=
  (congrFun (W10_arr m ρ c 10) i).trans (congrFun (final3_10 (V9 m ρ) c (rows_q3 (σ := W8 m ρ c) (w11_8 ρ G))
    (rows_k3 (σ := W8 m ρ c) (w140_8 ρ G)) (rows_v3 (σ := W8 m ρ c) (w141_8 ρ G)) (w180_9 ρ G) (w22_9 ρ G) (w181_9 ρ G)) i)

/-- The output. -/
theorem result_o (i : S4096x1536.Idx) : W13 m ρ c (Proc.devRef .tc main_v30) i = ((out A (i 0).val (i 1).val : ℝ) : EReal) :=
  flat_o (σ := W12 m ρ c) (p := fun b r l => oh A b (l / 128) r (l % 128)) (fun i =>
    (congrFun ((keep_v18_0_12 m ρ c).trans (keep_v18_0_9 m ρ c)) i).trans (w180_8 ρ G i)) i
/-- The queries' gradient, on the lanes in use. -/
theorem result_q (i : S4096x3072.Idx) (h : (i 1).val % 256 < 192) :
    W13 m ρ c (Proc.devRef .tc main_v26) i = ((outQ A (i 0).val (i 1).val : ℝ) : EReal) :=
  ((congrFun (keep_v26_13 m ρ c) i).trans (flat_dq (σ := W10 m ρ c) (p := leftQ A) (w250_10 ρ G) i)).trans
    (congrArg _ (leftQ_eq A _ _ h))
/-- The keys' and values' gradient. -/
theorem result_kv (i : S4096x3072.Idx) : W13 m ρ c (Proc.devRef .tc main_v27) i = ((outKV A (i 0).val (i 1).val : ℝ) : EReal) :=
  ((congrFun (keep_v27_13 m ρ c) i).trans (flat_dkv (σ := W10 m ρ c) (p := leftKV A) (w251_10 ρ G) i)).trans
    (congrArg _ (leftKV_eq A _ _))
/-- The shared lanes' gradient, on the lanes in use. -/
theorem result_r (i : S4096x128.Idx) (h : (i 1).val < 64) :
    W13 m ρ c (Proc.devRef .tc main_v29) i = ((outR A (i 0).val (i 1).val : ℝ) : EReal) :=
  ((congrFun (keep_v29_13 m ρ c) i).trans ((congrFun (W12_arr m ρ c 3) i).trans (congrFun (final4 (V11 m ρ) c
    (x := fun n l => leftR A (n / 2048) (n % 2048) l) (flat_dr (σ := W10 m ρ c) (p := leftR A) (w252_10 ρ G))
    (cos_11 ρ G) (sin_11 ρ G)) i))).trans (congrArg _ (downR_eq A _ _ h))

end Cert.KernelValue

end
-- ==== Proof.ValueRun.lean ====
/- The kernel's run on extended reals: every array ends as the items in turn leave it. -/
module

public import proofs.«01_k».proof.Proof.Gen.KernelIdeal.Frame

@[expose] public section

set_option maxRecDepth 16384

noncomputable section

namespace Cert.KernelValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- The launch over the segments, the last thread state read at every array. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W13 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h hz => h)

end Cert.KernelValue

end
-- ==== Proof.RefScores.lean ====
/- The reference's scores and softmax, read over real arguments. -/
module

public import proofs.«01_k».proof.Proof.Gen.ReferenceIdeal.Read
public import proofs.«01_k».proof.Proof.Step
public import Idealize.ShloMosaic.Lib.Pointwise

@[expose] public section

noncomputable section

namespace Cert.RefRead

open Cert.ReferenceIdeal Cert.ReferenceIdeal.Gen Cert.ReferenceIdeal.Read Cert.Step Cert.Attention Cert.Reals
open Idealize.ShloMosaic Idealize.ShloMosaic.TcCoe

theorem coe_at {f : ℕ → ℕ → ℝ} {a a' b b' : ℕ} (ha : a = a') (hb : b = b') :
    ((f a b : ℝ) : EReal) = ((f a' b' : ℝ) : EReal) := by rw [ha, hb]

theorem coe_mul_at {f g : ℕ → ℕ → ℝ} {a a' b b' k : ℕ} (ha : a = a') (hb : b = b') :
    ((f a k * g k b : ℝ) : EReal) = ((f a' k * g k b' : ℝ) : EReal) := by rw [ha, hb]

/-- The arguments' contents are the real arrays `A`. -/
structure Holds (A : Args) (x0 : (⟨S4096x512, .f32⟩ : BufTy).Contents (Elt Ideal))
    (x1 : (⟨S512x2304, .f32⟩ : BufTy).Contents (Elt Ideal)) (x2 : (⟨S4096x256, .f32⟩ : BufTy).Contents (Elt Ideal))
    (x3 : (⟨S256x3072, .f32⟩ : BufTy).Contents (Elt Ideal)) (x4 : (⟨S4096x64, .f32⟩ : BufTy).Contents (Elt Ideal))
    (x5 x6 : (⟨S4096x32, .f32⟩ : BufTy).Contents (Elt Ideal))
    (x7 : (⟨S4096x1536, .f32⟩ : BufTy).Contents (Elt Ideal)) : Prop where
  h0 : ∀ i, x0 i = ((A.cq (i 0).val (i 1).val : ℝ) : EReal)
  h1 : ∀ i, x1 i = ((A.wq (i 0).val (i 1).val : ℝ) : EReal)
  h2 : ∀ i, x2 i = ((A.ck (i 0).val (i 1).val : ℝ) : EReal)
  h3 : ∀ i, x3 i = ((A.wk (i 0).val (i 1).val : ℝ) : EReal)
  h4 : ∀ i, x4 i = ((A.kr (i 0).val (i 1).val : ℝ) : EReal)
  h5 : ∀ i, x5 i = ((A.cs (i 0).val (i 1).val : ℝ) : EReal)
  h6 : ∀ i, x6 i = ((A.sn (i 0).val (i 1).val : ℝ) : EReal)
  h7 : ∀ i, x7 i = ((A.g (i 0).val (i 1).val : ℝ) : EReal)

variable {A : Args} {x0 : (⟨S4096x512, .f32⟩ : BufTy).Contents (Elt Ideal)}
  {x1 : (⟨S512x2304, .f32⟩ : BufTy).Contents (Elt Ideal)} {x2 : (⟨S4096x256, .f32⟩ : BufTy).Contents (Elt Ideal)}
  {x3 : (⟨S256x3072, .f32⟩ : BufTy).Contents (Elt Ideal)} {x4 : (⟨S4096x64, .f32⟩ : BufTy).Contents (Elt Ideal)}
  {x5 x6 : (⟨S4096x32, .f32⟩ : BufTy).Contents (Elt Ideal)}
  {x7 : (⟨S4096x1536, .f32⟩ : BufTy).Contents (Elt Ideal)} (H : Holds A x0 x1 x2 x3 x4 x5 x6 x7)
include H

/-- The query projection. -/
theorem v1_at (i : S2x2048x12x192.Idx) : val_main_v1 (F := Ideal) x0 x1 i
    = ((lin 512 A.cq A.wq ((i 0).val * 2048 + (i 1).val) ((i 2).val * 192 + (i 3).val) : ℝ) : EReal) := by
  rw [val_main_v1_apply, val_main_v0_apply]
  simp only [H.h0, H.h1, ← EReal.coe_mul]
  have b2 : (i 2).val < 12 := (i 2).isLt
  have b3 : (i 3).val < 192 := (i 3).isLt
  rw [lin, Finset.sum_range, coe_sum]
  refine Finset.sum_congr rfl fun k _ => ?_
  have e0 : ((((i 0).val * 2048 + (i 1).val) * 12 + (i 2).val) * 192 + (i 3).val) / 2304
      = (i 0).val * 2048 + (i 1).val := by omega
  have e1 : ((((i 0).val * 2048 + (i 1).val) * 12 + (i 2).val) * 192 + (i 3).val) % 2304
      = (i 2).val * 192 + (i 3).val := by omega
  exact coe_mul_at e0 e1

/-- The key and value projection. -/
theorem v3_at (i : S2x2048x12x256.Idx) : val_main_v3 (F := Ideal) x2 x3 i
    = ((lin 256 A.ck A.wk ((i 0).val * 2048 + (i 1).val) ((i 2).val * 256 + (i 3).val) : ℝ) : EReal) := by
  rw [val_main_v3_apply, val_main_v2_apply]
  simp only [H.h2, H.h3, ← EReal.coe_mul]
  have b2 : (i 2).val < 12 := (i 2).isLt
  have b3 : (i 3).val < 256 := (i 3).isLt
  rw [lin, Finset.sum_range, coe_sum]
  refine Finset.sum_congr rfl fun k _ => ?_
  have e0 : ((((i 0).val * 2048 + (i 1).val) * 12 + (i 2).val) * 256 + (i 3).val) / 3072
      = (i 0).val * 2048 + (i 1).val := by omega
  have e1 : ((((i 0).val * 2048 + (i 1).val) * 12 + (i 2).val) * 256 + (i 3).val) % 3072
      = (i 2).val * 256 + (i 3).val := by omega
  exact coe_mul_at e0 e1

theorem v4_at (i : S2x2048x64.Idx) : val_main_v4 (F := Ideal) x4 i
    = ((A.kr ((i 0).val * 2048 + (i 1).val) (i 2).val : ℝ) : EReal) := by
  rw [val_main_v4_apply, H.h4]
  have b2 : (i 2).val < 64 := (i 2).isLt
  have e0 : (((i 0).val * 2048 + (i 1).val) * 64 + (i 2).val) / 64 = (i 0).val * 2048 + (i 1).val := by omega
  have e1 : (((i 0).val * 2048 + (i 1).val) * 64 + (i 2).val) % 64 = (i 2).val := by omega
  exact coe_at e0 e1

theorem v5_at (i : S2x2048x32.Idx) : val_main_v5 (F := Ideal) x5 i
    = ((A.cs ((i 0).val * 2048 + (i 1).val) (i 2).val : ℝ) : EReal) := by
  rw [val_main_v5_apply, H.h5]
  have b2 : (i 2).val < 32 := (i 2).isLt
  have e0 : (((i 0).val * 2048 + (i 1).val) * 32 + (i 2).val) / 32 = (i 0).val * 2048 + (i 1).val := by omega
  have e1 : (((i 0).val * 2048 + (i 1).val) * 32 + (i 2).val) % 32 = (i 2).val := by omega
  exact coe_at e0 e1

theorem v6_at (i : S2x2048x32.Idx) : val_main_v6 (F := Ideal) x6 i
    = ((A.sn ((i 0).val * 2048 + (i 1).val) (i 2).val : ℝ) : EReal) := by
  rw [val_main_v6_apply, H.h6]
  have b2 : (i 2).val < 32 := (i 2).isLt
  have e0 : (((i 0).val * 2048 + (i 1).val) * 32 + (i 2).val) / 32 = (i 0).val * 2048 + (i 1).val := by omega
  have e1 : (((i 0).val * 2048 + (i 1).val) * 32 + (i 2).val) % 32 = (i 2).val := by omega
  exact coe_at e0 e1

theorem v16_at (i : S2x2048x12x32.Idx) : val_main_v16 (F := Ideal) x0 x1 x5 x6 i
    = ((qh A (i 0).val (i 2).val (i 1).val (128 + (i 3).val) : ℝ) : EReal) := by
  have b3 : (i 3).val < 32 := (i 3).isLt
  simp only [val_main_v16_apply, val_main_v13_apply, val_main_v15_apply, val_main_v12_apply, val_main_v14_apply,
    val_main_v10_apply, val_main_v11_apply, val_main_v8_apply, val_main_v9_apply, val_main_v7_apply, v1_at H, v5_at H,
    v6_at H, Ideal.subf_def, Ideal.mulf_def, ← EReal.coe_mul, ← EReal.coe_sub]
  rw [qh, if_neg (by omega), if_pos (by omega), turn, if_pos (by omega), Nat.add_sub_cancel_left,
    Nat.add_comm (i 3).val 32]

theorem v21_at (i : S2x2048x12x32.Idx) : val_main_v21 (F := Ideal) x0 x1 x5 x6 i
    = ((qh A (i 0).val (i 2).val (i 1).val (128 + (32 + (i 3).val)) : ℝ) : EReal) := by
  have b3 : (i 3).val < 32 := (i 3).isLt
  simp only [val_main_v21_apply, val_main_v18_apply, val_main_v20_apply, val_main_v17_apply, val_main_v19_apply,
    val_main_v10_apply, val_main_v11_apply, val_main_v8_apply, val_main_v9_apply, val_main_v7_apply, v1_at H, v5_at H,
    v6_at H, Ideal.addf_def, Ideal.mulf_def, ← EReal.coe_mul, ← EReal.coe_add]
  rw [qh, if_neg (by omega), if_pos (by omega), turn, Nat.add_sub_cancel_left, if_neg (by omega), Nat.add_sub_cancel_left]

/-- The rotated lanes of the queries. -/
theorem v22_at (i : S2x2048x12x64.Idx) : val_main_v22 (F := Ideal) x0 x1 x5 x6 i
    = ((qh A (i 0).val (i 2).val (i 1).val (128 + (i 3).val) : ℝ) : EReal) := by
  unfold val_main_v22
  pointwise
  split
  · rw [v16_at H]; rfl
  · rw [v21_at H]
    exact coe_at (f := fun a b => qh A a (i 2).val (i 1).val b) rfl
      (by show 128 + (32 + ((i 3).val - 32)) = _; omega)

theorem v27_at (i : S2x2048x32.Idx) : val_main_v27 (F := Ideal) x4 x5 x6 i
    = ((turn (A.kr ((i 0).val * 2048 + (i 1).val)) (A.cs ((i 0).val * 2048 + (i 1).val))
        (A.sn ((i 0).val * 2048 + (i 1).val)) (i 2).val : ℝ) : EReal) := by
  have b2 : (i 2).val < 32 := (i 2).isLt
  simp only [val_main_v27_apply, val_main_v25_apply, val_main_v26_apply, val_main_v23_apply, val_main_v24_apply,
    v4_at H, v5_at H, v6_at H, Ideal.subf_def, Ideal.mulf_def, ← EReal.coe_mul, ← EReal.coe_sub]
  rw [turn, if_pos b2, Nat.add_comm (i 2).val 32]

theorem v30_at (i : S2x2048x32.Idx) : val_main_v30 (F := Ideal) x4 x5 x6 i
    = ((turn (A.kr ((i 0).val * 2048 + (i 1).val)) (A.cs ((i 0).val * 2048 + (i 1).val))
        (A.sn ((i 0).val * 2048 + (i 1).val)) (32 + (i 2).val) : ℝ) : EReal) := by
  simp only [val_main_v30_apply, val_main_v28_apply, val_main_v29_apply, val_main_v23_apply, val_main_v24_apply,
    v4_at H, v5_at H, v6_at H, Ideal.addf_def, Ideal.mulf_def, ← EReal.coe_mul, ← EReal.coe_add]
  rw [turn, if_neg (by omega), Nat.add_sub_cancel_left]

/-- The rotated lanes of the keys, the same for each head `h`. -/
theorem v31_at (h : ℕ) (i : S2x2048x64.Idx) : val_main_v31 (F := Ideal) x4 x5 x6 i
    = ((kh A (i 0).val h (i 1).val (128 + (i 2).val) : ℝ) : EReal) := by
  have b2 : (i 2).val < 64 := (i 2).isLt
  rw [kh, if_neg (by omega), if_pos (by omega), Nat.add_sub_cancel_left]
  unfold val_main_v31
  pointwise
  split
  · rw [v27_at H]; rfl
  · rw [v30_at H]
    exact coe_at (f := fun a b => turn (A.kr a) (A.cs a) (A.sn a) b) rfl
      (by show 32 + ((i 2).val - 32) = _; omega)

theorem v32_at (i : S2x2048x12x128.Idx) : val_main_v32 (F := Ideal) x0 x1 i
    = ((qh A (i 0).val (i 2).val (i 1).val (i 3).val : ℝ) : EReal) := by
  have b3 : (i 3).val < 128 := (i 3).isLt
  rw [val_main_v32_apply, v1_at H, qh, if_pos b3]

theorem v33_at (i : S2x2048x12x128.Idx) : val_main_v33 (F := Ideal) x2 x3 i
    = ((kh A (i 0).val (i 2).val (i 1).val (i 3).val : ℝ) : EReal) := by
  have b3 : (i 3).val < 128 := (i 3).isLt
  rw [val_main_v33_apply, v3_at H, kh, if_pos b3]

theorem v74_at (i : S2x2048x12x128.Idx) : val_main_v74 (F := Ideal) x2 x3 i
    = ((vh A (i 0).val (i 2).val (i 1).val (i 3).val : ℝ) : EReal) := by
  rw [val_main_v74_apply, v3_at H, vh]

/-- The scaled scores. -/
theorem v39_at (i : S2x12x2048x2048.Idx) : val_main_v39 (F := Ideal) x0 x1 x2 x3 x4 x5 x6 i
    = ((score scale (qh A (i 0).val (i 1).val) (kh A (i 0).val (i 1).val) (i 2).val (i 3).val : ℝ) : EReal) := by
  have hc : val_main_v38 (F := Ideal) i = (scale : EReal) := scale_eq
  rw [val_main_v39_apply, val_main_v37_apply, val_main_v34_apply, val_main_v36_apply, val_main_v35_apply, hc]
  simp only [v31_at H (i 1).val, v22_at H, v32_at H, v33_at H, Ideal.addf_def, Ideal.mulf_def, ← EReal.coe_mul]
  rw [score_parts, EReal.coe_mul, EReal.coe_add, Finset.sum_range, Finset.sum_range, coe_sum, coe_sum]
  congr 2
  exact Finset.sum_congr rfl fun k _ => by rw [mul_comm]

/-- The masked scores. -/
theorem v44_at (i : S2x12x2048x2048.Idx) : val_main_v44 (F := Ideal) x0 x1 x2 x3 x4 x5 x6 i
    = if (i 3).val ≤ (i 2).val then
        ((score scale (qh A (i 0).val (i 1).val) (kh A (i 0).val (i 1).val) (i 2).val (i 3).val : ℝ) : EReal)
      else ⊥ := by
  have b2 : (i 2).val < 2048 := (i 2).isLt
  have b3 : (i 3).val < 2048 := (i 3).isLt
  have hc : val_main_v43 (F := Ideal) i = (⊥ : EReal) := negInf_eq
  rw [val_main_v44_apply, val_main_v42_apply, val_main_v40_apply, val_main_v41_apply, v39_at H, hc,
    sle_small _ _ (by omega) (by omega)]

/-- The row maxima are real. -/
theorem v46_at : ∃ m : ℕ → ℕ → ℕ → ℝ, ∀ i : S2x12x2048.Idx, val_main_v46 (F := Ideal) x0 x1 x2 x3 x4 x5 x6 i
    = ((m (i 0).val (i 1).val (i 2).val : ℝ) : EReal) := by
  have h : ∀ i : S2x12x2048.Idx, ∃ m : ℝ, val_main_v46 (F := Ideal) x0 x1 x2 x3 x4 x5 x6 i = (m : EReal) := fun i => by
    unfold val_main_v46
    pointwise
    simp only [v44_at H]
    have hc : val_main_cst_2 (F := Ideal) (Shape.Idx.first h_S_) = (⊥ : EReal) := negInf_eq
    rw [hc]
    exact fold_max_mask Finset.univ (fun x : Fin 2048 => x.val ≤ (i 2).val)
      (fun x => score scale (qh A (i 0).val (i 1).val) (kh A (i 0).val (i 1).val) (i 2).val x.val) ⟨0, by omega⟩
      (Finset.mem_univ _) (Nat.zero_le _)
  choose m hm using h
  refine ⟨fun a b c => if h : a < 2 ∧ b < 12 ∧ c < 2048 then m (ix3 ⟨a, h.1⟩ ⟨b, h.2.1⟩ ⟨c, h.2.2⟩) else 0, fun i => ?_⟩
  have b0 : (i 0).val < 2 := (i 0).isLt
  have b1 : (i 1).val < 12 := (i 1).isLt
  have b2 : (i 2).val < 2048 := (i 2).isLt
  beta_reduce
  rw [dif_pos ⟨b0, b1, b2⟩, hm i]
  congr 2
  funext a
  match a with
  | ⟨0, _⟩ => rfl
  | ⟨1, _⟩ => rfl
  | ⟨2, _⟩ => rfl

end Cert.RefRead

end
-- ==== Proof.RefWeights.lean ====
/- The reference's softmax, its output and the gradients by the values and by the scores, read over real arguments. -/
module

public import proofs.«01_k».proof.Proof.RefScores

@[expose] public section

noncomputable section

namespace Cert.RefRead

open Cert.ReferenceIdeal Cert.ReferenceIdeal.Gen Cert.ReferenceIdeal.Read Cert.Step Cert.Attention Cert.Reals
open Idealize.ShloMosaic Idealize.ShloMosaic.TcCoe

variable {A : Args} {x0 : (⟨S4096x512, .f32⟩ : BufTy).Contents (Elt Ideal)}
  {x1 : (⟨S512x2304, .f32⟩ : BufTy).Contents (Elt Ideal)} {x2 : (⟨S4096x256, .f32⟩ : BufTy).Contents (Elt Ideal)}
  {x3 : (⟨S256x3072, .f32⟩ : BufTy).Contents (Elt Ideal)} {x4 : (⟨S4096x64, .f32⟩ : BufTy).Contents (Elt Ideal)}
  {x5 x6 : (⟨S4096x32, .f32⟩ : BufTy).Contents (Elt Ideal)}
  {x7 : (⟨S4096x1536, .f32⟩ : BufTy).Contents (Elt Ideal)} (H : Holds A x0 x1 x2 x3 x4 x5 x6 x7)

/-- The softmax from shifted scores. -/
theorem weight_shift (c : ℝ) (q k : ℕ → ℕ → ℝ) (r j : ℕ) (m : ℝ) :
    weight c q k r j = (if j ≤ r then Real.exp (score c q k r j - m) else 0) / (mass c q k r * Real.exp (-m)) := by
  rw [weight]
  split_ifs
  · rw [sub_eq_add_neg, Real.exp_add, mul_div_mul_right _ _ (Real.exp_pos _).ne']
  · rw [zero_div]

section Shift

variable {m : ℕ → ℕ → ℕ → ℝ} (hm : ∀ i : S2x12x2048.Idx, val_main_v46 (F := Ideal) x0 x1 x2 x3 x4 x5 x6 i
    = ((m (i 0).val (i 1).val (i 2).val : ℝ) : EReal))
include H hm

/-- The exponentials. -/
theorem v66_at (i : S2x12x2048x2048.Idx) : val_main_v66 (F := Ideal) x0 x1 x2 x3 x4 x5 x6 i
    = (((if (i 3).val ≤ (i 2).val then
        Real.exp (score scale (qh A (i 0).val (i 1).val) (kh A (i 0).val (i 1).val) (i 2).val (i 3).val
          - m (i 0).val (i 1).val (i 2).val) else 0 : ℝ)) : EReal) := by
  have hc : ∀ j, val_main_v52 (F := Ideal) j = (⊥ : EReal) := fun j => negInf_eq
  rw [val_main_v66_apply, val_main_v65_apply, val_main_v64_apply, val_main_v63_apply, val_main_v53_apply, hm, hc,
    v44_at H, Ideal.maximumf_def, max_eq_right bot_le, Ideal.hostUnary_exp_def, Ideal.subf_def, exp_mask]

/-- Their row sums. -/
theorem v67_at (i : S2x12x2048.Idx) : val_main_v67 (F := Ideal) x0 x1 x2 x3 x4 x5 x6 i
    = ((mass scale (qh A (i 0).val (i 1).val) (kh A (i 0).val (i 1).val) (i 2).val
        * Real.exp (- m (i 0).val (i 1).val (i 2).val) : ℝ) : EReal) := by
  have b2 : (i 2).val < 2048 := (i 2).isLt
  have hc : val_main_cst_10 (F := Ideal) (Shape.Idx.first h_S_) = (0 : EReal) := Ideal.ofBits_zero_f32
  rw [val_main_v67_apply, hc, zero_add]
  simp only [v66_at H hm]
  rw [mass_eq _ _ _ _ b2, Finset.sum_mul, Finset.sum_range, coe_sum]
  refine Finset.sum_congr rfl fun x _ => congrArg _ ?_
  show (if x.val ≤ (i 2).val then _ else _) = _
  split_ifs
  · rw [← Real.exp_add]; rfl
  · rw [zero_mul]

/-- The softmax. -/
theorem v70_of (i : S2x12x2048x2048.Idx) : val_main_v70 (F := Ideal) x0 x1 x2 x3 x4 x5 x6 i
    = ((wh A (i 0).val (i 1).val (i 2).val (i 3).val : ℝ) : EReal) := by
  have hp := (mul_pos (mass_pos scale (qh A (i 0).val (i 1).val) (kh A (i 0).val (i 1).val) (i 2).val)
    (Real.exp_pos (- m (i 0).val (i 1).val (i 2).val))).ne'
  rw [val_main_v70_apply, val_main_v69_apply, val_main_v68_apply, v66_at H hm, v67_at H hm, Ideal.hostDivf_def,
    div_coe _ _ hp, wh, weight_shift _ _ _ _ _ (m (i 0).val (i 1).val (i 2).val)]

end Shift

include H

theorem v70_at (i : S2x12x2048x2048.Idx) : val_main_v70 (F := Ideal) x0 x1 x2 x3 x4 x5 x6 i
    = ((wh A (i 0).val (i 1).val (i 2).val (i 3).val : ℝ) : EReal) :=
  (v46_at H).elim fun _ hm => v70_of H hm i

/-- The output, by heads. -/
theorem v75_at (i : S2x12x128x2048.Idx) : val_main_v75 (F := Ideal) x0 x1 x2 x3 x4 x5 x6 i
    = ((oh A (i 0).val (i 1).val (i 3).val (i 2).val : ℝ) : EReal) := by
  rw [val_main_v75_apply]
  simp only [v74_at H, v70_at H, ← EReal.coe_mul]
  rw [oh, mix, Finset.sum_range, coe_sum]
  exact Finset.sum_congr rfl fun x _ => by rw [mul_comm]; rfl

/-- The output. -/
theorem v142_at (i : S4096x1536.Idx) : val_main_v142 (F := Ideal) x0 x1 x2 x3 x4 x5 x6 i
    = ((out A (i 0).val (i 1).val : ℝ) : EReal) := by
  have b0 : (i 0).val < 4096 := (i 0).isLt
  have b1 : (i 1).val < 1536 := (i 1).isLt
  rw [val_main_v142_apply, val_main_v77_apply, val_main_v76_apply, v75_at H, out]
  have e (n c : ℕ) (hn : n < 4096) (hc : c < 1536) : ∀ a b r d, a = n / 2048 → b = c / 128 → r = n % 2048 → d = c % 128 →
      oh A a b r d = oh A (n / 2048) (c / 128) (n % 2048) (c % 128) := by rintro _ _ _ _ rfl rfl rfl rfl; rfl
  refine congrArg _ (e (i 0).val (i 1).val b0 b1 _ _ _ _ ?_ ?_ ?_ ?_)
  all_goals
    simp only []
    omega

/-- The gradient of the output, by heads. -/
theorem v80_at (i : S2x12x128x2048.Idx) : val_main_v80 (F := Ideal) x7 i
    = ((gh A (i 0).val (i 1).val (i 3).val (i 2).val : ℝ) : EReal) := by
  have b0 : (i 0).val < 2 := (i 0).isLt
  have b1 : (i 1).val < 12 := (i 1).isLt
  have b2 : (i 2).val < 128 := (i 2).isLt
  have b3 : (i 3).val < 2048 := (i 3).isLt
  rw [val_main_v80_apply, val_main_v79_apply, val_main_v78_apply, H.h7, gh]
  refine coe_at ?_ ?_
  all_goals
    simp only []
    omega

/-- The gradient of the weights. -/
theorem v81_at (i : S2x12x2048x2048.Idx) : val_main_v81 (F := Ideal) x2 x3 x7 i
    = ((up (vh A (i 0).val (i 1).val) (gh A (i 0).val (i 1).val) (i 2).val (i 3).val : ℝ) : EReal) := by
  rw [val_main_v81_apply]
  simp only [v74_at H, v80_at H, ← EReal.coe_mul]
  rw [up, Finset.sum_range, coe_sum]

/-- The gradient of the values. -/
theorem v82_at (i : S2x12x128x2048.Idx) : val_main_v82 (F := Ideal) x0 x1 x2 x3 x4 x5 x6 x7 i
    = ((gradV (gh A (i 0).val (i 1).val) (wh A (i 0).val (i 1).val) (i 3).val (i 2).val : ℝ) : EReal) := by
  rw [val_main_v82_apply]
  simp only [v80_at H, v70_at H, ← EReal.coe_mul]
  rw [gradV, Finset.sum_range, coe_sum]
  exact Finset.sum_congr rfl fun x _ => by rw [mul_comm]

section Shift

variable {m : ℕ → ℕ → ℕ → ℝ} (hm : ∀ i : S2x12x2048.Idx, val_main_v46 (F := Ideal) x0 x1 x2 x3 x4 x5 x6 i
    = ((m (i 0).val (i 1).val (i 2).val : ℝ) : EReal))
include hm

/-- The inner product of the gradient with the output, over the row's sum. -/
theorem v88_at (i : S2x12x2048.Idx) : val_main_v88 (F := Ideal) x0 x1 x2 x3 x4 x5 x6 x7 i
    = ((dots (gh A (i 0).val (i 1).val) (oh A (i 0).val (i 1).val) (i 2).val
      / (mass scale (qh A (i 0).val (i 1).val) (kh A (i 0).val (i 1).val) (i 2).val
        * Real.exp (- m (i 0).val (i 1).val (i 2).val)) : ℝ) : EReal) := by
  have hp := (mul_pos (mass_pos scale (qh A (i 0).val (i 1).val) (kh A (i 0).val (i 1).val) (i 2).val)
    (Real.exp_pos (- m (i 0).val (i 1).val (i 2).val))).ne'
  have hc' : val_main_cst_13 (F := Ideal) (Shape.Idx.first h_S_) = (0 : EReal) := Ideal.ofBits_zero_f32
  have h1 : ∀ j, val_main_v72 (F := Ideal) j = ((1 : ℝ) : EReal) := fun j => by
    show Ideal.ofBits .f32 0x3F800000#32 = _
    simp [Ideal.ofBits, Ideal.ieee]
    rw [← EReal.coe_mul]; norm_num
  rw [val_main_v88_apply, hc', zero_add]
  simp only [val_main_v87_apply, val_main_v86_apply,
    val_main_v85_apply, val_main_v73_apply, val_main_v71_apply, val_main_v68_apply, v66_at H hm, v67_at H hm, v81_at H,
    h1, Ideal.mulf_def, Ideal.hostDivf_def, ← EReal.coe_mul, div_coe _ _ (mul_ne_zero hp hp)]
  rw [oh, dots_mix, Finset.sum_div, Finset.sum_range, coe_sum]
  refine Finset.sum_congr rfl fun k _ => congrArg _ ?_
  rw [weight_shift _ _ _ _ _ (m (i 0).val (i 1).val (i 2).val)]
  field_simp

/-- The same, minus, summed over an axis of size one. -/
theorem v93_at (i : S2x12x2048.Idx) : val_main_v93 (F := Ideal) x0 x1 x2 x3 x4 x5 x6 x7 i
    = ((-(dots (gh A (i 0).val (i 1).val) (oh A (i 0).val (i 1).val) (i 2).val
      / (mass scale (qh A (i 0).val (i 1).val) (kh A (i 0).val (i 1).val) (i 2).val
        * Real.exp (- m (i 0).val (i 1).val (i 2).val))) : ℝ) : EReal) := by
  have hc : val_main_cst_14 (F := Ideal) (Shape.Idx.first h_S_) = (0 : EReal) := Ideal.ofBits_zero_f32
  have b1 : (i 1).val < 12 := (i 1).isLt
  have b2 : (i 2).val < 2048 := (i 2).isLt
  have e (a b c : ℕ) : ∀ a' b' c', a' = a → b' = b → c' = c →
      dots (gh A a' b') (oh A a' b') c' / (mass scale (qh A a' b') (kh A a' b') c' * Real.exp (-m a' b' c'))
        = dots (gh A a b) (oh A a b) c / (mass scale (qh A a b) (kh A a b) c * Real.exp (-m a b c)) := by
    rintro _ _ _ rfl rfl rfl; rfl
  rw [val_main_v93_apply, hc, zero_add, Fin.sum_univ_one, val_main_v90_apply, val_main_v89_apply, v88_at H hm,
    Ideal.hostNegf_def, Ideal.negf_def, EReal.coe_neg]
  refine congrArg (fun x : ℝ => -(x : EReal)) (e _ _ _ _ _ _ ?_ ?_ ?_)
  all_goals
    simp only [Fin.val_zero]
    omega

/-- The gradient of the scaled scores, as the one of the scores before the scale. -/
theorem v100_of (i : S2x12x2048x2048.Idx) : val_main_v100 (F := Ideal) x0 x1 x2 x3 x4 x5 x6 x7 i
    = ((sh A (i 0).val (i 1).val (i 2).val (i 3).val : ℝ) : EReal) := by
  have b2 : (i 2).val < 2048 := (i 2).isLt
  have b3 : (i 3).val < 2048 := (i 3).isLt
  have hp := (mul_pos (mass_pos scale (qh A (i 0).val (i 1).val) (kh A (i 0).val (i 1).val) (i 2).val)
    (Real.exp_pos (- m (i 0).val (i 1).val (i 2).val))).ne'
  have h0 : val_main_v97 (F := Ideal) i = ((0 : ℝ) : EReal) := Ideal.ofBits_zero_f32
  have hs : val_main_v99 (F := Ideal) i = (scale : EReal) := scale_eq
  rw [val_main_v100_apply, val_main_v98_apply, val_main_v42_apply, val_main_v40_apply, val_main_v41_apply,
    val_main_v96_apply, val_main_v95_apply, val_main_v94_apply, val_main_v92_apply, val_main_v91_apply,
    val_main_v68_apply, h0, hs, v93_at H hm, v66_at H hm, v67_at H hm, v81_at H, Ideal.mulf_def, Ideal.mulf_def,
    Ideal.addf_def, Ideal.hostDivf_def, div_coe _ _ hp, ← EReal.coe_add, ← EReal.coe_mul,
    sle_small _ _ (by omega) (by omega)]
  rw [sh, Cert.Attention.slope, wh, weight_shift _ _ _ _ _ (m (i 0).val (i 1).val (i 2).val)]
  split_ifs
  · rw [← EReal.coe_mul]
    congr 1
    simp only []
    field_simp
    ring
  · rw [← EReal.coe_mul]; simp

end Shift

theorem v100_at (i : S2x12x2048x2048.Idx) : val_main_v100 (F := Ideal) x0 x1 x2 x3 x4 x5 x6 x7 i
    = ((sh A (i 0).val (i 1).val (i 2).val (i 3).val : ℝ) : EReal) :=
  (v46_at H).elim fun _ hm => v100_of H hm i

end Cert.RefRead

end
-- ==== Proof.RefGradients.lean ====
/- The reference's gradients, read over real arguments. -/
module

public import proofs.«01_k».proof.Proof.RefWeights

@[expose] public section

noncomputable section

namespace Cert.RefRead

open Cert.ReferenceIdeal Cert.ReferenceIdeal.Gen Cert.ReferenceIdeal.Read Cert.Step Cert.Attention Cert.Reals
open Idealize.ShloMosaic Idealize.ShloMosaic.TcCoe

variable {A : Args} {x0 : (⟨S4096x512, .f32⟩ : BufTy).Contents (Elt Ideal)}
  {x1 : (⟨S512x2304, .f32⟩ : BufTy).Contents (Elt Ideal)} {x2 : (⟨S4096x256, .f32⟩ : BufTy).Contents (Elt Ideal)}
  {x3 : (⟨S256x3072, .f32⟩ : BufTy).Contents (Elt Ideal)} {x4 : (⟨S4096x64, .f32⟩ : BufTy).Contents (Elt Ideal)}
  {x5 x6 : (⟨S4096x32, .f32⟩ : BufTy).Contents (Elt Ideal)}
  {x7 : (⟨S4096x1536, .f32⟩ : BufTy).Contents (Elt Ideal)} (H : Holds A x0 x1 x2 x3 x4 x5 x6 x7)

include H

/-- The gradient of the queries' rotated lanes. -/
theorem v102_at (i : S2x2048x12x64.Idx) : val_main_v102 (F := Ideal) x0 x1 x2 x3 x4 x5 x6 x7 i
    = ((gradQ (kh A (i 0).val (i 2).val) (sh A (i 0).val (i 2).val) (i 1).val (128 + (i 3).val) : ℝ) : EReal) := by
  rw [val_main_v102_apply]
  simp only [val_main_v101_apply, v100_at H, v31_at H (i 2).val, ← EReal.coe_mul]
  rw [gradQ, Finset.sum_range, coe_sum]

/-- The gradient of the keys' rotated lanes, over the heads. -/
theorem v103_at (i : S2x2048x64.Idx) : val_main_v103 (F := Ideal) x0 x1 x2 x3 x4 x5 x6 x7 i
    = ((∑ h ∈ Finset.range 12, gradK (qh A (i 0).val h) (sh A (i 0).val h) (i 1).val (128 + (i 2).val) : ℝ) : EReal) := by
  unfold val_main_v103
  pointwise
  simp only [val_main_v101_apply, v100_at H, v22_at H, ← EReal.coe_mul]
  rw [Finset.sum_comm, Finset.sum_range, coe_sum]
  refine Finset.sum_congr rfl fun h _ => ?_
  rw [gradK, Finset.sum_range, coe_sum]
  rfl

theorem v104_at (i : S2x12x2048x128.Idx) : val_main_v104 (F := Ideal) x0 x1 x2 x3 x4 x5 x6 x7 i
    = ((gradK (qh A (i 0).val (i 1).val) (sh A (i 0).val (i 1).val) (i 2).val (i 3).val : ℝ) : EReal) := by
  rw [val_main_v104_apply]
  simp only [v100_at H, v32_at H, ← EReal.coe_mul]
  rw [gradK, Finset.sum_range, coe_sum]

theorem v106_at (i : S2x12x2048x128.Idx) : val_main_v106 (F := Ideal) x0 x1 x2 x3 x4 x5 x6 x7 i
    = ((gradQ (kh A (i 0).val (i 1).val) (sh A (i 0).val (i 1).val) (i 2).val (i 3).val : ℝ) : EReal) := by
  rw [val_main_v106_apply]
  simp only [v100_at H, v33_at H, ← EReal.coe_mul]
  rw [gradQ, Finset.sum_range, coe_sum]

/-- The gradient of the keys' own lanes, then of the values, by heads. -/
theorem v109_at (i : S2x2048x12x256.Idx) : val_main_v109 (F := Ideal) x0 x1 x2 x3 x4 x5 x6 x7 i
    = ((outKV A ((i 0).val * 2048 + (i 1).val) ((i 2).val * 256 + (i 3).val) : ℝ) : EReal) := by
  have b0 : (i 0).val < 2 := (i 0).isLt
  have b1 : (i 1).val < 2048 := (i 1).isLt
  have b2 : (i 2).val < 12 := (i 2).isLt
  have b3 : (i 3).val < 256 := (i 3).isLt
  rw [val_main_v109_apply]
  unfold val_main_v84 val_main_v108
  pointwise
  rw [outKV_at A _ _ _ _ b1 b3]
  have z1 : val_main_cst_12 (F := Ideal) (Shape.Idx.first h_S_) = (0 : EReal) := Ideal.ofBits_zero_f32
  have z2 : val_main_cst_17 (F := Ideal) (Shape.Idx.first h_S_) = (0 : EReal) := Ideal.ofBits_zero_f32
  by_cases h : (i 3).val < 128
  · rw [dif_neg (by omega), dif_pos h, z1, zero_add, val_main_v105_apply, v104_at H, if_pos h]
    rfl
  · rw [dif_pos (by omega), dif_neg h, z2, add_zero, val_main_v83_apply, v82_at H, if_neg h]
    rfl

/-- The gradient of the key and value projection's result. -/
theorem v146_at (i : S4096x3072.Idx) : val_main_v146 (F := Ideal) x0 x1 x2 x3 x4 x5 x6 x7 i
    = ((outKV A (i 0).val (i 1).val : ℝ) : EReal) := by
  have b0 : (i 0).val < 4096 := (i 0).isLt
  have b1 : (i 1).val < 3072 := (i 1).isLt
  rw [val_main_v146_apply, val_main_v145_apply, v109_at H]
  refine coe_at ?_ ?_
  all_goals
    simp only []
    omega

theorem v133_at (i : S2x2048x12x32.Idx) : val_main_v133 (F := Ideal) x0 x1 x2 x3 x4 x5 x6 x7 i
    = ((turnBack (fun t => gradQ (kh A (i 0).val (i 2).val) (sh A (i 0).val (i 2).val) (i 1).val (128 + t))
        (A.cs ((i 0).val * 2048 + (i 1).val)) (A.sn ((i 0).val * 2048 + (i 1).val)) (i 3).val : ℝ) : EReal) := by
  have b3 : (i 3).val < 32 := (i 3).isLt
  simp only [val_main_v133_apply, val_main_v124_apply, val_main_v132_apply, val_main_v122_apply, val_main_v123_apply,
    val_main_v121_apply, val_main_v131_apply, val_main_v8_apply, val_main_v9_apply, v102_at H, v5_at H, v6_at H,
    Ideal.addf_def, Ideal.mulf_def, ← EReal.coe_mul, ← EReal.coe_add]
  rw [turnBack, if_pos b3, add_comm, Nat.add_comm (i 3).val 32]

theorem v130_at (i : S2x2048x12x32.Idx) : val_main_v130 (F := Ideal) x0 x1 x2 x3 x4 x5 x6 x7 i
    = ((turnBack (fun t => gradQ (kh A (i 0).val (i 2).val) (sh A (i 0).val (i 2).val) (i 1).val (128 + t))
        (A.cs ((i 0).val * 2048 + (i 1).val)) (A.sn ((i 0).val * 2048 + (i 1).val)) (32 + (i 3).val) : ℝ) : EReal) := by
  simp only [val_main_v130_apply, val_main_v126_apply, val_main_v129_apply, val_main_v122_apply, val_main_v125_apply,
    val_main_v127_apply, val_main_v121_apply, val_main_v128_apply, val_main_v8_apply, val_main_v9_apply, v102_at H,
    v5_at H, v6_at H, Ideal.addf_def, Ideal.mulf_def, Ideal.hostNegf_def, Ideal.negf_def, ← EReal.coe_neg,
    ← EReal.coe_mul, ← EReal.coe_add]
  rw [turnBack, if_neg (by omega), Nat.add_sub_cancel_left, neg_mul, ← sub_eq_add_neg]

theorem v134_at (i : S2x2048x12x64.Idx) : val_main_v134 (F := Ideal) x0 x1 x2 x3 x4 x5 x6 x7 i
    = ((turnBack (fun t => gradQ (kh A (i 0).val (i 2).val) (sh A (i 0).val (i 2).val) (i 1).val (128 + t))
        (A.cs ((i 0).val * 2048 + (i 1).val)) (A.sn ((i 0).val * 2048 + (i 1).val)) (i 3).val : ℝ) : EReal) := by
  unfold val_main_v134
  pointwise
  split
  · rw [v133_at H]; rfl
  · rw [v130_at H]
    exact coe_at (f := fun a b => turnBack (fun t => gradQ (kh A (i 0).val (i 2).val) (sh A (i 0).val (i 2).val)
      (i 1).val (128 + t)) (A.cs a) (A.sn a) b) rfl (by show 32 + ((i 3).val - 32) = _; omega)

/-- The gradient of the queries by heads, on the lanes they have. -/
theorem v138_at (i : S2x2048x12x256.Idx) (h : (i 3).val < 192) :
    val_main_v138 (F := Ideal) x0 x1 x2 x3 x4 x5 x6 x7 i
    = ((outQ A ((i 0).val * 2048 + (i 1).val) ((i 2).val * 256 + (i 3).val) : ℝ) : EReal) := by
  have b1 : (i 1).val < 2048 := (i 1).isLt
  have z1 : val_main_cst_18 (F := Ideal) (Shape.Idx.first h_S_) = (0 : EReal) := Ideal.ofBits_zero_f32
  have z2 : val_main_cst_19 (F := Ideal) (Shape.Idx.first h_S_) = (0 : EReal) := Ideal.ofBits_zero_f32
  rw [outQ_at A _ _ _ _ b1 (by omega)]
  unfold val_main_v138
  pointwise
  rw [dif_pos h, val_main_v136_apply]
  unfold val_main_v110 val_main_v135
  pointwise
  by_cases h' : (i 3).val < 128
  · rw [dif_pos (by exact h'), dif_neg (by show ¬ (128 ≤ (i 3).val ∧ _); omega), z2, add_zero, val_main_v107_apply,
      v106_at H, if_pos h']
    rfl
  · rw [dif_neg (by exact h'), dif_pos (by show 128 ≤ (i 3).val ∧ (i 3).val - 128 < 64; omega), z1, zero_add, v134_at H,
      if_neg h']
    rfl

/-- The gradient of the query projection's result, on the lanes the heads have. -/
theorem v144_at (i : S4096x3072.Idx) (h : (i 1).val % 256 < 192) :
    val_main_v144 (F := Ideal) x0 x1 x2 x3 x4 x5 x6 x7 i = ((outQ A (i 0).val (i 1).val : ℝ) : EReal) := by
  have b0 : (i 0).val < 4096 := (i 0).isLt
  have b1 : (i 1).val < 3072 := (i 1).isLt
  rw [val_main_v144_apply, val_main_v143_apply, v138_at H _ (by simp only []; omega)]
  refine coe_at ?_ ?_
  all_goals
    simp only []
    omega

theorem v119_at (i : S2x2048x32.Idx) : val_main_v119 (F := Ideal) x0 x1 x2 x3 x4 x5 x6 x7 i
    = ((outR A ((i 0).val * 2048 + (i 1).val) (i 2).val : ℝ) : EReal) := by
  have b1 : (i 1).val < 2048 := (i 1).isLt
  have b2 : (i 2).val < 32 := (i 2).isLt
  simp only [val_main_v119_apply, val_main_v113_apply, val_main_v118_apply, val_main_v112_apply, val_main_v111_apply,
    v103_at H, v5_at H, v6_at H, Ideal.addf_def, Ideal.mulf_def, ← EReal.coe_mul, ← EReal.coe_add]
  rw [outR_at A _ _ _ b1, turnBack, if_pos b2, add_comm, Nat.add_comm (i 2).val 32]

theorem v117_at (i : S2x2048x32.Idx) : val_main_v117 (F := Ideal) x0 x1 x2 x3 x4 x5 x6 x7 i
    = ((outR A ((i 0).val * 2048 + (i 1).val) (32 + (i 2).val) : ℝ) : EReal) := by
  have b1 : (i 1).val < 2048 := (i 1).isLt
  simp only [val_main_v117_apply, val_main_v114_apply, val_main_v116_apply, val_main_v115_apply, val_main_v112_apply,
    val_main_v111_apply, v103_at H, v5_at H, v6_at H, Ideal.addf_def, Ideal.mulf_def, Ideal.hostNegf_def,
    Ideal.negf_def, ← EReal.coe_neg, ← EReal.coe_mul, ← EReal.coe_add]
  rw [outR_at A _ _ _ b1, turnBack, if_neg (by omega), Nat.add_sub_cancel_left, neg_mul, ← sub_eq_add_neg]

theorem v120_at (i : S2x2048x64.Idx) : val_main_v120 (F := Ideal) x0 x1 x2 x3 x4 x5 x6 x7 i
    = ((outR A ((i 0).val * 2048 + (i 1).val) (i 2).val : ℝ) : EReal) := by
  unfold val_main_v120
  pointwise
  split
  · rw [v119_at H]; rfl
  · rw [v117_at H]
    exact coe_at (f := fun a b => outR A a b) rfl (by show 32 + ((i 2).val - 32) = _; omega)

/-- The gradient of the shared rotated lanes, on its 64 lanes. -/
theorem v147_at (i : S4096x128.Idx) (h : (i 1).val < 64) :
    val_main_v147 (F := Ideal) x0 x1 x2 x3 x4 x5 x6 x7 i = ((outR A (i 0).val (i 1).val : ℝ) : EReal) := by
  have b0 : (i 0).val < 4096 := (i 0).isLt
  rw [val_main_v147_apply]
  unfold val_main_v141
  pointwise
  rw [dif_pos h, val_main_v139_apply, v120_at H]
  refine coe_at ?_ ?_
  · show (((i 0).val * 64 + (i 1).val) / 131072) * 2048 + ((i 0).val * 64 + (i 1).val) / 64 % 2048 = _
    omega
  · show ((i 0).val * 64 + (i 1).val) % 64 = _
    omega

end Cert.RefRead

end
-- ==== Proof.lean ====
module

public import proofs.«01_k».proof.Proof.WeightQuery
public import proofs.«01_k».proof.Proof.InputQuery
public import proofs.«01_k».proof.Proof.WeightKv
public import proofs.«01_k».proof.Proof.InputKv
public import proofs.«01_k».proof.Proof.WeightIn
public import proofs.«01_k».proof.Proof.InputIn
public import proofs.«01_k».proof.Proof.WeightOut
public import proofs.«01_k».proof.Proof.InputOut
public import proofs.«01_k».proof.Proof.OutProjection
public import proofs.«01_k».proof.Proof.WeightMem
public import proofs.«01_k».proof.Proof.InputMem
public import proofs.«01_k».proof.Proof.MemProjection
public import proofs.«01_k».proof.Proof.WeightConv
public import proofs.«01_k».proof.Proof.MemBackward
public import proofs.«01_k».proof.Proof.MemForward
public import proofs.«01_k».proof.Proof.MemBackward0
public import proofs.«01_k».proof.Proof.MemForward0
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Chain
public import proofs.«01_k».proof.Proof.ValueRun
public import proofs.«01_k».proof.Proof.RefGradients
public import proofs.«01_k».proof.Proof.Finite
public import Idealize.ShloMosaic.Adequacy
public import Idealize.ShloMosaic.Init

@[expose] public section

noncomputable section

namespace Cert.Proof

open Idealize.ShloMosaic Idealize.SL.Sem Cert.Kernel

/-- The reference's frame: it runs, keeps its arguments and has no semaphore to leave raised. -/
theorem frame_reference : Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run (F := Ideal) m ρ)

/-- The same frame where the arguments are finite. -/
theorem frame_reference_finite : Cert.quiescent_ReferenceIdeal_pre_finite := fun m ρ _ =>
  (θ_run Cert.ReferenceIdeal.defs _ _).mono
    (fun r h => ⟨fun c => (h c).2.2.2.2, sem_eq_zero_of_no_sems (by decide) r.2⟩)
    (Cert.ReferenceIdeal.Value.run (F := Ideal) m ρ)

/-- The one rewrite between the kernel and its ideal form: the mask's constant stands for minus infinity. -/
theorem preserves : Cert.preserves_Kernel_KernelIdeal :=
  IdealRules.named_const.statement Cert.KernelIdeal.κ "mask" .f32 0xF149F2CA#32 ⊥ rfl

/-- The reals device `c`'s arguments hold. -/
def args (m : (ℓ : Loc Cert.KernelIdeal.nD Cert.KernelIdeal.τ Cert.KernelIdeal.sig) → Buf (Elt Ideal) ℓ)
    (c : Dev Cert.KernelIdeal.nD) : Step.Args where
  cq := Finite.reals (a := 4096) (b := 512) (m ((c.tc : Thread Cert.KernelIdeal.nD Cert.KernelIdeal.τ).loc Cert.KernelIdeal.main_arg0))
  wq := Finite.reals (a := 512) (b := 2304) (m ((c.tc : Thread Cert.KernelIdeal.nD Cert.KernelIdeal.τ).loc Cert.KernelIdeal.main_arg1))
  ck := Finite.reals (a := 4096) (b := 256) (m ((c.tc : Thread Cert.KernelIdeal.nD Cert.KernelIdeal.τ).loc Cert.KernelIdeal.main_arg2))
  wk := Finite.reals (a := 256) (b := 3072) (m ((c.tc : Thread Cert.KernelIdeal.nD Cert.KernelIdeal.τ).loc Cert.KernelIdeal.main_arg3))
  kr := Finite.reals (a := 4096) (b := 64) (m ((c.tc : Thread Cert.KernelIdeal.nD Cert.KernelIdeal.τ).loc Cert.KernelIdeal.main_arg4))
  cs := Finite.reals (a := 4096) (b := 32) (m ((c.tc : Thread Cert.KernelIdeal.nD Cert.KernelIdeal.τ).loc Cert.KernelIdeal.main_arg5))
  sn := Finite.reals (a := 4096) (b := 32) (m ((c.tc : Thread Cert.KernelIdeal.nD Cert.KernelIdeal.τ).loc Cert.KernelIdeal.main_arg6))
  g := Finite.reals (a := 4096) (b := 1536) (m ((c.tc : Thread Cert.KernelIdeal.nD Cert.KernelIdeal.τ).loc Cert.KernelIdeal.main_arg7))

/-- Finite arguments hold those reals. -/
theorem given (m : (ℓ : Loc Cert.KernelIdeal.nD Cert.KernelIdeal.τ Cert.KernelIdeal.sig) → Buf (Elt Ideal) ℓ)
    (h : Cert.Pre_KernelIdeal_finite m) (c : Dev Cert.KernelIdeal.nD) : KernelValue.Given m c (args m c) where
  h0 := Finite.reals_at _ fun i => congrFun (h c).1 i
  h1 := Finite.reals_at _ fun i => congrFun (h c).2.1 i
  h2 := Finite.reals_at _ fun i => congrFun (h c).2.2.1 i
  h3 := Finite.reals_at _ fun i => congrFun (h c).2.2.2.1 i
  h4 := Finite.reals_at _ fun i => congrFun (h c).2.2.2.2.1 i
  h5 := Finite.reals_at _ fun i => congrFun (h c).2.2.2.2.2.1 i
  h6 := Finite.reals_at _ fun i => congrFun (h c).2.2.2.2.2.2.1 i
  h7 := Finite.reals_at _ fun i => congrFun (h c).2.2.2.2.2.2.2 i

/-- The reference's arguments, equal to the kernel's, hold the same reals. -/
theorem holds (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : Cert.Pre_KernelIdeal_finite m) (c : Dev Cert.KernelIdeal.nD)
    (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    RefRead.Holds (args m c)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7)) where
  h0 := fun i => (congrFun e.1 i).trans ((given m h c).h0 i)
  h1 := fun i => (congrFun e.2.1 i).trans ((given m h c).h1 i)
  h2 := fun i => (congrFun e.2.2.1 i).trans ((given m h c).h2 i)
  h3 := fun i => (congrFun e.2.2.2.1 i).trans ((given m h c).h3 i)
  h4 := fun i => (congrFun e.2.2.2.2.1 i).trans ((given m h c).h4 i)
  h5 := fun i => (congrFun e.2.2.2.2.2.1 i).trans ((given m h c).h5 i)
  h6 := fun i => (congrFun e.2.2.2.2.2.2.1 i).trans ((given m h c).h6 i)
  h7 := fun i => (congrFun e.2.2.2.2.2.2.2 i).trans ((given m h c).h7 i)

/-- Where the mask is set, both programs end with the same reals. -/
theorem value : Cert.algebraic_KernelIdeal_ReferenceIdeal_on_claimed_pre_finite := by
  intro m ρ m' ρ' hp he
  refine ⟨fun c (i : (⟨2, ![4096, 1536]⟩ : Shape).Idx) => ((Step.out (args m c) (i 0).val (i 1).val : ℝ) : EReal),
    fun c (i : (⟨2, ![4096, 3072]⟩ : Shape).Idx) => ((Step.outQ (args m c) (i 0).val (i 1).val : ℝ) : EReal),
    fun c (i : (⟨2, ![4096, 3072]⟩ : Shape).Idx) => ((Step.outKV (args m c) (i 0).val (i 1).val : ℝ) : EReal),
    fun c (i : (⟨2, ![4096, 128]⟩ : Shape).Idx) => ((Step.outR (args m c) (i 0).val (i 1).val : ℝ) : EReal), ?_, ?_⟩
  · refine (θ_run Cert.KernelIdeal.defs _ _).mono (fun r h c => ?_) (KernelValue.run_all m ρ)
    have G := given m hp c
    refine ⟨fun i _ => (congrFun (h c _ (Cert.KernelIdeal.Gen.mem_uc Cert.KernelIdeal.main_v30 (by decide))) i).trans (KernelValue.result_o ρ G i),
      fun i hi => (congrFun (h c _ (Cert.KernelIdeal.Gen.mem_uc Cert.KernelIdeal.main_v26 (by decide))) i).trans (KernelValue.result_q ρ G i (Finite.mask_q i hi)),
      fun i _ => (congrFun (h c _ (Cert.KernelIdeal.Gen.mem_uc Cert.KernelIdeal.main_v27 (by decide))) i).trans (KernelValue.result_kv ρ G i),
      fun i hi => (congrFun (h c _ (Cert.KernelIdeal.Gen.mem_uc Cert.KernelIdeal.main_v29 (by decide))) i).trans (KernelValue.result_r ρ G i (Finite.mask_r i hi)),
      (h c _ (Cert.KernelIdeal.Gen.mem_uc Cert.KernelIdeal.main_arg0 (by decide))).trans (Cert.KernelIdeal.Gen.W13_main_arg0 m ρ c),
      (h c _ (Cert.KernelIdeal.Gen.mem_uc Cert.KernelIdeal.main_arg1 (by decide))).trans (Cert.KernelIdeal.Gen.W13_main_arg1 m ρ c),
      (h c _ (Cert.KernelIdeal.Gen.mem_uc Cert.KernelIdeal.main_arg2 (by decide))).trans (Cert.KernelIdeal.Gen.W13_main_arg2 m ρ c),
      (h c _ (Cert.KernelIdeal.Gen.mem_uc Cert.KernelIdeal.main_arg3 (by decide))).trans (Cert.KernelIdeal.Gen.W13_main_arg3 m ρ c),
      (h c _ (Cert.KernelIdeal.Gen.mem_uc Cert.KernelIdeal.main_arg4 (by decide))).trans (Cert.KernelIdeal.Gen.W13_main_arg4 m ρ c),
      (h c _ (Cert.KernelIdeal.Gen.mem_uc Cert.KernelIdeal.main_arg5 (by decide))).trans (Cert.KernelIdeal.Gen.W13_main_arg5 m ρ c),
      (h c _ (Cert.KernelIdeal.Gen.mem_uc Cert.KernelIdeal.main_arg6 (by decide))).trans (Cert.KernelIdeal.Gen.W13_main_arg6 m ρ c),
      (h c _ (Cert.KernelIdeal.Gen.mem_uc Cert.KernelIdeal.main_arg7 (by decide))).trans (Cert.KernelIdeal.Gen.W13_main_arg7 m ρ c)⟩
  · refine (θ_run Cert.ReferenceIdeal.defs _ _).mono (fun r h c => ?_) (Cert.ReferenceIdeal.Value.run (F := Ideal) m' ρ')
    have H := holds m m' hp c (he c)
    obtain ⟨h0, h1, h2, h3, h4⟩ := h c
    exact ⟨fun i _ => (congrFun (h0.trans (Cert.ReferenceIdeal.Read.val_main_v142_eq _)) i).trans (RefRead.v142_at H i),
      fun i hi => (congrFun (h1.trans (Cert.ReferenceIdeal.Read.val_main_v144_eq _)) i).trans (RefRead.v144_at H i (Finite.mask_q i hi)),
      fun i _ => (congrFun (h2.trans (Cert.ReferenceIdeal.Read.val_main_v146_eq _)) i).trans (RefRead.v146_at H i),
      fun i hi => (congrFun (h3.trans (Cert.ReferenceIdeal.Read.val_main_v147_eq _)) i).trans (RefRead.v147_at H i (Finite.mask_r i hi)),
      h4⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Finite.factsPre, Cert.Kernel15Ideal.Read.factsPre, Cert.Kernel17Ideal.Read.factsPre, Finite.factsOn,
    fun m ρ _ => Cert.Kernel.Gen.frame m ρ, fun m ρ _ => Cert.KernelIdeal.Gen.frame m ρ,
    fun m ρ _ => Cert.KernelIdeal.Gen.frame m ρ, frame_reference, frame_reference_finite,
    Cert.Kernel2Ideal.Read.frame_bits, Cert.Kernel2Ideal.Read.frame_ideal, Cert.Kernel2Ideal.Read.frame_reference,
    Cert.Kernel3Ideal.Read.frame_bits, Cert.Kernel3Ideal.Read.frame_ideal, Cert.Kernel3Ideal.Read.frame_reference,
    Cert.Kernel4Ideal.Read.frame_bits, Cert.Kernel4Ideal.Read.frame_ideal, Cert.Kernel4Ideal.Read.frame_reference,
    Cert.Kernel5Ideal.Read.frame_bits, Cert.Kernel5Ideal.Read.frame_ideal, Cert.Kernel5Ideal.Read.frame_reference,
    Cert.Kernel6Ideal.Read.frame_bits, Cert.Kernel6Ideal.Read.frame_ideal, Cert.Kernel6Ideal.Read.frame_reference,
    Cert.Kernel7Ideal.Read.frame_bits, Cert.Kernel7Ideal.Read.frame_ideal, Cert.Kernel7Ideal.Read.frame_reference,
    Cert.Kernel8Ideal.Read.frame_bits, Cert.Kernel8Ideal.Read.frame_ideal, Cert.Kernel8Ideal.Read.frame_reference,
    Cert.Kernel9Ideal.Read.frame_bits, Cert.Kernel9Ideal.Read.frame_ideal, Cert.Kernel9Ideal.Read.frame_reference,
    Cert.Kernel10Ideal.Read.frame_bits, Cert.Kernel10Ideal.Read.frame_ideal, Cert.Kernel10Ideal.Read.frame_reference,
    Cert.Kernel11Ideal.Read.frame_bits, Cert.Kernel11Ideal.Read.frame_ideal, Cert.Kernel11Ideal.Read.frame_reference,
    Cert.Kernel12Ideal.Read.frame_bits, Cert.Kernel12Ideal.Read.frame_ideal, Cert.Kernel12Ideal.Read.frame_reference,
    Cert.Kernel13Ideal.Read.frame_bits, Cert.Kernel13Ideal.Read.frame_ideal, Cert.Kernel13Ideal.Read.frame_reference,
    Cert.Kernel14Ideal.Read.frame_bits, Cert.Kernel14Ideal.Read.frame_ideal, Cert.Kernel14Ideal.Read.frame_reference,
    Cert.Kernel15Ideal.Read.frame_bits, Cert.Kernel15Ideal.Read.frame_ideal, Cert.Kernel15Ideal.Read.frame_ideal_finite,
    Cert.Kernel15Ideal.Read.frame_reference, Cert.Kernel15Ideal.Read.frame_reference_finite,
    Cert.Kernel16Ideal.Read.frame_bits, Cert.Kernel16Ideal.Read.frame_ideal, Cert.Kernel16Ideal.Read.frame_reference,
    Cert.Kernel17Ideal.Read.frame_bits, Cert.Kernel17Ideal.Read.frame_ideal, Cert.Kernel17Ideal.Read.frame_ideal_finite,
    Cert.Kernel17Ideal.Read.frame_reference, Cert.Kernel17Ideal.Read.frame_reference_finite,
    Cert.Kernel18Ideal.Read.frame_bits, Cert.Kernel18Ideal.Read.frame_ideal, Cert.Kernel18Ideal.Read.frame_reference,
    preserves, value,
    trivial, Cert.Kernel2Ideal.Read.value, trivial, Cert.Kernel3Ideal.Read.value, trivial, Cert.Kernel4Ideal.Read.value, trivial, Cert.Kernel5Ideal.Read.value,
    trivial, Cert.Kernel6Ideal.Read.value, trivial, Cert.Kernel7Ideal.Read.value, trivial, Cert.Kernel8Ideal.Read.value, trivial, Cert.Kernel9Ideal.Read.value,
    trivial, Cert.Kernel10Ideal.Read.value, trivial, Cert.Kernel11Ideal.Read.value, trivial, Cert.Kernel12Ideal.Read.value, trivial, Cert.Kernel13Ideal.Read.value,
    trivial, Cert.Kernel14Ideal.Read.value, trivial, Cert.Kernel15Ideal.Read.value, trivial, Cert.Kernel16Ideal.Read.value,
    trivial, Cert.Kernel17Ideal.Read.value, trivial, Cert.Kernel18Ideal.Read.value⟩

end Cert.Proof

end
